-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def preserves_Kernel_KernelIdeal : Prop :=
  IdealRules.named_const.Statement Cert.KernelIdeal.κ "log_zero" .f32 0xC2D00000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v33_1)) (v2 : (c : Dev Cert.KernelIdeal.nD) → Buf (Elt Ideal) ((c.tc : Thread Cert.KernelIdeal.nD Cert.KernelIdeal.τ).loc Cert.KernelIdeal.main_v33_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v33_1) = v1 c
          ∧ r.2.mem ((c.tc : Thread Cert.KernelIdeal.nD Cert.KernelIdeal.τ).loc Cert.KernelIdeal.main_v33_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_v14) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_v15) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_v20) = v1 c
          ∧ r.2.mem ((c.tc : Thread Cert.Reference4Ideal.nD Cert.Reference4Ideal.τ).loc Cert.Reference4Ideal.main_v21) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v147) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_v14) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v5_0)) (v1 : (c : Dev Cert.Kernel8Ideal.nD) → Buf (Elt Ideal) ((c.tc : Thread Cert.Kernel8Ideal.nD Cert.Kernel8Ideal.τ).loc Cert.Kernel8Ideal.main_v5_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5_0) = v0 c
          ∧ r.2.mem ((c.tc : Thread Cert.Kernel8Ideal.nD Cert.Kernel8Ideal.τ).loc Cert.Kernel8Ideal.main_v5_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v43) = v0 c
          ∧ r.2.mem ((c.tc : Thread Cert.Reference8Ideal.nD Cert.Reference8Ideal.τ).loc Cert.Reference8Ideal.main_v44) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v40) = v0 c
          ∧ r.2.mem ((c.tc : Thread Cert.Reference9Ideal.nD Cert.Reference9Ideal.τ).loc Cert.Reference9Ideal.main_v41) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v40) = v0 c
          ∧ r.2.mem ((c.tc : Thread Cert.Reference10Ideal.nD Cert.Reference10Ideal.τ).loc Cert.Reference10Ideal.main_v41) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  IdealRules.named_const.Statement Cert.Kernel11Ideal.κ "log_zero" .f32 0xC2D00000#32 ⊥

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v26) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v8_0)) (v1 : (c : Dev Cert.Kernel6Ideal.nD) → Buf (Elt Ideal) ((c.tc : Thread Cert.Kernel6Ideal.nD Cert.Kernel6Ideal.τ).loc Cert.Kernel6Ideal.main_v8_1)) (v2 : (c : Dev Cert.Kernel6Ideal.nD) → Buf (Elt Ideal) ((c.tc : Thread Cert.Kernel6Ideal.nD Cert.Kernel6Ideal.τ).loc Cert.Kernel6Ideal.main_v8_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8_0) = v0 c
          ∧ r.2.mem ((c.tc : Thread Cert.Kernel6Ideal.nD Cert.Kernel6Ideal.τ).loc Cert.Kernel6Ideal.main_v8_1) = v1 c
          ∧ r.2.mem ((c.tc : Thread Cert.Kernel6Ideal.nD Cert.Kernel6Ideal.τ).loc Cert.Kernel6Ideal.main_v8_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v92) = v0 c
          ∧ r.2.mem ((c.tc : Thread Cert.Reference6Ideal.nD Cert.Reference6Ideal.τ).loc Cert.Reference6Ideal.main_v87) = v1 c
          ∧ r.2.mem ((c.tc : Thread Cert.Reference6Ideal.nD Cert.Reference6Ideal.τ).loc Cert.Reference6Ideal.main_v91) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v8_0)) (v1 : (c : Dev Cert.Kernel12Ideal.nD) → Buf (Elt Ideal) ((c.tc : Thread Cert.Kernel12Ideal.nD Cert.Kernel12Ideal.τ).loc Cert.Kernel12Ideal.main_v8_1)) (v2 : (c : Dev Cert.Kernel12Ideal.nD) → Buf (Elt Ideal) ((c.tc : Thread Cert.Kernel12Ideal.nD Cert.Kernel12Ideal.τ).loc Cert.Kernel12Ideal.main_v8_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v8_0) = v0 c
          ∧ r.2.mem ((c.tc : Thread Cert.Kernel12Ideal.nD Cert.Kernel12Ideal.τ).loc Cert.Kernel12Ideal.main_v8_1) = v1 c
          ∧ r.2.mem ((c.tc : Thread Cert.Kernel12Ideal.nD Cert.Kernel12Ideal.τ).loc Cert.Kernel12Ideal.main_v8_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v35) = v0 c
          ∧ r.2.mem ((c.tc : Thread Cert.Reference12Ideal.nD Cert.Reference12Ideal.τ).loc Cert.Reference12Ideal.main_v36) = v1 c
          ∧ r.2.mem ((c.tc : Thread Cert.Reference12Ideal.nD Cert.Reference12Ideal.τ).loc Cert.Reference12Ideal.main_v37) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v3_0)) (v1 : (c : Dev Cert.Kernel13Ideal.nD) → Buf (Elt Ideal) ((c.tc : Thread Cert.Kernel13Ideal.nD Cert.Kernel13Ideal.τ).loc Cert.Kernel13Ideal.main_v3_1)) (v2 : (c : Dev Cert.Kernel13Ideal.nD) → Buf (Elt Ideal) ((c.tc : Thread Cert.Kernel13Ideal.nD Cert.Kernel13Ideal.τ).loc Cert.Kernel13Ideal.main_v3_2)) (v3 : (c : Dev Cert.Kernel13Ideal.nD) → Buf (Elt Ideal) ((c.tc : Thread Cert.Kernel13Ideal.nD Cert.Kernel13Ideal.τ).loc Cert.Kernel13Ideal.main_v3_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3_0) = v0 c
          ∧ r.2.mem ((c.tc : Thread Cert.Kernel13Ideal.nD Cert.Kernel13Ideal.τ).loc Cert.Kernel13Ideal.main_v3_1) = v1 c
          ∧ r.2.mem ((c.tc : Thread Cert.Kernel13Ideal.nD Cert.Kernel13Ideal.τ).loc Cert.Kernel13Ideal.main_v3_2) = v2 c
          ∧ r.2.mem ((c.tc : Thread Cert.Kernel13Ideal.nD Cert.Kernel13Ideal.τ).loc Cert.Kernel13Ideal.main_v3_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v22) = v0 c
          ∧ r.2.mem ((c.tc : Thread Cert.Reference13Ideal.nD Cert.Reference13Ideal.τ).loc Cert.Reference13Ideal.main_v23) = v1 c
          ∧ r.2.mem ((c.tc : Thread Cert.Reference13Ideal.nD Cert.Reference13Ideal.τ).loc Cert.Reference13Ideal.main_v24) = v2 c
          ∧ r.2.mem ((c.tc : Thread Cert.Reference13Ideal.nD Cert.Reference13Ideal.τ).loc Cert.Reference13Ideal.main_v25) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v2_0)) (v1 : (c : Dev Cert.Kernel14Ideal.nD) → Buf (Elt Ideal) ((c.tc : Thread Cert.Kernel14Ideal.nD Cert.Kernel14Ideal.τ).loc Cert.Kernel14Ideal.main_v2_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2_0) = v0 c
          ∧ r.2.mem ((c.tc : Thread Cert.Kernel14Ideal.nD Cert.Kernel14Ideal.τ).loc Cert.Kernel14Ideal.main_v2_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v14) = v0 c
          ∧ r.2.mem ((c.tc : Thread Cert.Reference14Ideal.nD Cert.Reference14Ideal.τ).loc Cert.Reference14Ideal.main_v13) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v3_0)) (v1 : (c : Dev Cert.Kernel15Ideal.nD) → Buf (Elt Ideal) ((c.tc : Thread Cert.Kernel15Ideal.nD Cert.Kernel15Ideal.τ).loc Cert.Kernel15Ideal.main_v3_1)) (v2 : (c : Dev Cert.Kernel15Ideal.nD) → Buf (Elt Ideal) ((c.tc : Thread Cert.Kernel15Ideal.nD Cert.Kernel15Ideal.τ).loc Cert.Kernel15Ideal.main_v3_2)) (v3 : (c : Dev Cert.Kernel15Ideal.nD) → Buf (Elt Ideal) ((c.tc : Thread Cert.Kernel15Ideal.nD Cert.Kernel15Ideal.τ).loc Cert.Kernel15Ideal.main_v3_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3_0) = v0 c
          ∧ r.2.mem ((c.tc : Thread Cert.Kernel15Ideal.nD Cert.Kernel15Ideal.τ).loc Cert.Kernel15Ideal.main_v3_1) = v1 c
          ∧ r.2.mem ((c.tc : Thread Cert.Kernel15Ideal.nD Cert.Kernel15Ideal.τ).loc Cert.Kernel15Ideal.main_v3_2) = v2 c
          ∧ r.2.mem ((c.tc : Thread Cert.Kernel15Ideal.nD Cert.Kernel15Ideal.τ).loc Cert.Kernel15Ideal.main_v3_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v18) = v0 c
          ∧ r.2.mem ((c.tc : Thread Cert.Reference15Ideal.nD Cert.Reference15Ideal.τ).loc Cert.Reference15Ideal.main_v19) = v1 c
          ∧ r.2.mem ((c.tc : Thread Cert.Reference15Ideal.nD Cert.Reference15Ideal.τ).loc Cert.Reference15Ideal.main_v20) = v2 c
          ∧ r.2.mem ((c.tc : Thread Cert.Reference15Ideal.nD Cert.Reference15Ideal.τ).loc Cert.Reference15Ideal.main_v21) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v6) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v6) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v4) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v1) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v10) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel6 : Cert.Kernel6.Facts) (hKernel6Ideal : Cert.Kernel6Ideal.Facts) (hReference6Ideal : Cert.Reference6Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hPre_finite : Cert.Pre_finite.Facts) (hPre_finite5 : Cert.Pre_finite5.Facts) (hPre_finite7 : Cert.Pre_finite7.Facts) (hPre_finite11 : Cert.Pre_finite11.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel6_Kernel6Ideal
    ∧ algebraic_Kernel6Ideal_Reference6Ideal (hKernel6Ideal := hKernel6Ideal) (hReference6Ideal := hReference6Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
-- ==== Pre_finite.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)

variable [Facts]

def fn {F : FTy → Type} [FloatOps F] (main_arg0 : FVec F S8192x1024 .f32) (main_arg1 : FVec F S8192x1024 .f32) (main_arg2 : FVec F S8192x1024 .f32) (main_arg3 : FVec F S8192x1024 .f32) : IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : IVec S8192x1024 1 := andi main_v2 main_v5
  let main_v7 : FVec F S8192x1024 .f32 := Host.absf main_arg2
  let main_cst_1 : FVec F S_ .f32 := constant S_ .f32 0x7F800000#32
  let main_v8 : FVec F S8192x1024 .f32 := broadcastInDim S8192x1024 ![] bcast_S_S8192x1024 main_cst_1
  let main_v9 : IVec S8192x1024 1 := cmpf .olt main_v7 main_v8
  let main_v10 : IVec S8192x1024 1 := andi main_v6 main_v9
  let main_v11 : FVec F S8192x1024 .f32 := Host.absf main_arg3
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_v14 : IVec S8192x1024 1 := andi main_v10 main_v13
  main_v14
-- ==== Pre_finite11.lean ====
abbrev S8192x1024 : Shape := ⟨2, ![8192, 1024]⟩
abbrev S_ : Shape := ⟨0, ![]⟩
abbrev S1x8192x1x1024 : Shape := ⟨4, ![1, 8192, 1, 1024]⟩

class Facts : Prop where
  bcast_S_S8192x1024 : S_.BroadcastsInDim S8192x1024 (![] : Fin 0 → Fin S8192x1024.rank)
  shapeCasts_S8192x1024_S1x8192x1x1024 : S8192x1024.ShapeCasts S1x8192x1x1024
  bcast_S1x8192x1x1024_S1x8192x1x1024_0_1_2_3 : S1x8192x1x1024.BroadcastsInDim S1x8192x1x1024 (![0, 1, 2, 3] : Fin 4 → Fin S1x8192x1x1024.rank)
  shapeCasts_S1x8192x1x1024_S8192x1024 : S1x8192x1x1024.ShapeCasts S8192x1024

variable [Facts]

def fn {F : FTy → Type} [FloatOps F] (main_arg0 : FVec F S8192x1024 .f32) (main_arg1 : FVec F S8192x1024 .f32) (main_arg2 : FVec F S8192x1024 .f32) : IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : IVec S1x8192x1x1024 1 := shapeCast S1x8192x1x1024 main_v2 shapeCasts_S8192x1024_S1x8192x1x1024
  let main_v4 : IVec S1x8192x1x1024 1 := broadcastInDim S1x8192x1x1024 ![0, 1, 2, 3] bcast_S1x8192x1x1024_S1x8192x1x1024_0_1_2_3 main_v3
  let main_v5 : IVec S8192x1024 1 := shapeCast S8192x1024 main_v4 shapeCasts_S1x8192x1x1024_S8192x1024
  let main_v6 : FVec F S8192x1024 .f32 := Host.absf main_arg1
  let main_cst_0 : FVec F S_ .f32 := constant S_ .f32 0x7F800000#32
  let main_v7 : FVec F S8192x1024 .f32 := broadcastInDim S8192x1024 ![] bcast_S_S8192x1024 main_cst_0
  let main_v8 : IVec S8192x1024 1 := cmpf .olt main_v6 main_v7
  let main_v9 : IVec S1x8192x1x1024 1 := shapeCast S1x8192x1x1024 main_v8 shapeCasts_S8192x1024_S1x8192x1x1024
  let main_v10 : IVec S1x8192x1x1024 1 := broadcastInDim S1x8192x1x1024 ![0, 1, 2, 3] bcast_S1x8192x1x1024_S1x8192x1x1024_0_1_2_3 main_v9
  let main_v11 : IVec S8192x1024 1 := shapeCast S8192x1024 main_v10 shapeCasts_S1x8192x1x1024_S8192x1024
  let main_v12 : IVec S8192x1024 1 := andi main_v5 main_v11
  let main_v13 : FVec F S8192x1024 .f32 := Host.absf main_arg2
  let main_cst_1 : FVec F S_ .f32 := constant S_ .f32 0x7F800000#32
  let main_v14 : FVec F S8192x1024 .f32 := broadcastInDim S8192x1024 ![] bcast_S_S8192x1024 main_cst_1
  let main_v15 : IVec S8192x1024 1 := cmpf .olt main_v13 main_v14
  let main_v16 : IVec S1x8192x1x1024 1 := shapeCast S1x8192x1x1024 main_v15 shapeCasts_S8192x1024_S1x8192x1x1024
  let main_v17 : IVec S1x8192x1x1024 1 := broadcastInDim S1x8192x1x1024 ![0, 1, 2, 3] bcast_S1x8192x1x1024_S1x8192x1x1024_0_1_2_3 main_v16
  let main_v18 : IVec S8192x1024 1 := shapeCast S8192x1024 main_v17 shapeCasts_S1x8192x1x1024_S8192x1024
  let main_v19 : IVec S8192x1024 1 := andi main_v12 main_v18
  main_v19
-- ==== Pre_finite5.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)

variable [Facts]

def fn {F : FTy → Type} [FloatOps F] (main_arg0 : FVec F S8192x1024 .f32) (main_arg1 : FVec F S8192x1024 .f32) : IVec S8192x1024 1 :=
  let main_v0 : FVec F S8192x1024 .f32 := Host.absf main_arg1
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  main_v2
-- ==== Pre_finite7.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩
abbrev S1x8192x1x2816 : Shape := ⟨4, ![1, 8192, 1, 2816]⟩
abbrev S1x8192x4x2816 : Shape := ⟨4, ![1, 8192, 4, 2816]⟩
abbrev S8192x11264 : Shape := ⟨2, ![8192, 11264]⟩
abbrev S1024x2816 : Shape := ⟨2, ![1024, 2816]⟩
abbrev S1x1024x1x2816 : Shape := ⟨4, ![1, 1024, 1, 2816]⟩
abbrev S8x1024x4x2816 : Shape := ⟨4, ![8, 1024, 4, 2816]⟩
abbrev S1x8192x1x1024 : Shape := ⟨4, ![1, 8192, 1, 1024]⟩
abbrev S1x8192x11x1024 : Shape := ⟨4, ![1, 8192, 11, 1024]⟩

class Facts : Prop where
  bcast_S_S8192x2816 : S_.BroadcastsInDim S8192x2816 (![] : Fin 0 → Fin S8192x2816.rank)
  shapeCasts_S8192x2816_S1x8192x1x2816 : S8192x2816.ShapeCasts S1x8192x1x2816
  bcast_S1x8192x1x2816_S1x8192x4x2816_0_1_2_3 : S1x8192x1x2816.BroadcastsInDim S1x8192x4x2816 (![0, 1, 2, 3] : Fin 4 → Fin S1x8192x4x2816.rank)
  shapeCasts_S1x8192x4x2816_S8192x11264 : S1x8192x4x2816.ShapeCasts S8192x11264
  transposes_S2816x1024_S1024x2816_1_0 : S2816x1024.Transposes [1, 0] S1024x2816
  bcast_S_S1024x2816 : S_.BroadcastsInDim S1024x2816 (![] : Fin 0 → Fin S1024x2816.rank)
  shapeCasts_S1024x2816_S1x1024x1x2816 : S1024x2816.ShapeCasts S1x1024x1x2816
  bcast_S1x1024x1x2816_S8x1024x4x2816_0_1_2_3 : S1x1024x1x2816.BroadcastsInDim S8x1024x4x2816 (![0, 1, 2, 3] : Fin 4 → Fin S8x1024x4x2816.rank)
  shapeCasts_S8x1024x4x2816_S8192x11264 : S8x1024x4x2816.ShapeCasts S8192x11264
  bcast_S_S8192x1024 : S_.BroadcastsInDim S8192x1024 (![] : Fin 0 → Fin S8192x1024.rank)
  shapeCasts_S8192x1024_S1x8192x1x1024 : S8192x1024.ShapeCasts S1x8192x1x1024
  bcast_S1x8192x1x1024_S1x8192x11x1024_0_1_2_3 : S1x8192x1x1024.BroadcastsInDim S1x8192x11x1024 (![0, 1, 2, 3] : Fin 4 → Fin S1x8192x11x1024.rank)
  shapeCasts_S1x8192x11x1024_S8192x11264 : S1x8192x11x1024.ShapeCasts S8192x11264

variable [Facts]

def fn_part1 {F : FTy → Type} [FloatOps F] (main_arg3 : FVec F S8192x1024 .f32) (main_v20 : IVec S8192x11264 1) : IVec S8192x11264 1 :=
  let main_v21 : FVec F S8192x1024 .f32 := Host.absf main_arg3
  let main_cst_2 : FVec F S_ .f32 := constant S_ .f32 0x7F800000#32
  let main_v22 : FVec F S8192x1024 .f32 := broadcastInDim S8192x1024 ![] bcast_S_S8192x1024 main_cst_2
  let main_v23 : IVec S8192x1024 1 := cmpf .olt main_v21 main_v22
  let main_v24 : IVec S1x8192x1x1024 1 := shapeCast S1x8192x1x1024 main_v23 shapeCasts_S8192x1024_S1x8192x1x1024
  let main_v25 : IVec S1x8192x11x1024 1 := broadcastInDim S1x8192x11x1024 ![0, 1, 2, 3] bcast_S1x8192x1x1024_S1x8192x11x1024_0_1_2_3 main_v24
  let main_v26 : IVec S8192x11264 1 := shapeCast S8192x11264 main_v25 shapeCasts_S1x8192x11x1024_S8192x11264
  let main_v27 : IVec S8192x11264 1 := andi main_v20 main_v26
  main_v27

def fn {F : FTy → Type} [FloatOps F] (main_arg0 : FVec F S8192x2816 .f32) (main_arg1 : FVec F S8192x2816 .f32) (main_arg2 : FVec F S2816x1024 .f32) (main_arg3 : FVec F S8192x1024 .f32) : IVec S8192x11264 1 :=
  let main_v0 : FVec F S8192x2816 .f32 := Host.absf main_arg0
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_v3 : IVec S1x8192x1x2816 1 := shapeCast S1x8192x1x2816 main_v2 shapeCasts_S8192x2816_S1x8192x1x2816
  let main_v4 : IVec S1x8192x4x2816 1 := broadcastInDim S1x8192x4x2816 ![0, 1, 2, 3] bcast_S1x8192x1x2816_S1x8192x4x2816_0_1_2_3 main_v3
  let main_v5 : IVec S8192x11264 1 := shapeCast S8192x11264 main_v4 shapeCasts_S1x8192x4x2816_S8192x11264
  let main_v6 : FVec F S8192x2816 .f32 := Host.absf main_arg1
  let main_cst_0 : FVec F S_ .f32 := constant S_ .f32 0x7F800000#32
  let main_v7 : FVec F S8192x2816 .f32 := broadcastInDim S8192x2816 ![] bcast_S_S8192x2816 main_cst_0
  let main_v8 : IVec S8192x2816 1 := cmpf .olt main_v6 main_v7
  let main_v9 : IVec S1x8192x1x2816 1 := shapeCast S1x8192x1x2816 main_v8 shapeCasts_S8192x2816_S1x8192x1x2816
  let main_v10 : IVec S1x8192x4x2816 1 := broadcastInDim S1x8192x4x2816 ![0, 1, 2, 3] bcast_S1x8192x1x2816_S1x8192x4x2816_0_1_2_3 main_v9
  let main_v11 : IVec S8192x11264 1 := shapeCast S8192x11264 main_v10 shapeCasts_S1x8192x4x2816_S8192x11264
  let main_v12 : IVec S8192x11264 1 := andi main_v5 main_v11
  let main_v13 : FVec F S1024x2816 .f32 := (transpose S1024x2816 [1, 0] · transposes_S2816x1024_S1024x2816_1_0) main_arg2
  let main_v14 : FVec F S1024x2816 .f32 := Host.absf main_v13
  let main_cst_1 : FVec F S_ .f32 := constant S_ .f32 0x7F800000#32
  let main_v15 : FVec F S1024x2816 .f32 := broadcastInDim S1024x2816 ![] bcast_S_S1024x2816 main_cst_1
  let main_v16 : IVec S1024x2816 1 := cmpf .olt main_v14 main_v15
  let main_v17 : IVec S1x1024x1x2816 1 := shapeCast S1x1024x1x2816 main_v16 shapeCasts_S1024x2816_S1x1024x1x2816
  let main_v18 : IVec S8x1024x4x2816 1 := broadcastInDim S8x1024x4x2816 ![0, 1, 2, 3] bcast_S1x1024x1x2816_S8x1024x4x2816_0_1_2_3 main_v17
  let main_v19 : IVec S8192x11264 1 := shapeCast S8192x11264 main_v18 shapeCasts_S8x1024x4x2816_S8192x11264
  let main_v20 : IVec S8192x11264 1 := andi main_v12 main_v19
  fn_part1 (F := F) main_arg3 main_v20
-- ==== Kernel.lean ====
abbrev S8192x1024 : Shape := ⟨2, ![8192, 1024]⟩
abbrev S8192x16x64 : Shape := ⟨3, ![8192, 16, 64]⟩
abbrev S16x8192x64 : Shape := ⟨3, ![16, 8192, 64]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S256x128 : Shape := ⟨2, ![256, 128]⟩
abbrev S8192x128 : Shape := ⟨2, ![8192, 128]⟩
abbrev S256x256 : Shape := ⟨2, ![256, 256]⟩
abbrev S512x256 : Shape := ⟨2, ![512, 256]⟩
abbrev S512x128 : Shape := ⟨2, ![512, 128]⟩
abbrev S256 : Shape := ⟨1, ![256]⟩
abbrev S256x1 : Shape := ⟨2, ![256, 1]⟩
abbrev S512x1 : Shape := ⟨2, ![512, 1]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 82
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x16x64, .f32⟩
  | .hbm, ⟨5, _⟩ => ⟨S16x8192x64, .f32⟩
  | .hbm, ⟨6, _⟩ => ⟨S8192x16x64, .f32⟩
  | .hbm, ⟨7, _⟩ => ⟨S16x8192x64, .f32⟩
  | .hbm, ⟨8, _⟩ => ⟨S8192x16x64, .f32⟩
  | .hbm, ⟨9, _⟩ => ⟨S16x8192x64, .f32⟩
  | .hbm, ⟨10, _⟩ => ⟨S16x8192x8192, .f32⟩
  | .hbm, ⟨11, _⟩ => ⟨S_, .f32⟩
  | .hbm, ⟨12, _⟩ => ⟨S16x8192x8192, .f32⟩
  | .hbm, ⟨13, _⟩ => ⟨S16x8192x8192, .f32⟩
  | .hbm, ⟨14, _⟩ => ⟨S8192, .i32⟩
  | .hbm, ⟨15, _⟩ => ⟨S1x8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S16x8192x8192, .f32⟩
  | .hbm, ⟨21, _⟩ => ⟨S16x8192x8192, .f32⟩
  | .hbm, ⟨22, _⟩ => ⟨S_, .f32⟩
  | .hbm, ⟨23, _⟩ => ⟨S16x8192x8192, .f32⟩
  | .hbm, ⟨24, _⟩ => ⟨S16x8192x8192, .f32⟩
  | .hbm, ⟨25, _⟩ => ⟨S16x8192x8192, .f32⟩
  | .hbm, ⟨26, _⟩ => ⟨S16x8192x8192, .f32⟩
  | .hbm, ⟨27, _⟩ => ⟨S16x8192x8192, .i1⟩
  | .hbm, ⟨28, _⟩ => ⟨S16x8192x8192, .f32⟩
  | .hbm, ⟨29, _⟩ => ⟨S16x8192x8192, .f32⟩
  | .hbm, ⟨30, _⟩ => ⟨S16x8192x8192, .f32⟩
  | .hbm, ⟨31, _⟩ => ⟨S16x8192x8192, .f32⟩
  | .hbm, ⟨32, _⟩ => ⟨S16x8192x8192, .f32⟩
  | .hbm, ⟨33, _⟩ => ⟨S16x8192x8192, .f32⟩
  | .hbm, ⟨34, _⟩ => ⟨S16x8192x8192, .f32⟩
  | .hbm, ⟨35, _⟩ => ⟨S16x8192x8192, .f32⟩
  | .hbm, ⟨36, _⟩ => ⟨S16x8192x8192, .f32⟩
  | .hbm, ⟨37, _⟩ => ⟨S_, .f32⟩
  | .hbm, ⟨38, _⟩ => ⟨S_, .f32⟩
  | .hbm, ⟨39, _⟩ => ⟨S16x8192x8192, .i1⟩
  | .hbm, ⟨40, _⟩ => ⟨S16x8192x8192, .f32⟩
  | .hbm, ⟨41, _⟩ => ⟨S16x8192x8192, .f32⟩
  | .hbm, ⟨42, _⟩ => ⟨S_, .f32⟩
  | .hbm, ⟨43, _⟩ => ⟨S_, .f32⟩
  | .hbm, ⟨44, _⟩ => ⟨S16x8192x8192, .f32⟩
  | .hbm, ⟨45, _⟩ => ⟨S16x8192x8192, .f32⟩
  | .hbm, ⟨46, _⟩ => ⟨S16x8192x8192, .f32⟩
  | .hbm, ⟨47, _⟩ => ⟨S_, .f32⟩
  | .hbm, ⟨48, _⟩ => ⟨S16x8192x8192, .f32⟩
  | .hbm, ⟨49, _⟩ => ⟨S16x8192x8192, .f32⟩
  | .hbm, ⟨50, _⟩ => ⟨S16x8192x8192, .f32⟩
  | .hbm, ⟨51, _⟩ => ⟨S16x8192x8192, .f32⟩
  | .hbm, ⟨52, _⟩ => ⟨S16x8192x8192, .i1⟩
  | .hbm, ⟨53, _⟩ => ⟨S16x8192x8192, .f32⟩
  | .hbm, ⟨54, _⟩ => ⟨S16x8192x8192, .f32⟩
  | .hbm, ⟨55, _⟩ => ⟨S16x8192x8192, .f32⟩
  | .hbm, ⟨56, _⟩ => ⟨S16x8192x8192, .f32⟩
  | .hbm, ⟨57, _⟩ => ⟨S16x8192x8192, .f32⟩
  | .hbm, ⟨58, _⟩ => ⟨S16x8192x8192, .f32⟩
  | .hbm, ⟨59, _⟩ => ⟨S16x8192x8192, .f32⟩
  | .hbm, ⟨60, _⟩ => ⟨S16x8192x8192, .f32⟩
  | .hbm, ⟨61, _⟩ => ⟨S16x8192x8192, .f32⟩
  | .hbm, ⟨62, _⟩ => ⟨S16x8192x8192, .f32⟩
  | .hbm, ⟨63, _⟩ => ⟨S16x8192x8192, .f32⟩
  | .hbm, ⟨64, _⟩ => ⟨S_, .f32⟩
  | .hbm, ⟨65, _⟩ => ⟨S_, .f32⟩
  | .hbm, ⟨66, _⟩ => ⟨S16x8192x8192, .i1⟩
  | .hbm, ⟨67, _⟩ => ⟨S16x8192x8192, .f32⟩
  | .hbm, ⟨68, _⟩ => ⟨S16x8192x8192, .f32⟩
  | .hbm, ⟨69, _⟩ => ⟨S16x8192x64, .f32⟩
  | .hbm, ⟨70, _⟩ => ⟨S8192x16x64, .f32⟩
  | .hbm, ⟨71, _⟩ => ⟨S8192x1024, .f32⟩
  | .hbm, ⟨72, _⟩ => ⟨S_, .f32⟩
  | .hbm, ⟨73, _⟩ => ⟨S8192x1024, .f32⟩
  | .hbm, ⟨74, _⟩ => ⟨S8192x1024, .f32⟩
  | .hbm, ⟨75, _⟩ => ⟨S8192x1024, .bf16⟩
  | .hbm, ⟨76, _⟩ => ⟨S8192x1024, .bf16⟩
  | .hbm, ⟨77, _⟩ => ⟨S8192x1024, .bf16⟩
  | .hbm, ⟨78, _⟩ => ⟨S8192x1024, .bf16⟩
  | .hbm, ⟨79, _⟩ => ⟨S8192x1024, .f32⟩
  | .hbm, ⟨80, _⟩ => ⟨S8192x1024, .f32⟩
  | .hbm, ⟨81, _⟩ => ⟨S8192x1024, .f32⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x128, .bf16⟩
  | .local _ .vmem, ⟨7, _⟩ => ⟨S256x128, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S8192x128, .f32⟩
  | .local _ .vmem, ⟨13, _⟩ => ⟨S8192x128, .f32⟩
  | .local _ .vmem, ⟨14, _⟩ => ⟨S8192x128, .f32⟩
  | .local _ .vmem, ⟨15, _⟩ => ⟨S8192x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v16 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v17 : Ref sig .tc := ⟨.hbm, 41, rfl⟩
abbrev main_call2_cst : Ref sig .tc := ⟨.hbm, 42, rfl⟩
abbrev main_call2_v0 : Ref sig .tc := ⟨.hbm, 43, rfl⟩
abbrev main_v18 : Ref sig .tc := ⟨.hbm, 44, rfl⟩
abbrev main_v19 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_cst_2 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33_0 : Ref sig .tc := ⟨.hbm, 79, rfl⟩
abbrev main_v33_1 : Ref sig .tc := ⟨.hbm, 80, rfl⟩
abbrev main_v33_2 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let arg1 : BitVec 32 := BitVec.ofNat 32 (i 1).val
  let c256_i32_21 : BitVec 32 := 256#32
  let v65 : BitVec 32 := Scalar.muli arg1 c256_i32_21
  v65
def k0_off1 (i : grid0.Coords) : Fin 2 → Nat :=
  let arg1 : BitVec 32 := BitVec.ofNat 32 (i 1).val
  let c256_i32_21 : BitVec 32 := 256#32
  let v65 : BitVec 32 := Scalar.muli arg1 c256_i32_21
  let v66 : BitVec 32 := v65
  let v67 : Index := Scalar.indexCast v66
  let c0_22 : Index := 0#32
  ![v67.toNat, 0]
def k0_mult2 (i : grid0.Coords) : BitVec 32 :=
  let arg1 : BitVec 32 := BitVec.ofNat 32 (i 1).val
  let c1_i32 : BitVec 32 := 1#32
  let v148 : BitVec 32 := Scalar.subi arg1 c1_i32
  let c0_i32_47 : BitVec 32 := 0#32
  let v149 : BitVec 32 := Scalar.maxsi v148 c0_i32_47
  let c256_i32_49 : BitVec 32 := 256#32
  let v152 : BitVec 32 := Scalar.muli v149 c256_i32_49
  v152
def k0_off2 (i : grid0.Coords) : Fin 2 → Nat :=
  let arg1 : BitVec 32 := BitVec.ofNat 32 (i 1).val
  let c1_i32 : BitVec 32 := 1#32
  let v148 : BitVec 32 := Scalar.subi arg1 c1_i32
  let c0_i32_47 : BitVec 32 := 0#32
  let v149 : BitVec 32 := Scalar.maxsi v148 c0_i32_47
  let c256_i32_49 : BitVec 32 := 256#32
  let v152 : BitVec 32 := Scalar.muli v149 c256_i32_49
  let v153 : BitVec 32 := v152
  let v154 : Index := Scalar.indexCast v153
  let c0_50 : Index := 0#32
  ![v154.toNat, 0]
def k0_mult3 (arg10 : BitVec 32) : BitVec 32 :=
  let c256_i32_80 : BitVec 32 := 256#32
  let v250 : BitVec 32 := Scalar.muli arg10 c256_i32_80
  v250

def k0_off3 (arg10 : BitVec 32) : Fin 2 → Nat :=
  let c256_i32_80 : BitVec 32 := 256#32
  let v250 : BitVec 32 := Scalar.muli arg10 c256_i32_80
  let v251 : BitVec 32 := v250
  let v252 : Index := Scalar.indexCast v251
  let c0_81 : Index := 0#32
  ![v252.toNat, 0]

def k0_chk1 (arg10 : BitVec 32) : Prop :=
  (256 ∣ (k0_mult3 arg10).toNat) ∧
  (∀ a, (k0_off3 arg10) a + S256x128.size a ≤ S8192x128.size a)
theorem k0_mult3_dvd : ∀ (arg10 : BitVec 32) (k0_hw1 : k0_chk1 arg10), 256 ∣ (k0_mult3 arg10).toNat := fun arg10 k0_hw1 => k0_hw1.1
theorem k0_off3_inb : ∀ (arg10 : BitVec 32) (k0_hw1 : k0_chk1 arg10), ∀ a, (k0_off3 arg10) a + S256x128.size a ≤ S8192x128.size a := fun arg10 k0_hw1 => k0_hw1.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "log_zero" => some ⊥
  | _ => none
-- ==== ReferenceIdeal.lean ====
abbrev S8192x1024 : Shape := ⟨2, ![8192, 1024]⟩
abbrev S8192x16x64 : Shape := ⟨3, ![8192, 16, 64]⟩
abbrev S16x8192x64 : Shape := ⟨3, ![16, 8192, 64]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x64x8192 : Shape := ⟨3, ![16, 64, 8192]⟩

abbrev nBuf : Space → Nat
  | .hbm => 176
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x16x64, .f32⟩
  | 5 => ⟨S16x8192x64, .f32⟩
  | 6 => ⟨S8192x16x64, .f32⟩
  | 7 => ⟨S16x8192x64, .f32⟩
  | 8 => ⟨S8192x16x64, .f32⟩
  | 9 => ⟨S16x8192x64, .f32⟩
  | 10 => ⟨S16x8192x8192, .f32⟩
  | 11 => ⟨S_, .f32⟩
  | 12 => ⟨S16x8192x8192, .f32⟩
  | 13 => ⟨S16x8192x8192, .f32⟩
  | 14 => ⟨S8192, .i32⟩
  | 15 => ⟨S1x8192, .i32⟩
  | 16 => ⟨S8192x1, .i32⟩
  | 17 => ⟨S8192x8192, .i32⟩
  | 18 => ⟨S8192x8192, .i32⟩
  | 19 => ⟨S8192x8192, .i1⟩
  | 20 => ⟨S16x8192x8192, .f32⟩
  | 21 => ⟨S16x8192x8192, .f32⟩
  | 22 => ⟨S_, .f32⟩
  | 23 => ⟨S16x8192x8192, .f32⟩
  | 24 => ⟨S16x8192x8192, .f32⟩
  | 25 => ⟨S16x8192x8192, .f32⟩
  | 26 => ⟨S16x8192x8192, .f32⟩
  | 27 => ⟨S16x8192x8192, .i1⟩
  | 28 => ⟨S16x8192x8192, .f32⟩
  | 29 => ⟨S16x8192x8192, .f32⟩
  | 30 => ⟨S16x8192x8192, .f32⟩
  | 31 => ⟨S16x8192x8192, .f32⟩
  | 32 => ⟨S16x8192x8192, .f32⟩
  | 33 => ⟨S16x8192x8192, .f32⟩
  | 34 => ⟨S16x8192x8192, .f32⟩
  | 35 => ⟨S16x8192x8192, .f32⟩
  | 36 => ⟨S_, .f32⟩
  | 37 => ⟨S16x8192x8192, .f32⟩
  | 38 => ⟨S16x8192x8192, .i1⟩
  | 39 => ⟨S_, .f32⟩
  | 40 => ⟨S16x8192x8192, .f32⟩
  | 41 => ⟨S16x8192x8192, .f32⟩
  | 42 => ⟨S_, .f32⟩
  | 43 => ⟨S16x8192x8192, .f32⟩
  | 44 => ⟨S16x8192x8192, .i1⟩
  | 45 => ⟨S_, .f32⟩
  | 46 => ⟨S16x8192x8192, .f32⟩
  | 47 => ⟨S16x8192x8192, .f32⟩
  | 48 => ⟨S16x8192x8192, .f32⟩
  | 49 => ⟨S16x8192x8192, .f32⟩
  | 50 => ⟨S_, .f32⟩
  | 51 => ⟨S_, .f32⟩
  | 52 => ⟨S_, .i1⟩
  | 53 => ⟨S_, .f32⟩
  | 54 => ⟨S_, .f32⟩
  | 55 => ⟨S_, .f32⟩
  | 56 => ⟨S_, .f32⟩
  | 57 => ⟨S16x8192x8192, .f32⟩
  | 58 => ⟨S16x8192x8192, .i1⟩
  | 59 => ⟨S_, .f32⟩
  | 60 => ⟨S16x8192x8192, .f32⟩
  | 61 => ⟨S16x8192x8192, .f32⟩
  | 62 => ⟨S16x8192x8192, .f32⟩
  | 63 => ⟨S16x8192x8192, .f32⟩
  | 64 => ⟨S16x8192x8192, .f32⟩
  | 65 => ⟨S_, .f32⟩
  | 66 => ⟨S16x8192x8192, .f32⟩
  | 67 => ⟨S16x8192x8192, .f32⟩
  | 68 => ⟨S16x8192x8192, .f32⟩
  | 69 => ⟨S_, .f32⟩
  | 70 => ⟨S_, .f32⟩
  | 71 => ⟨S16x8192x8192, .i1⟩
  | 72 => ⟨S16x8192x8192, .f32⟩
  | 73 => ⟨S16x8192x8192, .f32⟩
  | 74 => ⟨S_, .f32⟩
  | 75 => ⟨S16x8192x8192, .f32⟩
  | 76 => ⟨S_, .f32⟩
  | 77 => ⟨S_, .f32⟩
  | 78 => ⟨S16x8192x8192, .f32⟩
  | 79 => ⟨S16x8192x8192, .f32⟩
  | 80 => ⟨S16x8192x8192, .f32⟩
  | 81 => ⟨S_, .f32⟩
  | 82 => ⟨S16x8192x8192, .f32⟩
  | 83 => ⟨S16x8192x8192, .f32⟩
  | 84 => ⟨S16x8192x8192, .f32⟩
  | 85 => ⟨S16x8192x8192, .f32⟩
  | 86 => ⟨S16x8192x8192, .i1⟩
  | 87 => ⟨S16x8192x8192, .f32⟩
  | 88 => ⟨S16x8192x8192, .f32⟩
  | 89 => ⟨S16x8192x8192, .f32⟩
  | 90 => ⟨S16x8192x8192, .f32⟩
  | 91 => ⟨S16x8192x8192, .f32⟩
  | 92 => ⟨S16x8192x8192, .f32⟩
  | 93 => ⟨S16x8192x8192, .f32⟩
  | 94 => ⟨S16x8192x8192, .f32⟩
  | 95 => ⟨S_, .f32⟩
  | 96 => ⟨S16x8192x8192, .f32⟩
  | 97 => ⟨S16x8192x8192, .i1⟩
  | 98 => ⟨S_, .f32⟩
  | 99 => ⟨S16x8192x8192, .f32⟩
  | 100 => ⟨S16x8192x8192, .f32⟩
  | 101 => ⟨S_, .f32⟩
  | 102 => ⟨S16x8192x8192, .f32⟩
  | 103 => ⟨S16x8192x8192, .i1⟩
  | 104 => ⟨S_, .f32⟩
  | 105 => ⟨S16x8192x8192, .f32⟩
  | 106 => ⟨S16x8192x8192, .f32⟩
  | 107 => ⟨S16x8192x8192, .f32⟩
  | 108 => ⟨S16x8192x8192, .f32⟩
  | 109 => ⟨S_, .f32⟩
  | 110 => ⟨S_, .f32⟩
  | 111 => ⟨S_, .i1⟩
  | 112 => ⟨S_, .f32⟩
  | 113 => ⟨S_, .f32⟩
  | 114 => ⟨S_, .f32⟩
  | 115 => ⟨S_, .f32⟩
  | 116 => ⟨S16x8192x8192, .f32⟩
  | 117 => ⟨S16x8192x8192, .i1⟩
  | 118 => ⟨S_, .f32⟩
  | 119 => ⟨S16x8192x8192, .f32⟩
  | 120 => ⟨S16x8192x8192, .f32⟩
  | 121 => ⟨S16x8192x8192, .f32⟩
  | 122 => ⟨S16x8192x8192, .f32⟩
  | 123 => ⟨S16x8192x8192, .f32⟩
  | 124 => ⟨S_, .f32⟩
  | 125 => ⟨S16x8192x8192, .f32⟩
  | 126 => ⟨S16x8192x8192, .f32⟩
  | 127 => ⟨S16x8192x8192, .f32⟩
  | _ => ⟨S8192x1024, .f32⟩

abbrev hbmTy0_1 (i : Nat) : BufTy := match i % 128 with
  | 0 => ⟨S16x8192x8192, .f32⟩
  | 1 => ⟨S16x8192x8192, .f32⟩
  | 2 => ⟨S_, .f32⟩
  | 3 => ⟨S_, .f32⟩
  | 4 => ⟨S16x8192x8192, .i1⟩
  | 5 => ⟨S16x8192x8192, .f32⟩
  | 6 => ⟨S16x8192x8192, .f32⟩
  | 7 => ⟨S_, .f32⟩
  | 8 => ⟨S16x8192x8192, .f32⟩
  | 9 => ⟨S16x8192x64, .f32⟩
  | 10 => ⟨S8192x16x64, .f32⟩
  | 11 => ⟨S8192x1024, .f32⟩
  | 12 => ⟨S8192x16x64, .f32⟩
  | 13 => ⟨S16x8192x64, .f32⟩
  | 14 => ⟨S16x64x8192, .f32⟩
  | 15 => ⟨S16x8192x64, .f32⟩
  | 16 => ⟨S16x8192x8192, .f32⟩
  | 17 => ⟨S_, .f32⟩
  | 18 => ⟨S16x8192x8192, .f32⟩
  | 19 => ⟨S16x8192x8192, .f32⟩
  | 20 => ⟨S16x8192x8192, .f32⟩
  | 21 => ⟨S16x8192x8192, .f32⟩
  | 22 => ⟨S16x8192x8192, .f32⟩
  | 23 => ⟨S16x8192x8192, .f32⟩
  | 24 => ⟨S16x8192x8192, .f32⟩
  | 25 => ⟨S_, .f32⟩
  | 26 => ⟨S_, .f32⟩
  | 27 => ⟨S16x8192x8192, .f32⟩
  | 28 => ⟨S16x8192x8192, .f32⟩
  | 29 => ⟨S_, .f32⟩
  | 30 => ⟨S16x8192x8192, .f32⟩
  | 31 => ⟨S16x8192x8192, .f32⟩
  | 32 => ⟨S16x8192x8192, .f32⟩
  | 33 => ⟨S16x8192x8192, .f32⟩
  | 34 => ⟨S16x8192x8192, .f32⟩
  | 35 => ⟨S16x8192x8192, .f32⟩
  | 36 => ⟨S16x8192x8192, .f32⟩
  | 37 => ⟨S_, .f32⟩
  | 38 => ⟨S16x8192x8192, .f32⟩
  | 39 => ⟨S16x8192x8192, .f32⟩
  | 40 => ⟨S16x8192x64, .f32⟩
  | 41 => ⟨S16x8192x64, .f32⟩
  | 42 => ⟨S8192x16x64, .f32⟩
  | 43 => ⟨S8192x1024, .f32⟩
  | 44 => ⟨S8192x16x64, .f32⟩
  | 45 => ⟨S8192x1024, .f32⟩
  | 46 => ⟨S8192x16x64, .f32⟩
  | 47 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1_0 : Ref sig .tc := ⟨.hbm, 35, rfl⟩
abbrev main_call0_call0_cst_0 : Ref sig .tc := ⟨.hbm, 36, rfl⟩
abbrev main_call0_call0_v13 : Ref sig .tc := ⟨.hbm, 37, rfl⟩
abbrev main_call0_call0_v14 : Ref sig .tc := ⟨.hbm, 38, rfl⟩
abbrev main_call0_call0_cst_1 : Ref sig .tc := ⟨.hbm, 39, rfl⟩
abbrev main_call0_call0_v15 : Ref sig .tc := ⟨.hbm, 40, rfl⟩
abbrev main_call0_call0_v16 : Ref sig .tc := ⟨.hbm, 41, rfl⟩
abbrev main_call0_call0_cst_2 : Ref sig .tc := ⟨.hbm, 42, rfl⟩
abbrev main_call0_call0_v17 : Ref sig .tc := ⟨.hbm, 43, rfl⟩
abbrev main_call0_call0_v18 : Ref sig .tc := ⟨.hbm, 44, rfl⟩
abbrev main_call0_call0_cst_3 : Ref sig .tc := ⟨.hbm, 45, rfl⟩
abbrev main_call0_call0_v19 : Ref sig .tc := ⟨.hbm, 46, rfl⟩
abbrev main_call0_call0_v20 : Ref sig .tc := ⟨.hbm, 47, rfl⟩
abbrev main_call0_call0_v21 : Ref sig .tc := ⟨.hbm, 48, rfl⟩
abbrev main_v16_1 : Ref sig .tc := ⟨.hbm, 49, rfl⟩
abbrev main_call0_call0_cst_4 : Ref sig .tc := ⟨.hbm, 50, rfl⟩
abbrev main_call0_call0_cst_5 : Ref sig .tc := ⟨.hbm, 51, rfl⟩
abbrev main_call0_call0_v23 : Ref sig .tc := ⟨.hbm, 52, rfl⟩
abbrev main_call0_call0_cst_6 : Ref sig .tc := ⟨.hbm, 53, rfl⟩
abbrev main_call0_call0_cst_7 : Ref sig .tc := ⟨.hbm, 54, rfl⟩
abbrev main_call0_call0_v24 : Ref sig .tc := ⟨.hbm, 55, rfl⟩
abbrev main_call0_call0_cst_8 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_cst_9 : Ref sig .tc := ⟨.hbm, 59, rfl⟩
abbrev main_call0_call0_v27 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_cst_10 : Ref sig .tc := ⟨.hbm, 65, rfl⟩
abbrev main_call0_call0_v32 : Ref sig .tc := ⟨.hbm, 66, rfl⟩
abbrev main_v16_2 : Ref sig .tc := ⟨.hbm, 67, rfl⟩
abbrev main_v16_0 : Ref sig .tc := ⟨.hbm, 68, rfl⟩
abbrev main_cst_0 : Ref sig .tc := ⟨.hbm, 69, rfl⟩
abbrev main_call1_v0 : Ref sig .tc := ⟨.hbm, 70, rfl⟩
abbrev main_v17_1 : Ref sig .tc := ⟨.hbm, 71, rfl⟩
abbrev main_call1_v2 : Ref sig .tc := ⟨.hbm, 72, rfl⟩
abbrev main_v17_0 : Ref sig .tc := ⟨.hbm, 73, rfl⟩
abbrev main_call1_cst : Ref sig .tc := ⟨.hbm, 74, rfl⟩
abbrev main_v17_2 : Ref sig .tc := ⟨.hbm, 75, rfl⟩
abbrev main_call2_cst : Ref sig .tc := ⟨.hbm, 76, rfl⟩
abbrev main_call2_v0 : Ref sig .tc := ⟨.hbm, 77, rfl⟩
abbrev main_v18 : Ref sig .tc := ⟨.hbm, 78, rfl⟩
abbrev main_v19 : Ref sig .tc := ⟨.hbm, 79, rfl⟩
abbrev main_call3_v0 : Ref sig .tc := ⟨.hbm, 80, rfl⟩
abbrev main_call3_call0_cst : Ref sig .tc := ⟨.hbm, 81, rfl⟩
abbrev main_call3_call0_v0 : Ref sig .tc := ⟨.hbm, 82, rfl⟩
abbrev main_call3_call0_v1 : Ref sig .tc := ⟨.hbm, 83, rfl⟩
abbrev main_call3_call0_v2 : Ref sig .tc := ⟨.hbm, 84, rfl⟩
abbrev main_call3_call0_v3 : Ref sig .tc := ⟨.hbm, 85, rfl⟩
abbrev main_call3_call0_v4 : Ref sig .tc := ⟨.hbm, 86, rfl⟩
abbrev main_call3_call0_v5 : Ref sig .tc := ⟨.hbm, 87, rfl⟩
abbrev main_call3_call0_v6 : Ref sig .tc := ⟨.hbm, 88, rfl⟩
abbrev main_call3_call0_v7 : Ref sig .tc := ⟨.hbm, 89, rfl⟩
abbrev main_call3_call0_v8 : Ref sig .tc := ⟨.hbm, 90, rfl⟩
abbrev main_call3_call0_v9 : Ref sig .tc := ⟨.hbm, 91, rfl⟩
abbrev main_call3_call0_v10 : Ref sig .tc := ⟨.hbm, 92, rfl⟩
abbrev main_call3_call0_v11 : Ref sig .tc := ⟨.hbm, 93, rfl⟩
abbrev main_call3_v1_0 : Ref sig .tc := ⟨.hbm, 94, rfl⟩
abbrev main_call3_call0_cst_0 : Ref sig .tc := ⟨.hbm, 95, rfl⟩
abbrev main_call3_call0_v13 : Ref sig .tc := ⟨.hbm, 96, rfl⟩
abbrev main_call3_call0_v14 : Ref sig .tc := ⟨.hbm, 97, rfl⟩
abbrev main_call3_call0_cst_1 : Ref sig .tc := ⟨.hbm, 98, rfl⟩
abbrev main_call3_call0_v15 : Ref sig .tc := ⟨.hbm, 99, rfl⟩
abbrev main_call3_call0_v16 : Ref sig .tc := ⟨.hbm, 100, rfl⟩
abbrev main_call3_call0_cst_2 : Ref sig .tc := ⟨.hbm, 101, rfl⟩
abbrev main_call3_call0_v17 : Ref sig .tc := ⟨.hbm, 102, rfl⟩
abbrev main_call3_call0_v18 : Ref sig .tc := ⟨.hbm, 103, rfl⟩
abbrev main_call3_call0_cst_3 : Ref sig .tc := ⟨.hbm, 104, rfl⟩
abbrev main_call3_call0_v19 : Ref sig .tc := ⟨.hbm, 105, rfl⟩
abbrev main_call3_call0_v20 : Ref sig .tc := ⟨.hbm, 106, rfl⟩
abbrev main_call3_call0_v21 : Ref sig .tc := ⟨.hbm, 107, rfl⟩
abbrev main_v20_1 : Ref sig .tc := ⟨.hbm, 108, rfl⟩
abbrev main_call3_call0_cst_4 : Ref sig .tc := ⟨.hbm, 109, rfl⟩
abbrev main_call3_call0_cst_5 : Ref sig .tc := ⟨.hbm, 110, rfl⟩
abbrev main_call3_call0_v23 : Ref sig .tc := ⟨.hbm, 111, rfl⟩
abbrev main_call3_call0_cst_6 : Ref sig .tc := ⟨.hbm, 112, rfl⟩
abbrev main_call3_call0_cst_7 : Ref sig .tc := ⟨.hbm, 113, rfl⟩
abbrev main_call3_call0_v24 : Ref sig .tc := ⟨.hbm, 114, rfl⟩
abbrev main_call3_call0_cst_8 : Ref sig .tc := ⟨.hbm, 115, rfl⟩
abbrev main_call3_call0_v25 : Ref sig .tc := ⟨.hbm, 116, rfl⟩
abbrev main_call3_call0_v26 : Ref sig .tc := ⟨.hbm, 117, rfl⟩
abbrev main_call3_call0_cst_9 : Ref sig .tc := ⟨.hbm, 118, rfl⟩
abbrev main_call3_call0_v27 : Ref sig .tc := ⟨.hbm, 119, rfl⟩
abbrev main_call3_call0_v28 : Ref sig .tc := ⟨.hbm, 120, rfl⟩
abbrev main_call3_call0_v29 : Ref sig .tc := ⟨.hbm, 121, rfl⟩
abbrev main_call3_call0_v30 : Ref sig .tc := ⟨.hbm, 122, rfl⟩
abbrev main_call3_call0_v31 : Ref sig .tc := ⟨.hbm, 123, rfl⟩
abbrev main_call3_call0_cst_10 : Ref sig .tc := ⟨.hbm, 124, rfl⟩
abbrev main_call3_call0_v32 : Ref sig .tc := ⟨.hbm, 125, rfl⟩
abbrev main_v20_2 : Ref sig .tc := ⟨.hbm, 126, rfl⟩
abbrev main_v20_0 : Ref sig .tc := ⟨.hbm, 127, rfl⟩
abbrev main_v21 : Ref sig .tc := ⟨.hbm, 128, rfl⟩
abbrev main_v22 : Ref sig .tc := ⟨.hbm, 129, rfl⟩
abbrev main_cst_1 : Ref sig .tc := ⟨.hbm, 130, rfl⟩
abbrev main_call4_v0 : Ref sig .tc := ⟨.hbm, 131, rfl⟩
abbrev main_v23_1 : Ref sig .tc := ⟨.hbm, 132, rfl⟩
abbrev main_call4_v2 : Ref sig .tc := ⟨.hbm, 133, rfl⟩
abbrev main_v23_0 : Ref sig .tc := ⟨.hbm, 134, rfl⟩
abbrev main_call4_cst : Ref sig .tc := ⟨.hbm, 135, rfl⟩
abbrev main_v23_2 : Ref sig .tc := ⟨.hbm, 136, rfl⟩
abbrev main_v24 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_call5_cst : Ref sig .tc := ⟨.hbm, 145, rfl⟩
abbrev main_call5_v0 : Ref sig .tc := ⟨.hbm, 146, rfl⟩
abbrev main_v32 : Ref sig .tc := ⟨.hbm, 147, rfl⟩
abbrev main_v33 : Ref sig .tc := ⟨.hbm, 148, rfl⟩
abbrev main_call6_v0 : Ref sig .tc := ⟨.hbm, 149, rfl⟩
abbrev main_call6_v1 : Ref sig .tc := ⟨.hbm, 150, rfl⟩
abbrev main_v34 : Ref sig .tc := ⟨.hbm, 151, rfl⟩
abbrev main_v35 : Ref sig .tc := ⟨.hbm, 152, rfl⟩
abbrev main_call7_cst : Ref sig .tc := ⟨.hbm, 153, rfl⟩
abbrev main_call7_v0 : Ref sig .tc := ⟨.hbm, 154, rfl⟩
abbrev main_v36 : Ref sig .tc := ⟨.hbm, 155, rfl⟩
abbrev main_v37 : Ref sig .tc := ⟨.hbm, 156, rfl⟩
abbrev main_call8_cst : Ref sig .tc := ⟨.hbm, 157, rfl⟩
abbrev main_call8_v0 : Ref sig .tc := ⟨.hbm, 158, rfl⟩
abbrev main_v38 : Ref sig .tc := ⟨.hbm, 159, rfl⟩
abbrev main_call9_v0 : Ref sig .tc := ⟨.hbm, 160, rfl⟩
abbrev main_call9_v1 : Ref sig .tc := ⟨.hbm, 161, rfl⟩
abbrev main_v39 : Ref sig .tc := ⟨.hbm, 162, rfl⟩
abbrev main_v40 : Ref sig .tc := ⟨.hbm, 163, rfl⟩
abbrev main_v41 : Ref sig .tc := ⟨.hbm, 164, rfl⟩
abbrev main_cst_2 : Ref sig .tc := ⟨.hbm, 165, rfl⟩
abbrev main_v42 : Ref sig .tc := ⟨.hbm, 166, rfl⟩
abbrev main_v43 : Ref sig .tc := ⟨.hbm, 167, rfl⟩
abbrev main_v44 : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩
abbrev main_v48 : Ref sig .tc := ⟨.hbm, 172, rfl⟩
abbrev main_v49 : Ref sig .tc := ⟨.hbm, 173, rfl⟩
abbrev main_v50 : Ref sig .tc := ⟨.hbm, 174, rfl⟩
abbrev main_v51 : Ref sig .tc := ⟨.hbm, 175, rfl⟩

abbrev nD : Nat := 1
abbrev τ : Topo := Topo.v7x

variable {F : FTy → Type} [FloatOps F]
-- ==== Kernel2.lean ====
abbrev S8192x1024 : Shape := ⟨2, ![8192, 1024]⟩
abbrev S_ : Shape := ⟨0, ![]⟩
abbrev S512x1024 : Shape := ⟨2, ![512, 1024]⟩

abbrev nBuf : Space → Nat
  | .hbm => 15
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .bf16⟩
  | .hbm, ⟨12, _⟩ => ⟨S8192x1024, .bf16⟩
  | .hbm, ⟨13, _⟩ => ⟨S8192x1024, .bf16⟩
  | .hbm, ⟨14, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S8192x1024 : Shape := ⟨2, ![8192, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel3.lean ====
abbrev S8192x1024 : Shape := ⟨2, ![8192, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | .local _ .vmem, ⟨7, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v22 : BitVec 1 := Scalar.cmpi .eq arg0 c15_i32
  let v23 : BitVec 32 := Scalar.extui v22
  let c0_i32_13 : BitVec 32 := 0#32
  let v24 : BitVec 1 := Scalar.cmpi .ne v23 c0_i32_13
  v24

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference3Ideal.lean ====
abbrev S8192x1024 : Shape := ⟨2, ![8192, 1024]⟩
abbrev S_ : Shape := ⟨0, ![]⟩
abbrev S8192 : Shape := ⟨1, ![8192]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel4.lean ====
abbrev S8192x1024 : Shape := ⟨2, ![8192, 1024]⟩
abbrev S4x256x256 : Shape := ⟨3, ![4, 256, 256]⟩
abbrev S1024 : Shape := ⟨1, ![1024]⟩
abbrev S1x1024 : Shape := ⟨2, ![1, 1024]⟩
abbrev S256x1024 : Shape := ⟨2, ![256, 1024]⟩
abbrev S256x256 : Shape := ⟨2, ![256, 256]⟩
abbrev S1x256x256 : Shape := ⟨3, ![1, 256, 256]⟩
abbrev S1x256 : Shape := ⟨2, ![1, 256]⟩
abbrev S256 : Shape := ⟨1, ![256]⟩

abbrev nBuf : Space → Nat
  | .hbm => 10
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S4x256x256, .f32⟩
  | .hbm, ⟨2, _⟩ => ⟨S1024, .f32⟩
  | .hbm, ⟨3, _⟩ => ⟨S8192x1024, .f32⟩
  | .hbm, ⟨4, _⟩ => ⟨S8192x1024, .bf16⟩
  | .hbm, ⟨5, _⟩ => ⟨S4x256x256, .bf16⟩
  | .hbm, ⟨6, _⟩ => ⟨S1x1024, .f32⟩
  | .hbm, ⟨7, _⟩ => ⟨S8192x1024, .f32⟩
  | .hbm, ⟨8, _⟩ => ⟨S4x256x256, .bf16⟩
  | .hbm, ⟨9, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S4x256x256, .bf16⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S4x256x256, .bf16⟩
  | .local _ .vmem, ⟨9, _⟩ => ⟨S1x1024, .f32⟩
  | .local _ .vmem, ⟨10, _⟩ => ⟨S4x256x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v119 : BitVec 1 := Scalar.cmpi .eq arg0 c31_i32
  let v120 : BitVec 32 := Scalar.extui v119
  let c0_i32_105 : BitVec 32 := 0#32
  let v121 : BitVec 1 := Scalar.cmpi .ne v120 c0_i32_105
  v121

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference4Ideal.lean ====
abbrev S8192x1024 : Shape := ⟨2, ![8192, 1024]⟩
abbrev S4x256x256 : Shape := ⟨3, ![4, 256, 256]⟩
abbrev S1024 : Shape := ⟨1, ![1024]⟩
abbrev S8192x4x256 : Shape := ⟨3, ![8192, 4, 256]⟩
abbrev S4x256x8192 : Shape := ⟨3, ![4, 256, 8192]⟩
abbrev S1x1024 : Shape := ⟨2, ![1, 1024]⟩
abbrev S_ : Shape := ⟨0, ![]⟩
abbrev S4x8192x256 : Shape := ⟨3, ![4, 8192, 256]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x256x256, .f32⟩
  | .hbm, ⟨2, _⟩ => ⟨S1024, .f32⟩
  | .hbm, ⟨3, _⟩ => ⟨S8192x1024, .f32⟩
  | .hbm, ⟨4, _⟩ => ⟨S8192x4x256, .f32⟩
  | .hbm, ⟨5, _⟩ => ⟨S4x256x8192, .f32⟩
  | .hbm, ⟨6, _⟩ => ⟨S8192x4x256, .f32⟩
  | .hbm, ⟨7, _⟩ => ⟨S8192x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S1024, .f32⟩
  | .hbm, ⟨19, _⟩ => ⟨S8192x4x256, .f32⟩
  | .hbm, ⟨20, _⟩ => ⟨S4x256x8192, .f32⟩
  | .hbm, ⟨21, _⟩ => ⟨S4x8192x256, .f32⟩
  | .hbm, ⟨22, _⟩ => ⟨S8192x4x256, .f32⟩
  | .hbm, ⟨23, _⟩ => ⟨S4x256x256, .f32⟩
  | .hbm, ⟨24, _⟩ => ⟨S4x256x256, .f32⟩
  | .hbm, ⟨25, _⟩ => ⟨S8192x1024, .f32⟩
  | .hbm, ⟨26, _⟩ => ⟨S4x256x256, .bf16⟩
  | .hbm, ⟨27, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel5.lean ====
abbrev S8192x1024 : Shape := ⟨2, ![8192, 1024]⟩
abbrev S256x1024 : Shape := ⟨2, ![256, 1024]⟩
abbrev S128x1024 : Shape := ⟨2, ![128, 1024]⟩
abbrev S256x256 : Shape := ⟨2, ![256, 256]⟩
abbrev S128x256 : Shape := ⟨2, ![128, 256]⟩
abbrev S256x128 : Shape := ⟨2, ![256, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S128x1024, .f32⟩
  | .local _ .vmem, ⟨3, _⟩ => ⟨S128x1024, .f32⟩
  | .local _ .vmem, ⟨4, _⟩ => ⟨S256x1024, .bf16⟩
  | .local _ .vmem, ⟨5, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.muli v0 c2_i32
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S8192x1024 : Shape := ⟨2, ![8192, 1024]⟩
abbrev S8192x4x256 : Shape := ⟨3, ![8192, 4, 256]⟩
abbrev S_ : Shape := ⟨0, ![]⟩
abbrev S8192 : Shape := ⟨1, ![8192]⟩
abbrev S8192x1x256 : Shape := ⟨3, ![8192, 1, 256]⟩
abbrev S8192x256 : Shape := ⟨2, ![8192, 256]⟩
abbrev S2x256 : Shape := ⟨2, ![2, 256]⟩
abbrev S8190x256 : Shape := ⟨2, ![8190, 256]⟩
abbrev S8192x1 : Shape := ⟨2, ![8192, 1]⟩
abbrev S4x256 : Shape := ⟨2, ![4, 256]⟩
abbrev S8188x256 : Shape := ⟨2, ![8188, 256]⟩
abbrev S8x256 : Shape := ⟨2, ![8, 256]⟩
abbrev S8184x256 : Shape := ⟨2, ![8184, 256]⟩
abbrev S16x256 : Shape := ⟨2, ![16, 256]⟩
abbrev S8176x256 : Shape := ⟨2, ![8176, 256]⟩

abbrev nBuf : Space → Nat
  | .hbm => 182
  | .vmem => 0
  | .smem => 0
  | _ => 0

abbrev hbmTy0_0 (i : Nat) : BufTy := match i % 128 with
  | 0 => ⟨S8192x1024, .f32⟩
  | 1 => ⟨S8192x1024, .f32⟩
  | 2 => ⟨S8192x4x256, .f32⟩
  | 3 => ⟨S_, .f32⟩
  | 4 => ⟨S_, .f32⟩
  | 5 => ⟨S8192x4x256, .f32⟩
  | 6 => ⟨S8192, .i32⟩
  | 7 => ⟨S8192x1x256, .f32⟩
  | 8 => ⟨S8192x256, .f32⟩
  | 9 => ⟨S_, .f32⟩
  | 10 => ⟨S2x256, .f32⟩
  | 11 => ⟨S8190x256, .f32⟩
  | 12 => ⟨S8192x256, .f32⟩
  | 13 => ⟨S_, .f32⟩
  | 14 => ⟨S2x256, .f32⟩
  | 15 => ⟨S8192x256, .f32⟩
  | 16 => ⟨S_, .i32⟩
  | 17 => ⟨S8192, .i32⟩
  | 18 => ⟨S8192, .i32⟩
  | 19 => ⟨S_, .i32⟩
  | 20 => ⟨S8192, .i32⟩
  | 21 => ⟨S8192, .i32⟩
  | 22 => ⟨S8192, .f32⟩
  | 23 => ⟨S8192x1, .f32⟩
  | 24 => ⟨S8192x256, .f32⟩
  | 25 => ⟨S8192x256, .f32⟩
  | 26 => ⟨S8192x1x256, .f32⟩
  | 27 => ⟨S8192x256, .f32⟩
  | 28 => ⟨S8192x256, .f32⟩
  | 29 => ⟨S8192x1x256, .f32⟩
  | 30 => ⟨S8192x256, .f32⟩
  | 31 => ⟨S_, .f32⟩
  | 32 => ⟨S4x256, .f32⟩
  | 33 => ⟨S8188x256, .f32⟩
  | 34 => ⟨S8192x256, .f32⟩
  | 35 => ⟨S_, .f32⟩
  | 36 => ⟨S4x256, .f32⟩
  | 37 => ⟨S8192x256, .f32⟩
  | 38 => ⟨S_, .i32⟩
  | 39 => ⟨S8192, .i32⟩
  | 40 => ⟨S8192, .i32⟩
  | 41 => ⟨S_, .i32⟩
  | 42 => ⟨S8192, .i32⟩
  | 43 => ⟨S8192, .i32⟩
  | 44 => ⟨S8192, .f32⟩
  | 45 => ⟨S8192x1, .f32⟩
  | 46 => ⟨S8192x256, .f32⟩
  | 47 => ⟨S8192x256, .f32⟩
  | 48 => ⟨S8192x1x256, .f32⟩
  | 49 => ⟨S8192x256, .f32⟩
  | 50 => ⟨S8192x256, .f32⟩
  | 51 => ⟨S8192x1x256, .f32⟩
  | 52 => ⟨S8192x256, .f32⟩
  | 53 => ⟨S_, .f32⟩
  | 54 => ⟨S8x256, .f32⟩
  | 55 => ⟨S8184x256, .f32⟩
  | 56 => ⟨S8192x256, .f32⟩
  | 57 => ⟨S_, .f32⟩
  | 58 => ⟨S8x256, .f32⟩
  | 59 => ⟨S8192x256, .f32⟩
  | 60 => ⟨S_, .i32⟩
  | 61 => ⟨S8192, .i32⟩
  | 62 => ⟨S8192, .i32⟩
  | 63 => ⟨S_, .i32⟩
  | 64 => ⟨S8192, .i32⟩
  | 65 => ⟨S8192, .i32⟩
  | 66 => ⟨S8192, .f32⟩
  | 67 => ⟨S8192x1, .f32⟩
  | 68 => ⟨S8192x256, .f32⟩
  | 69 => ⟨S8192x256, .f32⟩
  | 70 => ⟨S8192x1x256, .f32⟩
  | 71 => ⟨S8192x256, .f32⟩
  | 72 => ⟨S8192x256, .f32⟩
  | 73 => ⟨S8192x1x256, .f32⟩
  | 74 => ⟨S8192x256, .f32⟩
  | 75 => ⟨S_, .f32⟩
  | 76 => ⟨S16x256, .f32⟩
  | 77 => ⟨S8176x256, .f32⟩
  | 78 => ⟨S8192x256, .f32⟩
  | 79 => ⟨S_, .f32⟩
  | 80 => ⟨S16x256, .f32⟩
  | 81 => ⟨S8192x256, .f32⟩
  | 82 => ⟨S_, .i32⟩
  | 83 => ⟨S8192, .i32⟩
  | 84 => ⟨S8192, .i32⟩
  | 85 => ⟨S_, .i32⟩
  | 86 => ⟨S8192, .i32⟩
  | 87 => ⟨S8192, .i32⟩
  | 88 => ⟨S8192, .f32⟩
  | 89 => ⟨S8192x1, .f32⟩
  | 90 => ⟨S8192x256, .f32⟩
  | 91 => ⟨S8192x256, .f32⟩
  | 92 => ⟨S8192x1x256, .f32⟩
  | 93 => ⟨S8192x256, .f32⟩
  | 94 => ⟨S8192x256, .f32⟩
  | 95 => ⟨S8192x1x256, .f32⟩
  | 96 => ⟨S8192x1x256, .f32⟩
  | 97 => ⟨S8192x1x256, .f32⟩
  | 98 => ⟨S8192x1x256, .f32⟩
  | 99 => ⟨S8192x4x256, .f32⟩
  | 100 => ⟨S8192x1024, .f32⟩
  | 101 => ⟨S8192x4x256, .f32⟩
  | 102 => ⟨S8192x1x256, .f32⟩
  | 103 => ⟨S8192x256, .f32⟩
  | 104 => ⟨S8192x1x256, .f32⟩
  | 105 => ⟨S8192x256, .f32⟩
  | 106 => ⟨S8192x1x256, .f32⟩
  | 107 => ⟨S8192x256, .f32⟩
  | 108 => ⟨S8192x1x256, .f32⟩
  | 109 => ⟨S8192x256, .f32⟩
  | 110 => ⟨S8192x256, .f32⟩
  | 111 => ⟨S8192x1x256, .f32⟩
  | 112 => ⟨S_, .f32⟩
  | 113 => ⟨S8192x4x256, .f32⟩
  | 114 => ⟨S8192x256, .f32⟩
  | 115 => ⟨S8192x256, .f32⟩
  | 116 => ⟨S8192x256, .f32⟩
  | 117 => ⟨S16x256, .f32⟩
  | 118 => ⟨S8176x256, .f32⟩
  | 119 => ⟨S_, .f32⟩
  | 120 => ⟨S8192x256, .f32⟩
  | 121 => ⟨S8192x256, .f32⟩
  | 122 => ⟨S8192x1x256, .f32⟩
  | 123 => ⟨S_, .f32⟩
  | 124 => ⟨S8192x4x256, .f32⟩
  | 125 => ⟨S8192x256, .f32⟩
  | 126 => ⟨S8192x1x256, .f32⟩
  | 127 => ⟨S_, .f32⟩
  | _ => ⟨S8192x1024, .f32⟩

abbrev hbmTy0_1 (i : Nat) : BufTy := match i % 128 with
  | 0 => ⟨S8192x4x256, .f32⟩
  | 1 => ⟨S8192x4x256, .f32⟩
  | 2 => ⟨S8192x256, .f32⟩
  | 3 => ⟨S8192x256, .f32⟩
  | 4 => ⟨S8192x256, .f32⟩
  | 5 => ⟨S8x256, .f32⟩
  | 6 => ⟨S8184x256, .f32⟩
  | 7 => ⟨S_, .f32⟩
  | 8 => ⟨S8192x256, .f32⟩
  | 9 => ⟨S8192x256, .f32⟩
  | 10 => ⟨S8192x1x256, .f32⟩
  | 11 => ⟨S_, .f32⟩
  | 12 => ⟨S8192x4x256, .f32⟩
  | 13 => ⟨S8192x4x256, .f32⟩
  | 14 => ⟨S8192x256, .f32⟩
  | 15 => ⟨S8192x1x256, .f32⟩
  | 16 => ⟨S_, .f32⟩
  | 17 => ⟨S8192x4x256, .f32⟩
  | 18 => ⟨S8192x4x256, .f32⟩
  | 19 => ⟨S8192x256, .f32⟩
  | 20 => ⟨S8192x256, .f32⟩
  | 21 => ⟨S8192x256, .f32⟩
  | 22 => ⟨S4x256, .f32⟩
  | 23 => ⟨S8188x256, .f32⟩
  | 24 => ⟨S_, .f32⟩
  | 25 => ⟨S8192x256, .f32⟩
  | 26 => ⟨S8192x256, .f32⟩
  | 27 => ⟨S8192x1x256, .f32⟩
  | 28 => ⟨S_, .f32⟩
  | 29 => ⟨S8192x4x256, .f32⟩
  | 30 => ⟨S8192x4x256, .f32⟩
  | 31 => ⟨S8192x256, .f32⟩
  | 32 => ⟨S8192x1x256, .f32⟩
  | 33 => ⟨S_, .f32⟩
  | 34 => ⟨S8192x4x256, .f32⟩
  | 35 => ⟨S8192x4x256, .f32⟩
  | 36 => ⟨S8192x256, .f32⟩
  | 37 => ⟨S8192x256, .f32⟩
  | 38 => ⟨S8192x256, .f32⟩
  | 39 => ⟨S2x256, .f32⟩
  | 40 => ⟨S8190x256, .f32⟩
  | 41 => ⟨S_, .f32⟩
  | 42 => ⟨S8192x256, .f32⟩
  | 43 => ⟨S8192x256, .f32⟩
  | 44 => ⟨S8192x1x256, .f32⟩
  | 45 => ⟨S_, .f32⟩
  | 46 => ⟨S8192x4x256, .f32⟩
  | 47 => ⟨S8192x4x256, .f32⟩
  | 48 => ⟨S_, .f32⟩
  | 49 => ⟨S_, .f32⟩
  | 50 => ⟨S8192x4x256, .f32⟩
  | 51 => ⟨S8192x4x256, .f32⟩
  | 52 => ⟨S8192x1024, .f32⟩
  | 53 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_call0_cst : Ref sig .tc := ⟨.hbm, 3, rfl⟩
abbrev main_call0_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_c_4 : Ref sig .tc := ⟨.hbm, 38, rfl⟩
abbrev main_v28 : Ref sig .tc := ⟨.hbm, 39, rfl⟩
abbrev main_v29 : Ref sig .tc := ⟨.hbm, 40, rfl⟩
abbrev main_c_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_c_8 : Ref sig .tc := ⟨.hbm, 60, rfl⟩
abbrev main_v46 : Ref sig .tc := ⟨.hbm, 61, rfl⟩
abbrev main_v47 : Ref sig .tc := ⟨.hbm, 62, rfl⟩
abbrev main_c_9 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_10 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_11 : Ref sig .tc := ⟨.hbm, 79, rfl⟩
abbrev main_v62 : Ref sig .tc := ⟨.hbm, 80, rfl⟩
abbrev main_v63 : Ref sig .tc := ⟨.hbm, 81, rfl⟩
abbrev main_c_12 : Ref sig .tc := ⟨.hbm, 82, rfl⟩
abbrev main_v64 : Ref sig .tc := ⟨.hbm, 83, rfl⟩
abbrev main_v65 : Ref sig .tc := ⟨.hbm, 84, rfl⟩
abbrev main_c_13 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_cst_14 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_cst_15 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_cst_16 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_cst_17 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_cst_18 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_cst_19 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_cst_20 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_cst_21 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_cst_22 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_cst_23 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_cst_24 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_cst_25 : Ref sig .tc := ⟨.hbm, 173, rfl⟩
abbrev main_v142 : Ref sig .tc := ⟨.hbm, 174, rfl⟩
abbrev main_v143 : Ref sig .tc := ⟨.hbm, 175, rfl⟩
abbrev main_call1_call0_cst : Ref sig .tc := ⟨.hbm, 176, rfl⟩
abbrev main_call1_call0_v0 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩

abbrev nD : Nat := 1
abbrev τ : Topo := Topo.v7x

variable {F : FTy → Type} [FloatOps F]
-- ==== Kernel7.lean ====
abbrev S8192x2816 : Shape := ⟨2, ![8192, 2816]⟩
abbrev S2816x1024 : Shape := ⟨2, ![2816, 1024]⟩
abbrev S8192x1024 : Shape := ⟨2, ![8192, 1024]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 9
  | .vmem => 12
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S2816x1024, .bf16⟩
  | .hbm, ⟨5, _⟩ => ⟨S8192x2816, .bf16⟩
  | .hbm, ⟨6, _⟩ => ⟨S8192x2816, .bf16⟩
  | .hbm, ⟨7, _⟩ => ⟨S8192x2816, .bf16⟩
  | .hbm, ⟨8, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩
abbrev S1024x2816 : Shape := ⟨2, ![1024, 2816]⟩

abbrev nBuf : Space → Nat
  | .hbm => 36
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S1024x2816, .f32⟩
  | .hbm, ⟨26, _⟩ => ⟨S2816x1024, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .bf16⟩
  | .hbm, ⟨35, _⟩ => ⟨S8192x2816, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩

abbrev nD : Nat := 1
abbrev τ : Topo := Topo.v7x

variable {F : FTy → Type} [FloatOps F]
-- ==== Kernel8.lean ====
abbrev S8192x1024 : Shape := ⟨2, ![8192, 1024]⟩
abbrev S1024 : Shape := ⟨1, ![1024]⟩
abbrev S1024x5632 : Shape := ⟨2, ![1024, 5632]⟩
abbrev S8192x2816 : Shape := ⟨2, ![8192, 2816]⟩
abbrev S5632x1024 : Shape := ⟨2, ![5632, 1024]⟩
abbrev S1x1024 : Shape := ⟨2, ![1, 1024]⟩
abbrev S512x2816 : Shape := ⟨2, ![512, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x2816, .f32⟩
  | .hbm, ⟨4, _⟩ => ⟨S8192x2816, .f32⟩
  | .hbm, ⟨5, _⟩ => ⟨S8192x1024, .f32⟩
  | .hbm, ⟨6, _⟩ => ⟨S8192x2816, .bf16⟩
  | .hbm, ⟨7, _⟩ => ⟨S8192x2816, .bf16⟩
  | .hbm, ⟨8, _⟩ => ⟨S5632x1024, .f32⟩
  | .hbm, ⟨9, _⟩ => ⟨S5632x1024, .bf16⟩
  | .hbm, ⟨10, _⟩ => ⟨S1x1024, .f32⟩
  | .hbm, ⟨11, _⟩ => ⟨S8192x1024, .f32⟩
  | .hbm, ⟨12, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_10 : BitVec 32 := 0#32
  let v16 : BitVec 1 := Scalar.cmpi .eq arg1 c0_i32_10
  let v17 : BitVec 32 := Scalar.extui v16
  let c0_i32_11 : BitVec 32 := 0#32
  let v18 : BitVec 1 := Scalar.cmpi .ne v17 c0_i32_11
  v18

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference8Ideal.lean ====
abbrev S8192x1024 : Shape := ⟨2, ![8192, 1024]⟩
abbrev S1024 : Shape := ⟨1, ![1024]⟩
abbrev S1024x5632 : Shape := ⟨2, ![1024, 5632]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S5632x1024 : Shape := ⟨2, ![5632, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x2816, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x5632, .f32⟩
  | .hbm, ⟨27, _⟩ => ⟨S8192x2816, .f32⟩
  | .hbm, ⟨28, _⟩ => ⟨S8192x2816, .f32⟩
  | .hbm, ⟨29, _⟩ => ⟨S8192x5632, .f32⟩
  | .hbm, ⟨30, _⟩ => ⟨S5632x1024, .f32⟩
  | .hbm, ⟨31, _⟩ => ⟨S1024x5632, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Kernel9.lean ====
abbrev S8192x1024 : Shape := ⟨2, ![8192, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1024x1024, .bf16⟩
  | .hbm, ⟨7, _⟩ => ⟨S1x1024, .f32⟩
  | .hbm, ⟨8, _⟩ => ⟨S8192x1024, .f32⟩
  | .hbm, ⟨9, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_5 : BitVec 32 := 0#32
  let v10 : BitVec 1 := Scalar.cmpi .eq arg1 c0_i32_5
  let v11 : BitVec 32 := Scalar.extui v10
  let c0_i32_6 : BitVec 32 := 0#32
  let v12 : BitVec 1 := Scalar.cmpi .ne v11 c0_i32_6
  v12

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference9Ideal.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S1024x1024, .f32⟩
  | .hbm, ⟨27, _⟩ => ⟨S1024x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel10.lean ====
abbrev S8192x1024 : Shape := ⟨2, ![8192, 1024]⟩
abbrev S1024 : Shape := ⟨1, ![1024]⟩
abbrev S1024x3072 : Shape := ⟨2, ![1024, 3072]⟩
abbrev S8192x3072 : Shape := ⟨2, ![8192, 3072]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S8192x3072, .f32⟩
  | .hbm, ⟨4, _⟩ => ⟨S8192x1024, .f32⟩
  | .hbm, ⟨5, _⟩ => ⟨S8192x3072, .bf16⟩
  | .hbm, ⟨6, _⟩ => ⟨S1024x3072, .bf16⟩
  | .hbm, ⟨7, _⟩ => ⟨S1x1024, .f32⟩
  | .hbm, ⟨8, _⟩ => ⟨S8192x1024, .f32⟩
  | .hbm, ⟨9, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_5 : BitVec 32 := 0#32
  let v10 : BitVec 1 := Scalar.cmpi .eq arg1 c0_i32_5
  let v11 : BitVec 32 := Scalar.extui v10
  let c0_i32_6 : BitVec 32 := 0#32
  let v12 : BitVec 1 := Scalar.cmpi .ne v11 c0_i32_6
  v12

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference10Ideal.lean ====
abbrev S8192x1024 : Shape := ⟨2, ![8192, 1024]⟩
abbrev S1024 : Shape := ⟨1, ![1024]⟩
abbrev S1024x3072 : Shape := ⟨2, ![1024, 3072]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S3072x1024 : Shape := ⟨2, ![3072, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S8192x3072, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x3072, .f32⟩
  | .hbm, ⟨26, _⟩ => ⟨S3072x1024, .f32⟩
  | .hbm, ⟨27, _⟩ => ⟨S1024x3072, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel11.lean ====
abbrev S8192x1024 : Shape := ⟨2, ![8192, 1024]⟩
abbrev S_ : Shape := ⟨0, ![]⟩
abbrev S256x128 : Shape := ⟨2, ![256, 128]⟩
abbrev S8192x128 : Shape := ⟨2, ![8192, 128]⟩
abbrev S256x256 : Shape := ⟨2, ![256, 256]⟩
abbrev S512x256 : Shape := ⟨2, ![512, 256]⟩
abbrev S512x128 : Shape := ⟨2, ![512, 128]⟩
abbrev S512x1 : Shape := ⟨2, ![512, 1]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 10
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S8192x1024, .f32⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x128, .f32⟩
  | .local _ .vmem, ⟨7, _⟩ => ⟨S256x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let arg1 : BitVec 32 := BitVec.ofNat 32 (i 1).val
  let c256_i32_5 : BitVec 32 := 256#32
  let v27 : BitVec 32 := Scalar.muli arg1 c256_i32_5
  v27
def k0_off1 (i : grid0.Coords) : Fin 2 → Nat :=
  let arg1 : BitVec 32 := BitVec.ofNat 32 (i 1).val
  let c256_i32_5 : BitVec 32 := 256#32
  let v27 : BitVec 32 := Scalar.muli arg1 c256_i32_5
  let v28 : BitVec 32 := v27
  let v29 : Index := Scalar.indexCast v28
  let c0_6 : Index := 0#32
  ![v29.toNat, 0]
def k0_mult2 (i : grid0.Coords) : BitVec 32 :=
  let arg1 : BitVec 32 := BitVec.ofNat 32 (i 1).val
  let c1_i32 : BitVec 32 := 1#32
  let v70 : BitVec 32 := Scalar.subi arg1 c1_i32
  let c0_i32 : BitVec 32 := 0#32
  let v71 : BitVec 32 := Scalar.maxsi v70 c0_i32
  let c256_i32_20 : BitVec 32 := 256#32
  let v74 : BitVec 32 := Scalar.muli v71 c256_i32_20
  v74
def k0_off2 (i : grid0.Coords) : Fin 2 → Nat :=
  let arg1 : BitVec 32 := BitVec.ofNat 32 (i 1).val
  let c1_i32 : BitVec 32 := 1#32
  let v70 : BitVec 32 := Scalar.subi arg1 c1_i32
  let c0_i32 : BitVec 32 := 0#32
  let v71 : BitVec 32 := Scalar.maxsi v70 c0_i32
  let c256_i32_20 : BitVec 32 := 256#32
  let v74 : BitVec 32 := Scalar.muli v71 c256_i32_20
  let v75 : BitVec 32 := v74
  let v76 : Index := Scalar.indexCast v75
  let c0_21 : Index := 0#32
  ![v76.toNat, 0]
def k0_mult3 (arg6 : BitVec 32) : BitVec 32 :=
  let c256_i32_38 : BitVec 32 := 256#32
  let v130 : BitVec 32 := Scalar.muli arg6 c256_i32_38
  v130

def k0_off3 (arg6 : BitVec 32) : Fin 2 → Nat :=
  let c256_i32_38 : BitVec 32 := 256#32
  let v130 : BitVec 32 := Scalar.muli arg6 c256_i32_38
  let v131 : BitVec 32 := v130
  let v132 : Index := Scalar.indexCast v131
  let c0_39 : Index := 0#32
  ![v132.toNat, 0]

def k0_chk1 (arg6 : BitVec 32) : Prop :=
  (256 ∣ (k0_mult3 arg6).toNat) ∧
  (∀ a, (k0_off3 arg6) a + S256x128.size a ≤ S8192x128.size a)
theorem k0_mult3_dvd : ∀ (arg6 : BitVec 32) (k0_hw1 : k0_chk1 arg6), 256 ∣ (k0_mult3 arg6).toNat := fun arg6 k0_hw1 => k0_hw1.1
theorem k0_off3_inb : ∀ (arg6 : BitVec 32) (k0_hw1 : k0_chk1 arg6), ∀ a, (k0_off3 arg6) a + S256x128.size a ≤ S8192x128.size a := fun arg6 k0_hw1 => k0_hw1.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel11Ideal.lean ====
variable {F : FTy → Type} [FloatOps F] [Named F]
def κ : String → Option EReal := fun
  | "log_zero" => some ⊥
  | _ => none
-- ==== Reference11Ideal.lean ====
abbrev S8192x1024 : Shape := ⟨2, ![8192, 1024]⟩
abbrev S8192x16x64 : Shape := ⟨3, ![8192, 16, 64]⟩
abbrev S16x8192x64 : Shape := ⟨3, ![16, 8192, 64]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x16x64, .f32⟩
  | .hbm, ⟨4, _⟩ => ⟨S16x8192x64, .f32⟩
  | .hbm, ⟨5, _⟩ => ⟨S8192x16x64, .f32⟩
  | .hbm, ⟨6, _⟩ => ⟨S16x8192x64, .f32⟩
  | .hbm, ⟨7, _⟩ => ⟨S8192x16x64, .f32⟩
  | .hbm, ⟨8, _⟩ => ⟨S16x8192x64, .f32⟩
  | .hbm, ⟨9, _⟩ => ⟨S16x8192x8192, .f32⟩
  | .hbm, ⟨10, _⟩ => ⟨S_, .f32⟩
  | .hbm, ⟨11, _⟩ => ⟨S16x8192x8192, .f32⟩
  | .hbm, ⟨12, _⟩ => ⟨S16x8192x8192, .f32⟩
  | .hbm, ⟨13, _⟩ => ⟨S8192, .i32⟩
  | .hbm, ⟨14, _⟩ => ⟨S1x8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S16x8192x8192, .f32⟩
  | .hbm, ⟨20, _⟩ => ⟨S16x8192x8192, .f32⟩
  | .hbm, ⟨21, _⟩ => ⟨S_, .f32⟩
  | .hbm, ⟨22, _⟩ => ⟨S16x8192x8192, .f32⟩
  | .hbm, ⟨23, _⟩ => ⟨S16x8192x8192, .f32⟩
  | .hbm, ⟨24, _⟩ => ⟨S16x8192x8192, .f32⟩
  | .hbm, ⟨25, _⟩ => ⟨S16x8192x8192, .f32⟩
  | .hbm, ⟨26, _⟩ => ⟨S16x8192x8192, .i1⟩
  | .hbm, ⟨27, _⟩ => ⟨S16x8192x8192, .f32⟩
  | .hbm, ⟨28, _⟩ => ⟨S16x8192x8192, .f32⟩
  | .hbm, ⟨29, _⟩ => ⟨S16x8192x8192, .f32⟩
  | .hbm, ⟨30, _⟩ => ⟨S16x8192x8192, .f32⟩
  | .hbm, ⟨31, _⟩ => ⟨S16x8192x8192, .f32⟩
  | .hbm, ⟨32, _⟩ => ⟨S16x8192x8192, .f32⟩
  | .hbm, ⟨33, _⟩ => ⟨S16x8192x8192, .f32⟩
  | .hbm, ⟨34, _⟩ => ⟨S16x8192x8192, .f32⟩
  | .hbm, ⟨35, _⟩ => ⟨S16x8192x8192, .f32⟩
  | .hbm, ⟨36, _⟩ => ⟨S_, .f32⟩
  | .hbm, ⟨37, _⟩ => ⟨S_, .f32⟩
  | .hbm, ⟨38, _⟩ => ⟨S16x8192x8192, .i1⟩
  | .hbm, ⟨39, _⟩ => ⟨S16x8192x8192, .f32⟩
  | .hbm, ⟨40, _⟩ => ⟨S16x8192x8192, .f32⟩
  | .hbm, ⟨41, _⟩ => ⟨S_, .f32⟩
  | .hbm, ⟨42, _⟩ => ⟨S_, .f32⟩
  | .hbm, ⟨43, _⟩ => ⟨S16x8192x8192, .f32⟩
  | .hbm, ⟨44, _⟩ => ⟨S16x8192x8192, .f32⟩
  | .hbm, ⟨45, _⟩ => ⟨S16x8192x8192, .f32⟩
  | .hbm, ⟨46, _⟩ => ⟨S_, .f32⟩
  | .hbm, ⟨47, _⟩ => ⟨S16x8192x8192, .f32⟩
  | .hbm, ⟨48, _⟩ => ⟨S16x8192x8192, .f32⟩
  | .hbm, ⟨49, _⟩ => ⟨S16x8192x8192, .f32⟩
  | .hbm, ⟨50, _⟩ => ⟨S16x8192x8192, .f32⟩
  | .hbm, ⟨51, _⟩ => ⟨S16x8192x8192, .i1⟩
  | .hbm, ⟨52, _⟩ => ⟨S16x8192x8192, .f32⟩
  | .hbm, ⟨53, _⟩ => ⟨S16x8192x8192, .f32⟩
  | .hbm, ⟨54, _⟩ => ⟨S16x8192x8192, .f32⟩
  | .hbm, ⟨55, _⟩ => ⟨S16x8192x8192, .f32⟩
  | .hbm, ⟨56, _⟩ => ⟨S16x8192x8192, .f32⟩
  | .hbm, ⟨57, _⟩ => ⟨S16x8192x8192, .f32⟩
  | .hbm, ⟨58, _⟩ => ⟨S16x8192x8192, .f32⟩
  | .hbm, ⟨59, _⟩ => ⟨S16x8192x8192, .f32⟩
  | .hbm, ⟨60, _⟩ => ⟨S16x8192x8192, .f32⟩
  | .hbm, ⟨61, _⟩ => ⟨S16x8192x8192, .f32⟩
  | .hbm, ⟨62, _⟩ => ⟨S16x8192x8192, .f32⟩
  | .hbm, ⟨63, _⟩ => ⟨S_, .f32⟩
  | .hbm, ⟨64, _⟩ => ⟨S_, .f32⟩
  | .hbm, ⟨65, _⟩ => ⟨S16x8192x8192, .i1⟩
  | .hbm, ⟨66, _⟩ => ⟨S16x8192x8192, .f32⟩
  | .hbm, ⟨67, _⟩ => ⟨S16x8192x8192, .f32⟩
  | .hbm, ⟨68, _⟩ => ⟨S16x8192x64, .f32⟩
  | .hbm, ⟨69, _⟩ => ⟨S8192x16x64, .f32⟩
  | .hbm, ⟨70, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v16 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v17 : Ref sig .tc := ⟨.hbm, 40, rfl⟩
abbrev main_call2_cst : Ref sig .tc := ⟨.hbm, 41, rfl⟩
abbrev main_call2_v0 : Ref sig .tc := ⟨.hbm, 42, rfl⟩
abbrev main_v18 : Ref sig .tc := ⟨.hbm, 43, rfl⟩
abbrev main_v19 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩

abbrev nD : Nat := 1
abbrev τ : Topo := Topo.v7x

variable {F : FTy → Type} [FloatOps F]
-- ==== Kernel6.lean ====
abbrev S8192x3072 : Shape := ⟨2, ![8192, 3072]⟩
abbrev S64 : Shape := ⟨1, ![64]⟩
abbrev S8192x1024 : Shape := ⟨2, ![8192, 1024]⟩
abbrev S1x64 : Shape := ⟨2, ![1, 64]⟩
abbrev S16x64 : Shape := ⟨2, ![16, 64]⟩
abbrev S1024 : Shape := ⟨1, ![1024]⟩
abbrev S1x1024 : Shape := ⟨2, ![1, 1024]⟩
abbrev S8x128 : Shape := ⟨2, ![8, 128]⟩
abbrev S512x1024 : Shape := ⟨2, ![512, 1024]⟩
abbrev S512x3072 : Shape := ⟨2, ![512, 3072]⟩
abbrev S128x128 : Shape := ⟨2, ![128, 128]⟩
abbrev S512x128 : Shape := ⟨2, ![512, 128]⟩
abbrev S1x128 : Shape := ⟨2, ![1, 128]⟩
abbrev S128 : Shape := ⟨1, ![128]⟩

abbrev nBuf : Space → Nat
  | .hbm => 17
  | .vmem => 17
  | .smem => 0
  | _ => 0

abbrev bufTy : (tb : Table) → Fin (tcTables nBuf tb) → BufTy
  | .hbm, ⟨0, _⟩ => ⟨S8192x3072, .f32⟩
  | .hbm, ⟨1, _⟩ => ⟨S64, .f32⟩
  | .hbm, ⟨2, _⟩ => ⟨S64, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S1x64, .f32⟩
  | .hbm, ⟨7, _⟩ => ⟨S16x64, .f32⟩
  | .hbm, ⟨8, _⟩ => ⟨S1024, .f32⟩
  | .hbm, ⟨9, _⟩ => ⟨S1x1024, .f32⟩
  | .hbm, ⟨10, _⟩ => ⟨S1x64, .f32⟩
  | .hbm, ⟨11, _⟩ => ⟨S16x64, .f32⟩
  | .hbm, ⟨12, _⟩ => ⟨S1024, .f32⟩
  | .hbm, ⟨13, _⟩ => ⟨S1x1024, .f32⟩
  | .hbm, ⟨14, _⟩ => ⟨S8192x3072, .bf16⟩
  | .hbm, ⟨15, _⟩ => ⟨S8x128, .f32⟩
  | .hbm, ⟨16, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S512x3072, .bf16⟩
  | .local _ .vmem, ⟨13, _⟩ => ⟨S512x3072, .bf16⟩
  | .local _ .vmem, ⟨14, _⟩ => ⟨S8x128, .f32⟩
  | .local _ .vmem, ⟨15, _⟩ => ⟨S8x128, .f32⟩
  | .local _ .vmem, ⟨16, _⟩ => ⟨S8x128, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v492 : BitVec 1 := Scalar.cmpi .eq arg0 c15_i32
  let v493 : BitVec 32 := Scalar.extui v492
  let c0_i32_256 : BitVec 32 := 0#32
  let v494 : BitVec 1 := Scalar.cmpi .ne v493 c0_i32_256
  v494

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference6Ideal.lean ====
abbrev S8192x3072 : Shape := ⟨2, ![8192, 3072]⟩
abbrev S64 : Shape := ⟨1, ![64]⟩
abbrev S8192x1024 : Shape := ⟨2, ![8192, 1024]⟩
abbrev S8192x16x64 : Shape := ⟨3, ![8192, 16, 64]⟩
abbrev S_ : Shape := ⟨0, ![]⟩
abbrev S8192x16 : Shape := ⟨2, ![8192, 16]⟩
abbrev S8192x16x1 : Shape := ⟨3, ![8192, 16, 1]⟩
abbrev S1x1x64 : Shape := ⟨3, ![1, 1, 64]⟩
abbrev S1x64 : Shape := ⟨2, ![1, 64]⟩
abbrev S2x64 : Shape := ⟨2, ![2, 64]⟩
abbrev S128 : Shape := ⟨1, ![128]⟩
abbrev S8x128 : Shape := ⟨2, ![8, 128]⟩

abbrev nBuf : Space → Nat
  | .hbm => 117
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S64, .f32⟩
  | .hbm, ⟨2, _⟩ => ⟨S64, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x16x64, .f32⟩
  | .hbm, ⟨10, _⟩ => ⟨S8192x16x64, .f32⟩
  | .hbm, ⟨11, _⟩ => ⟨S_, .f32⟩
  | .hbm, ⟨12, _⟩ => ⟨S8192x16, .f32⟩
  | .hbm, ⟨13, _⟩ => ⟨S8192x16x1, .f32⟩
  | .hbm, ⟨14, _⟩ => ⟨S_, .f32⟩
  | .hbm, ⟨15, _⟩ => ⟨S8192x16x1, .f32⟩
  | .hbm, ⟨16, _⟩ => ⟨S8192x16x1, .f32⟩
  | .hbm, ⟨17, _⟩ => ⟨S_, .f32⟩
  | .hbm, ⟨18, _⟩ => ⟨S8192x16x1, .f32⟩
  | .hbm, ⟨19, _⟩ => ⟨S8192x16x1, .f32⟩
  | .hbm, ⟨20, _⟩ => ⟨S8192x16x1, .f32⟩
  | .hbm, ⟨21, _⟩ => ⟨S8192x16x1, .f32⟩
  | .hbm, ⟨22, _⟩ => ⟨S_, .f32⟩
  | .hbm, ⟨23, _⟩ => ⟨S8192x16x1, .f32⟩
  | .hbm, ⟨24, _⟩ => ⟨S8192x16x1, .f32⟩
  | .hbm, ⟨25, _⟩ => ⟨S8192x16x64, .f32⟩
  | .hbm, ⟨26, _⟩ => ⟨S8192x16x64, .f32⟩
  | .hbm, ⟨27, _⟩ => ⟨S1x1x64, .f32⟩
  | .hbm, ⟨28, _⟩ => ⟨S8192x16x64, .f32⟩
  | .hbm, ⟨29, _⟩ => ⟨S8192x16x64, .f32⟩
  | .hbm, ⟨30, _⟩ => ⟨S8192x16x64, .f32⟩
  | .hbm, ⟨31, _⟩ => ⟨S8192x16x64, .f32⟩
  | .hbm, ⟨32, _⟩ => ⟨S_, .f32⟩
  | .hbm, ⟨33, _⟩ => ⟨S8192x16, .f32⟩
  | .hbm, ⟨34, _⟩ => ⟨S8192x16x1, .f32⟩
  | .hbm, ⟨35, _⟩ => ⟨S_, .f32⟩
  | .hbm, ⟨36, _⟩ => ⟨S8192x16x1, .f32⟩
  | .hbm, ⟨37, _⟩ => ⟨S8192x16x1, .f32⟩
  | .hbm, ⟨38, _⟩ => ⟨S_, .f32⟩
  | .hbm, ⟨39, _⟩ => ⟨S8192x16x1, .f32⟩
  | .hbm, ⟨40, _⟩ => ⟨S8192x16x1, .f32⟩
  | .hbm, ⟨41, _⟩ => ⟨S8192x16x1, .f32⟩
  | .hbm, ⟨42, _⟩ => ⟨S8192x16x1, .f32⟩
  | .hbm, ⟨43, _⟩ => ⟨S_, .f32⟩
  | .hbm, ⟨44, _⟩ => ⟨S8192x16x1, .f32⟩
  | .hbm, ⟨45, _⟩ => ⟨S8192x16x1, .f32⟩
  | .hbm, ⟨46, _⟩ => ⟨S8192x16x64, .f32⟩
  | .hbm, ⟨47, _⟩ => ⟨S8192x16x64, .f32⟩
  | .hbm, ⟨48, _⟩ => ⟨S1x1x64, .f32⟩
  | .hbm, ⟨49, _⟩ => ⟨S8192x16x64, .f32⟩
  | .hbm, ⟨50, _⟩ => ⟨S8192x16x64, .f32⟩
  | .hbm, ⟨51, _⟩ => ⟨S8192x1024, .f32⟩
  | .hbm, ⟨52, _⟩ => ⟨S8192x1024, .f32⟩
  | .hbm, ⟨53, _⟩ => ⟨S8192x16x64, .f32⟩
  | .hbm, ⟨54, _⟩ => ⟨S8192x16x64, .f32⟩
  | .hbm, ⟨55, _⟩ => ⟨S8192x16x64, .f32⟩
  | .hbm, ⟨56, _⟩ => ⟨S_, .f32⟩
  | .hbm, ⟨57, _⟩ => ⟨S64, .f32⟩
  | .hbm, ⟨58, _⟩ => ⟨S1x1x64, .f32⟩
  | .hbm, ⟨59, _⟩ => ⟨S8192x16x64, .f32⟩
  | .hbm, ⟨60, _⟩ => ⟨S8192x16x64, .f32⟩
  | .hbm, ⟨61, _⟩ => ⟨S_, .f32⟩
  | .hbm, ⟨62, _⟩ => ⟨S64, .f32⟩
  | .hbm, ⟨63, _⟩ => ⟨S8192x16x64, .f32⟩
  | .hbm, ⟨64, _⟩ => ⟨S_, .f32⟩
  | .hbm, ⟨65, _⟩ => ⟨S8192x16, .f32⟩
  | .hbm, ⟨66, _⟩ => ⟨S8192x16x1, .f32⟩
  | .hbm, ⟨67, _⟩ => ⟨S8192x16x64, .f32⟩
  | .hbm, ⟨68, _⟩ => ⟨S8192x16x64, .f32⟩
  | .hbm, ⟨69, _⟩ => ⟨S8192x16x1, .f32⟩
  | .hbm, ⟨70, _⟩ => ⟨S_, .f32⟩
  | .hbm, ⟨71, _⟩ => ⟨S8192x16x1, .f32⟩
  | .hbm, ⟨72, _⟩ => ⟨S8192x16x1, .f32⟩
  | .hbm, ⟨73, _⟩ => ⟨S_, .f32⟩
  | .hbm, ⟨74, _⟩ => ⟨S8192x16, .f32⟩
  | .hbm, ⟨75, _⟩ => ⟨S8192x16x64, .f32⟩
  | .hbm, ⟨76, _⟩ => ⟨S8192x16x64, .f32⟩
  | .hbm, ⟨77, _⟩ => ⟨S8192x16x64, .f32⟩
  | .hbm, ⟨78, _⟩ => ⟨S8192x16x64, .f32⟩
  | .hbm, ⟨79, _⟩ => ⟨S8192x16x64, .f32⟩
  | .hbm, ⟨80, _⟩ => ⟨S8192x1024, .f32⟩
  | .hbm, ⟨81, _⟩ => ⟨S8192x16x64, .f32⟩
  | .hbm, ⟨82, _⟩ => ⟨S_, .f32⟩
  | .hbm, ⟨83, _⟩ => ⟨S64, .f32⟩
  | .hbm, ⟨84, _⟩ => ⟨S1x1x64, .f32⟩
  | .hbm, ⟨85, _⟩ => ⟨S8192x16x64, .f32⟩
  | .hbm, ⟨86, _⟩ => ⟨S8192x16x64, .f32⟩
  | .hbm, ⟨87, _⟩ => ⟨S_, .f32⟩
  | .hbm, ⟨88, _⟩ => ⟨S64, .f32⟩
  | .hbm, ⟨89, _⟩ => ⟨S8192x16x64, .f32⟩
  | .hbm, ⟨90, _⟩ => ⟨S_, .f32⟩
  | .hbm, ⟨91, _⟩ => ⟨S8192x16, .f32⟩
  | .hbm, ⟨92, _⟩ => ⟨S8192x16x1, .f32⟩
  | .hbm, ⟨93, _⟩ => ⟨S8192x16x64, .f32⟩
  | .hbm, ⟨94, _⟩ => ⟨S8192x16x64, .f32⟩
  | .hbm, ⟨95, _⟩ => ⟨S8192x16x1, .f32⟩
  | .hbm, ⟨96, _⟩ => ⟨S_, .f32⟩
  | .hbm, ⟨97, _⟩ => ⟨S8192x16x1, .f32⟩
  | .hbm, ⟨98, _⟩ => ⟨S8192x16x1, .f32⟩
  | .hbm, ⟨99, _⟩ => ⟨S_, .f32⟩
  | .hbm, ⟨100, _⟩ => ⟨S8192x16, .f32⟩
  | .hbm, ⟨101, _⟩ => ⟨S8192x16x64, .f32⟩
  | .hbm, ⟨102, _⟩ => ⟨S8192x16x64, .f32⟩
  | .hbm, ⟨103, _⟩ => ⟨S8192x16x64, .f32⟩
  | .hbm, ⟨104, _⟩ => ⟨S8192x16x64, .f32⟩
  | .hbm, ⟨105, _⟩ => ⟨S8192x16x64, .f32⟩
  | .hbm, ⟨106, _⟩ => ⟨S8192x1024, .f32⟩
  | .hbm, ⟨107, _⟩ => ⟨S8192x3072, .f32⟩
  | .hbm, ⟨108, _⟩ => ⟨S1x64, .f32⟩
  | .hbm, ⟨109, _⟩ => ⟨S2x64, .f32⟩
  | .hbm, ⟨110, _⟩ => ⟨S128, .f32⟩
  | .hbm, ⟨111, _⟩ => ⟨S8x128, .f32⟩
  | .hbm, ⟨112, _⟩ => ⟨S1x64, .f32⟩
  | .hbm, ⟨113, _⟩ => ⟨S2x64, .f32⟩
  | .hbm, ⟨114, _⟩ => ⟨S128, .f32⟩
  | .hbm, ⟨115, _⟩ => ⟨S8x128, .f32⟩
  | .hbm, ⟨116, _⟩ => ⟨S8192x3072, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_10 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_12 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_13 : Ref sig .tc := ⟨.hbm, 87, rfl⟩
abbrev main_v67 : Ref sig .tc := ⟨.hbm, 88, rfl⟩
abbrev main_v68 : Ref sig .tc := ⟨.hbm, 89, rfl⟩
abbrev main_cst_14 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_15 : Ref sig .tc := ⟨.hbm, 96, rfl⟩
abbrev main_v74 : Ref sig .tc := ⟨.hbm, 97, rfl⟩
abbrev main_v75 : Ref sig .tc := ⟨.hbm, 98, rfl⟩
abbrev main_cst_16 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩

abbrev nD : Nat := 1
abbrev τ : Topo := Topo.v7x

variable {F : FTy → Type} [FloatOps F]
-- ==== Kernel12.lean ====
abbrev S8192x3072 : Shape := ⟨2, ![8192, 3072]⟩
abbrev S64 : Shape := ⟨1, ![64]⟩
abbrev S1x64 : Shape := ⟨2, ![1, 64]⟩
abbrev S16x64 : Shape := ⟨2, ![16, 64]⟩
abbrev S1024 : Shape := ⟨1, ![1024]⟩
abbrev S1x1024 : Shape := ⟨2, ![1, 1024]⟩
abbrev S8192x1024 : Shape := ⟨2, ![8192, 1024]⟩
abbrev S512x1024 : Shape := ⟨2, ![512, 1024]⟩
abbrev S128x128 : Shape := ⟨2, ![128, 128]⟩
abbrev S512x128 : Shape := ⟨2, ![512, 128]⟩
abbrev S1x128 : Shape := ⟨2, ![1, 128]⟩

abbrev nBuf : Space → Nat
  | .hbm => 14
  | .vmem => 14
  | .smem => 0
  | _ => 0

abbrev bufTy : (tb : Table) → Fin (tcTables nBuf tb) → BufTy
  | .hbm, ⟨0, _⟩ => ⟨S8192x3072, .f32⟩
  | .hbm, ⟨1, _⟩ => ⟨S64, .f32⟩
  | .hbm, ⟨2, _⟩ => ⟨S64, .f32⟩
  | .hbm, ⟨3, _⟩ => ⟨S1x64, .f32⟩
  | .hbm, ⟨4, _⟩ => ⟨S16x64, .f32⟩
  | .hbm, ⟨5, _⟩ => ⟨S1024, .f32⟩
  | .hbm, ⟨6, _⟩ => ⟨S1x1024, .f32⟩
  | .hbm, ⟨7, _⟩ => ⟨S1x64, .f32⟩
  | .hbm, ⟨8, _⟩ => ⟨S16x64, .f32⟩
  | .hbm, ⟨9, _⟩ => ⟨S1024, .f32⟩
  | .hbm, ⟨10, _⟩ => ⟨S1x1024, .f32⟩
  | .hbm, ⟨11, _⟩ => ⟨S8192x1024, .bf16⟩
  | .hbm, ⟨12, _⟩ => ⟨S8192x1024, .bf16⟩
  | .hbm, ⟨13, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v8_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S8192x3072 : Shape := ⟨2, ![8192, 3072]⟩
abbrev S64 : Shape := ⟨1, ![64]⟩
abbrev S8192x1024 : Shape := ⟨2, ![8192, 1024]⟩
abbrev S8192x16x64 : Shape := ⟨3, ![8192, 16, 64]⟩
abbrev S_ : Shape := ⟨0, ![]⟩
abbrev S8192x16 : Shape := ⟨2, ![8192, 16]⟩
abbrev S8192x16x1 : Shape := ⟨3, ![8192, 16, 1]⟩
abbrev S1x1x64 : Shape := ⟨3, ![1, 1, 64]⟩

abbrev nBuf : Space → Nat
  | .hbm => 48
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S64, .f32⟩
  | .hbm, ⟨2, _⟩ => ⟨S64, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x16x64, .f32⟩
  | .hbm, ⟨7, _⟩ => ⟨S8192x16x64, .f32⟩
  | .hbm, ⟨8, _⟩ => ⟨S_, .f32⟩
  | .hbm, ⟨9, _⟩ => ⟨S8192x16, .f32⟩
  | .hbm, ⟨10, _⟩ => ⟨S8192x16x1, .f32⟩
  | .hbm, ⟨11, _⟩ => ⟨S_, .f32⟩
  | .hbm, ⟨12, _⟩ => ⟨S8192x16x1, .f32⟩
  | .hbm, ⟨13, _⟩ => ⟨S8192x16x1, .f32⟩
  | .hbm, ⟨14, _⟩ => ⟨S_, .f32⟩
  | .hbm, ⟨15, _⟩ => ⟨S8192x16x1, .f32⟩
  | .hbm, ⟨16, _⟩ => ⟨S8192x16x1, .f32⟩
  | .hbm, ⟨17, _⟩ => ⟨S8192x16x1, .f32⟩
  | .hbm, ⟨18, _⟩ => ⟨S8192x16x64, .f32⟩
  | .hbm, ⟨19, _⟩ => ⟨S8192x16x64, .f32⟩
  | .hbm, ⟨20, _⟩ => ⟨S1x1x64, .f32⟩
  | .hbm, ⟨21, _⟩ => ⟨S8192x16x64, .f32⟩
  | .hbm, ⟨22, _⟩ => ⟨S8192x16x64, .f32⟩
  | .hbm, ⟨23, _⟩ => ⟨S8192x16x64, .f32⟩
  | .hbm, ⟨24, _⟩ => ⟨S8192x16x64, .f32⟩
  | .hbm, ⟨25, _⟩ => ⟨S_, .f32⟩
  | .hbm, ⟨26, _⟩ => ⟨S8192x16, .f32⟩
  | .hbm, ⟨27, _⟩ => ⟨S8192x16x1, .f32⟩
  | .hbm, ⟨28, _⟩ => ⟨S_, .f32⟩
  | .hbm, ⟨29, _⟩ => ⟨S8192x16x1, .f32⟩
  | .hbm, ⟨30, _⟩ => ⟨S8192x16x1, .f32⟩
  | .hbm, ⟨31, _⟩ => ⟨S_, .f32⟩
  | .hbm, ⟨32, _⟩ => ⟨S8192x16x1, .f32⟩
  | .hbm, ⟨33, _⟩ => ⟨S8192x16x1, .f32⟩
  | .hbm, ⟨34, _⟩ => ⟨S8192x16x1, .f32⟩
  | .hbm, ⟨35, _⟩ => ⟨S8192x16x64, .f32⟩
  | .hbm, ⟨36, _⟩ => ⟨S8192x16x64, .f32⟩
  | .hbm, ⟨37, _⟩ => ⟨S1x1x64, .f32⟩
  | .hbm, ⟨38, _⟩ => ⟨S8192x16x64, .f32⟩
  | .hbm, ⟨39, _⟩ => ⟨S8192x16x64, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .bf16⟩
  | .hbm, ⟨46, _⟩ => ⟨S8192x1024, .bf16⟩
  | .hbm, ⟨47, _⟩ => ⟨S8192x1024, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Kernel13.lean ====
abbrev S8192x1024 : Shape := ⟨2, ![8192, 1024]⟩
abbrev S1024 : Shape := ⟨1, ![1024]⟩
abbrev S1024x1024 : Shape := ⟨2, ![1024, 1024]⟩
abbrev S8192x256 : Shape := ⟨2, ![8192, 256]⟩
abbrev S256x1024 : Shape := ⟨2, ![256, 1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 12
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x256, .f32⟩
  | .hbm, ⟨4, _⟩ => ⟨S256x1024, .f32⟩
  | .hbm, ⟨5, _⟩ => ⟨S1x1024, .f32⟩
  | .hbm, ⟨6, _⟩ => ⟨S1024x1024, .bf16⟩
  | .hbm, ⟨7, _⟩ => ⟨S256x1024, .bf16⟩
  | .hbm, ⟨8, _⟩ => ⟨S8192x1024, .f32⟩
  | .hbm, ⟨9, _⟩ => ⟨S8192x1024, .bf16⟩
  | .hbm, ⟨10, _⟩ => ⟨S8192x1024, .bf16⟩
  | .hbm, ⟨11, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x256, .f32⟩
  | .local _ .vmem, ⟨5, _⟩ => ⟨S512x256, .f32⟩
  | .local _ .vmem, ⟨6, _⟩ => ⟨S256x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S8192x1024 : Shape := ⟨2, ![8192, 1024]⟩
abbrev S1024 : Shape := ⟨1, ![1024]⟩
abbrev S1024x1024 : Shape := ⟨2, ![1024, 1024]⟩
abbrev S8192x256 : Shape := ⟨2, ![8192, 256]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x256, .f32⟩
  | .hbm, ⟨4, _⟩ => ⟨S256x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .bf16⟩
  | .hbm, ⟨34, _⟩ => ⟨S8192x1024, .bf16⟩
  | .hbm, ⟨35, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel14.lean ====
abbrev S8192x1024 : Shape := ⟨2, ![8192, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S1x1024, .f32⟩
  | .hbm, ⟨4, _⟩ => ⟨S1024x1024, .bf16⟩
  | .hbm, ⟨5, _⟩ => ⟨S8192x1024, .bf16⟩
  | .hbm, ⟨6, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference14Ideal.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel15.lean ====
abbrev S8192x1024 : Shape := ⟨2, ![8192, 1024]⟩
abbrev S1024 : Shape := ⟨1, ![1024]⟩
abbrev S1024x5632 : Shape := ⟨2, ![1024, 5632]⟩
abbrev S1x1024 : Shape := ⟨2, ![1, 1024]⟩
abbrev S5632x1024 : Shape := ⟨2, ![5632, 1024]⟩
abbrev S8192x2816 : Shape := ⟨2, ![8192, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1408x1024 : Shape := ⟨2, ![1408, 1024]⟩
abbrev S512x1408 : Shape := ⟨2, ![512, 1408]⟩

abbrev nBuf : Space → Nat
  | .hbm => 10
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S1x1024, .f32⟩
  | .hbm, ⟨4, _⟩ => ⟨S5632x1024, .f32⟩
  | .hbm, ⟨5, _⟩ => ⟨S5632x1024, .bf16⟩
  | .hbm, ⟨6, _⟩ => ⟨S8192x1024, .bf16⟩
  | .hbm, ⟨7, _⟩ => ⟨S8192x2816, .bf16⟩
  | .hbm, ⟨8, _⟩ => ⟨S8192x2816, .bf16⟩
  | .hbm, ⟨9, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S5632x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S8192x1024 : Shape := ⟨2, ![8192, 1024]⟩
abbrev S1024 : Shape := ⟨1, ![1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x5632, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S_, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x1024, .bf16⟩
  | .hbm, ⟨33, _⟩ => ⟨S8192x2816, .bf16⟩
  | .hbm, ⟨34, _⟩ => ⟨S8192x2816, .bf16⟩
  | .hbm, ⟨35, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]
-- ==== Kernel16.lean ====
abbrev S8192x2816 : Shape := ⟨2, ![8192, 2816]⟩
abbrev S2816x1024 : Shape := ⟨2, ![2816, 1024]⟩
abbrev S8192x1024 : Shape := ⟨2, ![8192, 1024]⟩
abbrev S512x2816 : Shape := ⟨2, ![512, 2816]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x2816, .bf16⟩
  | .hbm, ⟨4, _⟩ => ⟨S2816x1024, .bf16⟩
  | .hbm, ⟨5, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference16Ideal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel17.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference17Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel18.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .bf16⟩
  | .hbm, ⟨5, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference18Ideal.lean ====
abbrev S8192x1024 : Shape := ⟨2, ![8192, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S8192x1024, .f32⟩
  | .hbm, ⟨10, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel19.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .bf16⟩
  | .hbm, ⟨5, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32_6 : BitVec 32 := 3#32
  let v13 : BitVec 1 := Scalar.cmpi .eq arg1 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference19Ideal.lean ====
abbrev S8192x1024 : Shape := ⟨2, ![8192, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S8192x1024, .f32⟩
  | .hbm, ⟨10, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel20.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32_6 : BitVec 32 := 3#32
  let v13 : BitVec 1 := Scalar.cmpi .eq arg1 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference20Ideal.lean ====
abbrev S8192x1024 : Shape := ⟨2, ![8192, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S8192x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel21.lean ====
abbrev S8192x256 : Shape := ⟨2, ![8192, 256]⟩
abbrev S256x1024 : Shape := ⟨2, ![256, 1024]⟩
abbrev S8192x1024 : Shape := ⟨2, ![8192, 1024]⟩
abbrev S2048x256 : Shape := ⟨2, ![2048, 256]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x1024, .f32⟩
  | .hbm, ⟨3, _⟩ => ⟨S8192x1024, .bf16⟩
  | .hbm, ⟨4, _⟩ => ⟨S256x1024, .bf16⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32_7 : BitVec 32 := 3#32
  let v15 : BitVec 1 := Scalar.cmpi .eq arg1 c3_i32_7
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference21Ideal.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x1024, .f32⟩
  | .hbm, ⟨3, _⟩ => ⟨S8192x1024, .f32⟩
  | .hbm, ⟨4, _⟩ => ⟨S1024x256, .f32⟩
  | .hbm, ⟨5, _⟩ => ⟨S256x1024, .f32⟩
  | .hbm, ⟨6, _⟩ => ⟨S8192x256, .f32⟩
  | .hbm, ⟨7, _⟩ => ⟨S256x1024, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel22.lean ====
abbrev S8192x1024 : Shape := ⟨2, ![8192, 1024]⟩
abbrev S1024x3072 : Shape := ⟨2, ![1024, 3072]⟩
abbrev S8192x3072 : Shape := ⟨2, ![8192, 3072]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x1024, .bf16⟩
  | .hbm, ⟨4, _⟩ => ⟨S8192x3072, .bf16⟩
  | .hbm, ⟨5, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def k0_cond3 (i : grid0.Coords) : BitVec 1 :=
  let arg1 : BitVec 32 := BitVec.ofNat 32 (i 1).val
  let c3_i32_6 : BitVec 32 := 3#32
  let v13 : BitVec 1 := Scalar.cmpi .eq arg1 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference22Ideal.lean ====
abbrev S8192x1024 : Shape := ⟨2, ![8192, 1024]⟩
abbrev S1024x3072 : Shape := ⟨2, ![1024, 3072]⟩
abbrev S8192x3072 : Shape := ⟨2, ![8192, 3072]⟩
abbrev S3072x1024 : Shape := ⟨2, ![3072, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x3072, .f32⟩
  | .hbm, ⟨4, _⟩ => ⟨S3072x1024, .f32⟩
  | .hbm, ⟨5, _⟩ => ⟨S1024x3072, .f32⟩
  | .hbm, ⟨6, _⟩ => ⟨S8192x1024, .f32⟩
  | .hbm, ⟨7, _⟩ => ⟨S1024x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel23.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32_6 : BitVec 32 := 3#32
  let v13 : BitVec 1 := Scalar.cmpi .eq arg1 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference23Ideal.lean ====
abbrev S8192x1024 : Shape := ⟨2, ![8192, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S8192x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel24.lean ====
abbrev S8192x2816 : Shape := ⟨2, ![8192, 2816]⟩
abbrev S2816x1024 : Shape := ⟨2, ![2816, 1024]⟩
abbrev S8192x1024 : Shape := ⟨2, ![8192, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S8192x2816, .bf16⟩
  | .hbm, ⟨5, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32_7 : BitVec 32 := 3#32
  let v15 : BitVec 1 := Scalar.cmpi .eq arg1 c3_i32_7
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference24Ideal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩
abbrev S1024x2816 : Shape := ⟨2, ![1024, 2816]⟩

abbrev nBuf : Space → Nat
  | .hbm => 17
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S1024x2816, .f32⟩
  | .hbm, ⟨14, _⟩ => ⟨S2816x1024, .f32⟩
  | .hbm, ⟨15, _⟩ => ⟨S8192x2816, .f32⟩
  | .hbm, ⟨16, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Proof.Attn.Owns.lean ====
/-
  Loads and stores of a memref held by what it reads (`owns`): a load through a rectangle reads the contents there, an
  unmasked store leaves the contents with the rectangle's part replaced.
-/
module

public import Idealize.ShloMosaic.Lib.Pipeline.FrameBody
public import Idealize.ShloMosaic.Lib.Tactic

@[expose] public section

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Ix : Type} [DecidableEq Ix] {Val : EltTy → Type} {Name : Type} [DecidableEq Name]
  {U : Type} [URA U] {Lvl : Type} [Preorder Lvl]

variable {Λ : Labels} {defs : Defs nD τ sig Val Λ} (𝒱 : Variants) (c : Thread nD τ) (bd : Option 𝒱.V) (E : Set Name)
  {α : Type} {Q : α → sProp (MT nD τ sig Ix Val Name U Lvl)} {s : Shape} {e : EltTy}

/-- What an unmasked store through a rectangle leaves, as read: the contents with the rectangle's part replaced. -/
theorem read_store {κ : Kind} {sp : Space} (v : View sig κ sp s e) (r : Rect s) (f : v.ty.Contents Val) (w : r.shape.Idx → Val e) :
    v.read Val ((v.slice r).write Val f w Finset.univ) = r.overlay (v.read Val f) w := by
  funext y
  by_cases hy : y ∈ r.set
  · obtain ⟨x, rfl⟩ : ∃ x, r.emb x = y := r.exists_idx_of_mem hy
    rw [View.read_slice_write_emb _ _ _ (Finset.mem_univ x), r.overlay_emb]
  · rw [View.read_slice_write_of_not_mem _ _ _ _ (by rwa [Rect.map_emb_univ]), r.overlay_of_not_mem _ _ hy]

/-- A load at the head of a program, the memref held at `X`. -/
theorem wp_load_owns {cs : CoreSpace} {m : Memref sig c.2.kind cs s e} {r : Rect s} {hl : m.view.LoadsAt r.toLoadRect}
    {k : (r.shape.Idx → Val e) → Prog (TpuEff nD τ sig Val Λ c.2) α} {q : PosShare TreeShare} {X : s.Idx → Val e} :
    (owns c m q X : sProp (MT nD τ sig Ix Val Name U Lvl))
      ⊢ iprop((owns c m q X -∗ wp frame (wpE defs 𝒱 c bd) E (k (View.ld X r)) Q)
        -∗ wp frame (wpE defs 𝒱 c bd) E (.op (.load m r.toLoadRect hl) k) Q) := by
  unfold owns
  iintro ⟨%f, %hf, H⟩ Hk
  subst hf
  iapply (wp_load 𝒱 c bd E (m := m) (r := r.toLoadRect) (S := m.view.set) (View.setOn_subset_set _ _)) $$ H
  iintro H
  iapply Hk
  iexists _; isplitr; · ipureintro; rfl
  iexact H

/-- An unmasked store at the head of a program, the memref held at `X`. -/
theorem wp_store_owns {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} :
    (owns c m fullShare X : sProp (MT nD τ sig Ix Val Name U Lvl))
      ⊢ iprop((owns c m fullShare (r.overlay X w) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  subst hf
  iapply (wp_store 𝒱 c bd E (m := m) (r := r) (Mk := Finset.univ) (S := m.view.set) (m.view.set_slice_subset r)) $$ H
  iintro H
  iapply Hk
  iexists _; isplitr; · ipureintro; exact read_store m.view r f w
  iexact H

end Cert.Attn

end
-- ==== Proof.Attn.Body.lean ====
/-
  The attention gradient's body at one grid point, as a function of what its staging memrefs hold: the two blocks before
  the loop, the loop's label answered through a specification at the number of blocks left, and the body's triple.
-/
module

public import proofs.«01_k».proof.Proof.Attn.Owns
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

set_option maxRecDepth 16384

noncomputable section

namespace Cert.KernelIdeal.Attn

open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The variants: the blocks a loop has left. -/
abbrev 𝒱₀ : Variants := Variants.nat

/-! ## The rectangles -/

/-- A block staging buffer whole, -/
abbrev rB : Rect S256x128 := Rect.unit (s := S256x128) ![0, 0] S256x128.size inb_S256x128_S256x128_0_0
/-- a column staging buffer whole, -/
abbrev rC : Rect S8192x128 := Rect.unit (s := S8192x128) ![0, 0] S8192x128.size inb_S8192x128_S8192x128_0_0
/-- the point's own block of rows, -/
abbrev r1 (i : grid0.Coords) : Rect S8192x128 := Rect.unit (s := S8192x128) (k0_off1 i) S256x128.size (k0_off1_inb i)
/-- the block before it (or the first), -/
abbrev r2 (i : grid0.Coords) : Rect S8192x128 := Rect.unit (s := S8192x128) (k0_off2 i) S256x128.size (k0_off2_inb i)
/-- and the block a loop's counter names. -/
abbrev r3 (a : BitVec 32) (h : k0_chk1 a) : Rect S8192x128 := Rect.unit (s := S8192x128) (k0_off3 a) S256x128.size (k0_off3_inb a h)

/-! ## The loop -/

/-- What a pass over the key blocks carries. -/
structure St (F : FTy → Type) [FloatOps F] where
  mx : F .f32
  carry : FVec F S512x1 .f32
  seen : FVec F S512x1 .f32
  dq : FVec F S512x128 .f32
  dk : Vec F S8192x128 .f32
  dv : Vec F S8192x128 .f32

/-- What a point's blocks share: queries, cotangents (both stacked by head), the two triangles, the row totals. -/
structure Env (F : FTy → Type) [FloatOps F] where
  q2 : FVec F S512x128 .bf16
  after : FVec F S256x256 .bf16
  do2 : FVec F S512x128 .bf16
  from_here : FVec F S256x256 .bf16
  total : FVec F S512x1 .f32

/-- One block of the loop. -/
def stepL (K V : Vec F S8192x128 .bf16) (e : Env F) (a : BitVec 32) (h : k0_chk1 a) (s : St F) : St F where
  mx := k0_pay13 s.carry (k0_pay53 e.q2 (View.ld K (r3 a h)))
  carry := k0_pay10 s.carry (k0_pay53 e.q2 (View.ld K (r3 a h)))
  seen := k0_pay11 s.seen (k0_pay56 e.q2 e.after e.do2 s.carry (View.ld K (r3 a h)) (View.ld V (r3 a h)))
  dq := k0_pay12 e.total s.dq (k0_pay50 (View.ld K (r3 a h))) (k0_pay54 e.q2 (View.ld K (r3 a h)))
    (k0_pay56 e.q2 e.after e.do2 s.carry (View.ld K (r3 a h)) (View.ld V (r3 a h)))
    (k0_pay57 e.q2 e.after e.do2 e.from_here s.carry s.seen (View.ld K (r3 a h)) (View.ld V (r3 a h)))
  dk := (r3 a h).overlay s.dk (k0_pay8 e.q2 e.total (k0_pay54 e.q2 (View.ld K (r3 a h)))
    (k0_pay56 e.q2 e.after e.do2 s.carry (View.ld K (r3 a h)) (View.ld V (r3 a h)))
    (k0_pay57 e.q2 e.after e.do2 e.from_here s.carry s.seen (View.ld K (r3 a h)) (View.ld V (r3 a h)))
    (View.ld s.dk (r3 a h)))
  dv := (r3 a h).overlay s.dv (k0_pay9 e.do2 (k0_pay55 e.q2 e.after s.carry (View.ld K (r3 a h))) (View.ld s.dv (r3 a h)))

/-- Whether the loop's early-exit test lets it go on. -/
def goes (x : F .f32) : Prop := Scalar.cmpf .ogt x (Named.named κ "log_zero" 0xC2D00000#32) = 1#1

open Classical in
/-- The loop with `n` blocks left. -/
def loop (K V : Vec F S8192x128 .bf16) (e : Env F) : ℕ → St F → St F
  | 0, s => s
  | n + 1, s => if goes s.mx then (if h : k0_chk1 (BitVec.ofNat 32 n) then loop K V e n (stepL K V e _ h s) else s) else s

/-- The loop's counter with `n` blocks left. -/
def Cnt : ℕ → BitVec 32 → Prop
  | 0, a => ¬Scalar.cmpi .sge a 0#32 = 1#1
  | n + 1, a => a = BitVec.ofNat 32 n ∧ n < 32

theorem chk_of_lt : ∀ n : ℕ, n < 32 → k0_chk1 (BitVec.ofNat 32 n) := by
  have h : ∀ n : Fin 32, k0_chk1 (BitVec.ofNat 32 n.val) := by decide +kernel
  exact fun n hn => h ⟨n, hn⟩

theorem cnt_sge : ∀ n : ℕ, n < 32 → Scalar.cmpi .sge (BitVec.ofNat 32 n) 0#32 = 1#1 := by
  have h : ∀ n : Fin 32, Scalar.cmpi .sge (BitVec.ofNat 32 n.val) 0#32 = 1#1 := by decide +kernel
  exact fun n hn => h ⟨n, hn⟩

theorem cnt_pred (n : ℕ) (hn : n < 32) : Cnt n (Scalar.subi (BitVec.ofNat 32 n) 1#32) := by
  have h : ∀ n : Fin 32, (n.val = 0 → ¬Scalar.cmpi .sge (Scalar.subi (BitVec.ofNat 32 n.val) 1#32) 0#32 = 1#1)
      ∧ (n.val ≠ 0 → Scalar.subi (BitVec.ofNat 32 n.val) 1#32 = BitVec.ofNat 32 (n.val - 1)) := by decide +kernel
  cases n with
  | zero => exact (h ⟨0, hn⟩).1 rfl
  | succ n => exact ⟨(h ⟨n + 1, hn⟩).2 (Nat.succ_ne_zero n), by omega⟩

/-- The counter the loop starts at: the blocks before the point's own two. -/
theorem cnt_start (i : grid0.Coords) : Cnt ((i 1).val - 1) (Scalar.subi (BitVec.ofNat 32 (i 1).val) 2#32) := by
  have h : ∀ n : Fin 32, (n.val - 1 = 0 → ¬Scalar.cmpi .sge (Scalar.subi (BitVec.ofNat 32 n.val) 2#32) 0#32 = 1#1)
      ∧ (n.val - 1 ≠ 0 → Scalar.subi (BitVec.ofNat 32 n.val) 2#32 = BitVec.ofNat 32 (n.val - 2)) := by decide +kernel
  have hi : (i 1).val < 32 := (i 1).isLt
  obtain ⟨h0, h1⟩ := h ⟨(i 1).val, hi⟩
  dsimp only at h0 h1
  rcases hk : (i 1).val - 1 with _ | k
  · exact h0 hk
  · refine ⟨(h1 (by omega)).trans ?_, by omega⟩
    congr 1; omega

section Label

variable (c : Dev nD) (i : grid0.Coords)
  (arg3 : Memref sig .tc .vmem S8192x128 .bf16) (harg3 : arg3.IsWhole) (arg4 : Memref sig .tc .vmem S8192x128 .bf16) (harg4 : arg4.IsWhole)
  (arg8 : Memref sig .tc .vmem S8192x128 .f32) (harg8 : arg8.IsWhole) (arg9 : Memref sig .tc .vmem S8192x128 .f32) (harg9 : arg9.IsWhole)
  (K V : Vec F S8192x128 .bf16) (e : Env F)

/-- The memrefs the loop reads and writes. -/
def held (s : St F) : sProp 𝕄 :=
  iprop(owns (c : Thread nD τ) arg3 fullShare K ∗ owns (c : Thread nD τ) arg4 fullShare V
    ∗ owns (c : Thread nD τ) arg8 fullShare s.dk ∗ owns (c : Thread nD τ) arg9 fullShare s.dv)

/-- The label's specification with `n` blocks left from `s`. -/
def spec (n : ℕ) (s : St F) : sWPT 𝕄 (BitVec 32 × F .f32 × FVec F S512x1 .f32 × FVec F S512x1 .f32 × FVec F S512x128 .f32) := do
  sWPT.consume (held c arg3 arg4 arg8 arg9 K V s)
  let r ← sWPT.arbitrary
  sWPT.assume (r.2.2.2.2 = (loop K V e n s).dq)
  sWPT.produce (held c arg3 arg4 arg8 arg9 K V (loop K V e n s))
  pure r

theorem spec_apply (n : ℕ) (s : St F) (Q : BitVec 32 × F .f32 × FVec F S512x1 .f32 × FVec F S512x1 .f32 × FVec F S512x128 .f32 → sProp 𝕄) :
    spec c arg3 arg4 arg8 arg9 K V e n s Q
      = iprop(held c arg3 arg4 arg8 arg9 K V s
        ∗ ∀ r : BitVec 32 × F .f32 × FVec F S512x1 .f32 × FVec F S512x1 .f32 × FVec F S512x128 .f32,
          ⌜r.2.2.2.2 = (loop K V e n s).dq⌝ -∗ (held c arg3 arg4 arg8 arg9 K V (loop K V e n s) -∗ Q r)) := rfl

set_option maxHeartbeats 4000000 in
theorem spec_le (E : Set ℕ) : ∀ n a, Cnt n a → ∀ (s : St F) Q, spec c arg3 arg4 arg8 arg9 K V e n s Q
    ⊢ wp frame (wpE (defs₀ (F := F)) 𝒱₀ (c : Thread nD τ) (some n)) E
        (defs₀ (F := F) .tc 1 ⟨i, arg3, harg3, arg4, harg4, e.q2, e.after, e.do2, e.from_here, e.total, arg8, harg8, arg9, harg9,
          a, s.mx, s.carry, s.seen, s.dq⟩) Q := by
  intro n
  induction n with
  | zero =>
    intro a ha s Q
    rw [spec_apply]
    show _ ⊢ wp frame (wpE (defs₀ (F := F)) 𝒱₀ (c : Thread nD τ) (some 0)) E
      (cc0_while1 i arg3 harg3 arg4 harg4 e.q2 e.after e.do2 e.from_here e.total arg8 harg8 arg9 harg9 a s.mx s.carry s.seen s.dq) Q
    simp only [cc0_while1_eq_skeleton]; unfold cc0_while1_skel
    have ht : ¬Scalar.andi (Scalar.cmpi .sge a 0#32) (Scalar.cmpf .ogt s.mx (Named.named κ "log_zero" 0xC2D00000#32)) = 1#1 := by
      intro h; exact ha (by revert h; unfold Scalar.andi; generalize Scalar.cmpi .sge a 0#32 = x; generalize Scalar.cmpf .ogt s.mx _ = y; revert x y; decide)
    simp only [ht, ↓reduceIte, Prog.pure_eq_ret]
    iintro ⟨H, Hk⟩
    rw [wp_ret]; imodintro
    iapply Hk
    · ipureintro; rfl
    · simp only [loop]; iexact H
  | succ n ih =>
    intro a ha s Q
    obtain ⟨rfl, hn⟩ := ha
    rw [spec_apply]
    show _ ⊢ wp frame (wpE (defs₀ (F := F)) 𝒱₀ (c : Thread nD τ) (some (n + 1))) E
      (cc0_while1 i arg3 harg3 arg4 harg4 e.q2 e.after e.do2 e.from_here e.total arg8 harg8 arg9 harg9 (BitVec.ofNat 32 n) s.mx s.carry s.seen s.dq) Q
    simp only [cc0_while1_eq_skeleton]; unfold cc0_while1_skel
    have hc := chk_of_lt n hn
    by_cases hg : goes s.mx
    · have ht : Scalar.andi (Scalar.cmpi .sge (BitVec.ofNat 32 n) 0#32) (Scalar.cmpf .ogt s.mx (Named.named κ "log_zero" 0xC2D00000#32)) = 1#1 := by
        unfold goes at hg; rw [hg, cnt_sge n hn]; decide
      have hl : loop K V e (n + 1) s = loop K V e n (stepL K V e _ hc s) := by
        rw [loop, if_pos hg, dif_pos hc]
      rw [hl]
      simp only [ht, ↓reduceIte, k0_part6_eq_skeleton]
      unfold k0_part6_skel
      simp only [Prog.lift, Prog.bind_op, Prog.bind_ret, Prog.pure_eq_ret]
      unfold held
      iintro ⟨⟨H3, H4, H8, H9⟩, Hk⟩
      iapply (wp_assume 𝒱₀ (c : Thread nD τ) (some (n + 1)) E hc)
      iapply (wp_load_owns 𝒱₀ (c : Thread nD τ) (some (n + 1)) E) $$ H3; iintro H3
      iapply (wp_load_owns 𝒱₀ (c : Thread nD τ) (some (n + 1)) E) $$ H4; iintro H4
      iapply (wp_load_owns 𝒱₀ (c : Thread nD τ) (some (n + 1)) E) $$ H8; iintro H8
      iapply (wp_load_owns 𝒱₀ (c : Thread nD τ) (some (n + 1)) E) $$ H8; iintro H8
      iapply (wp_store_owns 𝒱₀ (c : Thread nD τ) (some (n + 1)) E) $$ H8; iintro H8
      iapply (wp_load_owns 𝒱₀ (c : Thread nD τ) (some (n + 1)) E) $$ H9; iintro H9
      iapply (wp_load_owns 𝒱₀ (c : Thread nD τ) (some (n + 1)) E) $$ H9; iintro H9
      iapply (wp_store_owns 𝒱₀ (c : Thread nD τ) (some (n + 1)) E) $$ H9; iintro H9
      iapply (wp_call_spec 𝒱₀ (c : Thread nD τ) (some (n + 1)) E (spec c arg3 arg4 arg8 arg9 K V e n (stepL K V e _ hc s)) n
        (fun u hu => by cases hu; exact Nat.lt_succ_self n) (ih _ (cnt_pred n hn) (stepL K V e _ hc s)))
      rw [spec_apply]; unfold held
      isplitl [H3 H4 H8 H9]
      · isplitl [H3]; · iexact H3
        isplitl [H4]; · iexact H4
        isplitl [H8]; · iexact H8
        iexact H9
      iintro %r %hr ⟨H3, H4, H8, H9⟩
      rw [wp_ret]; imodintro
      iapply Hk
      · ipureintro; exact hr
      · isplitl [H3]; · iexact H3
        isplitl [H4]; · iexact H4
        isplitl [H8]; · iexact H8
        iexact H9
    · have ht : ¬Scalar.andi (Scalar.cmpi .sge (BitVec.ofNat 32 n) 0#32) (Scalar.cmpf .ogt s.mx (Named.named κ "log_zero" 0xC2D00000#32)) = 1#1 := by
        intro h; exact hg (by unfold goes; revert h; unfold Scalar.andi; generalize Scalar.cmpi .sge _ 0#32 = x; generalize Scalar.cmpf .ogt s.mx _ = y; revert x y; decide)
      have hl : loop K V e (n + 1) s = s := by rw [loop, if_neg hg]
      rw [hl]
      simp only [ht, ↓reduceIte, Prog.pure_eq_ret]
      iintro ⟨H, Hk⟩
      rw [wp_ret]; imodintro
      iapply Hk
      · ipureintro; rfl
      · iexact H

end Label

/-! ## The body -/

/-- Whether the point is the first of its head pair. -/
abbrev isFirst (i : grid0.Coords) : Prop :=
  Scalar.cmpi .ne (Scalar.extui (Scalar.cmpi .eq (BitVec.ofNat 32 (i 1).val) 0#32)) 0#32 = 1#1

/-- What the point's blocks share, from the block of queries, of cotangents and of outputs. -/
def env (xq xdo : Vec F S256x128 .bf16) (xo : Vec F S256x128 .f32) : Env F where
  q2 := k0_pay19 (View.ld xq rB)
  after := k0_pay17
  do2 := k0_pay20 (View.ld xdo rB)
  from_here := k0_pay18
  total := k0_pay21 (View.ld xdo rB) (View.ld xo rB)

/-- The point's own block, over the sums `dk`, `dv` so far. -/
def first (i : grid0.Coords) (K V : Vec F S8192x128 .bf16) (e : Env F) (dk dv : Vec F S8192x128 .f32) : St F where
  mx := k0_pay5 k0_pay22 (k0_pay28 k0_pay16 (k0_pay27 e.q2 (View.ld K (r1 i))))
  carry := k0_pay35 k0_pay22 (k0_pay28 k0_pay16 (k0_pay27 e.q2 (View.ld K (r1 i))))
  seen := k0_pay36 k0_pay22 (k0_pay31 k0_pay16 e.after e.do2 k0_pay22 (k0_pay25 (View.ld V (r1 i)))
    (k0_pay26 e.q2 (View.ld K (r1 i))) (k0_pay27 e.q2 (View.ld K (r1 i))))
  dq := k0_pay37 k0_pay23 (k0_pay24 (View.ld K (r1 i))) (k0_pay32 k0_pay16 e.after e.from_here e.do2 e.total k0_pay22
    (k0_pay25 (View.ld V (r1 i))) (k0_pay26 e.q2 (View.ld K (r1 i))) (k0_pay27 e.q2 (View.ld K (r1 i))))
  dk := (r1 i).overlay dk (k0_pay33 k0_pay16 e.after e.from_here e.q2 e.do2 e.total k0_pay22
    (k0_pay25 (View.ld V (r1 i))) (k0_pay26 e.q2 (View.ld K (r1 i))) (k0_pay27 e.q2 (View.ld K (r1 i))) (View.ld dk (r1 i)))
  dv := (r1 i).overlay dv (k0_pay34 e.do2 (k0_pay30 k0_pay16 e.after k0_pay22
    (k0_pay26 e.q2 (View.ld K (r1 i))) (k0_pay27 e.q2 (View.ld K (r1 i)))) (View.ld dv (r1 i)))

/-- The block before it, masked out at the head pair's first point. -/
def second (i : grid0.Coords) (K V : Vec F S8192x128 .bf16) (e : Env F) (s : St F) : St F where
  mx := k0_pay5 s.carry (k0_pay44 (k0_pay38 (BitVec.ofNat 32 (i 1).val)) (k0_pay42 e.q2 (View.ld K (r2 i))) k0_pay43)
  carry := k0_pay2 s.carry (k0_pay44 (k0_pay38 (BitVec.ofNat 32 (i 1).val)) (k0_pay42 e.q2 (View.ld K (r2 i))) k0_pay43)
  seen := k0_pay3 s.seen (k0_pay47 e.after e.do2 s.carry (k0_pay38 (BitVec.ofNat 32 (i 1).val)) (k0_pay40 (View.ld V (r2 i)))
    (k0_pay41 e.q2 (View.ld K (r2 i))) (k0_pay42 e.q2 (View.ld K (r2 i))) k0_pay43)
  dq := k0_pay4 s.dq (k0_pay39 (View.ld K (r2 i))) (k0_pay48 e.after e.from_here e.do2 e.total s.carry s.seen
    (k0_pay38 (BitVec.ofNat 32 (i 1).val)) (k0_pay40 (View.ld V (r2 i)))
    (k0_pay41 e.q2 (View.ld K (r2 i))) (k0_pay42 e.q2 (View.ld K (r2 i))) k0_pay43)
  dk := (r2 i).overlay s.dk (k0_pay49 e.after e.from_here e.q2 e.do2 e.total s.carry s.seen
    (k0_pay38 (BitVec.ofNat 32 (i 1).val)) (k0_pay40 (View.ld V (r2 i)))
    (k0_pay41 e.q2 (View.ld K (r2 i))) (k0_pay42 e.q2 (View.ld K (r2 i))) k0_pay43 (View.ld s.dk (r2 i)))
  dv := (r2 i).overlay s.dv (k0_pay1 e.do2 (k0_pay46 e.after s.carry (k0_pay38 (BitVec.ofNat 32 (i 1).val))
    (k0_pay41 e.q2 (View.ld K (r2 i))) (k0_pay42 e.q2 (View.ld K (r2 i))) k0_pay43) (View.ld s.dv (r2 i)))

open Classical in
/-- The key sums a point starts from: zero at the head pair's first point. -/
def dk0 (i : grid0.Coords) (dk : Vec F S8192x128 .f32) : Vec F S8192x128 .f32 := if isFirst i then rC.overlay dk k0_pay14 else dk

open Classical in
/-- The value sums likewise. -/
def dv0 (i : grid0.Coords) (dv : Vec F S8192x128 .f32) : Vec F S8192x128 .f32 := if isFirst i then rC.overlay dv k0_pay15 else dv

/-- The point, over the sums so far. -/
def point (i : grid0.Coords) (xq : Vec F S256x128 .bf16) (K V : Vec F S8192x128 .bf16) (xdo : Vec F S256x128 .bf16) (xo : Vec F S256x128 .f32)
    (dk dv : Vec F S8192x128 .f32) : St F :=
  loop K V (env xq xdo xo) ((i 1).val - 1) (second i K V (env xq xdo xo) (first i K V (env xq xdo xo) (dk0 i dk) (dv0 i dv)))

section Body

variable (c : Dev nD) (i : grid0.Coords)
  (arg2 : Memref sig .tc .vmem S256x128 .bf16) (harg2 : arg2.IsWhole)
  (arg3 : Memref sig .tc .vmem S8192x128 .bf16) (harg3 : arg3.IsWhole) (arg4 : Memref sig .tc .vmem S8192x128 .bf16) (harg4 : arg4.IsWhole)
  (arg5 : Memref sig .tc .vmem S256x128 .bf16) (harg5 : arg5.IsWhole) (arg6 : Memref sig .tc .vmem S256x128 .f32) (harg6 : arg6.IsWhole)
  (arg7 : Memref sig .tc .vmem S256x128 .f32) (harg7 : arg7.IsWhole)
  (arg8 : Memref sig .tc .vmem S8192x128 .f32) (harg8 : arg8.IsWhole) (arg9 : Memref sig .tc .vmem S8192x128 .f32) (harg9 : arg9.IsWhole)
  (xq : Vec F S256x128 .bf16) (K V : Vec F S8192x128 .bf16) (xdo : Vec F S256x128 .bf16) (xo d : Vec F S256x128 .f32)
  (dk dv : Vec F S8192x128 .f32)

/-- The rest of the body, past the zeroing. -/
def rest (c : Dev nD) : sProp 𝕄 :=
  iprop(owns (c : Thread nD τ) arg2 fullShare xq ∗ owns (c : Thread nD τ) arg3 fullShare K ∗ owns (c : Thread nD τ) arg4 fullShare V
    ∗ owns (c : Thread nD τ) arg5 fullShare xdo ∗ owns (c : Thread nD τ) arg6 fullShare xo ∗ owns (c : Thread nD τ) arg7 fullShare d
    ∗ owns (c : Thread nD τ) arg8 fullShare dk ∗ owns (c : Thread nD τ) arg9 fullShare dv)

set_option maxHeartbeats 8000000 in
theorem body_wp (Q : PUnit → sProp 𝕄) :
    iprop(rest arg2 arg3 arg4 arg5 arg6 arg7 arg8 arg9 xq K V xdo xo d dk dv c
      ∗ (rest arg2 arg3 arg4 arg5 arg6 arg7 arg8 arg9 xq K V xdo xo
          (rB.overlay d (k0_pay6 (point i xq K V xdo xo dk dv).dq))
          (point i xq K V xdo xo dk dv).dk (point i xq K V xdo xo dk dv).dv c -∗ Q ⟨⟩))
      ⊢ wp frame (wpE (defs₀ (F := F)) 𝒱₀ (c : Thread nD τ) none) Set.univ
          (cc0_attention_bwd i arg2 harg2 arg3 harg3 arg4 harg4 arg5 harg5 arg6 harg6 arg7 harg7 arg8 harg8 arg9 harg9) Q := by
  simp only [cc0_attention_bwd_eq_skeleton]; unfold cc0_attention_bwd_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [Prog.lift, Prog.bind_op, Prog.bind_ret, Prog.pure_eq_ret]
  unfold rest
  iintro ⟨⟨H2, H3, H4, H5, H6, H7, H8, H9⟩, Hk⟩
  by_cases h : isFirst i
  on_goal 1 =>
    simp only [h, ↓reduceDIte, Prog.bind_op, Prog.bind_ret]
    iapply (wp_load_owns 𝒱₀ (c : Thread nD τ) none Set.univ) $$ H8; iintro H8
    iapply (wp_store_owns 𝒱₀ (c : Thread nD τ) none Set.univ) $$ H8; iintro H8
    iapply (wp_load_owns 𝒱₀ (c : Thread nD τ) none Set.univ) $$ H9; iintro H9
    iapply (wp_store_owns 𝒱₀ (c : Thread nD τ) none Set.univ) $$ H9; iintro H9
    have e8 : rC.overlay dk k0_pay14 = dk0 i dk := (if_pos h).symm
    have e9 : rC.overlay dv k0_pay15 = dv0 i dv := (if_pos h).symm
    rw [e8, e9]
  on_goal 2 =>
    simp only [h, ↓reduceDIte, Prog.bind_op, Prog.bind_ret]
    have e8 : dk0 i dk = dk := if_neg h
    have e9 : dv0 i dv = dv := if_neg h
    ihave H8 := (show (owns (c : Thread nD τ) arg8 fullShare dk : sProp 𝕄) ⊢ owns (c : Thread nD τ) arg8 fullShare (dk0 i dk) from by
      rw [e8]) $$ H8
    ihave H9 := (show (owns (c : Thread nD τ) arg9 fullShare dv : sProp 𝕄) ⊢ owns (c : Thread nD τ) arg9 fullShare (dv0 i dv) from by
      rw [e9]) $$ H9
  all_goals
    iapply (wp_load_owns 𝒱₀ (c : Thread nD τ) none Set.univ) $$ H2; iintro H2
    iapply (wp_load_owns 𝒱₀ (c : Thread nD τ) none Set.univ) $$ H5; iintro H5
    iapply (wp_load_owns 𝒱₀ (c : Thread nD τ) none Set.univ) $$ H5; iintro H5
    iapply (wp_load_owns 𝒱₀ (c : Thread nD τ) none Set.univ) $$ H6; iintro H6
    iapply (wp_load_owns 𝒱₀ (c : Thread nD τ) none Set.univ) $$ H3; iintro H3
    iapply (wp_load_owns 𝒱₀ (c : Thread nD τ) none Set.univ) $$ H4; iintro H4
    iapply (wp_load_owns 𝒱₀ (c : Thread nD τ) none Set.univ) $$ H8; iintro H8
    iapply (wp_load_owns 𝒱₀ (c : Thread nD τ) none Set.univ) $$ H8; iintro H8
    iapply (wp_store_owns 𝒱₀ (c : Thread nD τ) none Set.univ) $$ H8; iintro H8
    iapply (wp_load_owns 𝒱₀ (c : Thread nD τ) none Set.univ) $$ H9; iintro H9
    iapply (wp_load_owns 𝒱₀ (c : Thread nD τ) none Set.univ) $$ H9; iintro H9
    iapply (wp_store_owns 𝒱₀ (c : Thread nD τ) none Set.univ) $$ H9; iintro H9
    iapply (wp_load_owns 𝒱₀ (c : Thread nD τ) none Set.univ) $$ H3; iintro H3
    iapply (wp_load_owns 𝒱₀ (c : Thread nD τ) none Set.univ) $$ H4; iintro H4
    iapply (wp_load_owns 𝒱₀ (c : Thread nD τ) none Set.univ) $$ H8; iintro H8
    iapply (wp_load_owns 𝒱₀ (c : Thread nD τ) none Set.univ) $$ H8; iintro H8
    iapply (wp_store_owns 𝒱₀ (c : Thread nD τ) none Set.univ) $$ H8; iintro H8
    iapply (wp_load_owns 𝒱₀ (c : Thread nD τ) none Set.univ) $$ H9; iintro H9
    iapply (wp_load_owns 𝒱₀ (c : Thread nD τ) none Set.univ) $$ H9; iintro H9
    iapply (wp_store_owns 𝒱₀ (c : Thread nD τ) none Set.univ) $$ H9; iintro H9
    have hT := spec_le (F := F) c i arg3 harg3 arg4 harg4 arg8 harg8 arg9 harg9 K V (env xq xdo xo) Set.univ _ _ (cnt_start i)
      (second i K V (env xq xdo xo) (first i K V (env xq xdo xo) (dk0 i dk) (dv0 i dv)))
    iapply (wp_call_spec 𝒱₀ (c : Thread nD τ) none Set.univ (spec c arg3 arg4 arg8 arg9 K V (env xq xdo xo) ((i 1).val - 1)
      (second i K V (env xq xdo xo) (first i K V (env xq xdo xo) (dk0 i dk) (dv0 i dv)))) _ (fun u hu => nomatch hu) hT)
    rw [spec_apply]; unfold held
    isplitl [H3 H4 H8 H9]
    · isplitl [H3]; · iexact H3
      isplitl [H4]; · iexact H4
      isplitl [H8]; · iexact H8
      iexact H9
    iintro %r %hr ⟨H3, H4, H8, H9⟩
    obtain ⟨x0, x1, x2, x3, x4⟩ := r
    dsimp only at hr
    subst hr
    simp only [Prog.bind_op, Prog.bind_ret]
    iapply (wp_load_owns 𝒱₀ (c : Thread nD τ) none Set.univ) $$ H7; iintro H7
    iapply (wp_store_owns 𝒱₀ (c : Thread nD τ) none Set.univ) $$ H7; iintro H7
    rw [wp_ret]; imodintro
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

end Body

end Cert.KernelIdeal.Attn

end
-- ==== Proof.Attn.Run.lean ====
/-
  The attention gradient's run: the proof data of its one pipeline (each input's buffer at its block, the three outputs at
  what the point left over the sums so far), the body's obligation, the launch and the frame, at any float type.
-/
module

public import proofs.«01_k».proof.Proof.Attn.Body
public import Idealize.ShloMosaic.Lib.Pipeline.FrameBody
public import Idealize.ShloMosaic.Lib.Tactic
public import Idealize.ShloMosaic.Lib.WordCmp
public import Idealize.ShloMosaic.Lib.Claim

@[expose] public section

set_option maxRecDepth 16384

noncomputable section

namespace Cert.KernelIdeal.Attn

open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Up to the region -/

/-- The host's operations, stretch by stretch. -/
abbrev opss : List (List (HloOp τ sig (Elt F))) :=
  [hostOps0, hostOps0_1, hostOps0_2, hostOps0_3, hostOps0_4, hostOps0_5, hostOps0_6, hostOps0_7, hostOps0_8, hostOps0_9]

/-- The buffers as the region finds them. -/
abbrev V (c : Dev nD) (b : Ref sig .tc) : Buf (Elt F) ((c : Thread nD τ).loc b) := StableHlo.after (List.flatten opss) (fun b => m (c, b)) b

theorem opss_fresh : (opss : List (List (HloOp τ sig (Elt F)))).Forall fun ops => ops.Forall fun op => op.fresh = ∅ := by
  simp only [List.Forall]; repeat' constructor

theorem opss_sub : (opss : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub,
    hostOps0_8_sub, hostOps0_9_sub⟩

set_option maxHeartbeats 1600000 in
theorem hmain : Pipeline.HMain (Ix := Unit) (Name := ℕ) (U := UR sig nD τ) (Lvl := ℕ) cfgs 0 defs₀ 𝒱₀ m (main (F := F)) (V m) :=
  Pipeline.hmain_prefixes cfgs 0 defs₀ 𝒱₀ m main opss opss_sub opss_fresh main_chain

/-- A buffer that none of the host's operations writes is as launched. -/
theorem V_kept (c : Dev nD) (b : Ref sig .tc)
    (h : (List.flatten (opss : List (List (HloOp τ sig (Elt F))))).Forall fun op => Proc.devRef .tc b ∉ op.writes) :
    V m c b = m ((c : Thread nD τ).loc b) :=
  StableHlo.after_of_forall_not_mem (b := Proc.devRef .tc b) _ _ (List.forall_iff_forall_mem.mp h)

theorem V_main_arg0 (c : Dev nD) : V m c main_arg0 = m ((c : Thread nD τ).loc main_arg0) := V_kept m c main_arg0 (by
  simp only [opss, hostOps0, hostOps0_1, hostOps0_2, hostOps0_3, hostOps0_4, hostOps0_5, hostOps0_6, hostOps0_7, hostOps0_8, hostOps0_9,
    List.flatten_cons, List.flatten_nil, List.append_nil, List.cons_append, List.nil_append, List.Forall, StableHlo.nullary_writes,
    StableHlo.unary_writes, StableHlo.binary_writes, StableHlo.ternary_writes, StableHlo.reshape_writes, StableHlo.TRef.nullary,
    StableHlo.TRef.unary, StableHlo.TRef.binary, StableHlo.TRef.ternary, Finset.mem_singleton]
  repeat' apply And.intro
  all_goals exact StableHlo.devRef_ne_of_ne (by decide))

theorem V_main_arg1 (c : Dev nD) : V m c main_arg1 = m ((c : Thread nD τ).loc main_arg1) := V_kept m c main_arg1 (by
  simp only [opss, hostOps0, hostOps0_1, hostOps0_2, hostOps0_3, hostOps0_4, hostOps0_5, hostOps0_6, hostOps0_7, hostOps0_8, hostOps0_9,
    List.flatten_cons, List.flatten_nil, List.append_nil, List.cons_append, List.nil_append, List.Forall, StableHlo.nullary_writes,
    StableHlo.unary_writes, StableHlo.binary_writes, StableHlo.ternary_writes, StableHlo.reshape_writes, StableHlo.TRef.nullary,
    StableHlo.TRef.unary, StableHlo.TRef.binary, StableHlo.TRef.ternary, Finset.mem_singleton]
  repeat' apply And.intro
  all_goals exact StableHlo.devRef_ne_of_ne (by decide))

theorem V_main_arg2 (c : Dev nD) : V m c main_arg2 = m ((c : Thread nD τ).loc main_arg2) := V_kept m c main_arg2 (by
  simp only [opss, hostOps0, hostOps0_1, hostOps0_2, hostOps0_3, hostOps0_4, hostOps0_5, hostOps0_6, hostOps0_7, hostOps0_8, hostOps0_9,
    List.flatten_cons, List.flatten_nil, List.append_nil, List.cons_append, List.nil_append, List.Forall, StableHlo.nullary_writes,
    StableHlo.unary_writes, StableHlo.binary_writes, StableHlo.ternary_writes, StableHlo.reshape_writes, StableHlo.TRef.nullary,
    StableHlo.TRef.unary, StableHlo.TRef.binary, StableHlo.TRef.ternary, Finset.mem_singleton]
  repeat' apply And.intro
  all_goals exact StableHlo.devRef_ne_of_ne (by decide))

theorem V_main_arg3 (c : Dev nD) : V m c main_arg3 = m ((c : Thread nD τ).loc main_arg3) := V_kept m c main_arg3 (by
  simp only [opss, hostOps0, hostOps0_1, hostOps0_2, hostOps0_3, hostOps0_4, hostOps0_5, hostOps0_6, hostOps0_7, hostOps0_8, hostOps0_9,
    List.flatten_cons, List.flatten_nil, List.append_nil, List.cons_append, List.nil_append, List.Forall, StableHlo.nullary_writes,
    StableHlo.unary_writes, StableHlo.binary_writes, StableHlo.ternary_writes, StableHlo.reshape_writes, StableHlo.TRef.nullary,
    StableHlo.TRef.unary, StableHlo.TRef.binary, StableHlo.TRef.ternary, Finset.mem_singleton]
  repeat' apply And.intro
  all_goals exact StableHlo.devRef_ne_of_ne (by decide))

/-! ## What the buffers hold, point by point -/

/-- A window's block at a point, in the array as the region finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  ((cfg0.win w).blk t).view.read (Elt F) (V m c (Pipeline.arrRef spec0 w))

/-- The point over given sums. -/
def pointAt (c : Dev nD) (t : Fin (cfg0 (F := F)).N) (dk dv : Vec F S8192x128 .f32) : St F :=
  point (grid0.coords t) (iblk m c 0 t) (iblk m c 1 t) (iblk m c 2 t) (iblk m c 3 t) (iblk m c 4 t) dk dv

/-- What the point leaves, over what the point before left. -/
def acc (c : Dev nD) : (n : ℕ) → n < (cfg0 (F := F)).N → St F
  | 0, h => pointAt m c ⟨0, h⟩ k0_pay14 k0_pay15
  | n + 1, h => pointAt m c ⟨n + 1, h⟩ (acc c n (Nat.lt_of_succ_lt h)).dk (acc c n (Nat.lt_of_succ_lt h)).dv

/-- A whole rectangle stored over anything. -/
theorem overlay_full {s : Shape} {α : Type} (r : Rect s) (h : ∀ y : s.Idx, ∃ x, r.emb x = y) (X Y : s.Idx → α) (w : r.shape.Idx → α) :
    r.overlay X w = r.overlay Y w := by
  funext y
  obtain ⟨x, rfl⟩ := h y
  rw [Rect.overlay_emb, Rect.overlay_emb]

theorem rC_full (y : S8192x128.Idx) : ∃ x, rC.emb x = y :=
  ⟨y, funext fun a => Fin.ext (by fin_cases a <;> simp [Rect.emb, Rect.unit])⟩

theorem rB_overlay (d w : Vec F S256x128 .f32) : rB.overlay d w = w := by
  funext y
  have e : rB.emb (show rB.shape.Idx from y) = y := funext fun a => Fin.ext (by fin_cases a <;> simp [Rect.emb, Rect.unit])
  conv_lhs => rw [← e]
  exact Rect.overlay_emb _ _ _ _

theorem isFirst_iff : ∀ t : Fin (cfg0 (F := F)).N, isFirst (grid0.coords t) ↔ t.val % 32 = 0 :=
  (by decide +kernel : ∀ t : Fin grid0.N, isFirst (grid0.coords t) ↔ t.val % 32 = 0)

/-- A column's first point starts from zero whatever the buffers hold. -/
theorem pointAt_first (c : Dev nD) (t : Fin (cfg0 (F := F)).N) (h : t.val % 32 = 0) (dk dv dk' dv' : Vec F S8192x128 .f32) :
    pointAt m c t dk dv = pointAt m c t dk' dv' := by
  unfold pointAt point dk0 dv0
  rw [if_pos ((isFirst_iff t).mpr h), if_pos ((isFirst_iff t).mpr h), if_pos ((isFirst_iff t).mpr h), if_pos ((isFirst_iff t).mpr h),
    overlay_full rC rC_full dk dk', overlay_full rC rC_full dv dv']

theorem acc_first (c : Dev nD) (t : Fin (cfg0 (F := F)).N) (h : t.val % 32 = 0) (dk dv : Vec F S8192x128 .f32) :
    acc m c t.val t.isLt = pointAt m c t dk dv := by
  obtain ⟨n, hn⟩ := t
  cases n with
  | zero => exact pointAt_first m c _ h _ _ _ _
  | succ n => exact pointAt_first m c _ h _ _ _ _

theorem acc_next (c : Dev nD) (t : Fin (cfg0 (F := F)).N) (h : ¬t.val % 32 = 0) :
    acc m c t.val t.isLt = pointAt m c t (acc m c (t.val - 1) (Nat.lt_of_le_of_lt (Nat.sub_le _ _) t.isLt)).dk
      (acc m c (t.val - 1) (Nat.lt_of_le_of_lt (Nat.sub_le _ _) t.isLt)).dv := by
  obtain ⟨n, hn⟩ := t
  cases n with
  | zero => exact absurd (Nat.zero_mod _) h
  | succ n => rfl

/-- The proof data of the pipeline. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay6 (acc m c t.val t.isLt).dq
    | ⟨6, _⟩ => (acc m c t.val t.isLt).dk
    | ⟨7, _⟩ => (acc m c t.val t.isLt).dv
  Φ _ := Pipeline.ΦA spec0 c
  q _ := fullShare
  owed _ := 0

theorem A_eq (c : Dev nD) (w : Fin (cfg0 (F := F)).W) : (dats m 0 c).A w = V m c (Pipeline.arrRef spec0 w) := by
  rfl

theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem after0_3 (c : Dev nD) (t : Fin (cfg0 (F := F)).N) : (dats m 0 c).after 3 t = iblk m c 3 t := rfl
theorem after0_4 (c : Dev nD) (t : Fin (cfg0 (F := F)).N) : (dats m 0 c).after 4 t = iblk m c 4 t := rfl
theorem after0_5 (c : Dev nD) (t : Fin (cfg0 (F := F)).N) : (dats m 0 c).after 5 t = k0_pay6 (acc m c t.val t.isLt).dq := rfl
theorem after0_6 (c : Dev nD) (t : Fin (cfg0 (F := F)).N) : (dats m 0 c).after 6 t = (acc m c t.val t.isLt).dk := rfl
theorem after0_7 (c : Dev nD) (t : Fin (cfg0 (F := F)).N) : (dats m 0 c).after 7 t = (acc m c t.val t.isLt).dv := rfl

theorem before0_0 (c : Dev nD) (t : Fin (cfg0 (F := F)).N) (d) : (dats m 0 c).before 0 t d = iblk m c 0 t :=
  ((dats m 0 c).before_in_eq_fetched 0 rfl (fun _ => rfl) (fun _ _ _ => rfl) (fun t => by
      rw [after0_0]; unfold Dat.blockOf iblk; rw [A_eq]; try rfl) t d).trans (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl) (fun t => by
      rw [after0_1]; unfold Dat.blockOf iblk; rw [A_eq]; try rfl) t d).trans (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl) (fun t => by
      rw [after0_2]; unfold Dat.blockOf iblk; rw [A_eq]; try rfl) t d).trans (by unfold Dat.fetched Dat.blockOf iblk; rw [A_eq]; try rfl)
theorem before0_3 (c : Dev nD) (t : Fin (cfg0 (F := F)).N) (d) : (dats m 0 c).before 3 t d = iblk m c 3 t :=
  ((dats m 0 c).before_in_eq_fetched 3 rfl (fun _ => rfl) (fun _ _ _ => rfl) (fun t => by
      rw [after0_3]; unfold Dat.blockOf iblk; rw [A_eq]; try rfl) t d).trans (by unfold Dat.fetched Dat.blockOf iblk; rw [A_eq]; try rfl)
theorem before0_4 (c : Dev nD) (t : Fin (cfg0 (F := F)).N) (d) : (dats m 0 c).before 4 t d = iblk m c 4 t :=
  ((dats m 0 c).before_in_eq_fetched 4 rfl (fun _ => rfl) (fun _ _ _ => rfl) (fun t => by
      rw [after0_4]; unfold Dat.blockOf iblk; rw [A_eq]; try rfl) t d).trans (by unfold Dat.fetched Dat.blockOf iblk; rw [A_eq]; try rfl)
/-- Within a column the key sums' buffer holds what the point before left, -/
theorem before0_6 (c : Dev nD) (t : Fin (cfg0 (F := F)).N) (h : ¬t.val % 32 = 0) (d) :
    (dats m 0 c).before 6 t d = (acc m c (t.val - 1) (Nat.lt_of_le_of_lt (Nat.sub_le _ _) t.isLt)).dk := by
  have hN : t.val < 256 := lt_of_lt_of_eq t.isLt (show (cfg0 (F := F)).N = 256 from N_0)
  rw [Dat.before_out_kept _ 6 rfl t (by omega) (Bool.eq_false_iff.mpr fun h => by have := (flush0_6 _).mp h; dsimp only at this; omega)
    (fun _ => rfl) (fun _ _ => rfl)]
  rfl
/-- and the value sums' likewise. -/
theorem before0_7 (c : Dev nD) (t : Fin (cfg0 (F := F)).N) (h : ¬t.val % 32 = 0) (d) :
    (dats m 0 c).before 7 t d = (acc m c (t.val - 1) (Nat.lt_of_le_of_lt (Nat.sub_le _ _) t.isLt)).dv := by
  have hN : t.val < 256 := lt_of_lt_of_eq t.isLt (show (cfg0 (F := F)).N = 256 from N_0)
  rw [Dat.before_out_kept _ 7 rfl t (by omega) (Bool.eq_false_iff.mpr fun h => by have := (flush0_7 _).mp h; dsimp only at this; omega)
    (fun _ => rfl) (fun _ _ => rfl)]
  rfl

/-- Whatever the buffers held, the point leaves `acc`. -/
theorem pointAt_eq (c : Dev nD) (t : Fin (cfg0 (F := F)).N) (d6 d7) :
    pointAt m c t ((dats m 0 c).before 6 t d6) ((dats m 0 c).before 7 t d7) = acc m c t.val t.isLt := by
  by_cases h : t.val % 32 = 0
  · exact (acc_first m c t h _ _).symm
  · rw [acc_next m c t h, before0_6 m c t h, before0_7 m c t h]

/-! ## The body's obligation -/

def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin (cfg0 (F := F)).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- The body's triple with the block of query gradients stored whole and the point's state named. -/
theorem body_at (c : Dev nD) (i : grid0.Coords)
    (arg2 : Memref sig .tc .vmem S256x128 .bf16) (harg2 : arg2.IsWhole)
    (arg3 : Memref sig .tc .vmem S8192x128 .bf16) (harg3 : arg3.IsWhole) (arg4 : Memref sig .tc .vmem S8192x128 .bf16) (harg4 : arg4.IsWhole)
    (arg5 : Memref sig .tc .vmem S256x128 .bf16) (harg5 : arg5.IsWhole) (arg6 : Memref sig .tc .vmem S256x128 .f32) (harg6 : arg6.IsWhole)
    (arg7 : Memref sig .tc .vmem S256x128 .f32) (harg7 : arg7.IsWhole)
    (arg8 : Memref sig .tc .vmem S8192x128 .f32) (harg8 : arg8.IsWhole) (arg9 : Memref sig .tc .vmem S8192x128 .f32) (harg9 : arg9.IsWhole)
    (xq : Vec F S256x128 .bf16) (K V : Vec F S8192x128 .bf16) (xdo : Vec F S256x128 .bf16) (xo d : Vec F S256x128 .f32)
    (dk dv : Vec F S8192x128 .f32) (s : St F) (e : point i xq K V xdo xo dk dv = s) (Q : PUnit → sProp (MT nD τ sig Unit (Elt F) ℕ (UR sig nD τ) ℕ)) :
    iprop(rest arg2 arg3 arg4 arg5 arg6 arg7 arg8 arg9 xq K V xdo xo d dk dv c
      ∗ (rest arg2 arg3 arg4 arg5 arg6 arg7 arg8 arg9 xq K V xdo xo (k0_pay6 s.dq) s.dk s.dv c -∗ Q ⟨⟩))
      ⊢ wp frame (wpE (defs₀ (F := F)) 𝒱₀ (c : Thread nD τ) none) Set.univ
          (cc0_attention_bwd i arg2 harg2 arg3 harg3 arg4 harg4 arg5 harg5 arg6 harg6 arg7 harg7 arg8 harg8 arg9 harg9) Q := by
  subst e
  have h := body_wp c i arg2 harg2 arg3 harg3 arg4 harg4 arg5 harg5 arg6 harg6 arg7 harg7 arg8 harg8 arg9 harg9 xq K V xdo xo d dk dv Q
  rwa [rB_overlay] at h

set_option maxHeartbeats 3200000 in
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (st0_0 t) fullShare ((dats m 0 c).after 0 t) from by
    unfold Dat.leavesExact; rw [show (cfg0 (F := F)).idle 0 (cfg0.grid.coords t) = false from rfl], after0_0]
  rw [show (dats m 0 c).leavesExact 1 t = owns (c : Thread nD τ) (st0_1 t) fullShare ((dats m 0 c).after 1 t) from by
    unfold Dat.leavesExact; rw [show (cfg0 (F := F)).idle 1 (cfg0.grid.coords t) = false from rfl], after0_1]
  rw [show (dats m 0 c).leavesExact 2 t = owns (c : Thread nD τ) (st0_2 t) fullShare ((dats m 0 c).after 2 t) from by
    unfold Dat.leavesExact; rw [show (cfg0 (F := F)).idle 2 (cfg0.grid.coords t) = false from rfl], after0_2]
  rw [show (dats m 0 c).leavesExact 3 t = owns (c : Thread nD τ) (st0_3 t) fullShare ((dats m 0 c).after 3 t) from by
    unfold Dat.leavesExact; rw [show (cfg0 (F := F)).idle 3 (cfg0.grid.coords t) = false from rfl], after0_3]
  rw [show (dats m 0 c).leavesExact 4 t = owns (c : Thread nD τ) (st0_4 t) fullShare ((dats m 0 c).after 4 t) from by
    unfold Dat.leavesExact; rw [show (cfg0 (F := F)).idle 4 (cfg0.grid.coords t) = false from rfl], after0_4]
  rw [show (dats m 0 c).leavesExact 5 t = owns (c : Thread nD τ) (st0_5 t) fullShare ((dats m 0 c).after 5 t) from by
    unfold Dat.leavesExact; rw [show (cfg0 (F := F)).idle 5 (cfg0.grid.coords t) = false from rfl], after0_5]
  rw [show (dats m 0 c).leavesExact 6 t = owns (c : Thread nD τ) (st0_6 t) fullShare ((dats m 0 c).after 6 t) from by
    unfold Dat.leavesExact; rw [show (cfg0 (F := F)).idle 6 (cfg0.grid.coords t) = false from rfl], after0_6]
  rw [show (dats m 0 c).leavesExact 7 t = owns (c : Thread nD τ) (st0_7 t) fullShare ((dats m 0 c).after 7 t) from by
    unfold Dat.leavesExact; rw [show (cfg0 (F := F)).idle 7 (cfg0.grid.coords t) = false from rfl], after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_at c (grid0.coords t) _ _ _ _ _ _ _ _ _ _ _ _ _ _ _ _ (iblk m c 0 t) (iblk m c 1 t) (iblk m c 2 t) (iblk m c 3 t) (iblk m c 4 t)
    ((dats m 0 c).before 5 t d5) ((dats m 0 c).before 6 t d6) ((dats m 0 c).before 7 t d7) (acc m c t.val t.isLt) (pointAt_eq m c t d6 d7) _)
  unfold rest
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin (cfg0 (F := F)).N) : defs₀ (F := F) .tc (cfg0 (F := F)).body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨
      ((h.1 c).2 main_arg0 (show main_arg0 ∈ Pipeline.restRefs sig spec0 from Pipeline.mem_restRefs_of main_arg0 (by decide) (by decide))).trans (V_main_arg0 m c),
      ((h.1 c).2 main_arg1 (show main_arg1 ∈ Pipeline.restRefs sig spec0 from Pipeline.mem_restRefs_of main_arg1 (by decide) (by decide))).trans (V_main_arg1 m c),
      ((h.1 c).2 main_arg2 (show main_arg2 ∈ Pipeline.restRefs sig spec0 from Pipeline.mem_restRefs_of main_arg2 (by decide) (by decide))).trans (V_main_arg2 m c),
      ((h.1 c).2 main_arg3 (show main_arg3 ∈ Pipeline.restRefs sig spec0 from Pipeline.mem_restRefs_of main_arg3 (by decide) (by decide))).trans (V_main_arg3 m c)⟩, h.2⟩)
    (run_main_quiescent m ρ)

end Cert.KernelIdeal.Attn

end
-- ==== Proof.Attn.Pay.lean ====
/-
  The attention gradient's payloads at real operands: each is a matrix of reals again.
-/
module

public import proofs.«01_k».proof.Proof.Attn.Run
public import Idealize.ShloMosaic.Lib.Pointwise

@[expose] public section

set_option maxRecDepth 16384

noncomputable section

namespace Cert.KernelIdeal.Attn

open Cert.KernelIdeal Cert.KernelIdeal.Gen
open Idealize.ShloMosaic Idealize.ShloMosaic.TcCoe Idealize.SL.Sem

/-- A matrix of reals, read as one of extended reals. -/
def up {a b : ℕ} {φ : FTy} (f : ℕ → ℕ → ℝ) : FVec Ideal ⟨2, ![a, b]⟩ φ :=
  fun y => ((f (y 0).val (y 1).val : ℝ) : EReal)

/-- A column of reals likewise. -/
def col {a : ℕ} {φ : FTy} (f : ℕ → ℝ) : FVec Ideal ⟨2, ![a, 1]⟩ φ := fun y => ((f (y 0).val : ℝ) : EReal)

open Classical in
/-- The bits of a relation. -/
def bits {a b : ℕ} (M : ℕ → ℕ → Prop) : IVec ⟨2, ![a, b]⟩ 1 := fun y => if M (y 0).val (y 1).val then 1#1 else 0#1

theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The softplus. -/
def sp (x : ℝ) : ℝ := max x 0 + Real.log (1 + Real.exp (0 - |x|))

/-- The scores of a block. -/
def Z (q k : ℕ → ℕ → ℝ) (r c : ℕ) : ℝ := ∑ l : Fin 128, q r l.val * k c l.val

theorem up_ix2 {a b : ℕ} {φ : FTy} (f : ℕ → ℕ → ℝ) (i : Fin a) (j : Fin b) :
    up (φ := φ) f (ix2 i j) = ((f i.val j.val : ℝ) : EReal) := rfl

theorem col_ix2 {a : ℕ} {φ : FTy} (f : ℕ → ℝ) (i : Fin a) (j : Fin 1) :
    col (φ := φ) f (ix2 i j) = ((f i.val : ℝ) : EReal) := rfl

theorem abs_coe (x : ℝ) : max ((x : ℝ) : EReal) (-((x : ℝ) : EReal)) = ((|x| : ℝ) : EReal) := by
  rw [← EReal.coe_neg]; exact (EReal.coe_strictMono.monotone.map_max (a := x) (b := -x)).symm

theorem max_coe (x : ℝ) : max ((x : ℝ) : EReal) 0 = ((max x 0 : ℝ) : EReal) :=
  (EReal.coe_strictMono.monotone.map_max (a := x) (b := 0)).symm

theorem sp_coe (x : ℝ) : max ((x : ℝ) : EReal) 0 + Ideal.log (1 + Ideal.exp (0 - max ((x : ℝ) : EReal) (-((x : ℝ) : EReal)))) = ((sp x : ℝ) : EReal) := by
  have h : ¬ (1 + Real.exp (0 - |x|)) ≤ 0 := not_le.mpr (by positivity)
  rw [abs_coe, max_coe, ← EReal.coe_zero, ← EReal.coe_sub, Ideal.exp_coe, ← EReal.coe_one, ← EReal.coe_add, Ideal.log_coe, if_neg h, ← EReal.coe_add]
  rfl

open Classical in
theorem bits_select {a b : ℕ} {α : Type} (M : ℕ → ℕ → Prop) (y : (⟨2, ![a, b]⟩ : Shape).Idx) (u v : α) :
    Scalar.select (bits M y) u v = if M (y 0).val (y 1).val then u else v := by
  unfold bits
  split <;> rfl

theorem coe_ite (p : Prop) [Decidable p] (x y : ℝ) : (if p then ((x : ℝ) : EReal) else ((y : ℝ) : EReal)) = ((if p then x else y : ℝ) : EReal) := by
  split <;> rfl

theorem pay41_up (q k : ℕ → ℕ → ℝ) : k0_pay41 (F := Ideal) (up q) (up (φ := .bf16) k) = up (Z q k) := by
  funext y
  idx_vars y
  pointwise [k0_pay41, k0_pay39]
  simp only [up_ix2, ← EReal.coe_mul, coe_sum]
  rfl

theorem pay42_up (q k : ℕ → ℕ → ℝ) : k0_pay42 (F := Ideal) (up q) (up (φ := .bf16) k) = up (fun r c => sp (Z q k r c)) := by
  funext y
  pointwise [k0_pay42, pay41_up]
  exact sp_coe _

open Classical in
theorem pay44_up (M : ℕ → ℕ → Prop) (s : ℕ → ℕ → ℝ) :
    k0_pay44 (F := Ideal) (bits M) (up s) k0_pay43 = up (fun r c => if M r c then 0 - s r c else 0) := by
  funext y
  pointwise [k0_pay44, k0_pay43]
  rw [bits_select]
  exact (coe_ite _ (0 - s _ _) 0)

theorem bit_real (p : Prop) [Decidable p] : FloatOps.sitofp (F := Ideal) FTy.f32 (BitVec.setWidth 32 (if p then 1#1 else 0#1))
    = ((if p then 1 else 0 : ℝ) : EReal) := by
  split
  · show (((1 : ℤ) : ℝ) : EReal) = _; norm_num
  · show (((0 : ℤ) : ℝ) : EReal) = _; norm_num

theorem pay17_up : k0_pay17 (F := Ideal) = up (fun j c => if c < j then 1 else 0) := by
  funext y
  pointwise [k0_pay17]
  have h0 : (y 0).val < 256 := (y 0).isLt
  have h1 : (y 1).val < 256 := (y 1).isLt
  have h : IntOp.cmpi CmpIPredicate.sgt (BitVec.ofNat 32 (y 0).val) (BitVec.ofNat 32 (y 1).val) = if (y 1).val < (y 0).val then 1#1 else 0#1 := by
    word_cmp
    split <;> rename_i h <;> simp only [h, decide_true, decide_false] <;> rfl
  rw [h, bit_real]; rfl

theorem pay18_up : k0_pay18 (F := Ideal) = up (fun j c => if c ≤ j then 1 else 0) := by
  funext y
  pointwise [k0_pay18]
  have h0 : (y 0).val < 256 := (y 0).isLt
  have h1 : (y 1).val < 256 := (y 1).isLt
  have h : IntOp.cmpi CmpIPredicate.sge (BitVec.ofNat 32 (y 0).val) (BitVec.ofNat 32 (y 1).val) = if (y 1).val ≤ (y 0).val then 1#1 else 0#1 := by
    word_cmp
    split <;> rename_i h <;> simp only [h, decide_true, decide_false] <;> rfl
  rw [h, bit_real]; rfl

/-! ## A block's quantities -/

section

open Classical

variable (M : ℕ → ℕ → Prop) (z u : ℕ → ℕ → ℝ) (car seen tot : ℕ → ℝ)

/-- The logarithms of what a key leaves over, masked. -/
def LS (r c : ℕ) : ℝ := if M r c then 0 - sp (z r c) else 0

/-- A block's weights. -/
def W (r c : ℕ) : ℝ :=
  if M r c then Real.exp (z r c - sp (z r c) + (∑ j : Fin 256, LS M z r j.val * (if c < j.val then 1 else 0)) + car r) else 0

/-- A block's weight gradients times the weights. -/
def G (r c : ℕ) : ℝ := W M z car r c * u r c

/-- A block's score gradients. -/
def DA (r c : ℕ) : ℝ :=
  if M r c then G M z u car r c * (1 - Real.exp (z r c - sp (z r c)))
    - (tot r - ((∑ j : Fin 256, G M z u car r j.val * (if c ≤ j.val then 1 else 0)) + seen r)) * Real.exp (z r c - sp (z r c)) else 0

theorem zero_part (x : ℝ) : ((x : ℝ) : EReal) - ((x : ℝ) : EReal) = 0 := by rw [← EReal.coe_sub, sub_self, EReal.coe_zero]

theorem pay46_up : k0_pay46 (F := Ideal) (up (fun j c => if c < j then 1 else 0)) (col car) (bits M) (up z) (up (fun r c => sp (z r c))) k0_pay43
    = up (W M z car) := by
  funext y
  idx_vars y
  pointwise [k0_pay46, k0_pay45, pay44_up]
  rw [bits_select]
  simp only [up_ix2, col_ix2, zero_part, zero_mul, Finset.sum_const_zero, add_zero, ← EReal.coe_mul, coe_sum, ← EReal.coe_add, ← EReal.coe_sub, Ideal.exp_coe]
  exact coe_ite _ _ 0

theorem pay47_up (d v : ℕ → ℕ → ℝ) : k0_pay47 (F := Ideal) (up (fun j c => if c < j then 1 else 0)) (up d) (col car) (bits M) (up v) (up z)
    (up (fun r c => sp (z r c))) k0_pay43 = up (G M z (Z d v) car) := by
  funext y
  idx_vars y
  pointwise [k0_pay47, pay46_up]
  simp only [up_ix2, ← EReal.coe_mul, coe_sum]
  rfl

theorem pay48_up (d v : ℕ → ℕ → ℝ) : k0_pay48 (F := Ideal) (up (fun j c => if c < j then 1 else 0)) (up (fun j c => if c ≤ j then 1 else 0))
    (up d) (col tot) (col car) (col seen) (bits M) (up v) (up z) (up (fun r c => sp (z r c))) k0_pay43 = up (DA M z (Z d v) car seen tot) := by
  funext y
  idx_vars y
  pointwise [k0_pay48, k0_pay45, pay47_up]
  rw [bits_select]
  simp only [up_ix2, col_ix2, zero_part, zero_mul, Finset.sum_const_zero, add_zero, ← EReal.coe_one, ← EReal.coe_mul, coe_sum, ← EReal.coe_add, ← EReal.coe_sub, Ideal.exp_coe]
  exact coe_ite _ _ 0

theorem pay49_up (q d v o : ℕ → ℕ → ℝ) : k0_pay49 (F := Ideal) (up (fun j c => if c < j then 1 else 0)) (up (fun j c => if c ≤ j then 1 else 0))
    (up q) (up d) (col tot) (col car) (col seen) (bits M) (up v) (up z) (up (fun r c => sp (z r c))) k0_pay43 (up (φ := .f32) o)
      = up (fun c l => o c l + ∑ r : Fin 512, DA M z (Z d v) car seen tot r.val c * q r.val l) := by
  funext y
  idx_vars y
  pointwise [k0_pay49, pay48_up]
  simp only [up_ix2, ← EReal.coe_mul, coe_sum, ← EReal.coe_add]

theorem pay1_up (d w o : ℕ → ℕ → ℝ) : k0_pay1 (F := Ideal) (up d) (up w) (up (φ := .f32) o)
      = up (fun c l => o c l + ∑ r : Fin 512, w r.val c * d r.val l) := by
  funext y
  idx_vars y
  pointwise [k0_pay1]
  simp only [up_ix2, ← EReal.coe_mul, coe_sum, ← EReal.coe_add]

theorem pay2_up (ls : ℕ → ℕ → ℝ) : k0_pay2 (F := Ideal) (col car) (up ls) = col (fun r => car r + ∑ c : Fin 256, ls r c.val) := by
  funext y
  idx_vars y
  pointwise [k0_pay2]
  simp only [up_ix2, col_ix2, coe_sum, ← EReal.coe_add]

theorem pay3_up (g : ℕ → ℕ → ℝ) : k0_pay3 (F := Ideal) (col seen) (up g) = col (fun r => seen r + ∑ c : Fin 256, g r c.val) := by
  funext y
  idx_vars y
  pointwise [k0_pay3]
  simp only [up_ix2, col_ix2, coe_sum, ← EReal.coe_add]

theorem pay4_up (dq k da : ℕ → ℕ → ℝ) : k0_pay4 (F := Ideal) (up dq) (up (φ := .bf16) k) (up da)
      = up (fun r l => dq r l + ∑ c : Fin 256, da r c.val * k c.val l) := by
  funext y
  idx_vars y
  pointwise [k0_pay4]
  simp only [up_ix2, ← EReal.coe_mul, coe_sum, ← EReal.coe_add]

theorem pay5_gt (ls : ℕ → ℕ → ℝ) : ⊥ < k0_pay5 (F := Ideal) (col car) (up ls) := by
  unfold k0_pay5
  rw [pay2_up]
  pointwise []
  rw [Finset.lt_fold_max]; exact (Or.inr ⟨(0, 0), Finset.mem_univ _, EReal.bot_lt_coe _⟩)

/-! ## The stacked operands -/

/-- Two heads of a block of rows, stacked. -/
def stack (x : ℕ → ℕ → ℝ) (r l : ℕ) : ℝ := if r < 256 then (if l < 64 then x (r % 256) l else 0) else (if l < 64 then 0 else x (r % 256) l)

theorem lane_lt (l : Fin 128) : IntOp.cmpi CmpIPredicate.slt (BitVec.ofNat 32 l.val) 64#32 = if l.val < 64 then 1#1 else 0#1 := by
  have h0 := l.isLt
  word_cmp
  split <;> rename_i h <;> simp only [h, decide_true, decide_false] <;> rfl

theorem scalar_ite {α : Type} (p : Prop) [Decidable p] (u v : α) : Scalar.select (if p then 1#1 else 0#1) u v = if p then u else v := by
  split <;> rfl

theorem ofBits_eighth : Ideal.ofBits .f32 0x3E000000#32 = ((1 / 8 : ℝ) : EReal) := by
  simp [Ideal.ofBits, Ideal.ieee, -EReal.coe_mul]; norm_num

theorem pay20_eq : k0_pay20 (F := Ideal) = k0_pay19 := rfl

theorem pay19_up (x : ℕ → ℕ → ℝ) : k0_pay19 (F := Ideal) (up (φ := .bf16) x) = up (stack x) := by
  funext y
  idx_vars y
  pointwise [k0_pay19]
  simp only [up_ix2, lane_lt, scalar_ite]
  have h0 := y0.isLt
  unfold stack
  split
  · rw [show y0.val % 256 = y0.val by omega]; exact coe_ite _ _ 0
  · rw [show y0.val % 256 = y0.val - 256 by omega]; exact coe_ite _ 0 _

theorem pay21_up (x o : ℕ → ℕ → ℝ) : k0_pay21 (F := Ideal) (up (φ := .bf16) x) (up (φ := .f32) o)
    = col (fun r => ∑ l : Fin 128, stack (fun r l => x r l * o r l) r l.val) := by
  funext y
  idx_vars y
  pointwise [k0_pay21]
  simp only [up_ix2, lane_lt, scalar_ite, ← EReal.coe_mul]
  rw [col_ix2]
  have h0 := y0.isLt
  unfold stack
  split
  · simp only [show y0.val % 256 = y0.val by omega, ← EReal.coe_zero, coe_ite, coe_sum]
  · simp only [show y0.val % 256 = y0.val - 256 by omega, ← EReal.coe_zero, coe_ite, coe_sum]

theorem pay6_up (x : ℕ → ℕ → ℝ) : k0_pay6 (F := Ideal) (up x)
    = up (fun r l => 1 / 8 * (if l < 64 then x r l else x (r + 256) l)) := by
  funext y
  idx_vars y
  pointwise [k0_pay6]
  simp only [up_ix2, lane_lt, scalar_ite, ofBits_eighth, coe_ite, ← EReal.coe_mul, Nat.add_comm 256]

end

end Cert.KernelIdeal.Attn

end
-- ==== Proof.Attn.Block.lean ====
/-
  One block of the attention gradient at real operands: its three printed forms are one step under three masks, and the
  step takes real sums to real sums.
-/
module

public import proofs.«01_k».proof.Proof.Attn.Pay
public import Idealize.ShloMosaic.Lib.Pipeline.ValueKit.Stack

@[expose] public section

set_option maxRecDepth 16384

noncomputable section

namespace Cert.KernelIdeal.Attn

open Cert.KernelIdeal Cert.KernelIdeal.Gen
open Idealize.ShloMosaic Idealize.ShloMosaic.TcCoe Idealize.SL.Sem

/-- A block of rows of a column. -/
abbrev rW (off : Fin 2 → ℕ) (h : ∀ a, off a + S256x128.size a ≤ S8192x128.size a) : Rect S8192x128 :=
  Rect.unit (s := S8192x128) off S256x128.size h

/-- A block of keys under a mask. -/
def blk (M : IVec S512x256 1) (off : Fin 2 → ℕ) (h : ∀ a, off a + S256x128.size a ≤ S8192x128.size a) (K V : Vec Ideal S8192x128 .bf16)
    (e : Env Ideal) (s : St Ideal) : St Ideal where
  mx := k0_pay5 s.carry (k0_pay44 M (k0_pay42 e.q2 (View.ld K (rW off h))) k0_pay43)
  carry := k0_pay2 s.carry (k0_pay44 M (k0_pay42 e.q2 (View.ld K (rW off h))) k0_pay43)
  seen := k0_pay3 s.seen (k0_pay47 e.after e.do2 s.carry M (k0_pay40 (View.ld V (rW off h)))
    (k0_pay41 e.q2 (View.ld K (rW off h))) (k0_pay42 e.q2 (View.ld K (rW off h))) k0_pay43)
  dq := k0_pay4 s.dq (k0_pay39 (View.ld K (rW off h))) (k0_pay48 e.after e.from_here e.do2 e.total s.carry s.seen
    M (k0_pay40 (View.ld V (rW off h)))
    (k0_pay41 e.q2 (View.ld K (rW off h))) (k0_pay42 e.q2 (View.ld K (rW off h))) k0_pay43)
  dk := (rW off h).overlay s.dk (k0_pay49 e.after e.from_here e.q2 e.do2 e.total s.carry s.seen
    M (k0_pay40 (View.ld V (rW off h)))
    (k0_pay41 e.q2 (View.ld K (rW off h))) (k0_pay42 e.q2 (View.ld K (rW off h))) k0_pay43 (View.ld s.dk (rW off h)))
  dv := (rW off h).overlay s.dv (k0_pay1 e.do2 (k0_pay46 e.after s.carry M
    (k0_pay41 e.q2 (View.ld K (rW off h))) (k0_pay42 e.q2 (View.ld K (rW off h))) k0_pay43) (View.ld s.dv (rW off h)))

theorem first_eq (i : grid0.Coords) (K V : Vec Ideal S8192x128 .bf16) (e : Env Ideal) (dk dv : Vec Ideal S8192x128 .f32) :
    first i K V e dk dv = blk k0_pay16 (k0_off1 i) (k0_off1_inb i) K V e ⟨0, k0_pay22, k0_pay22, k0_pay23, dk, dv⟩ := rfl

theorem second_eq (i : grid0.Coords) (K V : Vec Ideal S8192x128 .bf16) (e : Env Ideal) (s : St Ideal) :
    second i K V e s = blk (k0_pay38 (BitVec.ofNat 32 (i 1).val)) (k0_off2 i) (k0_off2_inb i) K V e s := rfl

theorem select_true {α : Type} {S : Shape} (u v : S.Idx → α) : select (fun _ => 1#1 : IVec S 1) u v = u := rfl

theorem pay53_eq (q2 : FVec Ideal S512x128 .bf16) (k : Vec Ideal S256x128 .bf16) :
    k0_pay53 q2 k = k0_pay44 (fun _ => 1#1) (k0_pay42 q2 k) k0_pay43 := rfl

theorem pay55_eq (q2 : FVec Ideal S512x128 .bf16) (a : FVec Ideal S256x256 .bf16) (car : FVec Ideal S512x1 .f32) (k : Vec Ideal S256x128 .bf16) :
    k0_pay55 q2 a car k = k0_pay46 a car (fun _ => 1#1) (k0_pay41 q2 k) (k0_pay42 q2 k) k0_pay43 := rfl

theorem pay56_eq (q2 : FVec Ideal S512x128 .bf16) (a : FVec Ideal S256x256 .bf16) (d : FVec Ideal S512x128 .bf16) (car : FVec Ideal S512x1 .f32) (k v : Vec Ideal S256x128 .bf16) :
    k0_pay56 q2 a d car k v = k0_pay47 a d car (fun _ => 1#1) (k0_pay40 v) (k0_pay41 q2 k) (k0_pay42 q2 k) k0_pay43 := rfl

theorem pay7_eq (q2 : FVec Ideal S512x128 .bf16) (a : FVec Ideal S256x256 .bf16) (d : FVec Ideal S512x128 .bf16) (f : FVec Ideal S256x256 .bf16)
    (tot car seen : FVec Ideal S512x1 .f32) (k v : Vec Ideal S256x128 .bf16) :
    k0_pay7 tot (k0_pay54 q2 k) (k0_pay56 q2 a d car k v) (k0_pay57 q2 a d f car seen k v)
      = k0_pay48 a f d tot car seen (fun _ => 1#1) (k0_pay40 v) (k0_pay41 q2 k) (k0_pay42 q2 k) k0_pay43 := rfl

theorem stepL_eq (K V : Vec Ideal S8192x128 .bf16) (e : Env Ideal) (a : BitVec 32) (h : k0_chk1 a) (s : St Ideal) :
    stepL K V e a h s = blk (fun _ => 1#1) (k0_off3 a) (k0_off3_inb a h) K V e s := rfl

/-! ## The step on real sums -/

/-- What a pass over the key blocks carries, in reals. -/
structure RSt where
  carry : ℕ → ℝ
  seen : ℕ → ℝ
  dq : ℕ → ℕ → ℝ
  dk : ℕ → ℕ → ℝ
  dv : ℕ → ℕ → ℝ

/-- A state that holds those sums. -/
structure Is (s : St Ideal) (R : RSt) : Prop where
  mx : ⊥ < s.mx
  carry : s.carry = col R.carry
  seen : s.seen = col R.seen
  dq : s.dq = up R.dq
  dk : s.dk = up (a := 8192) (b := 128) (φ := .f32) R.dk
  dv : s.dv = up (a := 8192) (b := 128) (φ := .f32) R.dv

/-- What a point's blocks share, in reals. -/
def renv (q d : ℕ → ℕ → ℝ) (tot : ℕ → ℝ) : Env Ideal where
  q2 := up q
  after := k0_pay17
  do2 := up d
  from_here := k0_pay18
  total := col tot

section

open Classical

/-- The step, in reals, on the block of keys from `o` on. -/
def rstep (M : ℕ → ℕ → Prop) (o : ℕ) (k v q d : ℕ → ℕ → ℝ) (tot : ℕ → ℝ) (R : RSt) : RSt :=
  let z := Z q (fun c => k (o + c))
  let u := Z d (fun c => v (o + c))
  { carry := fun r => R.carry r + ∑ c : Fin 256, LS M z r c.val
    seen := fun r => R.seen r + ∑ c : Fin 256, G M z u R.carry r c.val
    dq := fun r l => R.dq r l + ∑ c : Fin 256, DA M z u R.carry R.seen tot r c.val * k (o + c.val) l
    dk := fun x l => if o ≤ x ∧ x < o + 256 then R.dk x l + ∑ r : Fin 512, DA M z u R.carry R.seen tot r.val (x - o) * q r.val l else R.dk x l
    dv := fun x l => if o ≤ x ∧ x < o + 256 then R.dv x l + ∑ r : Fin 512, W M z R.carry r.val (x - o) * d r.val l else R.dv x l }

theorem ld_at {Val : EltTy → Type} {e : EltTy} (X : S8192x128.Idx → Val e) (o : ℕ) (h) (y0 : Fin 256) (y1 : Fin 128) (h0 : o + y0.val < 8192) :
    View.ld X (rW ![o, 0] h) (ix2 y0 y1) = X (ix2 ⟨o + y0.val, h0⟩ y1) :=
  View.ld_unit_apply_of X _ _ _ _ (ix2 ⟨o + y0.val, h0⟩ y1) (fun a => by
    fin_cases a
    · rfl
    · exact (Nat.zero_add _).symm)

theorem ld_lt {o : ℕ} (h : ∀ a, (![o, 0] : Fin 2 → ℕ) a + S256x128.size a ≤ S8192x128.size a) (y : Fin 256) : o + y.val < 8192 := by
  have h0 : o + 256 ≤ 8192 := h 0
  have := y.isLt
  omega

theorem ld_bf (f : ℕ → ℕ → ℝ) (o : ℕ) (h) :
    View.ld (Val := Elt Ideal) (e' := .bf16) (up (a := 8192) (b := 128) (φ := .bf16) f) (rW ![o, 0] h) = up (a := 256) (b := 128) (φ := .bf16) (fun c => f (o + c)) := by
  funext y
  idx_vars y
  exact ld_at _ _ _ _ _ (ld_lt h y0)

theorem ld_f (f : ℕ → ℕ → ℝ) (o : ℕ) (h) :
    View.ld (Val := Elt Ideal) (e' := .f32) (up (a := 8192) (b := 128) (φ := .f32) f) (rW ![o, 0] h) = up (a := 256) (b := 128) (φ := .f32) (fun c => f (o + c)) := by
  funext y
  idx_vars y
  exact ld_at _ _ _ _ _ (ld_lt h y0)

theorem overlay_up {φ : FTy} (f g : ℕ → ℕ → ℝ) (o : ℕ) (h) :
    (rW ![o, 0] h).overlay (up (a := 8192) (b := 128) (φ := φ) f) (up (a := 256) (b := 128) (φ := φ) g)
      = up (a := 8192) (b := 128) (φ := φ) (fun x l => if o ≤ x ∧ x < o + 256 then g (x - o) l else f x l) := by
  funext y
  idx_vars y
  by_cases hy : o ≤ y0.val ∧ y0.val < o + 256
  · have e : (rW ![o, 0] h).emb (ix2 ⟨y0.val - o, by omega⟩ y1) = ix2 y0 y1 := by
      funext a; apply Fin.ext
      refine (Rect.idx_unit_val _ _ _ _ a).trans ?_
      fin_cases a
      · show o + (y0.val - o) = y0.val; omega
      · exact Nat.zero_add _
    refine (congrArg _ e.symm).trans ((Rect.overlay_emb _ _ _ _).trans ?_)
    rw [up_ix2, up_ix2, if_pos hy]
  · refine (Rect.overlay_of_not_mem _ _ _ ?_).trans ?_
    · intro hm
      obtain ⟨x, hx⟩ := LoadRect.exists_idx_of_mem _ hm
      have h0 := congrArg (fun i => (i 0).val) hx
      have h1 := (Rect.idx_unit_val (s := S8192x128) ![o, 0] S256x128.size h x 0).symm.trans h0
      have h2 : (x 0).val < 256 := (x 0).isLt
      have h3 : o + (x 0).val = y0.val := h1
      omega
    · rw [up_ix2, up_ix2, if_neg hy]

theorem blk_is (M : ℕ → ℕ → Prop) (o : ℕ) (h) (k v q d : ℕ → ℕ → ℝ) (tot : ℕ → ℝ) (s : St Ideal) (R : RSt) (hs : Is s R) (mx : Ideal .f32) :
    Is (blk (bits M) ![o, 0] h (up (a := 8192) (b := 128) (φ := .bf16) k) (up (a := 8192) (b := 128) (φ := .bf16) v) (renv q d tot)
      ⟨mx, s.carry, s.seen, s.dq, s.dk, s.dv⟩) (rstep M o k v q d tot R) := by
  obtain ⟨_, hc, hn, hq, hk, hv⟩ := hs
  have e39 : ∀ x : Vec Ideal S256x128 .bf16, k0_pay39 x = x := fun x => shapeCast_self _ _
  have e40 : ∀ x : Vec Ideal S256x128 .bf16, k0_pay40 x = x := fun x => shapeCast_self _ _
  constructor
  · simp only [blk, renv, hc, ld_bf, ld_f, pay42_up, pay44_up]
    exact pay5_gt _ _
  · simp only [blk, renv, hc, ld_bf, ld_f, pay42_up, pay44_up, pay2_up]
    rfl
  · simp only [blk, renv, hc, hn, ld_bf, ld_f, e40, pay17_up, pay41_up, pay42_up, pay47_up, pay3_up]
    rfl
  · simp only [blk, renv, hc, hn, hq, ld_bf, ld_f, e39, e40, pay17_up, pay18_up, pay41_up, pay42_up, pay48_up, pay4_up]
    rfl
  · simp only [blk, renv, hc, hn, hk, ld_bf, ld_f, e39, e40, pay17_up, pay18_up, pay41_up, pay42_up, pay49_up, overlay_up]
    funext y
    idx_vars y
    rw [up_ix2, up_ix2]
    simp only [rstep]
    by_cases hy : o ≤ y0.val ∧ y0.val < o + 256
    · rw [if_pos hy, if_pos hy, Nat.add_sub_cancel' hy.1]
    · rw [if_neg hy, if_neg hy]
  · simp only [blk, renv, hc, hv, ld_bf, ld_f, pay17_up, pay41_up, pay42_up, pay46_up, pay1_up, overlay_up]
    funext y
    idx_vars y
    rw [up_ix2, up_ix2]
    simp only [rstep]
    by_cases hy : o ≤ y0.val ∧ y0.val < o + 256
    · rw [if_pos hy, if_pos hy, Nat.add_sub_cancel' hy.1]
    · rw [if_neg hy, if_neg hy]

end

/-! ## Masks and offsets -/

theorem mask_true : (fun _ => 1#1 : IVec S512x256 1) = bits (fun _ _ => True) := by
  funext y; exact (if_pos trivial).symm

theorem bits_ix2 {a b : ℕ} (M : ℕ → ℕ → Prop) (i : Fin a) (j : Fin b) [Decidable (M i.val j.val)] :
    bits M (ix2 i j) = if M i.val j.val then 1#1 else 0#1 := by
  by_cases h : M i.val j.val
  · rw [if_pos h]; exact if_pos h
  · rw [if_neg h]; exact if_neg h

theorem mask_first : k0_pay16 = bits (fun r c => c < r % 256) := by
  funext y
  idx_vars y
  pointwise [k0_pay16]
  have h0 := y0.isLt
  have h1 := y1.isLt
  have hs : IntOp.cmpi CmpIPredicate.sge (BitVec.ofNat 32 y0.val) 256#32 = if 256 ≤ y0.val then 1#1 else 0#1 := by
    word_cmp
    split <;> rename_i h <;> simp only [h, decide_true, decide_false] <;> rfl
  have hl : ∀ n < 512, IntOp.cmpi CmpIPredicate.slt (BitVec.ofNat 32 y1.val) (BitVec.ofNat 32 n) = if y1.val < n then 1#1 else 0#1 := by
    intro n hn
    word_cmp
    split <;> rename_i h <;> simp only [h, decide_true, decide_false] <;> rfl
  rw [hs, scalar_ite]
  have hr : bits (a := 512) (b := 256) (fun r c => c < r % 256) (ix2 y0 y1)
      = if y1.val < y0.val % 256 then 1#1 else 0#1 := bits_ix2 _ _ _
  rw [hr]
  by_cases h : 256 ≤ y0.val
  · have hb : IntOp.subi (BitVec.ofNat 32 y0.val) 256#32 = BitVec.ofNat 32 (y0.val - 256) := by
      have : ∀ n : Fin 512, 256 ≤ n.val → BitVec.ofNat 32 n.val - 256#32 = BitVec.ofNat 32 (n.val - 256) := by decide +kernel
      exact this y0 h
    rw [if_pos h, hb, hl _ (by omega), show y0.val % 256 = y0.val - 256 by omega]
  · rw [if_neg h, hl _ h0, show y0.val % 256 = y0.val by omega]

theorem mask_second (i : ℕ) (hi : i < 32) : k0_pay38 (BitVec.ofNat 32 i) = bits (fun _ _ => 0 < i) := by
  have h : ∀ n : Fin 32, Scalar.cmpi .sgt (BitVec.ofNat 32 n.val) 0#32 = if 0 < n.val then 1#1 else 0#1 := by decide +kernel
  funext y
  refine (h ⟨i, hi⟩).trans ?_
  unfold bits
  split <;> rfl

theorem off1_eq (i : grid0.Coords) : k0_off1 i = ![256 * (i 1).val, 0] := by
  have h : ∀ n : Fin 32, (Scalar.indexCast (Scalar.muli (BitVec.ofNat 32 n.val) 256#32) : Index).toNat = 256 * n.val := by decide +kernel
  exact congrArg (fun x => ![x, 0]) (h (i 1))

theorem off2_eq (i : grid0.Coords) : k0_off2 i = ![256 * ((i 1).val - 1), 0] := by
  have h : ∀ n : Fin 32, (Scalar.indexCast (Scalar.muli (Scalar.maxsi (Scalar.subi (BitVec.ofNat 32 n.val) 1#32) 0#32) 256#32) : Index).toNat = 256 * (n.val - 1) := by decide +kernel
  exact congrArg (fun x => ![x, 0]) (h (i 1))

theorem off3_eq (n : ℕ) (hn : n < 32) : k0_off3 (BitVec.ofNat 32 n) = ![256 * n, 0] := by
  have h : ∀ n : Fin 32, (Scalar.indexCast (Scalar.muli (BitVec.ofNat 32 n.val) 256#32) : Index).toNat = 256 * n.val := by decide +kernel
  exact congrArg (fun x => ![x, 0]) (h ⟨n, hn⟩)

theorem goes_of {x : Ideal .f32} (h : ⊥ < x) : goes x := by
  unfold goes
  rw [show (Named.named κ "log_zero" 0xC2D00000#32 : Ideal .f32) = ⊥ from IdealRules.named_const.ideal_named_scalar κ "log_zero" (φ := .f32) 0xC2D00000#32 ⊥ rfl]
  simp only [Ideal.scalar_cmpf_def, Ideal.cmp, h, decide_true]
  rfl

end Cert.KernelIdeal.Attn

end
-- ==== Proof.Attn.Sweep.lean ====
/-
  The block sweep in reals: after the blocks from key `o` on, the carried sums are the sums over those keys, so after the
  last block they are whole.
-/
module

public import proofs.«01_k».proof.Proof.Attn.Block

@[expose] public section

set_option maxRecDepth 16384

noncomputable section

namespace Cert.KernelIdeal.Attn

open Cert.KernelIdeal Cert.KernelIdeal.Gen
open Idealize.ShloMosaic Idealize.ShloMosaic.TcCoe Idealize.SL.Sem
open Finset (Ico range)

section

variable (q d k v : ℕ → ℕ → ℝ) (tr : ℕ → ℕ)

/-- What row `r` leaves over at key `s`, in logarithms. -/
def cL (r s : ℕ) : ℝ := if s < tr r then 0 - sp (Z q k r s) else 0

/-- The attention weight. -/
def cW (r s : ℕ) : ℝ := if s < tr r then Real.exp (Z q k r s - sp (Z q k r s) + ∑ j ∈ Ico (s + 1) 8192, cL q k tr r j) else 0

/-- The weight times its gradient. -/
def cG (r s : ℕ) : ℝ := cW q k tr r s * Z d v r s

/-- The score's gradient. -/
def cDA (r s : ℕ) : ℝ := if s < tr r then cG q d k v tr r s * (1 - Real.exp (Z q k r s - sp (Z q k r s)))
  - (∑ j ∈ range s, cG q d k v tr r j) * Real.exp (Z q k r s - sp (Z q k r s)) else 0

/-- The sums over the keys from `o` on. -/
def cl (A B : ℕ → ℕ → ℝ) (o : ℕ) : RSt where
  carry r := ∑ j ∈ Ico o 8192, cL q k tr r j
  seen r := ∑ j ∈ Ico o 8192, cG q d k v tr r j
  dq r l := ∑ j ∈ Ico o 8192, cDA q d k v tr r j * k j l
  dk x l := A x l + if o ≤ x then ∑ r : Fin 512, cDA q d k v tr r.val x * q r.val l else 0
  dv x l := B x l + if o ≤ x then ∑ r : Fin 512, cW q k tr r.val x * d r.val l else 0

theorem sum_block (f : ℕ → ℝ) (o : ℕ) (ho : o + 256 ≤ 8192) :
    ∑ j ∈ Ico (o + 256) 8192, f j + ∑ c : Fin 256, f (o + c.val) = ∑ j ∈ Ico o 8192, f j := by
  have h : ∑ c : Fin 256, f (o + c.val) = ∑ j ∈ Ico o (o + 256), f j := by
    rw [← Finset.sum_range (fun c => f (o + c)), Finset.sum_Ico_eq_sum_range f o, Nat.add_sub_cancel_left]
  rw [h, add_comm, Finset.sum_Ico_consecutive f (Nat.le_add_right o 256) ho]

theorem sum_gt (f : ℕ → ℝ) (o c : ℕ) (hc : c < 256) (ho : o + 256 ≤ 8192) :
    (∑ j : Fin 256, f (o + j.val) * (if c < j.val then 1 else 0)) + ∑ j ∈ Ico (o + 256) 8192, f j = ∑ j ∈ Ico (o + c + 1) 8192, f j := by
  have h : ∑ j : Fin 256, f (o + j.val) * (if c < j.val then 1 else 0) = ∑ j ∈ Ico (o + c + 1) (o + 256), f j := by
    rw [← Finset.sum_range (fun j => f (o + j) * (if c < j then 1 else 0))]
    simp only [mul_ite, mul_one, mul_zero]
    rw [← Finset.sum_filter, show (range 256).filter (fun j => c < j) = Ico (c + 1) 256 by ext; simp; omega, Finset.sum_Ico_add f,
      show c + 1 + o = o + c + 1 by omega, Nat.add_comm 256 o]
  rw [h, Finset.sum_Ico_consecutive f (by omega) ho]

theorem sum_ge (f : ℕ → ℝ) (o c : ℕ) (hc : c < 256) (ho : o + 256 ≤ 8192) :
    (∑ j : Fin 256, f (o + j.val) * (if c ≤ j.val then 1 else 0)) + ∑ j ∈ Ico (o + 256) 8192, f j = ∑ j ∈ Ico (o + c) 8192, f j := by
  have h : ∑ j : Fin 256, f (o + j.val) * (if c ≤ j.val then 1 else 0) = ∑ j ∈ Ico (o + c) (o + 256), f j := by
    rw [← Finset.sum_range (fun j => f (o + j) * (if c ≤ j then 1 else 0))]
    simp only [mul_ite, mul_one, mul_zero]
    rw [← Finset.sum_filter, show (range 256).filter (fun j => c ≤ j) = Ico c 256 by ext; simp; omega, Finset.sum_Ico_add f,
      Nat.add_comm c o, Nat.add_comm 256 o]
  rw [h, Finset.sum_Ico_consecutive f (by omega) ho]

section

variable (M : ℕ → ℕ → Prop) (o : ℕ) (hM : ∀ r c, c < 256 → (M r c ↔ o + c < tr r)) (ho : o + 256 ≤ 8192)

include hM

theorem LS_cl (r c : ℕ) (hc : c < 256) : LS M (Z q (fun c => k (o + c))) r c = cL q k tr r (o + c) := by
  unfold LS cL
  by_cases h : M r c
  · rw [if_pos h, if_pos ((hM r c hc).mp h)]; rfl
  · rw [if_neg h, if_neg (fun h' => h ((hM r c hc).mpr h'))]

include ho

theorem W_cl (r c : ℕ) (hc : c < 256) :
    W M (Z q (fun c => k (o + c))) (fun r => ∑ j ∈ Ico (o + 256) 8192, cL q k tr r j) r c = cW q k tr r (o + c) := by
  have hs : (∑ j : Fin 256, LS M (Z q (fun c => k (o + c))) r j.val * (if c < j.val then 1 else 0)) + ∑ j ∈ Ico (o + 256) 8192, cL q k tr r j
      = ∑ j ∈ Ico (o + c + 1) 8192, cL q k tr r j := by
    rw [← sum_gt _ o c hc ho]
    congr 1
    exact Finset.sum_congr rfl fun j _ => by rw [LS_cl q k tr M o hM r j.val j.isLt]
  unfold W cW
  by_cases h : M r c
  · rw [if_pos h, if_pos ((hM r c hc).mp h), add_assoc, hs]; rfl
  · rw [if_neg h, if_neg (fun h' => h ((hM r c hc).mpr h'))]

theorem G_cl (r c : ℕ) (hc : c < 256) :
    G M (Z q (fun c => k (o + c))) (Z d (fun c => v (o + c))) (fun r => ∑ j ∈ Ico (o + 256) 8192, cL q k tr r j) r c = cG q d k v tr r (o + c) := by
  unfold G
  rw [W_cl q k tr M o hM ho r c hc]
  rfl

theorem DA_cl (tot : ℕ → ℝ) (hT : ∀ r, tot r = ∑ j ∈ range 8192, cG q d k v tr r j) (r c : ℕ) (hc : c < 256) :
    DA M (Z q (fun c => k (o + c))) (Z d (fun c => v (o + c))) (fun r => ∑ j ∈ Ico (o + 256) 8192, cL q k tr r j)
      (fun r => ∑ j ∈ Ico (o + 256) 8192, cG q d k v tr r j) tot r c = cDA q d k v tr r (o + c) := by
  have hs : (∑ j : Fin 256, G M (Z q (fun c => k (o + c))) (Z d (fun c => v (o + c))) (fun r => ∑ j ∈ Ico (o + 256) 8192, cL q k tr r j) r j.val
      * (if c ≤ j.val then 1 else 0)) + ∑ j ∈ Ico (o + 256) 8192, cG q d k v tr r j = ∑ j ∈ Ico (o + c) 8192, cG q d k v tr r j := by
    rw [← sum_ge _ o c hc ho]
    congr 1
    exact Finset.sum_congr rfl fun j _ => by rw [G_cl q d k v tr M o hM ho r j.val j.isLt]
  have hb : tot r - ∑ j ∈ Ico (o + c) 8192, cG q d k v tr r j = ∑ j ∈ range (o + c), cG q d k v tr r j := by
    rw [hT, ← Finset.sum_range_add_sum_Ico _ (show o + c ≤ 8192 by omega), add_sub_cancel_right]
  unfold DA cDA
  by_cases h : M r c
  · rw [if_pos h, if_pos ((hM r c hc).mp h), hs, hb, G_cl q d k v tr M o hM ho r c hc]; rfl
  · rw [if_neg h, if_neg (fun h' => h ((hM r c hc).mpr h'))]

/-- One block more. -/
theorem rstep_cl (A B : ℕ → ℕ → ℝ) (tot : ℕ → ℝ) (hT : ∀ r, tot r = ∑ j ∈ range 8192, cG q d k v tr r j) :
    rstep M o k v q d tot (cl q d k v tr A B (o + 256)) = cl q d k v tr A B o := by
  unfold rstep cl
  simp only [RSt.mk.injEq]
  refine ⟨?_, ?_, ?_, ?_, ?_⟩
  · funext r
    rw [← sum_block _ o ho]
    congr 1
    exact Finset.sum_congr rfl fun c _ => LS_cl q k tr M o hM r c.val c.isLt
  · funext r
    rw [← sum_block _ o ho]
    congr 1
    exact Finset.sum_congr rfl fun c _ => G_cl q d k v tr M o hM ho r c.val c.isLt
  · funext r l
    rw [← sum_block _ o ho]
    congr 1
    exact Finset.sum_congr rfl fun c _ => by rw [DA_cl q d k v tr M o hM ho tot hT r c.val c.isLt]
  · funext x l
    by_cases hx : o ≤ x ∧ x < o + 256
    · rw [if_pos hx, if_neg (by omega), if_pos hx.1, add_zero]
      congr 1
      exact Finset.sum_congr rfl fun r _ => by
        rw [DA_cl q d k v tr M o hM ho tot hT r.val (x - o) (by omega), Nat.add_sub_cancel' hx.1]
    · rw [if_neg hx]
      by_cases h : o + 256 ≤ x
      · rw [if_pos h, if_pos (by omega)]
      · rw [if_neg h, if_neg (by omega)]
  · funext x l
    by_cases hx : o ≤ x ∧ x < o + 256
    · rw [if_pos hx, if_neg (by omega), if_pos hx.1, add_zero]
      congr 1
      exact Finset.sum_congr rfl fun r _ => by
        rw [W_cl q k tr M o hM ho r.val (x - o) (by omega), Nat.add_sub_cancel' hx.1]
    · rw [if_neg hx]
      by_cases h : o + 256 ≤ x
      · rw [if_pos h, if_pos (by omega)]
      · rw [if_neg h, if_neg (by omega)]

end

/-- A block masked out changes nothing. -/
theorem rstep_none (M : ℕ → ℕ → Prop) (hM : ∀ r c, ¬M r c) (o : ℕ) (tot : ℕ → ℝ) (R : RSt) : rstep M o k v q d tot R = R := by
  cases R
  unfold rstep
  simp [LS, G, W, DA, hM]

/-- Keys past every row add nothing. -/
theorem cl_top (A B : ℕ → ℕ → ℝ) (o : ℕ) (h : ∀ r, tr r ≤ o) : cl q d k v tr A B o = ⟨fun _ => 0, fun _ => 0, fun _ _ => 0, A, B⟩ := by
  have hL : ∀ r s, o ≤ s → cL q k tr r s = 0 := fun r s hs => if_neg (by have := h r; omega)
  have hW : ∀ r s, o ≤ s → cW q k tr r s = 0 := fun r s hs => if_neg (by have := h r; omega)
  have hD : ∀ r s, o ≤ s → cDA q d k v tr r s = 0 := fun r s hs => if_neg (by have := h r; omega)
  unfold cl
  simp only [RSt.mk.injEq]
  refine ⟨?_, ?_, ?_, ?_, ?_⟩
  · funext r; exact Finset.sum_eq_zero fun s hs => hL r s (Finset.mem_Ico.mp hs).1
  · funext r; exact Finset.sum_eq_zero fun s hs => by rw [cG, hW r s (Finset.mem_Ico.mp hs).1, zero_mul]
  · funext r l; exact Finset.sum_eq_zero fun s hs => by rw [hD r s (Finset.mem_Ico.mp hs).1, zero_mul]
  · funext x l
    split
    · rename_i hx; rw [Finset.sum_eq_zero fun r _ => by rw [hD _ x hx, zero_mul], add_zero]
    · exact add_zero _
  · funext x l
    split
    · rename_i hx; rw [Finset.sum_eq_zero fun r _ => by rw [hW _ x hx, zero_mul], add_zero]
    · exact add_zero _

end

end Cert.KernelIdeal.Attn

end
-- ==== Proof.Attn.Point.lean ====
/-
  A grid point of the attention gradient at real operands: its sums are whole.
-/
module

public import proofs.«01_k».proof.Proof.Attn.Sweep

@[expose] public section

set_option maxRecDepth 16384

noncomputable section

namespace Cert.KernelIdeal.Attn

open Cert.KernelIdeal Cert.KernelIdeal.Gen
open Idealize.ShloMosaic Idealize.ShloMosaic.TcCoe Idealize.SL.Sem
open Finset (Ico range)

theorem blk_congr (M : IVec S512x256 1) {off off' : Fin 2 → ℕ} (he : off = off') (h : ∀ a, off a + S256x128.size a ≤ S8192x128.size a)
    (h' : ∀ a, off' a + S256x128.size a ≤ S8192x128.size a) (K V : Vec Ideal S8192x128 .bf16) (e : Env Ideal) (s : St Ideal) :
    blk M off h K V e s = blk M off' h' K V e s := by
  subst he; rfl

theorem inb (o : ℕ) (ho : o + 256 ≤ 8192) (a : Fin 2) : (![o, 0] : Fin 2 → ℕ) a + S256x128.size a ≤ S8192x128.size a := by
  fin_cases a
  · exact ho
  · exact Nat.le_refl 128

theorem ld_rB (X : Vec Ideal S256x128 .f32) : View.ld X rB = X := View.ld_unit_zero (S := S256x128) (funext fun a => by fin_cases a <;> rfl) inb_S256x128_S256x128_0_0 X
theorem ld_rB' (X : Vec Ideal S256x128 .bf16) : View.ld X rB = X := View.ld_unit_zero (S := S256x128) (funext fun a => by fin_cases a <;> rfl) inb_S256x128_S256x128_0_0 X

/-- A point's row totals. -/
def rtot (xd xo : ℕ → ℕ → ℝ) (r : ℕ) : ℝ := ∑ l : Fin 128, stack (fun r l => xd r l * xo r l) r l.val

theorem env_eq (x xd xo : ℕ → ℕ → ℝ) :
    env (F := Ideal) (up (a := 256) (b := 128) (φ := .bf16) x) (up (a := 256) (b := 128) (φ := .bf16) xd) (up (a := 256) (b := 128) (φ := .f32) xo)
      = renv (stack x) (stack xd) (rtot xd xo) := by
  unfold env renv
  simp only [ld_rB, ld_rB', pay20_eq, pay19_up, pay21_up]
  rfl

section

variable (q d k v : ℕ → ℕ → ℝ) (A B : ℕ → ℕ → ℝ) (tot : ℕ → ℝ)

theorem blk_cl (tr : ℕ → ℕ) (hT : ∀ r, tot r = ∑ j ∈ range 8192, cG q d k v tr r j) (M : ℕ → ℕ → Prop) (o : ℕ)
    (hM : ∀ r c, c < 256 → (M r c ↔ o + c < tr r)) (ho : o + 256 ≤ 8192) (s : St Ideal) (h : Is s (cl q d k v tr A B (o + 256))) :
    Is (blk (bits M) ![o, 0] (inb o ho) (up (a := 8192) (b := 128) (φ := .bf16) k) (up (a := 8192) (b := 128) (φ := .bf16) v) (renv q d tot) s)
      (cl q d k v tr A B o) := by
  rw [← rstep_cl q d k v tr M o hM ho A B tot hT]
  exact blk_is _ _ _ _ _ _ _ _ _ _ h _

theorem blk_none (M : ℕ → ℕ → Prop) (hM : ∀ r c, ¬M r c) (o : ℕ) (ho : o + 256 ≤ 8192) (s : St Ideal) (R : RSt) (h : Is s R) :
    Is (blk (bits M) ![o, 0] (inb o ho) (up (a := 8192) (b := 128) (φ := .bf16) k) (up (a := 8192) (b := 128) (φ := .bf16) v) (renv q d tot) s) R := by
  have := blk_is M o (inb o ho) k v q d tot s R h s.mx
  rw [rstep_none q d k v M hM] at this
  exact this

theorem loop_is (tr : ℕ → ℕ) (hT : ∀ r, tot r = ∑ j ∈ range 8192, cG q d k v tr r j) :
    ∀ n, n < 32 → (∀ r, 256 * n ≤ tr r) → ∀ s : St Ideal, Is s (cl q d k v tr A B (256 * n)) →
      Is (loop (up (a := 8192) (b := 128) (φ := .bf16) k) (up (a := 8192) (b := 128) (φ := .bf16) v) (renv q d tot) n s) (cl q d k v tr A B 0)
  | 0, _, _, s, h => h
  | n + 1, hn, hr, s, h => by
    have hc : k0_chk1 (BitVec.ofNat 32 n) := chk_of_lt n (by omega)
    rw [loop, if_pos (goes_of h.mx), dif_pos hc]
    refine loop_is tr hT n (by omega) (fun r => by have := hr r; omega) _ ?_
    rw [stepL_eq, blk_congr _ (off3_eq n (by omega)) _ (inb (256 * n) (by omega)), mask_true]
    exact blk_cl q d k v A B tot tr hT _ _ (fun r c hc => ⟨fun _ => by have := hr r; omega, fun _ => trivial⟩) (by omega) s h

variable (i : grid0.Coords)

/-- The row a stacked row stands for. -/
def rowOf (i : grid0.Coords) (r : ℕ) : ℕ := 256 * (i 1).val + r % 256

theorem sweep_is (hT : ∀ r, tot r = ∑ j ∈ range 8192, cG q d k v (rowOf i) r j) (dk dv : Vec Ideal S8192x128 .f32)
    (hA : dk = up (a := 8192) (b := 128) (φ := .f32) A) (hB : dv = up (a := 8192) (b := 128) (φ := .f32) B) :
    Is (loop (up (a := 8192) (b := 128) (φ := .bf16) k) (up (a := 8192) (b := 128) (φ := .bf16) v) (renv q d tot) ((i 1).val - 1)
      (second i (up (a := 8192) (b := 128) (φ := .bf16) k) (up (a := 8192) (b := 128) (φ := .bf16) v) (renv q d tot)
        (first i (up (a := 8192) (b := 128) (φ := .bf16) k) (up (a := 8192) (b := 128) (φ := .bf16) v) (renv q d tot) dk dv)))
      (cl q d k v (rowOf i) A B 0) := by
  have hi : (i 1).val < 32 := (i 1).isLt
  have h0 : Is ⟨0, k0_pay22, k0_pay22, k0_pay23, dk, dv⟩ (cl q d k v (rowOf i) A B (256 * (i 1).val + 256)) := by
    rw [cl_top _ _ _ _ _ _ _ _ (fun r => by unfold rowOf; omega)]
    refine ⟨EReal.bot_lt_zero, ?_, ?_, ?_, hA, hB⟩
    · funext y; pointwise [k0_pay22]; rfl
    · funext y; pointwise [k0_pay22]; rfl
    · funext y; pointwise [k0_pay23]; rfl
  have h1 : Is (first i (up (a := 8192) (b := 128) (φ := .bf16) k) (up (a := 8192) (b := 128) (φ := .bf16) v) (renv q d tot) dk dv)
      (cl q d k v (rowOf i) A B (256 * (i 1).val)) := by
    rw [first_eq, blk_congr _ (off1_eq i) _ (inb (256 * (i 1).val) (by omega)), mask_first]
    exact blk_cl q d k v A B tot _ hT _ _ (fun r c hc => by unfold rowOf; omega) (by omega) _ h0
  have h2 : Is (second i (up (a := 8192) (b := 128) (φ := .bf16) k) (up (a := 8192) (b := 128) (φ := .bf16) v) (renv q d tot)
      (first i (up (a := 8192) (b := 128) (φ := .bf16) k) (up (a := 8192) (b := 128) (φ := .bf16) v) (renv q d tot) dk dv))
      (cl q d k v (rowOf i) A B (256 * ((i 1).val - 1))) := by
    generalize first i (up (a := 8192) (b := 128) (φ := .bf16) k) (up (a := 8192) (b := 128) (φ := .bf16) v) (renv q d tot) dk dv = s at h1 ⊢
    rw [second_eq, blk_congr _ (off2_eq i) _ (inb (256 * ((i 1).val - 1)) (by omega)), mask_second _ hi]
    by_cases hp : 0 < (i 1).val
    · have e : 256 * (i 1).val = 256 * ((i 1).val - 1) + 256 := by omega
      exact blk_cl q d k v A B tot _ hT _ _ (fun r c hc => by unfold rowOf; omega) (by omega) s (by rw [← e]; exact h1)
    · have e : (i 1).val = (i 1).val - 1 := by omega
      exact blk_none q d k v tot _ (fun _ _ => hp) _ (by omega) s _ (by rw [← e]; exact h1)
  exact loop_is q d k v A B tot (rowOf i) hT _ (by omega) (fun r => by unfold rowOf; omega) _ h2

theorem dk0_first (h : isFirst i) (dk : Vec Ideal S8192x128 .f32) : dk0 i dk = up (a := 8192) (b := 128) (φ := .f32) (fun _ _ => 0) := by
  refine (if_pos h).trans ?_
  funext y
  obtain ⟨x, rfl⟩ := rC_full y
  refine (Rect.overlay_emb _ _ _ _).trans ?_
  pointwise [k0_pay14]; rfl

theorem dv0_first (h : isFirst i) (dv : Vec Ideal S8192x128 .f32) : dv0 i dv = up (a := 8192) (b := 128) (φ := .f32) (fun _ _ => 0) := by
  refine (if_pos h).trans ?_
  funext y
  obtain ⟨x, rfl⟩ := rC_full y
  refine (Rect.overlay_emb _ _ _ _).trans ?_
  pointwise [k0_pay15]; rfl

/-- The point's sums, over what it starts from. -/
theorem point_is (x xd xo : ℕ → ℕ → ℝ) (hT : ∀ r, rtot xd xo r = ∑ j ∈ range 8192, cG (stack x) (stack xd) k v (rowOf i) r j)
    (dk dv : Vec Ideal S8192x128 .f32) (hA : dk0 i dk = up (a := 8192) (b := 128) (φ := .f32) A) (hB : dv0 i dv = up (a := 8192) (b := 128) (φ := .f32) B) :
    Is (point i (up (a := 256) (b := 128) (φ := .bf16) x) (up (a := 8192) (b := 128) (φ := .bf16) k) (up (a := 8192) (b := 128) (φ := .bf16) v)
      (up (a := 256) (b := 128) (φ := .bf16) xd) (up (a := 256) (b := 128) (φ := .f32) xo) dk dv)
      (cl (stack x) (stack xd) k v (rowOf i) A B 0) := by
  unfold point
  rw [env_eq]
  exact sweep_is _ _ k v A B _ i hT _ _ hA hB

end

end Cert.KernelIdeal.Attn

end
-- ==== Proof.Attn.Window.lean ====
/-
  The host's running sums along the last axis, in reals: a window padded high sums from an element on, one padded low
  sums up to it.
-/
module

public import proofs.«01_k».proof.Proof.Attn.Pay

@[expose] public section

set_option maxRecDepth 16384

noncomputable section

namespace Cert.KernelIdeal.Attn

open Idealize.ShloMosaic Idealize.ShloMosaic.TcCoe Idealize.SL.Sem
open Finset (Ico range)

/-- A rank-three array of reals. -/
def up3 {a b d : ℕ} {φ : FTy} (f : ℕ → ℕ → ℕ → ℝ) : FVec Ideal ⟨3, ![a, b, d]⟩ φ :=
  fun y => ((f (y 0).val (y 1).val (y 2).val : ℝ) : EReal)

theorem up3_ix3 {a b d : ℕ} {φ : FTy} (f : ℕ → ℕ → ℕ → ℝ) (i : Fin a) (j : Fin b) (l : Fin d) :
    up3 (φ := φ) f (ix3 i j l) = ((f i.val j.val l.val : ℝ) : EReal) := rfl

theorem foldl_sum {ι : Type} (g : ι → EReal) (l : List ι) (v : EReal) : l.foldl (fun r n => r + g n) v = v + (l.map g).sum := by
  induction l generalizing v with
  | nil => simp
  | cons n l ih => rw [List.foldl_cons, ih, List.map_cons, List.sum_cons, add_assoc]

/-- A window along the last axis is the sum over its positions. -/
theorem window_sum {A B N L H : ℕ} (x : FVec Ideal ⟨3, ![A, B, N]⟩ .f32) (h : (⟨3, ![A, B, N]⟩ : Shape).ReduceWindows
      (![1, 1, N] : Fin 3 → ℕ) ![1, 1, 1] ![0, 0, L] ![0, 0, H] ⟨3, ![A, B, N]⟩) (a : Fin A) (b : Fin B) (s : Fin N) :
    Host.reduceWindow (s := ⟨3, ![A, B, N]⟩) (t := ⟨3, ![A, B, N]⟩) (u := ⟨0, ![]⟩) (· + ·) ![1, 1, N] ![1, 1, 1] ![0, 0, L] ![0, 0, H] x
        (fun _ : (⟨0, ![]⟩ : Shape).Idx => (0 : EReal)) h (by decide) (ix3 a b s)
      = ∑ n : Fin N, if hn : L ≤ s.val + n.val ∧ s.val + n.val - L < N then x (ix3 a b ⟨s.val + n.val - L, hn.2⟩) else 0 := by
  unfold Host.reduceWindow
  dsimp only
  rw [foldl_sum, zero_add, ← Fin.sum_univ_def]
  rw [← Fintype.sum_equiv (Shape.rowMajor ⟨3, ![1, 1, N]⟩) _ _ (fun w => rfl), sum_idx3]
  simp only [Equiv.symm_apply_apply, Fin.sum_univ_one, Finset.univ_unique, Finset.sum_singleton]
  refine Finset.sum_congr rfl fun n _ => ?_
  have hz : ∀ q : Fin 1, q.val = 0 := fun q => by omega
  by_cases hn : L ≤ s.val + n.val ∧ s.val + n.val - L < N
  · rw [dif_pos hn, dif_pos (fun e => by
      match e with
      | ⟨0, _⟩ => exact ⟨Nat.zero_le _, show a.val * 1 + 0 - 0 < A by omega⟩
      | ⟨1, _⟩ => exact ⟨Nat.zero_le _, show b.val * 1 + 0 - 0 < B by omega⟩
      | ⟨2, _⟩ => exact ⟨show L ≤ s.val * 1 + n.val by omega, show s.val * 1 + n.val - L < N by omega⟩)]
    refine congrArg x (funext fun e => Fin.ext ?_)
    match e with
    | ⟨0, _⟩ => show a.val * 1 + 0 - 0 = a.val; omega
    | ⟨1, _⟩ => show b.val * 1 + 0 - 0 = b.val; omega
    | ⟨2, _⟩ => show s.val * 1 + n.val - L = s.val + n.val - L; omega
  · rw [dif_neg hn, dif_neg (fun hin => hn (by
      have h2 := hin 2
      change L ≤ s.val * 1 + n.val ∧ s.val * 1 + n.val - L < N at h2
      omega))]

/-- Padded high, it sums from an element on. -/
theorem window_from {A B : ℕ} (f : ℕ → ℕ → ℕ → ℝ) (h : (⟨3, ![A, B, 8192]⟩ : Shape).ReduceWindows
      (![1, 1, 8192] : Fin 3 → ℕ) ![1, 1, 1] ![0, 0, 0] ![0, 0, 8191] ⟨3, ![A, B, 8192]⟩) (a : Fin A) (b : Fin B) (s : Fin 8192) :
    Host.reduceWindow (s := ⟨3, ![A, B, 8192]⟩) (t := ⟨3, ![A, B, 8192]⟩) (u := ⟨0, ![]⟩) (· + ·) ![1, 1, 8192] ![1, 1, 1] ![0, 0, 0]
        ![0, 0, 8191] (up3 (φ := .f32) f) (fun _ : (⟨0, ![]⟩ : Shape).Idx => (0 : EReal)) h (by decide) (ix3 a b s)
      = ((∑ j ∈ Ico s.val 8192, f a.val b.val j : ℝ) : EReal) := by
  have hs := s.isLt
  rw [window_sum]
  have e : ∀ n : Fin 8192, (if hn : 0 ≤ s.val + n.val ∧ s.val + n.val - 0 < 8192
        then up3 (a := A) (b := B) (d := 8192) (φ := .f32) f (ix3 a b ⟨s.val + n.val - 0, hn.2⟩) else (0 : EReal))
      = ((if s.val + n.val < 8192 then f a.val b.val (s.val + n.val) else 0 : ℝ) : EReal) := fun n => by
    by_cases hn : s.val + n.val < 8192
    · rw [dif_pos ⟨Nat.zero_le _, hn⟩, if_pos hn, up3_ix3]; rfl
    · rw [dif_neg (fun h' => hn h'.2), if_neg hn, EReal.coe_zero]
  rw [Finset.sum_congr rfl fun n _ => e n, coe_sum, EReal.coe_eq_coe_iff, ← Finset.sum_range (fun n => if s.val + n < 8192 then f a.val b.val (s.val + n) else 0),
    ← Finset.sum_filter, show (range 8192).filter (fun n => s.val + n < 8192) = range (8192 - s.val) by ext; simp; omega,
    Finset.sum_Ico_eq_sum_range]

/-- Padded low, it sums up to an element. -/
theorem window_upto {A B : ℕ} (f : ℕ → ℕ → ℕ → ℝ) (h : (⟨3, ![A, B, 8192]⟩ : Shape).ReduceWindows
      (![1, 1, 8192] : Fin 3 → ℕ) ![1, 1, 1] ![0, 0, 8191] ![0, 0, 0] ⟨3, ![A, B, 8192]⟩) (a : Fin A) (b : Fin B) (s : Fin 8192) :
    Host.reduceWindow (s := ⟨3, ![A, B, 8192]⟩) (t := ⟨3, ![A, B, 8192]⟩) (u := ⟨0, ![]⟩) (· + ·) ![1, 1, 8192] ![1, 1, 1] ![0, 0, 8191]
        ![0, 0, 0] (up3 (φ := .f32) f) (fun _ : (⟨0, ![]⟩ : Shape).Idx => (0 : EReal)) h (by decide) (ix3 a b s)
      = ((∑ j ∈ range (s.val + 1), f a.val b.val j : ℝ) : EReal) := by
  have hs := s.isLt
  rw [window_sum]
  have e : ∀ n : Fin 8192, (if hn : 8191 ≤ s.val + n.val ∧ s.val + n.val - 8191 < 8192
        then up3 (a := A) (b := B) (d := 8192) (φ := .f32) f (ix3 a b ⟨s.val + n.val - 8191, hn.2⟩) else (0 : EReal))
      = ((if 8191 ≤ s.val + n.val then f a.val b.val (s.val + n.val - 8191) else 0 : ℝ) : EReal) := fun n => by
    have h0 := n.isLt
    by_cases hn : 8191 ≤ s.val + n.val
    · rw [dif_pos ⟨hn, by omega⟩, if_pos hn, up3_ix3]
    · rw [dif_neg (fun h' => hn h'.1), if_neg hn, EReal.coe_zero]
  rw [Finset.sum_congr rfl fun n _ => e n, coe_sum, EReal.coe_eq_coe_iff,
    ← Finset.sum_range (fun n => if 8191 ≤ s.val + n then f a.val b.val (s.val + n - 8191) else 0),
    ← Finset.sum_filter, show (range 8192).filter (fun n => 8191 ≤ s.val + n) = Ico (8191 - s.val) 8192 by ext; simp; omega,
    Finset.sum_Ico_eq_sum_range, show 8192 - (8191 - s.val) = s.val + 1 by omega]
  exact Finset.sum_congr rfl fun n _ => by rw [show s.val + (8191 - s.val + n) - 8191 = n by omega]

end Cert.KernelIdeal.Attn

end
-- ==== Proof.Attn.Ref.lean ====
/-
  The reference's scores, weights and attention in reals.
-/
module

public import proofs.«01_k».proof.Proof.Attn.Window
public import proofs.«01_k».proof.Proof.Gen.ReferenceIdeal.Read

@[expose] public section

set_option maxRecDepth 16384

noncomputable section

namespace Cert.KernelIdeal.Attn

open Cert.ReferenceIdeal Cert.ReferenceIdeal.Read
open Idealize.ShloMosaic Idealize.ShloMosaic.TcCoe Idealize.SL.Sem
open Finset (Ico range)

section

variable (z u : ℕ → ℕ → ℝ)

/-- What position `t` leaves over at key `s`, in logarithms. -/
def sL (t s : ℕ) : ℝ := if s < t then 0 - sp (z t s) else 0

/-- The attention weight. -/
def sW (t s : ℕ) : ℝ := if s < t then Real.exp (z t s - sp (z t s) + ∑ j ∈ Ico (s + 1) 8192, sL z t j) else 0

/-- The weight times its gradient. -/
def sG (t s : ℕ) : ℝ := sW z t s * u t s

/-- The score's gradient. -/
def sDA (t s : ℕ) : ℝ := if s < t then sG z u t s * (1 - Real.exp (z t s - sp (z t s)))
  - (∑ j ∈ range s, sG z u t j) * Real.exp (z t s - sp (z t s)) else 0

theorem sp_neg (x : ℝ) : sp (-x) = sp x - x := by
  unfold sp
  rw [abs_neg]
  rcases le_total 0 x with h | h
  · rw [max_eq_right (by linarith : -x ≤ 0), max_eq_left h]; ring
  · rw [max_eq_left (by linarith : 0 ≤ -x), max_eq_right h]; ring

theorem sp_log (x : ℝ) : sp x = Real.log (1 + Real.exp x) := by
  have h : ∀ y : ℝ, 0 ≤ y → sp y = Real.log (1 + Real.exp y) := fun y hy => by
    unfold sp
    have e : 1 + Real.exp y = Real.exp y * (1 + Real.exp (0 - |y|)) := by
      rw [abs_of_nonneg hy, mul_add, mul_one, ← Real.exp_add, add_sub_cancel, Real.exp_zero, add_comm]
    rw [max_eq_left hy, e, Real.log_mul (Real.exp_pos y).ne' (by positivity), Real.log_exp]
  rcases le_total 0 x with hx | hx
  · exact h x hx
  · have h' := h (-x) (by linarith)
    have e : 1 + Real.exp x = Real.exp x * (1 + Real.exp (-x)) := by
      rw [mul_add, mul_one, ← Real.exp_add, add_neg_cancel, Real.exp_zero, add_comm]
    rw [sp_neg] at h'
    rw [e, Real.log_mul (Real.exp_pos x).ne' (by positivity), Real.log_exp, ← h']
    ring

/-- The two residuals of a score add up to one. -/
theorem exp_neg_sp (x : ℝ) : Real.exp (-x - sp (-x)) = 1 - Real.exp (x - sp x) := by
  have hp : 0 < 1 + Real.exp x := by positivity
  rw [sp_neg, show -x - (sp x - x) = -sp x by ring, Real.exp_neg, Real.exp_sub, sp_log, Real.exp_log hp]
  field_simp
  ring

end

section

variable (q k v d : ℕ → ℕ → ℝ)

/-- The scores of a head. -/
def zH (n t s : ℕ) : ℝ := (∑ l : Fin 64, q t (64 * n + l.val) * k s (64 * n + l.val)) * (1 / 8)

/-- The weights' gradients of a head. -/
def uH (n t s : ℕ) : ℝ := ∑ l : Fin 64, d t (64 * n + l.val) * v s (64 * n + l.val)

abbrev A8 (f : ℕ → ℕ → ℝ) : FVec Ideal S8192x1024 .f32 := up (a := 8192) (b := 1024) f

abbrev H3 (f : ℕ → ℕ → ℕ → ℝ) : FVec Ideal S16x8192x64 .f32 := up3 (a := 16) (b := 8192) (d := 64) f

abbrev R3 (f : ℕ → ℕ → ℕ → ℝ) : FVec Ideal S16x8192x8192 .f32 := up3 (a := 16) (b := 8192) (d := 8192) f

theorem sp_host (x : ℝ) : (if ((x : ℝ) : EReal) ≠ ((x : ℝ) : EReal) then ((x : ℝ) : EReal) else max ((x : ℝ) : EReal) 0
    + Ideal.log1p (Ideal.exp (-FloatOps.absf (F := Ideal) (φ := .f32) ((x : ℝ) : EReal)))) = ((sp x : ℝ) : EReal) := by
  rw [if_neg (fun h => h rfl), ← sp_coe, zero_sub]
  rfl

theorem v1_up : val_main_v1 (F := Ideal) (A8 q) = H3 (fun n t l => q t (64 * n + l)) := by
  funext y
  have h0 : (y 0).val < 16 := (y 0).isLt
  have h1 : (y 1).val < 8192 := (y 1).isLt
  have h2 : (y 2).val < 64 := (y 2).isLt
  rw [val_main_v1_apply, val_main_v0_apply]
  refine congrArg (fun x : ℝ => (x : EReal)) (congrArg₂ q ?_ ?_)
  · show (((y 1).val * 16 + (y 0).val) * 64 + (y 2).val) / 1024 = (y 1).val; omega
  · show (((y 1).val * 16 + (y 0).val) * 64 + (y 2).val) % 1024 = 64 * (y 0).val + (y 2).val; omega

theorem v3_up : val_main_v3 (F := Ideal) (A8 q) = H3 (fun n t l => q t (64 * n + l)) := v1_up q

theorem v5_up : val_main_v5 (F := Ideal) (A8 q) = H3 (fun n t l => q t (64 * n + l)) := v1_up q

theorem v28_up : val_main_v28 (F := Ideal) (A8 q) = H3 (fun n t l => q t (64 * n + l)) := v1_up q

theorem v8_up : val_main_v8 (F := Ideal) (A8 q) (A8 k) = R3 (zH q k) := by
  funext y
  idx_vars y
  pointwise [val_main_v8, val_main_v6, val_main_v7, val_main_cst, v1_up, v3_up]
  simp only [up3_ix3, ofBits_eighth, ← EReal.coe_mul, coe_sum]
  rfl

theorem v31_up : val_main_v31 (F := Ideal) (A8 v) (A8 d) = R3 (uH v d) := by
  funext y
  idx_vars y
  pointwise [val_main_v31, v28_up, v5_up]
  simp only [up3_ix3, ofBits_eighth, ← EReal.coe_mul, coe_sum]
  rfl

theorem v14_eq (y : S16x8192x8192.Idx) : val_main_v17_1 (F := Ideal) y = if (y 2).val < (y 1).val then 1#1 else 0#1 := by
  pointwise [val_main_v17_1, val_main_v14, val_main_v13, val_main_v12, val_main_v11, val_main_v10, val_main_v9]
  have h1 : (y 1).val < 8192 := (y 1).isLt
  have h2 : (y 2).val < 8192 := (y 2).isLt
  word_cmp
  split <;> rename_i h <;> simp only [h, decide_true, decide_false] <;> rfl

theorem v23_1_eq (y : S16x8192x8192.Idx) : val_main_v23_1 (F := Ideal) y = if (y 2).val < (y 1).val then 1#1 else 0#1 := v14_eq y

theorem v16_0_up : val_main_v16_0 (F := Ideal) (A8 q) (A8 k) = R3 (fun n t s => -sp (zH q k n t s)) := by
  funext y
  idx_vars y
  pointwise [val_main_v16_0, val_main_call0_v1_0, val_main_call0_call0_v11, val_main_call0_call0_v10,
    val_main_call0_call0_v9, val_main_call0_call0_v8, val_main_call0_call0_v7, val_main_call0_call0_v6,
    val_main_call0_call0_v5, val_main_call0_call0_v4, val_main_call0_call0_v3, val_main_call0_call0_v2,
    val_main_call0_call0_v1, val_main_call0_call0_v0, val_main_call0_call0_cst, val_main_call0_v0, val_main_v15,
    v8_up]
  simp only [up3_ix3, neg_neg, sp_host, ← EReal.coe_neg]

/-- The residual of a score's softplus. -/
theorem res_host (x : ℝ) : Ideal.exp ((if ((x : ℝ) : EReal) = ⊤ then 0 else ((x : ℝ) : EReal)) - (if ((sp x : ℝ) : EReal) = ⊤ then 0 else ((sp x : ℝ) : EReal)))
    = ((Real.exp (x - sp x) : ℝ) : EReal) := by
  rw [if_neg (EReal.coe_ne_top x), if_neg (EReal.coe_ne_top _), ← EReal.coe_sub, Ideal.exp_coe]

theorem v16_1_up : val_main_v16_1 (F := Ideal) (A8 q) (A8 k) = R3 (fun n t s => Real.exp (zH q k n t s - sp (zH q k n t s))) := by
  funext y
  idx_vars y
  pointwise [val_main_v16_1, val_main_call0_call0_v21, val_main_call0_call0_v20, val_main_call0_call0_v19,
    val_main_call0_call0_v18, val_main_call0_call0_v17, val_main_call0_call0_v16, val_main_call0_call0_v15,
    val_main_call0_call0_v14, val_main_call0_call0_v13, val_main_call0_call0_cst_0, val_main_call0_call0_cst_1,
    val_main_call0_call0_cst_2, val_main_call0_call0_cst_3, val_main_call0_v1_0, val_main_call0_call0_v11,
    val_main_call0_call0_v10, val_main_call0_call0_v9, val_main_call0_call0_v8, val_main_call0_call0_v7,
    val_main_call0_call0_v6, val_main_call0_call0_v5, val_main_call0_call0_v4, val_main_call0_call0_v3,
    val_main_call0_call0_v2, val_main_call0_call0_v1, val_main_call0_call0_v0, val_main_call0_call0_cst,
    val_main_call0_v0, val_main_v15, v8_up]
  simp only [up3_ix3, neg_neg, sp_host, ← EReal.coe_neg]
  exact res_host _

theorem v20_0_up : val_main_v20_0 (F := Ideal) (A8 q) (A8 k) = R3 (fun n t s => zH q k n t s - sp (zH q k n t s)) := by
  funext y
  idx_vars y
  pointwise [val_main_v20_0, val_main_call3_v1_0, val_main_call3_call0_v11, val_main_call3_call0_v10,
    val_main_call3_call0_v9, val_main_call3_call0_v8, val_main_call3_call0_v7, val_main_call3_call0_v6,
    val_main_call3_call0_v5, val_main_call3_call0_v4, val_main_call3_call0_v3, val_main_call3_call0_v2,
    val_main_call3_call0_v1, val_main_call3_call0_v0, val_main_call3_call0_cst, val_main_call3_v0, v8_up]
  simp only [up3_ix3, ← EReal.coe_neg]
  refine (congrArg (fun e : EReal => -e) (sp_host _)).trans ?_
  rw [← EReal.coe_neg, sp_neg, neg_sub]

theorem v20_1_up : val_main_v20_1 (F := Ideal) (A8 q) (A8 k) = R3 (fun n t s => 1 - Real.exp (zH q k n t s - sp (zH q k n t s))) := by
  funext y
  idx_vars y
  pointwise [val_main_v20_1, val_main_call3_call0_v21, val_main_call3_call0_v20, val_main_call3_call0_v19,
    val_main_call3_call0_v18, val_main_call3_call0_v17, val_main_call3_call0_v16, val_main_call3_call0_v15,
    val_main_call3_call0_v14, val_main_call3_call0_v13, val_main_call3_call0_cst_0, val_main_call3_call0_cst_1,
    val_main_call3_call0_cst_2, val_main_call3_call0_cst_3, val_main_call3_v1_0, val_main_call3_call0_v11,
    val_main_call3_call0_v10, val_main_call3_call0_v9, val_main_call3_call0_v8, val_main_call3_call0_v7,
    val_main_call3_call0_v6, val_main_call3_call0_v5, val_main_call3_call0_v4, val_main_call3_call0_v3,
    val_main_call3_call0_v2, val_main_call3_call0_v1, val_main_call3_call0_v0, val_main_call3_call0_cst,
    val_main_call3_v0, v8_up]
  simp only [up3_ix3, ← EReal.coe_neg]
  rw [← exp_neg_sp]
  refine Eq.trans ?_ (res_host _)
  rw [← sp_host]
  rfl

theorem mask_sel {x y : EReal} {t s : ℕ} : Scalar.select (if s < t then 1#1 else 0#1 : BitVec 1) x y = if s < t then x else y := by
  split <;> rfl

theorem zero_id : (id (constant (F := Ideal) Cert.ReferenceIdeal.S_ .f32 0x00000000#32) ix0 : EReal) = ((0 : ℝ) : EReal) := by
  have h : (constant (F := Ideal) Cert.ReferenceIdeal.S_ .f32 0x00000000#32) ix0 = (0 : EReal) := by pointwise []
  exact h.trans EReal.coe_zero.symm

theorem v17_0_up : val_main_v17_0 (F := Ideal) (A8 q) (A8 k) = R3 (fun n => sL (zH q k n)) := by
  funext y
  idx_vars y
  rw [val_main_v17_0_apply, v14_eq, mask_sel, v16_0_up]
  pointwise [val_main_call1_v2, val_main_call1_v0, val_main_cst_0]
  have e : ∀ x : ℝ, 0 - sp x = -sp x := fun x => zero_sub _
  simp only [up3_ix3, sL, e]
  rw [zero_id]
  exact coe_ite (y2.val < y1.val) (-sp _) 0

theorem v18_up : val_main_v18 (F := Ideal) (A8 q) (A8 k) = R3 (fun n t s => ∑ j ∈ Ico s 8192, sL (zH q k n) t j) := by
  have h0 : val_main_call2_v0 (F := Ideal) (Shape.Idx.first (by decide)) = (0 : EReal) := by pointwise [val_main_call2_v0, val_main_call2_cst]
  unfold val_main_v18 Host.reduceWindowAdd
  rw [v17_0_up, h0, Ideal.hostReduceWindowAdd_def]
  funext y
  idx_vars y
  exact window_from (A := 16) (B := 8192) _ _ y0 y1 y2

theorem v22_up : val_main_v22 (F := Ideal) (A8 q) (A8 k) = R3 (fun n t s => Real.exp (zH q k n t s - sp (zH q k n t s)
    + (∑ j ∈ Ico s 8192, sL (zH q k n) t j - sL (zH q k n) t s))) := by
  funext y
  idx_vars y
  pointwise [val_main_v22, val_main_v21, val_main_v19, v18_up, v17_0_up, v20_0_up]
  simp only [up3_ix3, ← EReal.coe_add, ← EReal.coe_sub, Ideal.exp_coe]

theorem suffix (f : ℕ → ℝ) (s : ℕ) (hs : s < 8192) : ∑ j ∈ Ico s 8192, f j - f s = ∑ j ∈ Ico (s + 1) 8192, f j := by
  rw [Finset.sum_eq_sum_Ico_succ_bot hs, add_sub_cancel_left]

theorem v23_0_up : val_main_v23_0 (F := Ideal) (A8 q) (A8 k) = R3 (fun n => sW (zH q k n)) := by
  funext y
  idx_vars y
  have h2 := y2.isLt
  rw [val_main_v23_0_apply, v23_1_eq, mask_sel, v22_up]
  pointwise [val_main_call4_v2, val_main_call4_v0, val_main_cst_1]
  have e := suffix (sL (zH q k y0.val) y1.val) y2.val h2
  simp only [up3_ix3, sW, e]
  rw [zero_id]
  exact coe_ite (y2.val < y1.val) (Real.exp _) 0

/-- A head's attention. -/
theorem v24_up : val_main_v24 (F := Ideal) (A8 q) (A8 k) (A8 v) = H3 (fun n t l => ∑ s : Fin 8192, sW (zH q k n) t s.val * v s.val (64 * n + l)) := by
  funext y
  idx_vars y
  pointwise [val_main_v24, v23_0_up, v5_up]
  simp only [up3_ix3, ← EReal.coe_mul, coe_sum]

/-- An array of heads, laid side by side again. -/
theorem unheads (f : ℕ → ℕ → ℕ → ℝ) (y : S8192x1024.Idx) :
    H3 (fun n t l => f n t (64 * n + l)) (idx_main_v25 (idx_main_v26 y)) = A8 (fun t col => f (col / 64) t col) y := by
  have h0 : (y 0).val < 8192 := (y 0).isLt
  have h1 : (y 1).val < 1024 := (y 1).isLt
  have e1 : ((y 0).val * 1024 + (y 1).val) / 64 % 16 = (y 1).val / 64 := by omega
  have e0 : ((y 0).val * 1024 + (y 1).val) / 1024 = (y 0).val := by omega
  have e2 : 64 * ((y 1).val / 64) + ((y 0).val * 1024 + (y 1).val) % 64 = (y 1).val := by omega
  show ((f (((y 0).val * 1024 + (y 1).val) / 64 % 16) (((y 0).val * 1024 + (y 1).val) / 1024)
    (64 * (((y 0).val * 1024 + (y 1).val) / 64 % 16) + ((y 0).val * 1024 + (y 1).val) % 64) : ℝ) : EReal) = _
  rw [e1, e0, e2]
  rfl

theorem v26_up : val_main_v26 (F := Ideal) (A8 q) (A8 k) (A8 v)
    = A8 (fun t col => ∑ s : Fin 8192, sW (zH q k (col / 64)) t s.val * v s.val col) := by
  funext y
  have h0 : (y 0).val < 8192 := (y 0).isLt
  have h1 : (y 1).val < 1024 := (y 1).isLt
  rw [val_main_v26_apply, val_main_v25_apply, v24_up]
  exact unheads (fun n t col => ∑ s : Fin 8192, sW (zH q k n) t s.val * v s.val col) y

theorem v33_up : val_main_v33 (F := Ideal) (A8 q) (A8 k) (A8 v) (A8 d) = R3 (fun n => sG (zH q k n) (uH v d n)) := by
  funext y
  idx_vars y
  rw [val_main_v33_apply, val_main_v32_apply, v23_1_eq, mask_sel, v22_up, v31_up]
  pointwise [val_main_call5_v0, val_main_call5_cst]
  have h2 := y2.isLt
  have e := suffix (sL (zH q k y0.val) y1.val) y2.val h2
  simp only [up3_ix3, sG, sW, e]
  split
  · rw [← EReal.coe_mul, mul_comm]
  · rw [zero_mul, zero_mul, EReal.coe_zero]

theorem v36_up : val_main_v36 (F := Ideal) (A8 q) (A8 k) (A8 v) (A8 d) = R3 (fun n t s => ∑ j ∈ range (s + 1), sG (zH q k n) (uH v d n) t j) := by
  have h0 : val_main_call7_v0 (F := Ideal) (Shape.Idx.first (by decide)) = (0 : EReal) := by pointwise [val_main_call7_v0, val_main_call7_cst]
  unfold val_main_v36 Host.reduceWindowAdd
  rw [v33_up, h0, Ideal.hostReduceWindowAdd_def]
  funext y
  idx_vars y
  exact window_upto (A := 16) (B := 8192) _ _ y0 y1 y2

theorem v43_up : val_main_v43 (F := Ideal) (A8 q) (A8 k) (A8 v) (A8 d) = R3 (fun n t s => sDA (zH q k n) (uH v d n) t s * (1 / 8)) := by
  funext y
  idx_vars y
  pointwise [val_main_v43, val_main_v42, val_main_cst_2, val_main_v41, val_main_v40, val_main_v39, val_main_call9_v1, val_main_call9_v0,
    val_main_v34, val_main_call6_v1, val_main_call6_v0, v33_up, v20_1_up, v16_1_up]
  rw [val_main_v38_apply, v14_eq, mask_sel]
  pointwise [val_main_v37, val_main_v35, v33_up, v36_up, val_main_call8_v0, val_main_call8_cst]
  simp only [up3_ix3, ofBits_eighth, sDA]
  split
  · rename_i h
    simp only [← EReal.coe_neg, ← EReal.coe_add, ← EReal.coe_mul]
    rw [Finset.sum_range_succ]
    congr 1
    ring
  · rename_i h
    have e : sG (zH q k y0.val) (uH v d y0.val) y1.val y2.val = 0 := by unfold sG sW; rw [if_neg h, zero_mul]
    rw [e]
    simp only [← EReal.coe_neg, neg_zero, ← EReal.coe_zero, ← EReal.coe_add, ← EReal.coe_mul]
    congr 1
    ring

/-- The query gradient. -/
theorem v51_up : val_main_v51 (F := Ideal) (A8 q) (A8 k) (A8 v) (A8 d)
    = A8 (fun t col => ∑ s : Fin 8192, sDA (zH q k (col / 64)) (uH v d (col / 64)) t s.val * (1 / 8) * k s.val col) := by
  have e : val_main_v45 (F := Ideal) (A8 q) (A8 k) (A8 v) (A8 d)
      = H3 (fun n t l => ∑ s : Fin 8192, sDA (zH q k n) (uH v d n) t s.val * (1 / 8) * k s.val (64 * n + l)) := by
    funext y
    idx_vars y
    pointwise [val_main_v45, v43_up, v3_up]
    simp only [up3_ix3, ← EReal.coe_mul, coe_sum]
  funext y
  rw [val_main_v51_apply, val_main_v50_apply, e]
  exact unheads (fun n t col => ∑ s : Fin 8192, sDA (zH q k n) (uH v d n) t s.val * (1 / 8) * k s.val col) y

/-- The key gradient. -/
theorem v49_up : val_main_v49 (F := Ideal) (A8 q) (A8 k) (A8 v) (A8 d)
    = A8 (fun s col => ∑ t : Fin 8192, sDA (zH q k (col / 64)) (uH v d (col / 64)) t.val s * (1 / 8) * q t.val col) := by
  have e : val_main_v44 (F := Ideal) (A8 q) (A8 k) (A8 v) (A8 d)
      = H3 (fun n s l => ∑ t : Fin 8192, sDA (zH q k n) (uH v d n) t.val s * (1 / 8) * q t.val (64 * n + l)) := by
    funext y
    idx_vars y
    pointwise [val_main_v44, v43_up, v1_up]
    simp only [up3_ix3, ← EReal.coe_mul, coe_sum]
  funext y
  rw [val_main_v49_apply, val_main_v48_apply, e]
  exact unheads (fun n s col => ∑ t : Fin 8192, sDA (zH q k n) (uH v d n) t.val s * (1 / 8) * q t.val col) y

/-- The value gradient. -/
theorem v47_up : val_main_v47 (F := Ideal) (A8 q) (A8 k) (A8 d)
    = A8 (fun s col => ∑ t : Fin 8192, sW (zH q k (col / 64)) t.val s * d t.val col) := by
  have e : val_main_v30 (F := Ideal) (A8 q) (A8 k) (A8 d)
      = H3 (fun n s l => ∑ t : Fin 8192, sW (zH q k n) t.val s * d t.val (64 * n + l)) := by
    funext y
    idx_vars y
    pointwise [val_main_v30, val_main_v29, v23_0_up, v28_up]
    simp only [up3_ix3, ← EReal.coe_mul, coe_sum]
    exact congrArg (fun x : ℝ => (x : EReal)) (Finset.sum_congr rfl fun t _ => mul_comm _ _)
  funext y
  rw [val_main_v47_apply, val_main_v46_apply, e]
  exact unheads (fun n s col => ∑ t : Fin 8192, sW (zH q k n) t.val s * d t.val col) y

end

end Cert.KernelIdeal.Attn

end
-- ==== Proof.Attn.Head.lean ====
/-
  A point's stacked rows are two heads: the sums of a point in terms of the heads.
-/
module

public import proofs.«01_k».proof.Proof.Attn.Point
public import proofs.«01_k».proof.Proof.Attn.Ref

@[expose] public section

set_option maxRecDepth 16384

noncomputable section

namespace Cert.KernelIdeal.Attn

open Idealize.ShloMosaic Idealize.ShloMosaic.TcCoe Idealize.SL.Sem
open Finset (Ico range)

/-- The head of a stacked row. -/
def hd (r : ℕ) : ℕ := if r < 256 then 0 else 1

theorem sum_halves (n : ℕ) (f : ℕ → ℝ) : ∑ l : Fin (n + n), f l.val = ∑ l : Fin n, f l.val + ∑ l : Fin n, f (n + l.val) := by
  rw [Fin.sum_univ_add]; rfl

theorem stack_sum (x : ℕ → ℕ → ℝ) (r : ℕ) : ∑ l : Fin 128, stack x r l.val = ∑ l : Fin 64, x (r % 256) (64 * hd r + l.val) := by
  refine (sum_halves 64 (fun l => stack x r l)).trans ?_
  have h1 : ∀ l : Fin 64, stack x r l.val = if r < 256 then x (r % 256) l.val else 0 := fun l => by
    unfold stack; rw [if_pos l.isLt, if_pos l.isLt]
  have h2 : ∀ l : Fin 64, stack x r (64 + l.val) = if r < 256 then 0 else x (r % 256) (64 + l.val) := fun l => by
    have hl : ¬64 + l.val < 64 := by omega
    unfold stack; rw [if_neg hl, if_neg hl]
  simp only [h1, h2, hd]
  split
  · simp
  · simp

theorem stack_mul (x : ℕ → ℕ → ℝ) (w : ℕ → ℝ) (r l : ℕ) : stack x r l * w l = stack (fun r l => x r l * w l) r l := by
  unfold stack
  split <;> split <;> simp

theorem Z_stack (x y : ℕ → ℕ → ℝ) (r s : ℕ) :
    Z (stack x) y r s = ∑ l : Fin 64, x (r % 256) (64 * hd r + l.val) * y s (64 * hd r + l.val) := by
  unfold Z
  simp only [stack_mul x (y s)]
  exact stack_sum (fun r l => x r l * y s l) r

/-- A sum over the stacked rows against a lane is the sum over the lane's head. -/
theorem sum_stack (g : ℕ → ℕ → ℝ) (x : ℕ → ℕ → ℝ) (l : ℕ) (hl : l < 128) :
    ∑ r : Fin 512, g (hd r.val) (r.val % 256) * stack x r.val l = ∑ r : Fin 256, g (l / 64) r.val * x r.val l := by
  refine (sum_halves 256 (fun r => g (hd r) (r % 256) * stack x r l)).trans ?_
  have h1 : ∀ r : Fin 256, g (hd r.val) (r.val % 256) * stack x r.val l = if l < 64 then g (l / 64) r.val * x r.val l else 0 := fun r => by
    have hr : r.val % 256 = r.val := Nat.mod_eq_of_lt r.isLt
    unfold stack hd
    rw [if_pos r.isLt, if_pos r.isLt, hr]
    split
    · rw [show l / 64 = 0 by omega]
    · rw [mul_zero]
  have h2 : ∀ r : Fin 256, g (hd (256 + r.val)) ((256 + r.val) % 256) * stack x (256 + r.val) l
      = if l < 64 then 0 else g (l / 64) r.val * x r.val l := fun r => by
    have hr : (256 + r.val) % 256 = r.val := by omega
    unfold stack hd
    rw [if_neg (by omega), if_neg (by omega), hr]
    split
    · rw [mul_zero]
    · rw [show l / 64 = 1 by omega]
  simp only [h1, h2]
  split
  · simp
  · simp

section

variable (q k v d : ℕ → ℕ → ℝ) (H I : ℕ) (tr : ℕ → ℕ)

/-- A block's scaled queries, keys, values and cotangents. -/
def xq (r l : ℕ) : ℝ := q (256 * I + r) (128 * H + l) * (1 / 8)
def xk (r l : ℕ) : ℝ := k r (128 * H + l)
def xd (r l : ℕ) : ℝ := d (256 * I + r) (128 * H + l)

/-- The attention. -/
def O (t col : ℕ) : ℝ := ∑ s : Fin 8192, sW (zH q k (col / 64)) t s.val * v s.val col

theorem Z_head (r s : ℕ) : Z (stack (xq q H I)) (xk k H) r s = zH q k (2 * H + hd r) (256 * I + r % 256) s := by
  rw [Z_stack]
  unfold zH xq xk
  rw [Finset.sum_mul]
  refine Finset.sum_congr rfl fun l _ => ?_
  rw [show 128 * H + (64 * hd r + l.val) = 64 * (2 * H + hd r) + l.val by ring]
  ring

theorem U_head (r s : ℕ) : Z (stack (xd d H I)) (xk v H) r s = uH v d (2 * H + hd r) (256 * I + r % 256) s := by
  rw [Z_stack]
  unfold uH xd xk
  refine Finset.sum_congr rfl fun l _ => ?_
  rw [show 128 * H + (64 * hd r + l.val) = 64 * (2 * H + hd r) + l.val by ring]

variable (htr : ∀ r, tr r = 256 * I + r % 256)

include htr

theorem cL_head (r s : ℕ) : cL (stack (xq q H I)) (xk k H) tr r s = sL (zH q k (2 * H + hd r)) (256 * I + r % 256) s := by
  unfold cL sL
  rw [Z_head, htr]

theorem cW_head (r s : ℕ) : cW (stack (xq q H I)) (xk k H) tr r s = sW (zH q k (2 * H + hd r)) (256 * I + r % 256) s := by
  unfold cW sW
  simp only [Z_head, htr, cL_head q k H I tr htr]

theorem cG_head (r s : ℕ) : cG (stack (xq q H I)) (stack (xd d H I)) (xk k H) (xk v H) tr r s
    = sG (zH q k (2 * H + hd r)) (uH v d (2 * H + hd r)) (256 * I + r % 256) s := by
  unfold cG sG
  rw [cW_head q k H I tr htr, U_head]

theorem cDA_head (r s : ℕ) : cDA (stack (xq q H I)) (stack (xd d H I)) (xk k H) (xk v H) tr r s
    = sDA (zH q k (2 * H + hd r)) (uH v d (2 * H + hd r)) (256 * I + r % 256) s := by
  unfold cDA sDA
  simp only [Z_head, htr, cG_head q k v d H I tr htr]

/-- A row's total is the sum of its weights times their gradients. -/
theorem rtot_head (r : ℕ) : rtot (xd d H I) (xd (O q k v) H I) r
    = ∑ j ∈ range 8192, cG (stack (xq q H I)) (stack (xd d H I)) (xk k H) (xk v H) tr r j := by
  unfold rtot
  rw [stack_sum]
  simp only [cG_head q k v d H I tr htr]
  unfold xd O sG uH
  rw [Finset.sum_range (fun j => sW (zH q k (2 * H + hd r)) (256 * I + r % 256) j * ∑ l : Fin 64, d (256 * I + r % 256) (64 * (2 * H + hd r) + l.val) * v j (64 * (2 * H + hd r) + l.val))]
  simp only [Finset.mul_sum]
  rw [Finset.sum_comm]
  refine Finset.sum_congr rfl fun s _ => Finset.sum_congr rfl fun l _ => ?_
  have h := l.isLt
  rw [show 128 * H + (64 * hd r + l.val) = 64 * (2 * H + hd r) + l.val by ring, show (64 * (2 * H + hd r) + l.val) / 64 = 2 * H + hd r by omega]
  ring

end

/-- What a row block adds to the key and value gradients. -/
def CK (q k v d : ℕ → ℕ → ℝ) (I x col : ℕ) : ℝ :=
  ∑ r : Fin 256, sDA (zH q k (col / 64)) (uH v d (col / 64)) (256 * I + r.val) x * (q (256 * I + r.val) col * (1 / 8))

def CV (q k d : ℕ → ℕ → ℝ) (I x col : ℕ) : ℝ :=
  ∑ r : Fin 256, sW (zH q k (col / 64)) (256 * I + r.val) x * d (256 * I + r.val) col

section

variable (q k v d : ℕ → ℕ → ℝ) (H I : ℕ) (tr : ℕ → ℕ) (htr : ∀ r, tr r = 256 * I + r % 256)

include htr

theorem dk_head (x l : ℕ) (hl : l < 128) :
    ∑ r : Fin 512, cDA (stack (xq q H I)) (stack (xd d H I)) (xk k H) (xk v H) tr r.val x * stack (xq q H I) r.val l
      = CK q k v d I x (128 * H + l) := by
  simp only [cDA_head q k v d H I tr htr]
  refine (sum_stack (fun a r => sDA (zH q k (2 * H + a)) (uH v d (2 * H + a)) (256 * I + r) x) (xq q H I) l hl).trans ?_
  unfold CK xq
  rw [show (128 * H + l) / 64 = 2 * H + l / 64 by omega]

theorem dv_head (x l : ℕ) (hl : l < 128) :
    ∑ r : Fin 512, cW (stack (xq q H I)) (xk k H) tr r.val x * stack (xd d H I) r.val l = CV q k d I x (128 * H + l) := by
  simp only [cW_head q k H I tr htr]
  refine (sum_stack (fun a r => sW (zH q k (2 * H + a)) (256 * I + r) x) (xd d H I) l hl).trans ?_
  unfold CV xd
  rw [show (128 * H + l) / 64 = 2 * H + l / 64 by omega]

/-- The two halves of the stacked query gradient, side by side. -/
theorem dq_head (r l : ℕ) (hr : r < 256) (hl : l < 128) :
    (if l < 64 then (cl (stack (xq q H I)) (stack (xd d H I)) (xk k H) (xk v H) tr (fun _ _ => 0) (fun _ _ => 0) 0).dq r l
      else (cl (stack (xq q H I)) (stack (xd d H I)) (xk k H) (xk v H) tr (fun _ _ => 0) (fun _ _ => 0) 0).dq (r + 256) l)
      = ∑ s : Fin 8192, sDA (zH q k ((128 * H + l) / 64)) (uH v d ((128 * H + l) / 64)) (256 * I + r) s.val * k s.val (128 * H + l) := by
  rw [show (128 * H + l) / 64 = 2 * H + l / 64 by omega,
    ← Finset.sum_range (fun s => sDA (zH q k (2 * H + l / 64)) (uH v d (2 * H + l / 64)) (256 * I + r) s * k s (128 * H + l)), Finset.range_eq_Ico]
  have h1 : r % 256 = r := Nat.mod_eq_of_lt hr
  have h2 : (r + 256) % 256 = r := by omega
  split
  · rename_i h
    change ∑ j ∈ Ico 0 8192, cDA (stack (xq q H I)) (stack (xd d H I)) (xk k H) (xk v H) tr r j * xk k H j l = _
    refine Finset.sum_congr rfl fun s _ => ?_
    rw [cDA_head q k v d H I tr htr, h1, show hd r = l / 64 by unfold hd; rw [if_pos hr]; omega]
    rfl
  · rename_i h
    change ∑ j ∈ Ico 0 8192, cDA (stack (xq q H I)) (stack (xd d H I)) (xk k H) (xk v H) tr (r + 256) j * xk k H j l = _
    refine Finset.sum_congr rfl fun s _ => ?_
    rw [cDA_head q k v d H I tr htr, h2, show hd (r + 256) = l / 64 by unfold hd; rw [if_neg (by omega)]; omega]
    rfl

end

theorem sum_blocks (f : ℕ → ℝ) : ∑ i ∈ range 32, ∑ r : Fin 256, f (256 * i + r.val) = ∑ t : Fin 8192, f t.val := by
  have h : ∀ n, ∑ i ∈ range n, ∑ r : Fin 256, f (256 * i + r.val) = ∑ t ∈ range (256 * n), f t := fun n => by
    induction n with
    | zero => rfl
    | succ n ih => rw [Finset.sum_range_succ, ih, Nat.mul_succ, Finset.sum_range_add, ← Finset.sum_range (fun r => f (256 * n + r))]
  rw [h, Finset.sum_range]

end Cert.KernelIdeal.Attn

end
-- ==== Proof.Attn.Host.lean ====
/-
  The host lines before the attention gradient's launch, read: the scaled and cast operands, and the saved output, which
  is the reference's own forward value.
-/
module

public import proofs.«01_k».proof.Proof.Attn.Run
public import proofs.«01_k».proof.Proof.Gen.ReferenceIdeal.Read
public import Idealize.ShloMosaic.Lib.Claim
public import Idealize.ShloMosaic.Lib.Pointwise

@[expose] public section

set_option maxRecDepth 16384

noncomputable section

namespace Cert.KernelIdeal.Attn

open Cert.KernelIdeal Cert.KernelIdeal.Gen
open Idealize.ShloMosaic Idealize.ShloMosaic.TcCoe Idealize.SL.Sem

variable {F : FTy → Type} [FloatOps F] [Named F] (m : (ℓ : Loc nD τ sig) → Buf (Elt F) ℓ) (c : Dev nD)

set_option maxHeartbeats 16000000 in
theorem V26 : V m c main_v26 = Cert.ReferenceIdeal.Read.val_main_v26 (F := F) (m ((c : Thread nD τ).loc main_arg0))
    (m ((c : Thread nD τ).loc main_arg1)) (m ((c : Thread nD τ).loc main_arg2)) := by
  entry_read; rfl

end Cert.KernelIdeal.Attn

end
-- ==== Proof.Attn.Host2.lean ====
/-
  What the host hands the attention gradient, at real arguments.
-/
module

public import proofs.«01_k».proof.Proof.Attn.Host
public import proofs.«01_k».proof.Proof.Attn.Ref
public import Idealize.ShloMosaic.Lib.Pipeline.ValueKit
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.SL.Sem

variable (m : (ℓ : Loc nD τ sig) → Buf (Elt Ideal) ℓ) (c : Dev nD) (q k v d : ℕ → ℕ → ℝ)

abbrev B8 (f : ℕ → ℕ → ℝ) : FVec Ideal S8192x1024 .bf16 := up (a := 8192) (b := 1024) f

section

variable {F : FTy → Type} [FloatOps F] [Named F] (m : (ℓ : Loc nD τ sig) → Buf (Elt F) ℓ)

set_option maxHeartbeats 4000000 in
theorem V30_eq : V m c main_v30 = truncf (F := F) (s := S8192x1024) (φ := .f32) .bf16 (m ((c : Thread nD τ).loc main_arg1)) := by
  rfl

set_option maxHeartbeats 4000000 in
theorem V31_eq : V m c main_v31 = truncf (F := F) (s := S8192x1024) (φ := .f32) .bf16 (m ((c : Thread nD τ).loc main_arg2)) := by
  rfl

set_option maxHeartbeats 4000000 in
theorem V32_eq : V m c main_v32 = truncf (F := F) (s := S8192x1024) (φ := .f32) .bf16 (m ((c : Thread nD τ).loc main_arg3)) := by
  rfl

set_option maxHeartbeats 4000000 in
theorem V29_eq : V m c main_v29 = truncf (F := F) (s := S8192x1024) (φ := .f32) .bf16
    (mulf (m ((c : Thread nD τ).loc main_arg0)) (broadcastInDim S8192x1024 ![] bcast_S_S8192x1024 (constant S_ .f32 0x3E000000#32))) := by
  rfl

end

theorem V30_up (h : m ((c : Thread nD τ).loc main_arg1) = A8 k) : V m c main_v30 = B8 k := by
  rw [V30_eq, h]; rfl

theorem V31_up (h : m ((c : Thread nD τ).loc main_arg2) = A8 v) : V m c main_v31 = B8 v := by
  rw [V31_eq, h]; rfl

theorem V32_up (h : m ((c : Thread nD τ).loc main_arg3) = A8 d) : V m c main_v32 = B8 d := by
  rw [V32_eq, h]; rfl

theorem V29_up (h : m ((c : Thread nD τ).loc main_arg0) = A8 q) : V m c main_v29 = B8 (fun t l => q t l * (1 / 8)) := by
  rw [V29_eq, h]
  funext y
  idx_vars y
  pointwise
  rw [ofBits_eighth]
  exact (EReal.coe_mul _ _).symm

theorem V26_up (h0 : m ((c : Thread nD τ).loc main_arg0) = A8 q) (h1 : m ((c : Thread nD τ).loc main_arg1) = A8 k)
    (h2 : m ((c : Thread nD τ).loc main_arg2) = A8 v) :
    V m c main_v26 = A8 (fun t col => ∑ s : Fin 8192, sW (zH q k (col / 64)) t s.val * v s.val col) := by
  rw [V26, h0, h1, h2]
  exact v26_up q k v

theorem idx_val : ∀ t : Fin (cfg0 (F := Ideal)).N, win0_0.index t = ![t.val % 32, t.val / 32] ∧ win0_1.index t = ![0, t.val / 32]
    ∧ win0_2.index t = ![0, t.val / 32] ∧ win0_3.index t = ![t.val % 32, t.val / 32] ∧ win0_4.index t = ![t.val % 32, t.val / 32]
    ∧ win0_5.index t = ![t.val % 32, t.val / 32] ∧ win0_6.index t = ![0, t.val / 32] ∧ win0_7.index t = ![0, t.val / 32] :=
  (by decide +kernel : ∀ t : Fin grid0.N, _)

theorem coord_row : ∀ t : Fin (cfg0 (F := Ideal)).N, ((grid0.coords t) 1).val = t.val % 32 :=
  (by decide +kernel : ∀ t : Fin grid0.N, _)

/-! ## The blocks of a point -/

variable (t : Fin (cfg0 (F := Ideal)).N)

theorem blk0 (h : V m c main_v29 = B8 q) :
    iblk m c 0 t = up (a := 256) (b := 128) (φ := .bf16) (fun r l => q (256 * (t.val % 32) + r) (128 * (t.val / 32) + l)) := by
  funext y
  blk_simp [iblk]
  rw [h]
  refine congrArg (fun x : ℝ => (x : EReal)) (congrArg₂ q ?_ ?_) <;> blk_simp [idx_val t] <;> omega

theorem blk1 (h : V m c main_v30 = B8 q) :
    iblk m c 1 t = up (a := 8192) (b := 128) (φ := .bf16) (fun r l => q r (128 * (t.val / 32) + l)) := by
  funext y
  blk_simp [iblk]
  rw [h]
  refine congrArg (fun x : ℝ => (x : EReal)) (congrArg₂ q ?_ ?_) <;> blk_simp [idx_val t] <;> omega

theorem blk2 (h : V m c main_v31 = B8 q) :
    iblk m c 2 t = up (a := 8192) (b := 128) (φ := .bf16) (fun r l => q r (128 * (t.val / 32) + l)) := by
  funext y
  blk_simp [iblk]
  rw [h]
  refine congrArg (fun x : ℝ => (x : EReal)) (congrArg₂ q ?_ ?_) <;> blk_simp [idx_val t] <;> omega

theorem blk3 (h : V m c main_v32 = B8 q) :
    iblk m c 3 t = up (a := 256) (b := 128) (φ := .bf16) (fun r l => q (256 * (t.val % 32) + r) (128 * (t.val / 32) + l)) := by
  funext y
  blk_simp [iblk]
  rw [h]
  refine congrArg (fun x : ℝ => (x : EReal)) (congrArg₂ q ?_ ?_) <;> blk_simp [idx_val t] <;> omega

theorem blk4 (h : V m c main_v26 = A8 q) :
    iblk m c 4 t = up (a := 256) (b := 128) (φ := .f32) (fun r l => q (256 * (t.val % 32) + r) (128 * (t.val / 32) + l)) := by
  funext y
  blk_simp [iblk]
  rw [h]
  refine congrArg (fun x : ℝ => (x : EReal)) (congrArg₂ q ?_ ?_) <;> blk_simp [idx_val t] <;> omega

end Cert.KernelIdeal.Attn

end
-- ==== Proof.Attn.Value.lean ====
/-
  The attention gradient's arrays at real arguments.
-/
module

public import proofs.«01_k».proof.Proof.Attn.Head
public import proofs.«01_k».proof.Proof.Attn.Host2

@[expose] public section

set_option maxRecDepth 16384

noncomputable section

namespace Cert.KernelIdeal.Attn

open Cert.KernelIdeal Cert.KernelIdeal.Gen
open Idealize.ShloMosaic Idealize.ShloMosaic.TcCoe Idealize.SL.Sem
open Idealize.ShloMosaic.Pipeline (Dat)
open Finset (Ico range)

variable (m : (ℓ : Loc nD τ sig) → Buf (Elt Ideal) ℓ) (c : Dev nD) (q k v d : ℕ → ℕ → ℝ)

/-- The arguments are those reals. -/
structure Real4 : Prop where
  q : m ((c : Thread nD τ).loc main_arg0) = A8 q
  k : m ((c : Thread nD τ).loc main_arg1) = A8 k
  v : m ((c : Thread nD τ).loc main_arg2) = A8 v
  d : m ((c : Thread nD τ).loc main_arg3) = A8 d

variable (hm : Real4 m c q k v d)

/-- Equal numbers, equal arrays. -/
theorem up_congr {a b : ℕ} {φ : FTy} {f g : ℕ → ℕ → ℝ} (h : ∀ r l, r < a → l < b → f r l = g r l) :
    (up f : FVec Ideal ⟨2, ![a, b]⟩ φ) = up g := by
  funext y
  exact congrArg (fun x : ℝ => (x : EReal)) (h _ _ (y 0).isLt (y 1).isLt)

/-- An array at known coordinates. -/
theorem a8_at {g : ℕ → ℕ → ℝ} {r l : ℕ} (z : S8192x1024.Idx) (h0 : (z 0).val = r) (h1 : (z 1).val = l) : A8 g z = ((g r l : ℝ) : EReal) := by
  subst h0 h1
  rfl

include hm

/-- A point over real sums. -/
theorem pointAt_is (t : Fin (cfg0 (F := Ideal)).N) (A B : ℕ → ℕ → ℝ) (dk dv : Vec Ideal S8192x128 .f32)
    (hA : dk0 (grid0.coords t) dk = up (a := 8192) (b := 128) (φ := .f32) A) (hB : dv0 (grid0.coords t) dv = up (a := 8192) (b := 128) (φ := .f32) B) :
    Is (pointAt m c t dk dv) (cl (stack (xq q (t.val / 32) (t.val % 32))) (stack (xd d (t.val / 32) (t.val % 32))) (xk k (t.val / 32)) (xk v (t.val / 32))
      (rowOf (grid0.coords t)) A B 0) := by
  have htr : ∀ r, rowOf (grid0.coords t) r = 256 * (t.val % 32) + r % 256 := fun r => by unfold rowOf; rw [coord_row]
  unfold pointAt
  rw [blk0 m c _ t (V29_up m c q hm.q), blk1 m c _ t (V30_up m c k hm.k), blk2 m c _ t (V31_up m c v hm.v), blk3 m c _ t (V32_up m c d hm.d),
    blk4 m c _ t (V26_up m c q k v hm.q hm.k hm.v)]
  exact point_is (xk k (t.val / 32)) (xk v (t.val / 32)) A B (grid0.coords t) (xq q (t.val / 32) (t.val % 32)) (xd d (t.val / 32) (t.val % 32))
    (xd (O q k v) (t.val / 32) (t.val % 32)) (rtot_head q k v d _ _ _ htr) dk dv hA hB

/-- What a point leaves: its query gradient, and its column's sums so far. -/
structure Left (t : Fin (cfg0 (F := Ideal)).N) (s : St Ideal) : Prop where
  dq : k0_pay6 s.dq = up (a := 256) (b := 128) (φ := .f32) (fun r l => 1 / 8 * ∑ s : Fin 8192, sDA (zH q k ((128 * (t.val / 32) + l) / 64))
    (uH v d ((128 * (t.val / 32) + l) / 64)) (256 * (t.val % 32) + r) s.val * k s.val (128 * (t.val / 32) + l))
  dk : s.dk = up (a := 8192) (b := 128) (φ := .f32) (fun x l => ∑ i ∈ range (t.val % 32 + 1), CK q k v d i x (128 * (t.val / 32) + l))
  dv : s.dv = up (a := 8192) (b := 128) (φ := .f32) (fun x l => ∑ i ∈ range (t.val % 32 + 1), CV q k d i x (128 * (t.val / 32) + l))

theorem pointAt_left (t : Fin (cfg0 (F := Ideal)).N) (dk dv : Vec Ideal S8192x128 .f32)
    (hA : dk0 (grid0.coords t) dk = up (a := 8192) (b := 128) (φ := .f32) (fun x l => ∑ i ∈ range (t.val % 32), CK q k v d i x (128 * (t.val / 32) + l)))
    (hB : dv0 (grid0.coords t) dv = up (a := 8192) (b := 128) (φ := .f32) (fun x l => ∑ i ∈ range (t.val % 32), CV q k d i x (128 * (t.val / 32) + l))) :
    Left q k v d t (pointAt m c t dk dv) := by
  have htr : ∀ r, rowOf (grid0.coords t) r = 256 * (t.val % 32) + r % 256 := fun r => by unfold rowOf; rw [coord_row]
  have h := pointAt_is m c q k v d hm t _ _ dk dv hA hB
  constructor
  · rw [h.dq, pay6_up]
    exact up_congr fun r l hr hl => congrArg (fun x : ℝ => 1 / 8 * x) (dq_head q k v d _ _ _ htr r l hr hl)
  · rw [h.dk]
    refine up_congr fun x l hx hl => ?_
    rw [Finset.sum_range_succ, ← dk_head q k v d _ _ _ htr x l hl]
    exact congrArg (fun x : ℝ => _ + x) (if_pos (Nat.zero_le _))
  · rw [h.dv]
    refine up_congr fun x l hx hl => ?_
    rw [Finset.sum_range_succ, ← dv_head q k d _ _ _ htr x l hl]
    exact congrArg (fun x : ℝ => _ + x) (if_pos (Nat.zero_le _))

theorem acc_left : ∀ n (h : n < (cfg0 (F := Ideal)).N), Left q k v d ⟨n, h⟩ (acc m c n h) := by
  intro n
  induction n using Nat.strong_induction_on with
  | _ n ih =>
    intro h
    by_cases h0 : n % 32 = 0
    · have hf := (isFirst_iff (F := Ideal) ⟨n, h⟩).mpr h0
      rw [acc_first m c ⟨n, h⟩ h0 (k0_pay14 (F := Ideal)) (k0_pay15 (F := Ideal))]
      refine pointAt_left m c q k v d hm ⟨n, h⟩ _ _ ?_ ?_
      · rw [dk0_first _ hf]; simp only [h0, Finset.range_zero, Finset.sum_empty]
      · rw [dv0_first _ hf]; simp only [h0, Finset.range_zero, Finset.sum_empty]
    · have hf := (isFirst_iff (F := Ideal) ⟨n, h⟩).not.mpr h0
      have hp := ih (n - 1) (by omega) (by omega)
      have e1 : (n - 1) % 32 + 1 = n % 32 := by omega
      have e2 : (n - 1) / 32 = n / 32 := by omega
      rw [acc_next m c ⟨n, h⟩ h0]
      refine pointAt_left m c q k v d hm ⟨n, h⟩ _ _ ?_ ?_
      · refine (if_neg hf).trans (hp.dk.trans ?_)
        simp only [e1, e2]
      · refine (if_neg hf).trans (hp.dv.trans ?_)
        simp only [e1, e2]

theorem final5 : (dats m 0 c).arrAt 5 (cfgs (F := Ideal) 0).N
    = A8 (fun t col => ∑ s : Fin 8192, sDA (zH q k (col / 64)) (uH v d (col / 64)) t s.val * (1 / 8) * k s.val col) := by
  refine (dats m 0 c).arrAt_eq_of_covers 5 _ (by decide +kernel) fun t _ y => ?_
  blk_simp
  rw [after0_5, (acc_left m c q k v d hm t.val t.isLt).dq]
  refine Eq.trans ?_ (a8_at _ (r := 256 * (t.val % 32) + (y 0).val) (l := 128 * (t.val / 32) + (y 1).val) (by blk_simp [idx_val t]; omega) (by blk_simp [idx_val t]; omega)).symm
  refine congrArg (fun x : ℝ => (x : EReal)) ?_
  simp only [Finset.mul_sum]
  exact Finset.sum_congr rfl fun s _ => by ring

theorem final6 : (dats m 0 c).arrAt 6 (cfgs (F := Ideal) 0).N
    = A8 (fun s col => ∑ t : Fin 8192, sDA (zH q k (col / 64)) (uH v d (col / 64)) t.val s * (1 / 8) * q t.val col) := by
  refine (dats m 0 c).arrAt_eq_of_covers 6 _ (by decide +kernel) fun t hf y => ?_
  blk_simp
  rw [after0_6, (acc_left m c q k v d hm t.val t.isLt).dk]
  have h31 : t.val % 32 = 31 := (flush0_6 t).mp hf
  refine Eq.trans ?_ (a8_at _ (r := (y 0).val) (l := 128 * (t.val / 32) + (y 1).val) (by blk_simp [idx_val t]) (by blk_simp [idx_val t]; omega)).symm
  refine congrArg (fun x : ℝ => (x : EReal)) ?_
  refine Eq.trans ?_ (sum_blocks fun t' => sDA (zH q k ((128 * (t.val / 32) + (y 1).val) / 64)) (uH v d ((128 * (t.val / 32) + (y 1).val) / 64)) t' (y 0).val
    * (1 / 8) * q t' (128 * (t.val / 32) + (y 1).val))
  simp only [h31, CK]
  exact Finset.sum_congr rfl fun s _ => Finset.sum_congr rfl fun r _ => by ring

theorem final7 : (dats m 0 c).arrAt 7 (cfgs (F := Ideal) 0).N
    = A8 (fun s col => ∑ t : Fin 8192, sW (zH q k (col / 64)) t.val s * d t.val col) := by
  refine (dats m 0 c).arrAt_eq_of_covers 7 _ (by decide +kernel) fun t hf y => ?_
  blk_simp
  rw [after0_7, (acc_left m c q k v d hm t.val t.isLt).dv]
  have h31 : t.val % 32 = 31 := (flush0_7 t).mp hf
  refine Eq.trans ?_ (a8_at _ (r := (y 0).val) (l := 128 * (t.val / 32) + (y 1).val) (by blk_simp [idx_val t]) (by blk_simp [idx_val t]; omega)).symm
  refine congrArg (fun x : ℝ => (x : EReal)) ?_
  refine Eq.trans ?_ (sum_blocks fun t' => sW (zH q k ((128 * (t.val / 32) + (y 1).val) / 64)) t' (y 0).val * d t' (128 * (t.val / 32) + (y 1).val))
  simp only [h31, CV]

end Cert.KernelIdeal.Attn

end
-- ==== Proof.Attn.Finite.lean ====
/-
  Finite arguments are arrays of reals.
-/
module

public import proofs.«01_k».proof.Proof.Attn.Value
public import proofs.«01_k».proof.Defs
public import proofs.«01_k».proof.Proof.Gen.Pre_finite

@[expose] public section

set_option maxRecDepth 16384

noncomputable section

namespace Cert.KernelIdeal.Attn

open Idealize.ShloMosaic Idealize.ShloMosaic.TcCoe Idealize.SL.Sem

theorem and_one (p q : Bool) : IntOp.andi (BitVec.ofBool p) (BitVec.ofBool q) = BitVec.ofBool (p && q) := by cases p <;> cases q <;> decide

theorem of_one (p : Bool) : (BitVec.ofBool p = 1#1) ↔ p = true := by cases p <;> decide

/-- Below infinity in size, a number is real. -/
theorem real_of_lt (x : EReal) (h : FloatOps.absf (F := Ideal) (φ := .f32) x < Ideal.ofBits .f32 2139095040#32) : x = ((x.toReal : ℝ) : EReal) := by
  have e : Ideal.ofBits .f32 2139095040#32 = (⊤ : EReal) := by
    simp [Ideal.ofBits, Ideal.ieee]
  rw [e] at h
  induction x using EReal.rec with
  | bot => exact absurd h (by simp [FloatOps.absf])
  | top => exact absurd h (by simp [FloatOps.absf])
  | coe r => rfl

theorem fn_real (a b c d : FVec Ideal Cert.Pre_finite.S8192x1024 .f32) (i : Cert.Pre_finite.S8192x1024.Idx)
    (h : Cert.Pre_finite.fn (F := Ideal) a b c d i = 1#1) :
    a i = (((a i : EReal).toReal : ℝ) : EReal) ∧ b i = (((b i : EReal).toReal : ℝ) : EReal) ∧ c i = (((c i : EReal).toReal : ℝ) : EReal)
      ∧ d i = (((d i : EReal).toReal : ℝ) : EReal) := by
  unfold Cert.Pre_finite.fn at h
  pointwise at h
  simp only [and_one, of_one, Bool.and_eq_true, decide_eq_true_eq] at h
  exact ⟨real_of_lt _ h.1.1.1, real_of_lt _ h.1.1.2, real_of_lt _ h.1.2, real_of_lt _ h.2⟩

/-- The reals of an array. -/
def reals (a : FVec Ideal Cert.Pre_finite.S8192x1024 .f32) (t l : ℕ) : ℝ :=
  if h : t < 8192 ∧ l < 1024 then (a (ix2 ⟨t, h.1⟩ ⟨l, h.2⟩) : EReal).toReal else 0

theorem reals_eq (a : FVec Ideal Cert.Pre_finite.S8192x1024 .f32) (h : ∀ i, a i = (((a i : EReal).toReal : ℝ) : EReal)) : a = A8 (reals a) := by
  funext y
  idx_vars y
  refine (h _).trans (congrArg (fun x : ℝ => (x : EReal)) ?_)
  have e : reals a y0.val y1.val = (a (ix2 y0 y1) : EReal).toReal := by
    unfold reals
    exact dif_pos ⟨y0.isLt, y1.isLt⟩
  exact e.symm

theorem real4_of_pre (m : (ℓ : Loc nD τ sig) → Buf (Elt Ideal) ℓ) (h : Cert.Pre_KernelIdeal_finite m) (c : Dev nD) :
    ∃ q k v d : ℕ → ℕ → ℝ, Real4 m c q k v d := by
  have e := fun i => fn_real _ _ _ _ i (congrFun (h c) i)
  exact ⟨_, _, _, _, reals_eq _ fun i => (e i).1, reals_eq _ fun i => (e i).2.1, reals_eq _ fun i => (e i).2.2.1, reals_eq _ fun i => (e i).2.2.2⟩

end Cert.KernelIdeal.Attn

end
-- ==== Proof.Attn.Final.lean ====
/-
  The attention gradient: the kernel's run at its arrays.
-/
module

public import proofs.«01_k».proof.Proof.Attn.Finite

@[expose] public section

set_option maxRecDepth 16384

noncomputable section

namespace Cert.KernelIdeal.Attn

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

theorem run_blocks : θ_run defs (onTc (τ := τ) (main (F := Ideal))) ⟨m, fun _ => 0, ρ⟩ fun r => ∀ c : Dev nD,
      r.2.mem ((c : Thread nD τ).loc main_v33_0) = (dats m 0 c).arrAt 5 (cfgs (F := Ideal) 0).N
      ∧ r.2.mem ((c : Thread nD τ).loc main_v33_1) = (dats m 0 c).arrAt 6 (cfgs (F := Ideal) 0).N
      ∧ r.2.mem ((c : Thread nD τ).loc main_v33_2) = (dats m 0 c).arrAt 7 (cfgs (F := Ideal) 0).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 5, (h c).1 6, (h c).1 7,
      ((h c).2 main_arg0 (show main_arg0 ∈ Pipeline.restRefs sig spec0 from Pipeline.mem_restRefs_of main_arg0 (by decide) (by decide))).trans (V_main_arg0 m c),
      ((h c).2 main_arg1 (show main_arg1 ∈ Pipeline.restRefs sig spec0 from Pipeline.mem_restRefs_of main_arg1 (by decide) (by decide))).trans (V_main_arg1 m c),
      ((h c).2 main_arg2 (show main_arg2 ∈ Pipeline.restRefs sig spec0 from Pipeline.mem_restRefs_of main_arg2 (by decide) (by decide))).trans (V_main_arg2 m c),
      ((h c).2 main_arg3 (show main_arg3 ∈ Pipeline.restRefs sig spec0 from Pipeline.mem_restRefs_of main_arg3 (by decide) (by decide))).trans (V_main_arg3 m c)⟩)
    (run_main m ρ)

theorem ref5 (c : Dev nD) (h : ∃ q k v d, Real4 m c q k v d) :
    Cert.ReferenceIdeal.Read.val_main_v51 (F := Ideal) (m ((c : Thread nD τ).loc main_arg0)) (m ((c : Thread nD τ).loc main_arg1))
      (m ((c : Thread nD τ).loc main_arg2)) (m ((c : Thread nD τ).loc main_arg3)) = (dats m 0 c).arrAt 5 (cfgs (F := Ideal) 0).N := by
  obtain ⟨q, k, v, d, h⟩ := h
  rw [final5 m c q k v d h, h.q, h.k, h.v, h.d]
  exact v51_up q k v d

theorem ref6 (c : Dev nD) (h : ∃ q k v d, Real4 m c q k v d) :
    Cert.ReferenceIdeal.Read.val_main_v49 (F := Ideal) (m ((c : Thread nD τ).loc main_arg0)) (m ((c : Thread nD τ).loc main_arg1))
      (m ((c : Thread nD τ).loc main_arg2)) (m ((c : Thread nD τ).loc main_arg3)) = (dats m 0 c).arrAt 6 (cfgs (F := Ideal) 0).N := by
  obtain ⟨q, k, v, d, h⟩ := h
  rw [final6 m c q k v d h, h.q, h.k, h.v, h.d]
  exact v49_up q k v d

theorem ref7 (c : Dev nD) (h : ∃ q k v d, Real4 m c q k v d) :
    Cert.ReferenceIdeal.Read.val_main_v47 (F := Ideal) (m ((c : Thread nD τ).loc main_arg0)) (m ((c : Thread nD τ).loc main_arg1))
      (m ((c : Thread nD τ).loc main_arg3)) = (dats m 0 c).arrAt 7 (cfgs (F := Ideal) 0).N := by
  obtain ⟨q, k, v, d, h⟩ := h
  rw [final7 m c q k v d h, h.q, h.k, h.d]
  exact v47_up q k d

end Cert.KernelIdeal.Attn

end
-- ==== Proof.Gate.lean ====
module

public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Gate

open Cert.Kernel2Ideal Cert.Kernel2Ideal.Gen

variable (m : (ℓ : Loc nD τ sig) → Buf (Elt Ideal) ℓ)

/-- The logistic of one extended real, as the host code writes it. -/
def sg (a : EReal) : EReal := Ideal.div 1 (1 + Ideal.exp (-a))

/-- The gradient of the gate's input. -/
def G3 (z p d : FVec Ideal S8192x1024 .f32) : FVec Ideal S8192x1024 .bf16 :=
  fun i => (d i * p i) * (sg (z i) * (1 - sg (z i)))

/-- The gradient of the projection. -/
def G4 (z d : FVec Ideal S8192x1024 .f32) : FVec Ideal S8192x1024 .bf16 := fun i => d i * sg (z i)

theorem idx_val : ∀ t : Fin cfg0.N, win0_0.index t = ![t.val, 0] ∧ win0_1.index t = ![t.val, 0]
    ∧ win0_2.index t = ![t.val, 0] ∧ win0_3.index t = ![t.val, 0] ∧ win0_4.index t = ![t.val, 0] :=
  (by decide +kernel : ∀ t : Fin grid0.N, _)

theorem in0 (c : Dev nD) (t : Fin cfg0.N) (y : S512x1024.Idx) :
    iblk m c 0 t y = m ((c : Thread nD τ).loc main_arg2) (((cfg0.win 3).blk t).view.emb y) := by
  blk_ext [iblk, V, idx_val t]

theorem in1 (c : Dev nD) (t : Fin cfg0.N) (y : S512x1024.Idx) :
    iblk m c 1 t y = sg (m ((c : Thread nD τ).loc main_arg0) (((cfg0.win 3).blk t).view.emb y)) := by
  blk_simp [iblk]
  entry_read
  pointwise [sg]
  blk_point [iblk, V, idx_val t]

theorem in2 (c : Dev nD) (t : Fin cfg0.N) (y : S512x1024.Idx) :
    iblk m c 2 t y = m ((c : Thread nD τ).loc main_arg1) (((cfg0.win 3).blk t).view.emb y) := by
  blk_simp [iblk]
  entry_read
  pointwise
  blk_point [iblk, V, idx_val t]

theorem emb_eq (t : Fin cfg0.N) (y : S512x1024.Idx) :
    (((cfg0.win 4).blk t).view.emb y : S8192x1024.Idx) = ((cfg0.win 3).blk t).view.emb y := by
  blk_ext [idx_val t]

theorem pay2_eq (a b d : FVec Ideal S512x1024 .f32) (y : S512x1024.Idx) :
    k0_pay2 (F := Ideal) a b d y = (a y * d y) * (b y * (1 - b y)) := by
  pointwise [k0_pay2, k0_pay1]

theorem pay3_eq (a b : FVec Ideal S512x1024 .f32) (y : S512x1024.Idx) :
    k0_pay3 (F := Ideal) a b y = a y * b y := by
  pointwise [k0_pay3, k0_pay1]

theorem point3 (c : Dev nD) (t : Fin cfg0.N) (y) :
    k0_pay2 (iblk m c 0 t) (iblk m c 1 t) (iblk m c 2 t) y
      = G3 (m ((c : Thread nD τ).loc main_arg0)) (m ((c : Thread nD τ).loc main_arg1)) (m ((c : Thread nD τ).loc main_arg2))
          (((cfg0.win 3).blk t).view.emb y) := by
  refine (pay2_eq _ _ _ y).trans ?_
  rw [in0, in1, in2]
  rfl

theorem point4 (c : Dev nD) (t : Fin cfg0.N) (y) :
    k0_pay3 (iblk m c 0 t) (iblk m c 1 t) y
      = G4 (m ((c : Thread nD τ).loc main_arg0)) (m ((c : Thread nD τ).loc main_arg2))
          (((cfg0.win 4).blk t).view.emb y) := by
  refine (pay3_eq _ _ y).trans ?_
  rw [in0, in1, emb_eq]
  rfl

theorem final3 (c : Dev nD) : (dats m 0 c).arrAt 3 (cfgs 0).N
    = G3 (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point3 m c t y

theorem final4 (c : Dev nD) : (dats m 0 c).arrAt 4 (cfgs 0).N
    = G4 (m ((c : Thread nD τ).loc main_arg0)) (m ((c : Thread nD τ).loc main_arg2)) := by
  refine (dats m 0 c).arrAt_eq_of_covers 4 _ (by decide +kernel) fun t _ y => ?_
  blk_simp
  rw [after0_4]; frame_out
  exact point4 m c t y

theorem ref3 (z p d : FVec Ideal S8192x1024 .f32) :
    Cert.Reference2Ideal.Read.val_main_v13 (F := Ideal) z p d = G3 z p d := by
  funext i
  pointwise [Cert.Reference2Ideal.Read.val_main_v13, Cert.Reference2Ideal.Read.val_main_v12, Cert.Reference2Ideal.Read.val_main_v11, Cert.Reference2Ideal.Read.val_main_v8, Cert.Reference2Ideal.Read.val_main_v7, Cert.Reference2Ideal.Read.val_main_v6, Cert.Reference2Ideal.Read.val_main_v5, Cert.Reference2Ideal.Read.val_main_v4, Cert.Reference2Ideal.Read.val_main_v3, Cert.Reference2Ideal.Read.val_main_v2, Cert.Reference2Ideal.Read.val_main_v1, Cert.Reference2Ideal.Read.val_main_v0, Cert.Reference2Ideal.Read.val_main_cst, Cert.Reference2Ideal.Read.val_main_cst_0, Cert.Reference2Ideal.Read.val_main_cst_1, G3, sg]

theorem ref4 (z d : FVec Ideal S8192x1024 .f32) :
    Cert.Reference2Ideal.Read.val_main_v14 (F := Ideal) z d = G4 z d := by
  funext i
  pointwise [Cert.Reference2Ideal.Read.val_main_v14, Cert.Reference2Ideal.Read.val_main_v10, Cert.Reference2Ideal.Read.val_main_v5, Cert.Reference2Ideal.Read.val_main_v4, Cert.Reference2Ideal.Read.val_main_v3, Cert.Reference2Ideal.Read.val_main_v2, Cert.Reference2Ideal.Read.val_main_v1, Cert.Reference2Ideal.Read.val_main_v0, Cert.Reference2Ideal.Read.val_main_cst, Cert.Reference2Ideal.Read.val_main_cst_0, G4, sg]
  exact mul_comm _ _

end Cert.Kernel2Ideal.Gate

end
-- ==== Proof.Loss.lean ====
/-
  The loss and its gradient.
-/
module

public import proofs.«01_k».proof.Proof.Gen.Kernel3Ideal.Value
public import proofs.«01_k».proof.Proof.Gen.Reference3Ideal.Read
public import Idealize.ShloMosaic.Lib.Pipeline.ValueKit
public import Idealize.ShloMosaic.Lib.Pipeline.ReadBack

@[expose] public section

set_option maxRecDepth 16384

noncomputable section

namespace Cert.Kernel3Ideal.Loss

open Cert.Kernel3Ideal Cert.Kernel3Ideal.Gen Idealize.ShloMosaic Idealize.ShloMosaic.TcCoe Idealize.SL.Sem Idealize.ShloMosaic.StableHlo
open scoped BigOperators

variable (m : (ℓ : Loc nD τ sig) → Buf (Elt Ideal) ℓ)

theorem idx_val : ∀ t : Fin cfg0.N, win0_0.index t = ![t.val, 0] ∧ win0_1.index t = ![t.val, 0] ∧ win0_2.index t = ![t.val, 0] ∧ win0_3.index t = ![0, 0] :=
  (by decide +kernel : ∀ t : Fin grid0.N, _)

theorem ix_2 (n k : Nat) (x : (⟨2, ![n, k]⟩ : Shape).Idx) (g : Fin n) (a : Fin k) (h0 : (x 0).val = g.val) (h1 : (x 1).val = a.val) : x = ix2 g a := by
  refine funext fun d => Fin.ext ?_
  fin_cases d
  exacts [h0, h1]

theorem half_word : Ideal.ofBits .f32 1056964608#32 = ((1 / 2 : ℝ) : EReal) := by
  simp [Ideal.ofBits, Ideal.ieee, -EReal.coe_mul]; norm_num

theorem two_word : Ideal.ofBits .f32 1073741824#32 = ((2 : ℝ) : EReal) := by
  simp [Ideal.ofBits, Ideal.ieee, -EReal.coe_mul]; norm_num

theorem mean_word : Ideal.ofBits .f32 1149239296#32 = ((1024 : ℝ) : EReal) := by
  simp [Ideal.ofBits, Ideal.ieee, -EReal.coe_mul]; norm_num

theorem inv_word : Ideal.ofBits .f32 981467136#32 = ((1 / 1024 : ℝ) : EReal) := by
  simp [Ideal.ofBits, Ideal.ieee, -EReal.coe_mul]; norm_num

/-- A row's mean square. -/
def sq (x y : FVec Ideal S8192x1024 .f32) (r : Fin 8192) : EReal :=
  Ideal.div (∑ k : Fin 1024, (x (ix2 r k) - y (ix2 r k)) * (x (ix2 r k) - y (ix2 r k))) (Ideal.ofBits .f32 1149239296#32)

/-- What a point adds to the loss. -/
def add (a b : Vec Ideal S512x1024 .f32) : EReal :=
  ∑ r : Fin 512, Ideal.div (∑ k : Fin 1024, (a (ix2 r k) - b (ix2 r k)) * (a (ix2 r k) - b (ix2 r k))) (Ideal.ofBits .f32 1149239296#32)

theorem pay3_apply (a b : Vec Ideal S512x1024 .f32) (r : Fin 512) (k : Fin 1024) :
    k0_pay3 a b (ix2 r k) = (a (ix2 r k) - b (ix2 r k)) * Ideal.ofBits .f32 981467136#32 := by
  pointwise [k0_pay3, k0_pay2]

theorem pay4_apply (a b : Vec Ideal S512x1024 .f32) (v : Vec Ideal S8x128 .f32) (y : S8x128.Idx) : k0_pay4 a b v y = v y + add a b := by
  unfold add
  idx_vars y
  pointwise [k0_pay4, k0_pay2]

theorem pay5_apply (v : Vec Ideal S8x128 .f32) (y : S8x128.Idx) : k0_pay5 v y = Ideal.ofBits .f32 1056964608#32 * v y := by
  idx_vars y
  pointwise [k0_pay5]

theorem pay1_apply (y : S8x128.Idx) : k0_pay1 (F := Ideal) y = (0 : EReal) := by
  pointwise [k0_pay1]

theorem scale (e : EReal) : Ideal.div (Ideal.ofBits .f32 1056964608#32) (Ideal.ofBits .f32 1149239296#32) * (Ideal.ofBits .f32 1073741824#32 * e)
    = e * Ideal.ofBits .f32 981467136#32 := by
  have h : Ideal.div (Ideal.ofBits .f32 1056964608#32) (Ideal.ofBits .f32 1149239296#32) = ((1 / 2048 : ℝ) : EReal) := by
    rw [half_word, mean_word]
    rw [Ideal.div, if_neg (by norm_num), ← EReal.coe_inv, ← EReal.coe_mul]
    norm_num
  rw [h, two_word, inv_word, ← mul_assoc, ← EReal.coe_mul, mul_comm]
  norm_num

open Cert.Reference3Ideal.Read in
theorem r14 (x0 x1 : FVec Ideal S8192x1024 .f32) (r : Fin 8192) (k : Fin 1024) :
    val_main_v14 (F := Ideal) x0 x1 (ix2 r k) = (x0 (ix2 r k) - x1 (ix2 r k)) * Ideal.ofBits .f32 981467136#32 := by
  rw [← scale]
  pointwise [val_main_v14, val_main_v13, val_main_v12, val_main_v11, val_main_cst_6, val_main_v10, val_main_v9, val_main_cst_5, val_main_cst_4, val_main_v3, val_main_v2, val_main_cst, val_main_v0]

open Cert.Reference3Ideal.Read in
theorem r15 (x0 x1 : FVec Ideal S8192x1024 .f32) (y : S8x128.Idx) :
    val_main_v15 (F := Ideal) x0 x1 y = Ideal.ofBits .f32 1056964608#32 * ∑ r : Fin 8192, sq x0 x1 r := by
  unfold sq
  idx_vars y
  pointwise [val_main_v15, val_main_v8, val_main_cst_3, val_main_v7, val_main_cst_2, val_main_v6, val_main_v5, val_main_cst_1, val_main_v4, val_main_cst_0, val_main_v1, val_main_v0]

/-- A row of a point's block in the whole array. -/
def row (t : Fin cfg0.N) (r : Fin 512) : Fin 8192 := ⟨t.val * 512 + r.val, by
  have := lt_of_lt_of_eq t.isLt N_0
  omega⟩

theorem in0 (c : Dev nD) (t : Fin cfg0.N) (r : Fin 512) (k : Fin 1024) : iblk m c 0 t (ix2 r k) = m ((c : Thread nD τ).loc main_arg0) (ix2 (row t r) k) := by
  unfold row
  blk_ext [iblk, V, idx_val t]

theorem in1 (c : Dev nD) (t : Fin cfg0.N) (r : Fin 512) (k : Fin 1024) : iblk m c 1 t (ix2 r k) = m ((c : Thread nD τ).loc main_arg1) (ix2 (row t r) k) := by
  unfold row
  blk_ext [iblk, V, idx_val t]

theorem dy (c : Dev nD) (t : Fin cfg0.N) : (outsAt0 m c t.val t.isLt).1 = k0_pay3 (iblk m c 0 t) (iblk m c 1 t) := by
  by_cases h0 : t.val % 16 = 0
  · rw [outsAt0_A m c t h0 (by omega)]
    frame_out
  · by_cases h1 : t.val % 16 = 15
    · rw [outsAt0_C m c t h0 h1]
      frame_out
    · rw [outsAt0_B m c t h0 h1]
      frame_out

theorem accA (c : Dev nD) (t : Fin cfg0.N) (h0 : t.val % 16 = 0) (y : S8x128.Idx) :
    (outsAt0 m c t.val t.isLt).2.2 y = (0 : EReal) + add (iblk m c 0 t) (iblk m c 1 t) := by
  rw [outsAt0_A m c t h0 (by omega)]
  frame_out
  rw [pay4_apply, pay1_apply]

theorem accB (c : Dev nD) (t : Fin cfg0.N) (h0 : ¬ t.val % 16 = 0) (y : S8x128.Idx) :
    (outsAt0 m c t.val t.isLt).2.2 y = (outsAt0 m c (t.val - 1) (Nat.lt_of_le_of_lt (Nat.sub_le _ _) t.isLt)).2.2 y + add (iblk m c 0 t) (iblk m c 1 t) := by
  by_cases h1 : t.val % 16 = 15
  · rw [outsAt0_C m c t h0 h1]
    frame_out
    rw [pay4_apply, read_unread_whole]
  · rw [outsAt0_B m c t h0 h1]
    frame_out
    rw [pay4_apply, read_unread_whole]

theorem lossC (c : Dev nD) (t : Fin cfg0.N) (h0 : ¬ t.val % 16 = 0) (h1 : t.val % 16 = 15) (y : S8x128.Idx) :
    (outsAt0 m c t.val t.isLt).2.1 y = Ideal.ofBits .f32 1056964608#32 * (outsAt0 m c t.val t.isLt).2.2 y := by
  rw [outsAt0_C m c t h0 h1]
  frame_out
  rw [pay5_apply]

theorem accSum (c : Dev nD) (t : Fin cfg0.N) (ht : t.val % 16 = 15) (y : S8x128.Idx) :
    (outsAt0 m c t.val t.isLt).2.2 y = ∑ r : Fin 8192, sq (m ((c : Thread nD τ).loc main_arg0)) (m ((c : Thread nD τ).loc main_arg1)) r := by
  rw [Pipeline.eq_sum_fin_of_reset_step_apply_of_flush (fun n h => (outsAt0 m c n h).2.2) 16 (fun _ => (0 : EReal)) (fun t _ => add (iblk m c 0 t) (iblk m c 1 t))
    (fun t h j => accA m c t h j) (fun t h j => accB m c t h j) t ht y, zero_add]
  unfold add
  refine Fin.sum_mul_add_congr fun s r hl => ?_
  have e : row ⟨16 * (t.val / 16) + s.val, Pipeline.run_point_lt_of_flush t ht s⟩ r = ⟨s.val * 512 + r.val, hl⟩ := by
    have := lt_of_lt_of_eq t.isLt N_0
    apply Fin.ext
    change (16 * (t.val / 16) + s.val) * 512 + r.val = s.val * 512 + r.val
    omega
  simp only [in0, in1, e, sq]

theorem final2 (c : Dev nD) : (dats m 0 c).arrAt 2 (cfgs 0).N
    = Cert.Reference3Ideal.Read.val_main_v14 (F := Ideal) (m ((c : Thread nD τ).loc main_arg0)) (m ((c : Thread nD τ).loc main_arg1)) := by
  refine (dats m 0 c).arrAt_eq_of_covers 2 _ (by decide +kernel) fun t hf y => ?_
  blk_simp
  rw [after0_2, dy]
  obtain ⟨r, hr⟩ : ∃ r : Fin 512, r = y 0 := ⟨_, rfl⟩
  obtain ⟨k, hk⟩ : ∃ k : Fin 1024, k = y 1 := ⟨_, rfl⟩
  refine (congrArg (k0_pay3 (iblk m c 0 t) (iblk m c 1 t)) (ix_2 512 1024 y r k (by rw [hr]) (by rw [hk]))).trans ?_
  rw [pay3_apply, in0, in1, ← r14]
  refine congrArg _ (ix_2 8192 1024 _ _ _ ?_ ?_).symm <;> blk_simp [idx_val t, hr, hk]
  rfl

theorem final3 (c : Dev nD) : (dats m 0 c).arrAt 3 (cfgs 0).N
    = Cert.Reference3Ideal.Read.val_main_v15 (F := Ideal) (m ((c : Thread nD τ).loc main_arg0)) (m ((c : Thread nD τ).loc main_arg1)) := by
  refine (dats m 0 c).arrAt_eq_of_covers 3 _ (by decide +kernel) fun t hf y => ?_
  have ht := (flush0_3 t).mp hf
  blk_simp
  rw [after0_3, lossC m c t (by omega) ht, accSum m c t ht]
  exact (r15 _ _ _).symm

end Cert.Kernel3Ideal.Loss

end
-- ==== Proof.Pool.Group.lean ====
/-
  The gradients of the grouped product and of its scale.
-/
module

public import proofs.«01_k».proof.Proof.Gen.Kernel4Ideal.Value
public import proofs.«01_k».proof.Proof.Gen.Reference4Ideal.Read
public import Idealize.ShloMosaic.Lib.Pipeline.ValueKit
public import Idealize.ShloMosaic.Lib.Pipeline.ReadBack

@[expose] public section

set_option maxRecDepth 16384

noncomputable section

namespace Cert.Kernel4Ideal.Group

open Cert.Kernel4Ideal Cert.Kernel4Ideal.Gen
open Idealize.ShloMosaic Idealize.ShloMosaic.TcCoe Idealize.SL.Sem
open Idealize.ShloMosaic.Pipeline (Dat)

variable (m : (ℓ : Loc nD τ sig) → Buf (Elt Ideal) ℓ)

theorem idx_val : ∀ t : Fin cfg0.N, win0_0.index t = ![t.val, 0] ∧ win0_1.index t = ![t.val, 0] ∧ win0_2.index t = ![0, 0, 0] ∧ win0_3.index t = ![0, 0]
    ∧ win0_4.index t = ![t.val, 0] ∧ win0_5.index t = ![0, 0, 0] ∧ win0_6.index t = ![0, 0] :=
  (by decide +kernel : ∀ t : Fin grid0.N, _)

/-- A row of a point's block in the whole array. -/
def row (t : Fin cfg0.N) (r : Fin 256) : Fin 8192 := ⟨256 * t.val + r.val, by
  have := lt_of_lt_of_eq t.isLt N_0
  omega⟩

theorem in0 (c : Dev nD) (t : Fin cfg0.N) (r : Fin 256) (k : Fin 1024) : iblk m c 0 t (ix2 r k) = m ((c : Thread nD τ).loc main_arg3) (ix2 (row t r) k) := by
  unfold row
  blk_ext [iblk, V, idx_val t]

theorem in1 (c : Dev nD) (t : Fin cfg0.N) (r : Fin 256) (k : Fin 1024) : iblk m c 1 t (ix2 r k) = m ((c : Thread nD τ).loc main_arg0) (ix2 (row t r) k) := by
  unfold row
  blk_simp [iblk]
  entry_read
  pointwise
  blk_point [iblk, V, idx_val t]

theorem in2 (c : Dev nD) (t : Fin cfg0.N) (g : Fin 4) (a b : Fin 256) : iblk m c 2 t (ix3 g a b) = m ((c : Thread nD τ).loc main_arg1) (ix3 g a b) := by
  blk_simp [iblk]
  entry_read
  pointwise
  blk_point [iblk, V, idx_val t]

theorem in3 (c : Dev nD) (t : Fin cfg0.N) (z : Fin 1) (k : Fin 1024) : iblk m c 3 t (ix2 z k) = m ((c : Thread nD τ).loc main_arg2) (ix1 k) := by
  blk_simp [iblk]
  entry_read
  pointwise
  blk_point [iblk, V, idx_val t]

/-- A group's column. -/
def col (g : Fin 4) (a : Fin 256) : Fin 1024 := ⟨256 * g.val + a.val, by omega⟩

theorem acc0 (v3 : Vec Ideal S256x256 .bf16) (v5 : Vec Ideal S256x256 .f32) (v16 : Vec Ideal S1x256 .f32) (v25 : Vec Ideal S1x256x256 .f32) (a b : Fin 256) :
    k0_pay10 (k0_pay9 v3 v5 v16 v25) (ix3 0 a b) = v25 (ix3 0 a b) + ∑ r : Fin 256, v3 (ix2 r a) * (v5 (ix2 r b) * v16 (ix2 0 b)) := by
  pointwise [k0_pay10, k0_pay9, k0_pay7, k0_pay5]

theorem acc1 (v3 : Vec Ideal S256x256 .bf16) (v5 : Vec Ideal S256x256 .f32) (v16 : Vec Ideal S1x256 .f32) (v25 : Vec Ideal S1x256x256 .f32) (a b : Fin 256) :
    k0_pay16 (k0_pay15 v3 v5 v16 v25) (ix3 0 a b) = v25 (ix3 0 a b) + ∑ r : Fin 256, v3 (ix2 r a) * (v5 (ix2 r b) * v16 (ix2 0 b)) := by
  pointwise [k0_pay16, k0_pay15, k0_pay13, k0_pay11]

theorem acc2 (v3 : Vec Ideal S256x256 .bf16) (v5 : Vec Ideal S256x256 .f32) (v16 : Vec Ideal S1x256 .f32) (v25 : Vec Ideal S1x256x256 .f32) (a b : Fin 256) :
    k0_pay22 (k0_pay21 v3 v5 v16 v25) (ix3 0 a b) = v25 (ix3 0 a b) + ∑ r : Fin 256, v3 (ix2 r a) * (v5 (ix2 r b) * v16 (ix2 0 b)) := by
  pointwise [k0_pay22, k0_pay21, k0_pay19, k0_pay17]

theorem acc3 (v3 : Vec Ideal S256x256 .bf16) (v5 : Vec Ideal S256x256 .f32) (v16 : Vec Ideal S1x256 .f32) (v25 : Vec Ideal S1x256x256 .f32) (a b : Fin 256) :
    k0_pay1 (k0_pay27 v3 v5 v16 v25) (ix3 0 a b) = v25 (ix3 0 a b) + ∑ r : Fin 256, v3 (ix2 r a) * (v5 (ix2 r b) * v16 (ix2 0 b)) := by
  pointwise [k0_pay1, k0_pay27, k0_pay25, k0_pay23]

theorem sc0 (v3 : Vec Ideal S256x256 .bf16) (v5 : Vec Ideal S256x256 .f32) (v6 : Vec Ideal S1x256x256 .bf16) (v9 : Vec Ideal S1x256 .f32) (b : Fin 256) :
    k0_pay6 v3 v5 v6 v9 (ix2 0 b) = v9 (ix2 0 b) + ∑ r : Fin 256, v5 (ix2 r b) * ∑ a : Fin 256, v3 (ix2 r a) * v6 (ix3 0 a b) := by
  pointwise [k0_pay6, k0_pay5]

theorem sc1 (v3 : Vec Ideal S256x256 .bf16) (v5 : Vec Ideal S256x256 .f32) (v6 : Vec Ideal S1x256x256 .bf16) (v9 : Vec Ideal S1x256 .f32) (b : Fin 256) :
    k0_pay12 v3 v5 v6 v9 (ix2 0 b) = v9 (ix2 0 b) + ∑ r : Fin 256, v5 (ix2 r b) * ∑ a : Fin 256, v3 (ix2 r a) * v6 (ix3 0 a b) := by
  pointwise [k0_pay12, k0_pay11]

theorem sc2 (v3 : Vec Ideal S256x256 .bf16) (v5 : Vec Ideal S256x256 .f32) (v6 : Vec Ideal S1x256x256 .bf16) (v9 : Vec Ideal S1x256 .f32) (b : Fin 256) :
    k0_pay18 v3 v5 v6 v9 (ix2 0 b) = v9 (ix2 0 b) + ∑ r : Fin 256, v5 (ix2 r b) * ∑ a : Fin 256, v3 (ix2 r a) * v6 (ix3 0 a b) := by
  pointwise [k0_pay18, k0_pay17]

theorem sc3 (v3 : Vec Ideal S256x256 .bf16) (v5 : Vec Ideal S256x256 .f32) (v6 : Vec Ideal S1x256x256 .bf16) (v9 : Vec Ideal S1x256 .f32) (b : Fin 256) :
    k0_pay24 v3 v5 v6 v9 (ix2 0 b) = v9 (ix2 0 b) + ∑ r : Fin 256, v5 (ix2 r b) * ∑ a : Fin 256, v3 (ix2 r a) * v6 (ix3 0 a b) := by
  pointwise [k0_pay24, k0_pay23]

theorem dp0 (v5 : Vec Ideal S256x256 .f32) (v16 : Vec Ideal S1x256 .f32) (v21 : Vec Ideal S1x256x256 .bf16) (r a : Fin 256) :
    k0_pay8 v5 v16 v21 (ix2 r a) = ∑ b : Fin 256, (v5 (ix2 r b) * v16 (ix2 0 b)) * v21 (ix3 0 a b) := by
  pointwise [k0_pay8, k0_pay7]

theorem dp1 (v5 : Vec Ideal S256x256 .f32) (v16 : Vec Ideal S1x256 .f32) (v21 : Vec Ideal S1x256x256 .bf16) (r a : Fin 256) :
    k0_pay14 v5 v16 v21 (ix2 r a) = ∑ b : Fin 256, (v5 (ix2 r b) * v16 (ix2 0 b)) * v21 (ix3 0 a b) := by
  pointwise [k0_pay14, k0_pay13]

theorem dp2 (v5 : Vec Ideal S256x256 .f32) (v16 : Vec Ideal S1x256 .f32) (v21 : Vec Ideal S1x256x256 .bf16) (r a : Fin 256) :
    k0_pay20 v5 v16 v21 (ix2 r a) = ∑ b : Fin 256, (v5 (ix2 r b) * v16 (ix2 0 b)) * v21 (ix3 0 a b) := by
  pointwise [k0_pay20, k0_pay19]

theorem dp3 (v5 : Vec Ideal S256x256 .f32) (v16 : Vec Ideal S1x256 .f32) (v21 : Vec Ideal S1x256x256 .bf16) (r a : Fin 256) :
    k0_pay26 v5 v16 v21 (ix2 r a) = ∑ b : Fin 256, (v5 (ix2 r b) * v16 (ix2 0 b)) * v21 (ix3 0 a b) := by
  pointwise [k0_pay26, k0_pay25]

/-- What a point adds to the gradient of the weights. -/
def addW (x0 : Vec Ideal S256x1024 .f32) (x1 : Vec Ideal S256x1024 .bf16) (x3 : Vec Ideal S1x1024 .f32) (g : Fin 4) (a b : Fin 256) : EReal :=
  ∑ r : Fin 256, x1 (ix2 r (col g a)) * (x0 (ix2 r (col g b)) * x3 (ix2 0 (col g b)))

/-- What a point adds to the gradient of the scale. -/
def addS (x0 : Vec Ideal S256x1024 .f32) (x1 : Vec Ideal S256x1024 .bf16) (x2 : Vec Ideal S4x256x256 .bf16) (k : Fin 1024) : EReal :=
  ∑ r : Fin 256, x0 (ix2 r k) * ∑ a : Fin 256, x1 (ix2 r (col ⟨k.val / 256, by omega⟩ a)) * x2 (ix3 ⟨k.val / 256, by omega⟩ a ⟨k.val % 256, by omega⟩)

theorem col_div (g : Fin 4) (b : Fin 256) : (⟨(col g b).val / 256, by omega⟩ : Fin 4) = g := by
  apply Fin.ext
  change (256 * g.val + b.val) / 256 = g.val
  omega

theorem col_mod (g : Fin 4) (b : Fin 256) : (⟨(col g b).val % 256, by omega⟩ : Fin 256) = b := by
  apply Fin.ext
  change (256 * g.val + b.val) % 256 = b.val
  omega

theorem ldA {e : EltTy} (x : S256x1024.Idx → Elt Ideal e) (o : Nat) (inb : ∀ a, (![0, o] : Fin 2 → Nat) a + S256x256.size a ≤ S256x1024.size a) (r a : Fin 256) (k : Fin 1024)
    (hk : k.val = o + a.val) : View.ld (Val := Elt Ideal) x (Rect.unit ![0, o] ![256, 256] inb) (ix2 r a) = x (ix2 r k) := by
  refine congrArg x (funext fun d => Fin.ext ?_)
  fin_cases d <;> simp [LoadRect.idx, Rect.unit, hk]

theorem ldS {e : EltTy} (x : S1x1024.Idx → Elt Ideal e) (o : Nat) (inb : ∀ a, (![0, o] : Fin 2 → Nat) a + S1x256.size a ≤ S1x1024.size a) (a : Fin 256) (k : Fin 1024)
    (hk : k.val = o + a.val) : View.ld (Val := Elt Ideal) x (Rect.unit ![0, o] ![1, 256] inb) (ix2 0 a) = x (ix2 0 k) := by
  refine congrArg x (funext fun d => Fin.ext ?_)
  fin_cases d <;> simp [LoadRect.idx, Rect.unit, hk]

theorem ldW {e : EltTy} (x : S4x256x256.Idx → Elt Ideal e) (o : Nat) (inb : ∀ a, (![o, 0, 0] : Fin 3 → Nat) a + S1x256x256.size a ≤ S4x256x256.size a) (g : Fin 4) (a b : Fin 256)
    (hg : g.val = o) : View.ld (Val := Elt Ideal) x (Rect.unit ![o, 0, 0] ![1, 256, 256] inb) (ix3 0 a b) = x (ix3 g a b) := by
  refine congrArg x (funext fun d => Fin.ext ?_)
  fin_cases d <;> simp [LoadRect.idx, Rect.unit, hg]

theorem ix_W (n : Nat) (x : (⟨3, ![n, 256, 256]⟩ : Shape).Idx) (g : Fin n) (a b : Fin 256) (h0 : (x 0).val = g.val) (h1 : (x 1).val = a.val) (h2 : (x 2).val = b.val) : x = ix3 g a b := by
  refine funext fun d => Fin.ext ?_
  fin_cases d
  exacts [h0, h1, h2]

theorem ix_S (n k : Nat) (x : (⟨2, ![n, k]⟩ : Shape).Idx) (g : Fin n) (a : Fin k) (h0 : (x 0).val = g.val) (h1 : (x 1).val = a.val) : x = ix2 g a := by
  refine funext fun d => Fin.ext ?_
  fin_cases d
  exacts [h0, h1]

theorem accPiece (g : Fin 4) (x0 : Vec Ideal S256x1024 .f32) (x1 : Vec Ideal S256x1024 .bf16) (x3 : Vec Ideal S1x1024 .f32) (acc : Vec Ideal S4x256x256 .f32)
    (v3 : Vec Ideal S256x256 .bf16) (v5 : Vec Ideal S256x256 .f32) (v16 : Vec Ideal S1x256 .f32) (v25 v : Vec Ideal S1x256x256 .f32)
    (hv : ∀ a b, v (ix3 0 a b) = v25 (ix3 0 a b) + ∑ r : Fin 256, v3 (ix2 r a) * (v5 (ix2 r b) * v16 (ix2 0 b)))
    (h3 : ∀ r a, v3 (ix2 r a) = x1 (ix2 r (col g a))) (h5 : ∀ r b, v5 (ix2 r b) = x0 (ix2 r (col g b)))
    (h16 : ∀ b, v16 (ix2 0 b) = x3 (ix2 0 (col g b))) (h25 : ∀ a b, v25 (ix3 0 a b) = acc (ix3 g a b))
    (x : S1x256x256.Idx) (y : S4x256x256.Idx) (e0 : (y 0).val = g.val) (e1 : (y 1).val = (x 1).val) (e2 : (y 2).val = (x 2).val) :
    v x = acc y + addW x0 x1 x3 (y 0) (y 1) (y 2) := by
  obtain ⟨a, ha⟩ : ∃ a : Fin 256, a = y 1 := ⟨_, rfl⟩
  obtain ⟨b, hb⟩ : ∃ b : Fin 256, b = y 2 := ⟨_, rfl⟩
  have hx0 : (x 0).val < 1 := (x 0).isLt
  rw [show x = ix3 0 a b from ix_W 1 x 0 a b (by rw [Fin.val_zero]; omega) (by rw [ha, e1]) (by rw [hb, e2]),
    show y = ix3 g a b from ix_W 4 y g a b e0 (by rw [ha]) (by rw [hb])]
  rw [hv, h25]
  simp only [h3, h5, h16, addW]
  rfl

theorem scPiece (g : Fin 4) (x0 : Vec Ideal S256x1024 .f32) (x1 : Vec Ideal S256x1024 .bf16) (x2 : Vec Ideal S4x256x256 .bf16) (acc : Vec Ideal S1x1024 .f32)
    (v3 : Vec Ideal S256x256 .bf16) (v5 : Vec Ideal S256x256 .f32) (v6 : Vec Ideal S1x256x256 .bf16) (v9 v : Vec Ideal S1x256 .f32)
    (hv : ∀ b, v (ix2 0 b) = v9 (ix2 0 b) + ∑ r : Fin 256, v5 (ix2 r b) * ∑ a : Fin 256, v3 (ix2 r a) * v6 (ix3 0 a b))
    (h3 : ∀ r a, v3 (ix2 r a) = x1 (ix2 r (col g a))) (h5 : ∀ r b, v5 (ix2 r b) = x0 (ix2 r (col g b)))
    (h6 : ∀ a b, v6 (ix3 0 a b) = x2 (ix3 g a b)) (h9 : ∀ b, v9 (ix2 0 b) = acc (ix2 0 (col g b)))
    (x : S1x256.Idx) (y : S1x1024.Idx) (e1 : (y 1).val = 256 * g.val + (x 1).val) :
    v x = acc y + addS x0 x1 x2 (y 1) := by
  obtain ⟨a, ha⟩ : ∃ a : Fin 256, a = x 1 := ⟨_, rfl⟩
  have hx0 : (x 0).val < 1 := (x 0).isLt
  have hy0 : (y 0).val < 1 := (y 0).isLt
  rw [show x = ix2 0 a from ix_S 1 256 x 0 a (by rw [Fin.val_zero]; omega) (by rw [ha]),
    show y = ix2 0 (col g a) from ix_S 1 1024 y 0 (col g a) (by rw [Fin.val_zero]; omega) (by rw [e1, ha]; rfl)]
  rw [hv, h9]
  simp only [h3, h5, h6]
  change _ = _ + addS x0 x1 x2 (col g a)
  simp only [addS, col_div, col_mod]

theorem accB (c : Dev nD) (t : Fin cfg0.N) (h0 : ¬ t.val % 32 = 0) (h1 : ¬ t.val % 32 = 31) (y : S4x256x256.Idx) :
    (outsAt0 m c t.val t.isLt).2.2.2 y = (outsAt0 m c (t.val - 1) (Nat.lt_of_le_of_lt (Nat.sub_le _ _) t.isLt)).2.2.2 y + addW (iblk m c 0 t) (iblk m c 1 t) (iblk m c 3 t) (y 0) (y 1) (y 2) := by
  rw [outsAt0_B m c t h0 h1]
  frame_out
  simp only [read_unread_whole]
  canon_tiles x h
  · exact accPiece 3 _ _ _ _ _ _ _ _ _ (acc3 _ _ _ _) (fun _ _ => ldA _ _ _ _ _ _ rfl) (fun _ _ => ldA _ _ _ _ _ _ rfl) (fun _ => ldS _ _ _ _ _ rfl) (fun _ _ => ldW _ _ _ _ _ _ rfl) x y (by omega) h1 h2
  · exact accPiece 2 _ _ _ _ _ _ _ _ _ (acc2 _ _ _ _) (fun _ _ => ldA _ _ _ _ _ _ rfl) (fun _ _ => ldA _ _ _ _ _ _ rfl) (fun _ => ldS _ _ _ _ _ rfl) (fun _ _ => ldW _ _ _ _ _ _ rfl) x y (by omega) h1 h2
  · exact accPiece 1 _ _ _ _ _ _ _ _ _ (acc1 _ _ _ _) (fun _ _ => ldA _ _ _ _ _ _ rfl) (fun _ _ => ldA _ _ _ _ _ _ rfl) (fun _ => ldS _ _ _ _ _ rfl) (fun _ _ => ldW _ _ _ _ _ _ rfl) x y (by omega) h1 h2
  · exact accPiece 0 _ _ _ _ _ _ _ _ _ (acc0 _ _ _ _) (fun _ _ => ldA _ _ _ _ _ _ rfl) (fun _ _ => ldA _ _ _ _ _ _ rfl) (fun _ => ldS _ _ _ _ _ rfl) (fun _ _ => ldW _ _ _ _ _ _ rfl) x y (by omega) h1 h2

theorem scB (c : Dev nD) (t : Fin cfg0.N) (h0 : ¬ t.val % 32 = 0) (h1 : ¬ t.val % 32 = 31) (y : S1x1024.Idx) :
    (outsAt0 m c t.val t.isLt).2.2.1 y = (outsAt0 m c (t.val - 1) (Nat.lt_of_le_of_lt (Nat.sub_le _ _) t.isLt)).2.2.1 y + addS (iblk m c 0 t) (iblk m c 1 t) (iblk m c 2 t) (y 1) := by
  rw [outsAt0_B m c t h0 h1]
  frame_out
  canon_tiles x h
  · exact scPiece 3 _ _ _ _ _ _ _ _ _ (sc3 _ _ _ _) (fun _ _ => ldA _ _ _ _ _ _ rfl) (fun _ _ => ldA _ _ _ _ _ _ rfl) (fun _ _ => ldW _ _ _ _ _ _ rfl) (fun _ => ldS _ _ _ _ _ rfl) x y (by omega)
  · exact scPiece 2 _ _ _ _ _ _ _ _ _ (sc2 _ _ _ _) (fun _ _ => ldA _ _ _ _ _ _ rfl) (fun _ _ => ldA _ _ _ _ _ _ rfl) (fun _ _ => ldW _ _ _ _ _ _ rfl) (fun _ => ldS _ _ _ _ _ rfl) x y (by omega)
  · exact scPiece 1 _ _ _ _ _ _ _ _ _ (sc1 _ _ _ _) (fun _ _ => ldA _ _ _ _ _ _ rfl) (fun _ _ => ldA _ _ _ _ _ _ rfl) (fun _ _ => ldW _ _ _ _ _ _ rfl) (fun _ => ldS _ _ _ _ _ rfl) x y (by omega)
  · exact scPiece 0 _ _ _ _ _ _ _ _ _ (sc0 _ _ _ _) (fun _ _ => ldA _ _ _ _ _ _ rfl) (fun _ _ => ldA _ _ _ _ _ _ rfl) (fun _ _ => ldW _ _ _ _ _ _ rfl) (fun _ => ldS _ _ _ _ _ rfl) x y (by omega)

theorem accC (c : Dev nD) (t : Fin cfg0.N) (h0 : ¬ t.val % 32 = 0) (h1 : t.val % 32 = 31) (y : S4x256x256.Idx) :
    (outsAt0 m c t.val t.isLt).2.2.2 y = (outsAt0 m c (t.val - 1) (Nat.lt_of_le_of_lt (Nat.sub_le _ _) t.isLt)).2.2.2 y + addW (iblk m c 0 t) (iblk m c 1 t) (iblk m c 3 t) (y 0) (y 1) (y 2) := by
  rw [outsAt0_C m c t h0 h1]
  frame_out
  simp only [read_unread_whole]
  canon_tiles x h
  · exact accPiece 3 _ _ _ _ _ _ _ _ _ (acc3 _ _ _ _) (fun _ _ => ldA _ _ _ _ _ _ rfl) (fun _ _ => ldA _ _ _ _ _ _ rfl) (fun _ => ldS _ _ _ _ _ rfl) (fun _ _ => ldW _ _ _ _ _ _ rfl) x y (by omega) h1 h2
  · exact accPiece 2 _ _ _ _ _ _ _ _ _ (acc2 _ _ _ _) (fun _ _ => ldA _ _ _ _ _ _ rfl) (fun _ _ => ldA _ _ _ _ _ _ rfl) (fun _ => ldS _ _ _ _ _ rfl) (fun _ _ => ldW _ _ _ _ _ _ rfl) x y (by omega) h1 h2
  · exact accPiece 1 _ _ _ _ _ _ _ _ _ (acc1 _ _ _ _) (fun _ _ => ldA _ _ _ _ _ _ rfl) (fun _ _ => ldA _ _ _ _ _ _ rfl) (fun _ => ldS _ _ _ _ _ rfl) (fun _ _ => ldW _ _ _ _ _ _ rfl) x y (by omega) h1 h2
  · exact accPiece 0 _ _ _ _ _ _ _ _ _ (acc0 _ _ _ _) (fun _ _ => ldA _ _ _ _ _ _ rfl) (fun _ _ => ldA _ _ _ _ _ _ rfl) (fun _ => ldS _ _ _ _ _ rfl) (fun _ _ => ldW _ _ _ _ _ _ rfl) x y (by omega) h1 h2

theorem scC (c : Dev nD) (t : Fin cfg0.N) (h0 : ¬ t.val % 32 = 0) (h1 : t.val % 32 = 31) (y : S1x1024.Idx) :
    (outsAt0 m c t.val t.isLt).2.2.1 y = (outsAt0 m c (t.val - 1) (Nat.lt_of_le_of_lt (Nat.sub_le _ _) t.isLt)).2.2.1 y + addS (iblk m c 0 t) (iblk m c 1 t) (iblk m c 2 t) (y 1) := by
  rw [outsAt0_C m c t h0 h1]
  frame_out
  canon_tiles x h
  · exact scPiece 3 _ _ _ _ _ _ _ _ _ (sc3 _ _ _ _) (fun _ _ => ldA _ _ _ _ _ _ rfl) (fun _ _ => ldA _ _ _ _ _ _ rfl) (fun _ _ => ldW _ _ _ _ _ _ rfl) (fun _ => ldS _ _ _ _ _ rfl) x y (by omega)
  · exact scPiece 2 _ _ _ _ _ _ _ _ _ (sc2 _ _ _ _) (fun _ _ => ldA _ _ _ _ _ _ rfl) (fun _ _ => ldA _ _ _ _ _ _ rfl) (fun _ _ => ldW _ _ _ _ _ _ rfl) (fun _ => ldS _ _ _ _ _ rfl) x y (by omega)
  · exact scPiece 1 _ _ _ _ _ _ _ _ _ (sc1 _ _ _ _) (fun _ _ => ldA _ _ _ _ _ _ rfl) (fun _ _ => ldA _ _ _ _ _ _ rfl) (fun _ _ => ldW _ _ _ _ _ _ rfl) (fun _ => ldS _ _ _ _ _ rfl) x y (by omega)
  · exact scPiece 0 _ _ _ _ _ _ _ _ _ (sc0 _ _ _ _) (fun _ _ => ldA _ _ _ _ _ _ rfl) (fun _ _ => ldA _ _ _ _ _ _ rfl) (fun _ _ => ldW _ _ _ _ _ _ rfl) (fun _ => ldS _ _ _ _ _ rfl) x y (by omega)

theorem accA (c : Dev nD) (t : Fin cfg0.N) (h0 : t.val % 32 = 0) (h1 : ¬ t.val % 32 = 31) (y : S4x256x256.Idx) :
    (outsAt0 m c t.val t.isLt).2.2.2 y = k0_pay3 (F := Ideal) y + addW (iblk m c 0 t) (iblk m c 1 t) (iblk m c 3 t) (y 0) (y 1) (y 2) := by
  rw [outsAt0_A m c t h0 h1]
  frame_out
  simp (disch := decide) only [↓View.readCov_skip, View.readCov_fill]
  refine View.canon_append_of_piecesOf (Val := Elt Ideal) (s := S4x256x256) (e := .f32) (fun y : S4x256x256.Idx => k0_pay3 (F := Ideal) y + addW (iblk m c 0 t) (iblk m c 1 t) (iblk m c 3 t) (y 0) (y 1) (y 2)) [_] [_, _, _, _] ⟨fun x => ?_, fun x => ?_, fun x => ?_, fun x => ?_, trivial⟩ y ?_
  rotate_left 4
  · exact View.cover_of_tiled (s := S4x256x256) _ ![1, 256, 256] (by rfl) y
  · exact accPiece 3 _ _ _ _ _ _ _ _ _ (acc3 _ _ _ _) (fun _ _ => ldA _ _ _ _ _ _ rfl) (fun _ _ => ldA _ _ _ _ _ _ rfl) (fun _ => ldS _ _ _ _ _ rfl) (fun _ _ => ldW _ _ _ _ _ _ rfl) x _ (by have hx0 : (x 0).val < 1 := (x 0).isLt; change 3 + 1 * (x 0).val = 3; omega) (by change 0 + 1 * (x 1).val = _; omega) (by change 0 + 1 * (x 2).val = _; omega)
  · exact accPiece 2 _ _ _ _ _ _ _ _ _ (acc2 _ _ _ _) (fun _ _ => ldA _ _ _ _ _ _ rfl) (fun _ _ => ldA _ _ _ _ _ _ rfl) (fun _ => ldS _ _ _ _ _ rfl) (fun _ _ => ldW _ _ _ _ _ _ rfl) x _ (by have hx0 : (x 0).val < 1 := (x 0).isLt; change 2 + 1 * (x 0).val = 2; omega) (by change 0 + 1 * (x 1).val = _; omega) (by change 0 + 1 * (x 2).val = _; omega)
  · exact accPiece 1 _ _ _ _ _ _ _ _ _ (acc1 _ _ _ _) (fun _ _ => ldA _ _ _ _ _ _ rfl) (fun _ _ => ldA _ _ _ _ _ _ rfl) (fun _ => ldS _ _ _ _ _ rfl) (fun _ _ => ldW _ _ _ _ _ _ rfl) x _ (by have hx0 : (x 0).val < 1 := (x 0).isLt; change 1 + 1 * (x 0).val = 1; omega) (by change 0 + 1 * (x 1).val = _; omega) (by change 0 + 1 * (x 2).val = _; omega)
  · exact accPiece 0 _ _ _ _ _ _ _ _ _ (acc0 _ _ _ _) (fun _ _ => ldA _ _ _ _ _ _ rfl) (fun _ _ => ldA _ _ _ _ _ _ rfl) (fun _ => ldS _ _ _ _ _ rfl) (fun _ _ => ldW _ _ _ _ _ _ rfl) x _ (by have hx0 : (x 0).val < 1 := (x 0).isLt; change 0 + 1 * (x 0).val = 0; omega) (by change 0 + 1 * (x 1).val = _; omega) (by change 0 + 1 * (x 2).val = _; omega)

theorem scA (c : Dev nD) (t : Fin cfg0.N) (h0 : t.val % 32 = 0) (h1 : ¬ t.val % 32 = 31) (y : S1x1024.Idx) :
    (outsAt0 m c t.val t.isLt).2.2.1 y = k0_pay4 (F := Ideal) y + addS (iblk m c 0 t) (iblk m c 1 t) (iblk m c 2 t) (y 1) := by
  rw [outsAt0_A m c t h0 h1]
  frame_out
  simp (disch := decide) only [↓View.readCov_skip, View.readCov_fill]
  refine View.canon_append_of_piecesOf (Val := Elt Ideal) (s := S1x1024) (e := .f32) (fun y : S1x1024.Idx => k0_pay4 (F := Ideal) y + addS (iblk m c 0 t) (iblk m c 1 t) (iblk m c 2 t) (y 1)) [_] [_, _, _, _] ⟨fun x => ?_, fun x => ?_, fun x => ?_, fun x => ?_, trivial⟩ y ?_
  rotate_left 4
  · exact View.cover_of_tiled (s := S1x1024) _ ![1, 256] (by rfl) y
  · exact scPiece 3 _ _ _ _ _ _ _ _ _ (sc3 _ _ _ _) (fun _ _ => ldA _ _ _ _ _ _ rfl) (fun _ _ => ldA _ _ _ _ _ _ rfl) (fun _ _ => ldW _ _ _ _ _ _ rfl) (fun _ => ldS _ _ _ _ _ rfl) x _ (by change 768 + 1 * (x 1).val = 256 * 3 + _; omega)
  · exact scPiece 2 _ _ _ _ _ _ _ _ _ (sc2 _ _ _ _) (fun _ _ => ldA _ _ _ _ _ _ rfl) (fun _ _ => ldA _ _ _ _ _ _ rfl) (fun _ _ => ldW _ _ _ _ _ _ rfl) (fun _ => ldS _ _ _ _ _ rfl) x _ (by change 512 + 1 * (x 1).val = 256 * 2 + _; omega)
  · exact scPiece 1 _ _ _ _ _ _ _ _ _ (sc1 _ _ _ _) (fun _ _ => ldA _ _ _ _ _ _ rfl) (fun _ _ => ldA _ _ _ _ _ _ rfl) (fun _ _ => ldW _ _ _ _ _ _ rfl) (fun _ => ldS _ _ _ _ _ rfl) x _ (by change 256 + 1 * (x 1).val = 256 * 1 + _; omega)
  · exact scPiece 0 _ _ _ _ _ _ _ _ _ (sc0 _ _ _ _) (fun _ _ => ldA _ _ _ _ _ _ rfl) (fun _ _ => ldA _ _ _ _ _ _ rfl) (fun _ _ => ldW _ _ _ _ _ _ rfl) (fun _ => ldS _ _ _ _ _ rfl) x _ (by change 0 + 1 * (x 1).val = 256 * 0 + _; omega)

theorem pay2_apply (v : Vec Ideal S4x256x256 .f32) (y : S4x256x256.Idx) : k0_pay2 v y = v y := by
  pointwise [k0_pay2]

theorem pay3_apply (y : S4x256x256.Idx) : k0_pay3 (F := Ideal) y = (0 : EReal) := by
  pointwise [k0_pay3]

theorem pay4_apply (y : S1x1024.Idx) : k0_pay4 (F := Ideal) y = (0 : EReal) := by
  pointwise [k0_pay4]

theorem storedC (c : Dev nD) (t : Fin cfg0.N) (h0 : ¬ t.val % 32 = 0) (h1 : t.val % 32 = 31) (y : S4x256x256.Idx) :
    (outsAt0 m c t.val t.isLt).2.1 y = (outsAt0 m c t.val t.isLt).2.2.2 y := by
  rw [outsAt0_C m c t h0 h1]
  frame_out
  rw [View.readCov_eq_canon']
  refine (pay2_apply _ y).trans ?_
  refine congrArg (View.canon _) (funext fun d => Fin.ext ?_)
  fin_cases d <;> simp [LoadRect.idx, Rect.unit]

/-- The gradient of the weights. -/
def RW (p dx : FVec Ideal S8192x1024 .f32) (sc : FVec Ideal S1024 .f32) (y : S4x256x256.Idx) : EReal :=
  ∑ l : Fin 8192, p (ix2 l (col (y 0) (y 1))) * (dx (ix2 l (col (y 0) (y 2))) * sc (ix1 (col (y 0) (y 2))))

/-- The gradient of the scale. -/
def RS (p dx : FVec Ideal S8192x1024 .f32) (w : FVec Ideal S4x256x256 .f32) (k : Fin 1024) : EReal :=
  ∑ l : Fin 8192, dx (ix2 l k) * ∑ a : Fin 256, p (ix2 l (col ⟨k.val / 256, by omega⟩ a)) * w (ix3 ⟨k.val / 256, by omega⟩ a ⟨k.val % 256, by omega⟩)

/-- The gradient of the pooled rows. -/
def RP (w : FVec Ideal S4x256x256 .f32) (sc : FVec Ideal S1024 .f32) (dx : FVec Ideal S8192x1024 .f32) (l : Fin 8192) (k : Fin 1024) : EReal :=
  ∑ b : Fin 256, (dx (ix2 l (col ⟨k.val / 256, by omega⟩ b)) * sc (ix1 (col ⟨k.val / 256, by omega⟩ b))) * w (ix3 ⟨k.val / 256, by omega⟩ ⟨k.val % 256, by omega⟩ b)

theorem row_of (t : Fin cfg0.N) (ht : t.val % 32 = 31) (s : Fin 32) (r : Fin 256) (h : 32 * (t.val / 32) + s.val < cfg0.N) (hl : s.val * 256 + r.val < 8192) :
    row ⟨32 * (t.val / 32) + s.val, h⟩ r = ⟨s.val * 256 + r.val, hl⟩ := by
  have := lt_of_lt_of_eq t.isLt N_0
  apply Fin.ext
  change 256 * (32 * (t.val / 32) + s.val) + r.val = s.val * 256 + r.val
  omega

theorem accSum (c : Dev nD) (t : Fin cfg0.N) (ht : t.val % 32 = 31) (y : S4x256x256.Idx) :
    (outsAt0 m c t.val t.isLt).2.2.2 y = RW (m ((c : Thread nD τ).loc main_arg0)) (m ((c : Thread nD τ).loc main_arg3)) (m ((c : Thread nD τ).loc main_arg2)) y := by
  rw [Pipeline.eq_sum_fin_of_reset_step_apply_of_flush (fun n h => (outsAt0 m c n h).2.2.2) 32 (fun _ => (0 : EReal)) (fun t y => addW (iblk m c 0 t) (iblk m c 1 t) (iblk m c 3 t) (y 0) (y 1) (y 2))
    (fun t h j => by
      rw [accA m c t h (by omega), pay3_apply])
    (fun t h j => by
      by_cases h1 : t.val % 32 = 31
      · exact accC m c t h h1 j
      · exact accB m c t h h1 j) t ht y, zero_add]
  unfold addW RW
  refine Fin.sum_mul_add_congr fun s k hl => ?_
  rw [in0, in1, in3, row_of t ht]

theorem scSum (c : Dev nD) (t : Fin cfg0.N) (ht : t.val % 32 = 31) (y : S1x1024.Idx) :
    (outsAt0 m c t.val t.isLt).2.2.1 y = RS (m ((c : Thread nD τ).loc main_arg0)) (m ((c : Thread nD τ).loc main_arg3)) (m ((c : Thread nD τ).loc main_arg1)) (y 1) := by
  have key : ∀ k : Fin 1024, ∑ s : Fin 32, addS (iblk m c 0 ⟨32 * (t.val / 32) + s.val, Pipeline.run_point_lt_of_flush t ht s⟩) (iblk m c 1 ⟨32 * (t.val / 32) + s.val, Pipeline.run_point_lt_of_flush t ht s⟩) (iblk m c 2 ⟨32 * (t.val / 32) + s.val, Pipeline.run_point_lt_of_flush t ht s⟩) k
      = RS (m ((c : Thread nD τ).loc main_arg0)) (m ((c : Thread nD τ).loc main_arg3)) (m ((c : Thread nD τ).loc main_arg1)) k := fun k => by
    unfold addS RS
    refine Fin.sum_mul_add_congr fun s r hl => ?_
    simp only [in0, in1, in2, row_of t ht s r (Pipeline.run_point_lt_of_flush t ht s) hl]
  rw [Pipeline.eq_sum_fin_of_reset_step_apply_of_flush (fun n h => (outsAt0 m c n h).2.2.1) 32 (fun _ => (0 : EReal)) (fun t y => addS (iblk m c 0 t) (iblk m c 1 t) (iblk m c 2 t) (y 1))
    (fun t h j => by
      rw [scA m c t h (by omega), pay4_apply])
    (fun t h j => by
      by_cases h1 : t.val % 32 = 31
      · exact scC m c t h h1 j
      · exact scB m c t h h1 j) t ht y, zero_add]
  exact key (y 1)

/-- A point's block of the gradient of the pooled rows. -/
def addP (x0 : Vec Ideal S256x1024 .f32) (x2 : Vec Ideal S4x256x256 .bf16) (x3 : Vec Ideal S1x1024 .f32) (r : Fin 256) (k : Fin 1024) : EReal :=
  ∑ b : Fin 256, (x0 (ix2 r (col ⟨k.val / 256, by omega⟩ b)) * x3 (ix2 0 (col ⟨k.val / 256, by omega⟩ b))) * x2 (ix3 ⟨k.val / 256, by omega⟩ ⟨k.val % 256, by omega⟩ b)

theorem dpPiece (g : Fin 4) (x0 : Vec Ideal S256x1024 .f32) (x2 : Vec Ideal S4x256x256 .bf16) (x3 : Vec Ideal S1x1024 .f32)
    (v5 : Vec Ideal S256x256 .f32) (v16 : Vec Ideal S1x256 .f32) (v21 : Vec Ideal S1x256x256 .bf16) (v : Vec Ideal S256x256 .bf16)
    (hv : ∀ r a, v (ix2 r a) = ∑ b : Fin 256, (v5 (ix2 r b) * v16 (ix2 0 b)) * v21 (ix3 0 a b))
    (h5 : ∀ r b, v5 (ix2 r b) = x0 (ix2 r (col g b))) (h16 : ∀ b, v16 (ix2 0 b) = x3 (ix2 0 (col g b)))
    (h21 : ∀ a b, v21 (ix3 0 a b) = x2 (ix3 g a b)) (x : S256x256.Idx) (y : S256x1024.Idx) (e0 : (y 0).val = (x 0).val) (e1 : (y 1).val = 256 * g.val + (x 1).val) :
    v x = addP x0 x2 x3 (y 0) (y 1) := by
  obtain ⟨r, hr⟩ : ∃ r : Fin 256, r = x 0 := ⟨_, rfl⟩
  obtain ⟨a, ha⟩ : ∃ a : Fin 256, a = x 1 := ⟨_, rfl⟩
  rw [show x = ix2 r a from ix_S 256 256 x r a (by rw [hr]) (by rw [ha]),
    show y = ix2 r (col g a) from ix_S 256 1024 y r (col g a) (by rw [hr, e0]) (by rw [e1, ha]; rfl)]
  rw [hv]
  simp only [h5, h16, h21]
  change _ = addP x0 x2 x3 r (col g a)
  simp only [addP, col_div, col_mod]

theorem dpA (c : Dev nD) (t : Fin cfg0.N) (y : S256x1024.Idx) : (outsAt0 m c t.val t.isLt).1 y = addP (iblk m c 0 t) (iblk m c 2 t) (iblk m c 3 t) (y 0) (y 1) := by
  by_cases h0 : t.val % 32 = 0
  · rw [outsAt0_A m c t h0 (by omega)]
    frame_out
    canon_tiles x h
    · exact dpPiece 3 _ _ _ _ _ _ _ (dp3 _ _ _) (fun _ _ => ldA _ _ _ _ _ _ rfl) (fun _ => ldS _ _ _ _ _ rfl) (fun _ _ => ldW _ _ _ _ _ _ rfl) x y (by omega) (by omega)
    · exact dpPiece 2 _ _ _ _ _ _ _ (dp2 _ _ _) (fun _ _ => ldA _ _ _ _ _ _ rfl) (fun _ => ldS _ _ _ _ _ rfl) (fun _ _ => ldW _ _ _ _ _ _ rfl) x y (by omega) (by omega)
    · exact dpPiece 1 _ _ _ _ _ _ _ (dp1 _ _ _) (fun _ _ => ldA _ _ _ _ _ _ rfl) (fun _ => ldS _ _ _ _ _ rfl) (fun _ _ => ldW _ _ _ _ _ _ rfl) x y (by omega) (by omega)
    · exact dpPiece 0 _ _ _ _ _ _ _ (dp0 _ _ _) (fun _ _ => ldA _ _ _ _ _ _ rfl) (fun _ => ldS _ _ _ _ _ rfl) (fun _ _ => ldW _ _ _ _ _ _ rfl) x y (by omega) (by omega)
  · by_cases h1 : t.val % 32 = 31
    · rw [outsAt0_C m c t h0 h1]
      frame_out
      canon_tiles x h
      · exact dpPiece 3 _ _ _ _ _ _ _ (dp3 _ _ _) (fun _ _ => ldA _ _ _ _ _ _ rfl) (fun _ => ldS _ _ _ _ _ rfl) (fun _ _ => ldW _ _ _ _ _ _ rfl) x y (by omega) (by omega)
      · exact dpPiece 2 _ _ _ _ _ _ _ (dp2 _ _ _) (fun _ _ => ldA _ _ _ _ _ _ rfl) (fun _ => ldS _ _ _ _ _ rfl) (fun _ _ => ldW _ _ _ _ _ _ rfl) x y (by omega) (by omega)
      · exact dpPiece 1 _ _ _ _ _ _ _ (dp1 _ _ _) (fun _ _ => ldA _ _ _ _ _ _ rfl) (fun _ => ldS _ _ _ _ _ rfl) (fun _ _ => ldW _ _ _ _ _ _ rfl) x y (by omega) (by omega)
      · exact dpPiece 0 _ _ _ _ _ _ _ (dp0 _ _ _) (fun _ _ => ldA _ _ _ _ _ _ rfl) (fun _ => ldS _ _ _ _ _ rfl) (fun _ _ => ldW _ _ _ _ _ _ rfl) x y (by omega) (by omega)
    · rw [outsAt0_B m c t h0 h1]
      frame_out
      canon_tiles x h
      · exact dpPiece 3 _ _ _ _ _ _ _ (dp3 _ _ _) (fun _ _ => ldA _ _ _ _ _ _ rfl) (fun _ => ldS _ _ _ _ _ rfl) (fun _ _ => ldW _ _ _ _ _ _ rfl) x y (by omega) (by omega)
      · exact dpPiece 2 _ _ _ _ _ _ _ (dp2 _ _ _) (fun _ _ => ldA _ _ _ _ _ _ rfl) (fun _ => ldS _ _ _ _ _ rfl) (fun _ _ => ldW _ _ _ _ _ _ rfl) x y (by omega) (by omega)
      · exact dpPiece 1 _ _ _ _ _ _ _ (dp1 _ _ _) (fun _ _ => ldA _ _ _ _ _ _ rfl) (fun _ => ldS _ _ _ _ _ rfl) (fun _ _ => ldW _ _ _ _ _ _ rfl) x y (by omega) (by omega)
      · exact dpPiece 0 _ _ _ _ _ _ _ (dp0 _ _ _) (fun _ _ => ldA _ _ _ _ _ _ rfl) (fun _ => ldS _ _ _ _ _ rfl) (fun _ _ => ldW _ _ _ _ _ _ rfl) x y (by omega) (by omega)

theorem inP (c : Dev nD) (t : Fin cfg0.N) (r : Fin 256) (k : Fin 1024) : addP (iblk m c 0 t) (iblk m c 2 t) (iblk m c 3 t) r k
    = RP (m ((c : Thread nD τ).loc main_arg1)) (m ((c : Thread nD τ).loc main_arg2)) (m ((c : Thread nD τ).loc main_arg3)) (row t r) k := by
  unfold addP RP
  refine Finset.sum_congr rfl fun b _ => ?_
  rw [in0, in2, in3]

theorem final4 (c : Dev nD) : (dats m 0 c).arrAt 4 (cfgs 0).N
    = fun y : S8192x1024.Idx => RP (m ((c : Thread nD τ).loc main_arg1)) (m ((c : Thread nD τ).loc main_arg2)) (m ((c : Thread nD τ).loc main_arg3)) (y 0) (y 1) := by
  refine (dats m 0 c).arrAt_eq_of_covers 4 _ (by decide +kernel) fun t hf y => ?_
  blk_simp
  rw [after0_4, dpA]
  refine (inP m c t _ _).trans (congrArg₂ (RP _ _ _) (Fin.ext ?_) (Fin.ext ?_)) <;> blk_simp [idx_val t]
  change 256 * t.val + _ = _
  omega

theorem final5 (c : Dev nD) : (dats m 0 c).arrAt 5 (cfgs 0).N
    = RW (m ((c : Thread nD τ).loc main_arg0)) (m ((c : Thread nD τ).loc main_arg3)) (m ((c : Thread nD τ).loc main_arg2)) := by
  refine (dats m 0 c).arrAt_eq_of_covers 5 _ (by decide +kernel) fun t hf y => ?_
  have ht := (flush0_5 t).mp hf
  blk_simp
  rw [after0_5, storedC m c t (by omega) ht, accSum m c t ht]
  refine congrArg (RW _ _ _) (funext fun d => Fin.ext ?_)
  fin_cases d <;> blk_simp [idx_val t]

theorem final6 (c : Dev nD) : (dats m 0 c).arrAt 6 (cfgs 0).N
    = fun y : S1x1024.Idx => RS (m ((c : Thread nD τ).loc main_arg0)) (m ((c : Thread nD τ).loc main_arg3)) (m ((c : Thread nD τ).loc main_arg1)) (y 1) := by
  refine (dats m 0 c).arrAt_eq_of_covers 6 _ (by decide +kernel) fun t hf y => ?_
  have ht := (flush0_6 t).mp hf
  blk_simp
  rw [after0_6, scSum m c t ht]
  refine congrArg (RS _ _ _) (Fin.ext ?_)
  blk_simp [idx_val t]

open Cert.Reference4Ideal.Read in
theorem ref19 (x1 : FVec Ideal S4x256x256 .f32) (x2 : FVec Ideal S1024 .f32) (x3 : FVec Ideal S8192x1024 .f32) :
    val_main_v19 (F := Ideal) x1 x2 x3 = fun y : S8192x1024.Idx => RP x1 x2 x3 (y 0) (y 1) := by
  funext y
  obtain ⟨l, hl⟩ : ∃ l : Fin 8192, l = y 0 := ⟨_, rfl⟩
  obtain ⟨k, hk⟩ : ∃ k : Fin 1024, k = y 1 := ⟨_, rfl⟩
  rw [show y = ix2 l k from ix_S 8192 1024 y l k (by rw [hl]) (by rw [hk])]
  change _ = RP x1 x2 x3 l k
  unfold RP col
  simp only [Nat.mul_comm 256]
  pointwise [val_main_v19, val_main_v16, val_main_v15, val_main_v14, val_main_v13, val_main_v11, val_main_v10, val_main_v4]

open Cert.Reference4Ideal.Read in
theorem ref20 (x0 : FVec Ideal S8192x1024 .f32) (x2 : FVec Ideal S1024 .f32) (x3 : FVec Ideal S8192x1024 .f32) :
    val_main_v20 (F := Ideal) x0 x2 x3 = RW x0 x3 x2 := by
  funext y
  obtain ⟨g, hg⟩ : ∃ g : Fin 4, g = y 0 := ⟨_, rfl⟩
  obtain ⟨a, ha⟩ : ∃ a : Fin 256, a = y 1 := ⟨_, rfl⟩
  obtain ⟨b, hb⟩ : ∃ b : Fin 256, b = y 2 := ⟨_, rfl⟩
  rw [show y = ix3 g a b from ix_W 4 y g a b (by rw [hg]) (by rw [ha]) (by rw [hb])]
  change _ = ∑ l : Fin 8192, x0 (ix2 l (col g a)) * (x3 (ix2 l (col g b)) * x2 (ix1 (col g b)))
  unfold col
  simp only [Nat.mul_comm 256]
  pointwise [val_main_v20, val_main_v18, val_main_v17, val_main_v14, val_main_v13, val_main_v11, val_main_v10, val_main_v4, val_main_v0]
  exact Finset.sum_congr rfl fun l _ => mul_comm _ _

open Cert.Reference4Ideal.Read in
theorem ref21 (x0 : FVec Ideal S8192x1024 .f32) (x1 : FVec Ideal S4x256x256 .f32) (x3 : FVec Ideal S8192x1024 .f32) (y : S1x1024.Idx) :
    val_main_v21 (F := Ideal) x0 x1 x3 y = RS x0 x3 x1 (y 1) := by
  obtain ⟨k, hk⟩ : ∃ k : Fin 1024, k = y 1 := ⟨_, rfl⟩
  have hy0 : (y 0).val < 1 := (y 0).isLt
  rw [show y = ix2 0 k from ix_S 1 1024 y 0 k (by rw [Fin.val_zero]; omega) (by rw [hk])]
  change _ = RS x0 x3 x1 k
  unfold RS col
  simp only [Nat.mul_comm 256]
  pointwise [val_main_v21, val_main_v12, val_main_v9, val_main_v8, val_main_v7, val_main_v3, val_main_v2, val_main_v1, val_main_v0, val_main_cst, val_main_cst_0]
  rw [Fin.sum_univ_one]
  refine Finset.sum_congr rfl fun l _ => (mul_comm _ _).trans (congrArg (x3 (ix2 l k) * ·) ?_)
  exact Finset.sum_congr rfl fun a _ => mul_comm _ _

end Cert.Kernel4Ideal.Group

end
-- ==== Proof.Pool.Word.lean ====
/-
  The pooling's counts and coefficients, and the sums they make.
-/
module

public import proofs.«01_k».proof.Proof.Attn.Pay

@[expose] public section

set_option maxRecDepth 16384

noncomputable section

namespace Cert.Pool

open Cert.KernelIdeal.Attn (up coe_sum coe_ite)
open Idealize.ShloMosaic Idealize.ShloMosaic.TcCoe Idealize.SL.Sem
open Finset (Ico range)

theorem toInt_nat {n : ℕ} (h : n < 2 ^ 20) : (BitVec.ofNat 32 n).toInt = (n : ℤ) := by
  simp only [BitVec.toInt_eq_toNat_bmod, BitVec.toNat_ofNat, Int.bmod]
  omega

/-- The number of rows in the window of row `n`. -/
theorem cnt_word {n w : ℕ} (hn : n < 2 ^ 19) (hw : w < 2 ^ 19) :
    FloatOps.sitofp (F := Ideal) .f32 (IntOp.minsi (IntOp.addi (BitVec.ofNat 32 n) 1#32) (BitVec.ofNat 32 w)) = (((min (n + 1) w : ℕ) : ℝ) : EReal) := by
  have e : IntOp.addi (BitVec.ofNat 32 n) 1#32 = BitVec.ofNat 32 (n + 1) := (BitVec.ofNat_add n 1).symm
  rw [e]
  change (((IntOp.minsi (BitVec.ofNat 32 (n + 1)) (BitVec.ofNat 32 w)).toInt : ℝ) : EReal) = _
  unfold IntOp.minsi
  rw [BitVec.slt_eq_decide, toInt_nat (n := n + 1) (by omega), toInt_nat (n := w) (by omega)]
  by_cases h : n + 1 < w
  · rw [if_pos (by simpa using (by exact_mod_cast h : ((n + 1 : ℕ) : ℤ) < w)), toInt_nat (n := n + 1) (by omega), min_eq_left h.le]
    norm_cast
  · rw [if_neg (by simpa using (by exact_mod_cast not_lt.mp h : (w : ℤ) ≤ ((n + 1 : ℕ) : ℤ))), toInt_nat (n := w) (by omega), min_eq_right (not_lt.mp h)]
    norm_cast

/-- A coefficient of the windowed mean's gradient, on words: row `a` of the result from row `b`. -/
def cf (a b w : BitVec 32) : EReal :=
  Scalar.select (IntOp.andi (IntOp.cmpi .sge (IntOp.subi b a) 0#32) (IntOp.cmpi .slt (IntOp.subi b a) w))
      (Ideal.div 1 (FloatOps.sitofp (F := Ideal) .f32 (IntOp.minsi (IntOp.addi b 1#32) w))) 0
    - Scalar.select (IntOp.cmpi .eq b a) 1 0

/-- The same coefficient as a real. -/
def cof (w b a : ℕ) : ℝ := (if a ≤ b ∧ b < a + w then 1 / ((min (b + 1) w : ℕ) : ℝ) else 0) - (if b = a then 1 else 0)

theorem select_ite {α : Type} (p : Prop) [Decidable p] (x y : α) : Scalar.select (if p then 1#1 else 0#1) x y = if p then x else y := by
  by_cases h : p <;> simp [h, Scalar.select]

theorem cf_eq {a b w : ℕ} (ha : a < 2 ^ 19) (hb : b < 2 ^ 19) (hw : w < 2 ^ 19) (hw0 : 0 < w) :
    cf (BitVec.ofNat 32 a) (BitVec.ofNat 32 b) (BitVec.ofNat 32 w) = ((cof w b a : ℝ) : EReal) := by
  have hs : (IntOp.subi (BitVec.ofNat 32 b) (BitVec.ofNat 32 a)).toInt = (b : ℤ) - a := by
    unfold IntOp.subi
    rw [BitVec.toInt_sub, toInt_nat (n := b) (by omega), toInt_nat (n := a) (by omega), Int.bmod]
    omega
  have h1 : IntOp.andi (IntOp.cmpi .sge (IntOp.subi (BitVec.ofNat 32 b) (BitVec.ofNat 32 a)) 0#32)
      (IntOp.cmpi .slt (IntOp.subi (BitVec.ofNat 32 b) (BitVec.ofNat 32 a)) (BitVec.ofNat 32 w)) = if a ≤ b ∧ b < a + w then 1#1 else 0#1 := by
    unfold IntOp.cmpi
    simp only [BitVec.sle_eq_decide, BitVec.slt_eq_decide, hs, toInt_nat (n := w) (by omega), BitVec.toInt_zero]
    by_cases p : a ≤ b <;> by_cases q : b < a + w
    · rw [if_pos ⟨p, q⟩, decide_eq_true (by omega), decide_eq_true (by omega)]; rfl
    · rw [if_neg (fun h => q h.2), decide_eq_true (by omega), decide_eq_false (by omega)]; rfl
    · rw [if_neg (fun h => p h.1), decide_eq_false (by omega), decide_eq_true (by omega)]; rfl
    · omega
  have h2 : IntOp.cmpi .eq (BitVec.ofNat 32 b) (BitVec.ofNat 32 a) = if b = a then 1#1 else 0#1 := by
    unfold IntOp.cmpi
    by_cases h : b = a
    · subst h; simp
    · have : BitVec.ofNat 32 b ≠ BitVec.ofNat 32 a := fun e => h (by
        have := congrArg BitVec.toNat e
        simp only [BitVec.toNat_ofNat] at this
        omega)
      rw [if_neg h, beq_eq_false_iff_ne.mpr this]; rfl
  have hm : ((min (b + 1) w : ℕ) : ℝ) ≠ 0 := by
    have : 0 < min (b + 1) w := lt_min (Nat.succ_pos b) hw0
    exact_mod_cast this.ne'
  unfold cf
  rw [h1, h2, select_ite, select_ite, cnt_word (by omega) hw, Ideal.div_coe hm, one_mul]
  have i1 : (if a ≤ b ∧ b < a + w then ((1 / ((min (b + 1) w : ℕ) : ℝ) : ℝ) : EReal) else 0)
      = ((if a ≤ b ∧ b < a + w then 1 / ((min (b + 1) w : ℕ) : ℝ) else 0 : ℝ) : EReal) := by split_ifs <;> rfl
  have i2 : (if b = a then (1 : EReal) else 0) = ((if b = a then 1 else 0 : ℝ) : EReal) := by split_ifs <;> rfl
  rw [i1, i2, ← EReal.coe_sub]
  rfl

/-- The windowed mean's gradient over whole columns. -/
def full (w : ℕ) (F : ℕ → ℕ → ℝ) (s col : ℕ) : ℝ := ∑ j ∈ range 8192, cof w j s * F j col

/-- Past its window a coefficient is zero. -/
theorem cof_zero {w b a : ℕ} (h0 : 0 < w) (h : b < a ∨ a + w ≤ b) : cof w b a = 0 := by
  unfold cof
  rw [if_neg (by omega), if_neg (by omega), sub_zero]

/-- Two tiles hold the window. -/
theorem full_tiles (w : ℕ) (hw0 : 0 < w) (hw : w ≤ 128) (F : ℕ → ℕ → ℝ) (I r col : ℕ) (hI : I < 32) (hr : r < 256) :
    full w F (256 * I + r) col = (∑ x : Fin 256, cof w (256 * I + x.val) (256 * I + r) * F (256 * I + x.val) col)
      + if I < 31 then ∑ x : Fin 128, cof w (256 * I + 256 + x.val) (256 * I + r) * F (256 * I + 256 + x.val) col else 0 := by
  have tile : ∀ n o, ∑ x : Fin n, cof w (o + x.val) (256 * I + r) * F (o + x.val) col = ∑ j ∈ Ico o (o + n), cof w j (256 * I + r) * F j col := fun n o => by
    rw [Finset.sum_Ico_eq_sum_range, Nat.add_sub_cancel_left, Finset.sum_range]
  rw [tile, tile]
  unfold full
  have lo : ∑ j ∈ Ico 0 (256 * I), cof w j (256 * I + r) * F j col = 0 := Finset.sum_eq_zero fun j hj => by
    rw [cof_zero hw0 (.inl (by have := (Finset.mem_Ico.mp hj).2; omega)), zero_mul]
  rw [Finset.range_eq_Ico, ← Finset.sum_Ico_consecutive _ (Nat.zero_le (256 * I)) (by omega : 256 * I ≤ 8192), lo, zero_add,
    ← Finset.sum_Ico_consecutive _ (by omega : 256 * I ≤ 256 * I + 256) (by omega : 256 * I + 256 ≤ 8192)]
  congr 1
  by_cases h : I < 31
  · have hi : ∑ j ∈ Ico (256 * I + 256 + 128) 8192, cof w j (256 * I + r) * F j col = 0 := Finset.sum_eq_zero fun j hj => by
      rw [cof_zero hw0 (.inr (by have := (Finset.mem_Ico.mp hj).1; omega)), zero_mul]
    rw [if_pos h, ← Finset.sum_Ico_consecutive _ (by omega : 256 * I + 256 ≤ 256 * I + 256 + 128) (by omega : 256 * I + 256 + 128 ≤ 8192), hi, add_zero]
  · rw [if_neg h, (by omega : 256 * I + 256 = 8192), Finset.Ico_self, Finset.sum_empty]

/-- The mean's gradient as the reference takes it: shares summed from a row on, less what leaves the window. -/
theorem full_ref (w : ℕ) (hw0 : 0 < w) (hw : w ≤ 8192) (F : ℕ → ℕ → ℝ) (s col : ℕ) (hs : s < 8192) :
    -F s col + ∑ j ∈ Ico s 8192, (F j col / ((min (j + 1) w : ℕ) : ℝ)
      + if j < 8192 - w then -(F (w + j) col / ((min (w + j + 1) w : ℕ) : ℝ)) else 0) = full w F s col := by
  set y : ℕ → ℝ := fun j => F j col / ((min (j + 1) w : ℕ) : ℝ) with hy
  have e1 : ∑ j ∈ Ico s 8192, (if j < 8192 - w then -(y (w + j)) else 0) = -∑ j ∈ Ico (s + w) 8192, y j := by
    rw [← Finset.sum_filter, show (Ico s 8192).filter (fun j => j < 8192 - w) = Ico s (8192 - w) by ext j; simp only [Finset.mem_filter, Finset.mem_Ico]; omega, Finset.sum_neg_distrib]
    congr 1
    by_cases h : s + w ≤ 8192
    · rw [Finset.sum_Ico_eq_sum_range, Finset.sum_Ico_eq_sum_range, show 8192 - w - s = 8192 - (s + w) by omega]
      exact Finset.sum_congr rfl fun j _ => by rw [show w + (s + j) = s + w + j by omega]
    · rw [Finset.Ico_eq_empty (by omega), Finset.Ico_eq_empty (by omega), Finset.sum_empty, Finset.sum_empty]
  have e2 : ∀ j, cof w j s * F j col = (if s ≤ j ∧ j < s + w then y j else 0) - (if j = s then F j col else 0) := fun j => by
    unfold cof
    have e : y j = F j col / ((min (j + 1) w : ℕ) : ℝ) := rfl
    rw [e]
    split_ifs <;> ring
  unfold full
  simp only [e2, Finset.sum_sub_distrib, Finset.sum_add_distrib]
  rw [e1, Finset.sum_ite_eq' (range 8192) s, if_pos (Finset.mem_range.mpr hs), ← Finset.sum_filter]
  have e3 : ∑ j ∈ Ico s 8192, y j = ∑ j ∈ (range 8192).filter (fun j => s ≤ j ∧ j < s + w), y j + ∑ j ∈ Ico (s + w) 8192, y j := by
    rw [← Finset.sum_union]
    · congr 1; ext j; simp; omega
    · rw [Finset.disjoint_left]; intro j; simp; omega
  rw [e3]
  ring

/-- The window of a column. -/
def win (col : ℕ) : ℕ := 2 ^ (col / 256 + 1)

end Cert.Pool

end
-- ==== Proof.Pool.Window.lean ====
/-
  The gradient of the windowed mean.
-/
module

public import proofs.«01_k».proof.Proof.Gen.Kernel5Ideal.Value
public import proofs.«01_k».proof.Proof.Pool.Word
public import Idealize.ShloMosaic.Lib.Pipeline.ValueKit

@[expose] public section

set_option maxRecDepth 16384

noncomputable section

namespace Cert.Kernel5Ideal.Window

open Cert.Pool
open Cert.KernelIdeal.Attn (up coe_sum)
open Cert.Kernel5Ideal Cert.Kernel5Ideal.Gen
open Idealize.ShloMosaic Idealize.ShloMosaic.TcCoe Idealize.SL.Sem
open Idealize.ShloMosaic.Pipeline (Dat)

/-- A piece's element, from the words of its rows. -/
def wpiece (I w : BitVec 32) (x0 : Vec Ideal S256x256 .f32) (x1 : Vec Ideal S128x256 .f32) (r c : Fin 256) : EReal :=
  (∑ x : Fin 256, cf (IntOp.addi (Scalar.muli I 256#32) (BitVec.ofNat 32 r.val)) (IntOp.addi (Scalar.muli I 256#32) (BitVec.ofNat 32 x.val)) w * x0 (ix2 x c))
    + ∑ x : Fin 128, cf (IntOp.addi (Scalar.muli I 256#32) (BitVec.ofNat 32 r.val))
        (IntOp.addi (Scalar.addi (Scalar.muli I 256#32) 256#32) (BitVec.ofNat 32 x.val)) w * Scalar.select (Scalar.cmpi .slt I 31#32) (x1 (ix2 x c)) 0

theorem piece0 (i : grid0.Coords) (x0 : Vec Ideal S256x256 .f32) (x1 : Vec Ideal S128x256 .f32) (r c : Fin 256) :
    k0_pay7 (k0_pay2 i x0) (k0_pay3 i x1) (k0_pay4 i) (k0_pay5 i) (k0_pay6 i) (ix2 r c) = wpiece (BitVec.ofNat 32 (i 0).val) 2#32 x0 x1 r c := by
  unfold wpiece cf
  pointwise [k0_pay7, k0_pay2, k0_pay3, k0_pay4, k0_pay5, k0_pay6]

theorem piece1 (I : BitVec 32) (x0 : Vec Ideal S256x256 .f32) (x1 : Vec Ideal S128x256 .f32) (r c : Fin 256) :
    k0_pay19 (k0_pay13 (k0_pay8 (Scalar.muli I 256#32)) (k0_pay9 (Scalar.muli I 256#32)) (k0_pay10 (Scalar.muli I 256#32)) (k0_pay11 (Scalar.muli I 256#32)) k0_pay12 x0) (k0_pay14 I x1) (k0_pay17 (Scalar.muli I 256#32)) (k0_pay18 (Scalar.muli I 256#32)) (ix2 r c) = wpiece I 4#32 x0 x1 r c := by
  unfold wpiece cf
  pointwise [k0_pay19, k0_pay13, k0_pay8, k0_pay9, k0_pay10, k0_pay11, k0_pay12, k0_pay14, k0_pay15, k0_pay16, k0_pay17, k0_pay18]

theorem piece2 (I : BitVec 32) (x0 : Vec Ideal S256x256 .f32) (x1 : Vec Ideal S128x256 .f32) (r c : Fin 256) :
    k0_pay22 (Scalar.muli I 256#32) (k0_pay20 (Scalar.muli I 256#32) x0) (k0_pay21 I x1) (Scalar.addi (Scalar.muli I 256#32) 256#32) (iota .tc S256x128 32 [0] iota_S256x128_d0_w32) (ix2 r c) = wpiece I 8#32 x0 x1 r c := by
  unfold wpiece cf
  pointwise [k0_pay22, k0_pay20, k0_pay21]

theorem piece3 (I : BitVec 32) (x0 : Vec Ideal S256x256 .f32) (x1 : Vec Ideal S128x256 .f32) (r c : Fin 256) :
    k0_pay1 (k0_pay27 (k0_pay23 (Scalar.muli I 256#32)) (k0_pay24 (Scalar.muli I 256#32)) (k0_pay25 (Scalar.muli I 256#32)) (k0_pay26 (Scalar.muli I 256#32)) x0) (k0_pay28 I x1) (k0_pay29 (Scalar.muli I 256#32)) (k0_pay30 (Scalar.muli I 256#32)) (k0_pay31 (Scalar.muli I 256#32)) (ix2 r c) = wpiece I 16#32 x0 x1 r c := by
  unfold wpiece cf
  pointwise [k0_pay1, k0_pay27, k0_pay23, k0_pay24, k0_pay25, k0_pay26, k0_pay28, k0_pay29, k0_pay30, k0_pay31]

/-- A piece's element at real blocks. -/
theorem wpiece_up (I w : ℕ) (hI : I < 32) (hw0 : 0 < w) (hw : w ≤ 128) (F : ℕ → ℕ → ℝ) (x0 : Vec Ideal S256x256 .f32) (x1 : Vec Ideal S128x256 .f32) (o : ℕ)
    (h0 : ∀ (x c : Fin 256), x0 (ix2 x c) = ((F (256 * I + x.val) (o + c.val) : ℝ) : EReal))
    (h1 : I < 31 → ∀ (x : Fin 128) (c : Fin 256), x1 (ix2 x c) = ((F (256 * I + 256 + x.val) (o + c.val) : ℝ) : EReal)) (r c : Fin 256) :
    wpiece (BitVec.ofNat 32 I) (BitVec.ofNat 32 w) x0 x1 r c = ((full w F (256 * I + r.val) (o + c.val) : ℝ) : EReal) := by
  have hr := r.isLt
  have eA : ∀ n, IntOp.addi (Scalar.muli (BitVec.ofNat 32 I) 256#32) (BitVec.ofNat 32 n) = BitVec.ofNat 32 (256 * I + n) := fun n => by
    unfold IntOp.addi Scalar.muli IntOp.muli
    rw [Nat.mul_comm, BitVec.ofNat_add, BitVec.ofNat_mul]
  have eB : ∀ n, IntOp.addi (Scalar.addi (Scalar.muli (BitVec.ofNat 32 I) 256#32) 256#32) (BitVec.ofNat 32 n) = BitVec.ofNat 32 (256 * I + 256 + n) := fun n => by
    have e := eA 256
    change IntOp.addi (IntOp.addi (Scalar.muli (BitVec.ofNat 32 I) 256#32) 256#32) (BitVec.ofNat 32 n) = _
    rw [e]
    exact (BitVec.ofNat_add _ _).symm
  have eS : Scalar.cmpi .slt (BitVec.ofNat 32 I) 31#32 = if I < 31 then 1#1 else 0#1 := by
    unfold Scalar.cmpi IntOp.cmpi
    simp only [BitVec.slt_eq_decide]
    rw [toInt_nat (n := I) (by omega), toInt_nat (n := 31) (by omega)]
    by_cases h : I < 31
    · rw [if_pos h, decide_eq_true (by omega)]; rfl
    · rw [if_neg h, decide_eq_false (by omega)]; rfl
  unfold wpiece
  simp only [eA, eB, eS, select_ite, h0]
  rw [full_tiles w hw0 hw F I r.val (o + c.val) hI hr, EReal.coe_add]
  congr 1
  · rw [← coe_sum]
    exact Finset.sum_congr rfl fun x _ => by
      have := x.isLt
      rw [cf_eq (by omega) (by omega) (by omega) hw0, EReal.coe_mul]
  · by_cases h : I < 31
    · simp only [if_pos h]
      rw [← coe_sum]
      exact Finset.sum_congr rfl fun x _ => by
        have := x.isLt
        rw [cf_eq (by omega) (by omega) (by omega) hw0, h1 h, EReal.coe_mul]
    · simp only [if_neg h, mul_zero, Finset.sum_const_zero, EReal.coe_zero]

/-- A piece at real arguments. -/
theorem fin_tile (i : grid0.Coords) (n : ℕ) (hn : n < 4) (F : ℕ → ℕ → ℝ) (x0 : Vec Ideal S256x1024 .f32) (x1 : Vec Ideal S128x1024 .f32)
    (e0 : ∀ (x : Fin 256) (c : Fin 1024), x0 (ix2 x c) = ((F (256 * (i 0).val + x.val) c.val : ℝ) : EReal))
    (e1 : (i 0).val < 31 → ∀ (x : Fin 128) (c : Fin 1024), x1 (ix2 x c) = ((F (256 * (i 0).val + 256 + x.val) c.val : ℝ) : EReal))
    (t0 : Vec Ideal S256x256 .f32) (t1 : Vec Ideal S128x256 .f32)
    (h0 : ∀ (p c : Fin 256), t0 (ix2 p c) = x0 (ix2 p ⟨256 * n + c.val, by omega⟩))
    (h1 : ∀ (p : Fin 128) (c : Fin 256), t1 (ix2 p c) = x1 (ix2 p ⟨256 * n + c.val, by omega⟩))
    (y : S256x1024.Idx) (x : S256x256.Idx) (hy0 : (y 0).val = (x 0).val) (hy1 : (y 1).val = 256 * n + (x 1).val) (v : Vec Ideal S256x256 .bf16)
    (hv : ∀ r c, v (ix2 r c) = wpiece (BitVec.ofNat 32 (i 0).val) (BitVec.ofNat 32 (2 ^ (n + 1))) t0 t1 r c) :
    v x = ((full (win (y 1).val) F (256 * (i 0).val + (y 0).val) (y 1).val : ℝ) : EReal) := by
  have hi : (i 0).val < 32 := (i 0).isLt
  have hx : (x 1).val < 256 := (x 1).isLt
  have hp : 2 ^ (n + 1) ≤ 2 ^ 4 := Nat.pow_le_pow_right (by decide) (by omega)
  have hw : win (256 * n + (x 1).val) = 2 ^ (n + 1) := by
    unfold win
    rw [show (256 * n + (x 1).val) / 256 = n by omega]
  have hx2 : v x = v (ix2 (x 0) (x 1)) := congrArg v (by idx_vars x)
  refine (hx2.trans (hv (x 0) (x 1))).trans ?_
  rw [hy0, hy1, hw]
  exact wpiece_up (i 0).val (2 ^ (n + 1)) hi (by positivity) (by omega) F t0 t1 (256 * n)
    (fun p c => (h0 p c).trans (e0 _ _)) (fun h p c => (h1 p c).trans (e1 h _ _)) _ _

/-- A point's block at real arguments. -/
theorem out_up (i : grid0.Coords) (F : ℕ → ℕ → ℝ) (x0 : Vec Ideal S256x1024 .f32) (x1 : Vec Ideal S128x1024 .f32)
    (e0 : ∀ (x : Fin 256) (c : Fin 1024), x0 (ix2 x c) = ((F (256 * (i 0).val + x.val) c.val : ℝ) : EReal))
    (e1 : (i 0).val < 31 → ∀ (x : Fin 128) (c : Fin 1024), x1 (ix2 x c) = ((F (256 * (i 0).val + 256 + x.val) c.val : ℝ) : EReal)) :
    out0_2 i x0 x1 = fun y => ((full (win (y 1).val) F (256 * (i 0).val + (y 0).val) (y 1).val : ℝ) : EReal) := by
  have hi : (i 0).val < 32 := (i 0).isLt
  unfold out0_2
  funext y
  canon_tiles x h
  · refine fin_tile i 3 (by decide) F x0 x1 e0 e1 _ _ ?_ ?_ y x (by omega) (by omega) _ (fun r c => piece3 _ _ _ r c) <;> intro p c <;> pointwise
  · refine fin_tile i 2 (by decide) F x0 x1 e0 e1 _ _ ?_ ?_ y x (by omega) (by omega) _ (fun r c => piece2 _ _ _ r c) <;> intro p c <;> pointwise
  · refine fin_tile i 1 (by decide) F x0 x1 e0 e1 _ _ ?_ ?_ y x (by omega) (by omega) _ (fun r c => piece1 _ _ _ r c) <;> intro p c <;> pointwise
  · refine fin_tile i 0 (by decide) F x0 x1 e0 e1 _ _ ?_ ?_ y x (by omega) (by omega) _ (fun r c => piece0 _ _ _ r c) <;> intro p c <;> pointwise

variable (m : (ℓ : Loc nD τ sig) → Buf (Elt Ideal) ℓ)

theorem idx_val : ∀ t : Fin cfg0.N, (grid0.coords t 0).val = t.val ∧ win0_0.index t = ![t.val, 0] ∧ win0_1.index t = ![min (2 * (t.val + 1)) 63, 0] ∧ win0_2.index t = ![t.val, 0] :=
  (by decide +kernel : ∀ t : Fin grid0.N, _)

/-- What the call returns, at real arguments. -/
def G (D : ℕ → ℕ → ℝ) : FVec Ideal S8192x1024 .bf16 := fun y => ((full (win (y 1).val) D (y 0).val (y 1).val : ℝ) : EReal)

theorem in0 (c : Dev nD) (t : Fin cfg0.N) (D : ℕ → ℕ → ℝ) (hd : m ((c : Thread nD τ).loc main_arg1) = up (φ := .f32) D) (x : Fin 256) (k : Fin 1024) :
    iblk m c 0 t (ix2 x k) = ((D (256 * (grid0.coords t 0).val + x.val) k.val : ℝ) : EReal) := by
  blk_simp [iblk]
  rw [show V m c main_arg1 = _ from hd]
  refine congrArg (fun x : ℝ => (x : EReal)) (congrArg₂ D ?_ ?_) <;> blk_simp [idx_val t] <;> omega

theorem in1 (c : Dev nD) (t : Fin cfg0.N) (D : ℕ → ℕ → ℝ) (hd : m ((c : Thread nD τ).loc main_arg1) = up (φ := .f32) D) (ht : (grid0.coords t 0).val < 31) (x : Fin 128) (k : Fin 1024) :
    iblk m c 1 t (ix2 x k) = ((D (256 * (grid0.coords t 0).val + 256 + x.val) k.val : ℝ) : EReal) := by
  rw [(idx_val t).1] at ht
  blk_simp [iblk]
  rw [show V m c main_arg1 = _ from hd]
  refine congrArg (fun x : ℝ => (x : EReal)) (congrArg₂ D ?_ ?_) <;> blk_simp [idx_val t] <;> omega

theorem final2 (c : Dev nD) (D : ℕ → ℕ → ℝ) (hd : m ((c : Thread nD τ).loc main_arg1) = up (φ := .f32) D) : (dats m 0 c).arrAt 2 (cfgs 0).N = G D := by
  refine (dats m 0 c).arrAt_eq_of_covers 2 _ (by decide +kernel) fun t _ y => ?_
  blk_simp
  rw [after0_2, out_up (grid0.coords t) D _ _ (in0 m c t D hd) (in1 m c t D hd)]
  refine congrArg (fun x : ℝ => (x : EReal)) (congrArg₂ (fun a b => full (win b) D a b) ?_ ?_) <;> blk_simp [idx_val t] <;> omega

end Cert.Kernel5Ideal.Window

end
-- ==== Proof.Pool.WindowRef.lean ====
/-
  The gradient of the windowed mean: the reference at real arguments.
-/
module

public import proofs.«01_k».proof.Proof.Attn.Window
public import proofs.«01_k».proof.Proof.Pool.Window
public import proofs.«01_k».proof.Proof.Attn.Finite
public import proofs.«01_k».proof.Proof.Gen.Pre_finite5
public import proofs.«01_k».proof.Proof.Gen.Reference5Ideal.Read

@[expose] public section

set_option maxRecDepth 16384

noncomputable section

namespace Cert.Kernel5Ideal.Window

open Cert.KernelIdeal.Attn (up up3 up3_ix3 coe_sum foldl_sum and_one of_one real_of_lt reals reals_eq)
open Cert.Pool
open Cert.Reference5Ideal Cert.Reference5Ideal.Read
open Idealize.ShloMosaic Idealize.ShloMosaic.TcCoe Idealize.SL.Sem
open Finset (Ico range)

abbrev D8 (f : ℕ → ℕ → ℝ) : FVec Ideal S8192x1024 .f32 := up f
abbrev C8 (f : ℕ → ℕ → ℝ) : FVec Ideal S8192x256 .f32 := up f

/-- A row's share, less the share that leaves its window. -/
def shr (w : ℕ) (F : ℕ → ℕ → ℝ) (j col : ℕ) : ℝ :=
  F j col / ((min (j + 1) w : ℕ) : ℝ) + if j < 8192 - w then -(F (w + j) col / ((min (w + j + 1) w : ℕ) : ℝ)) else 0

theorem div_cnt (x : ℝ) {n w : ℕ} (hn : n < 2 ^ 19) (hw : w < 2 ^ 19) (hw0 : 0 < w) :
    Ideal.div ((x : ℝ) : EReal) (FloatOps.sitofp (F := Ideal) .f32 (IntOp.minsi (IntOp.addi (BitVec.ofNat 32 n) 1#32) (BitVec.ofNat 32 w)))
      = ((x / ((min (n + 1) w : ℕ) : ℝ) : ℝ) : EReal) := by
  have hm : ((min (n + 1) w : ℕ) : ℝ) ≠ 0 := by
    have : 0 < min (n + 1) w := lt_min (Nat.succ_pos n) hw0
    exact_mod_cast this.ne'
  rw [cnt_word hn hw, Ideal.div_coe hm, ← EReal.coe_mul, mul_one_div]

theorem share (w n : ℕ) (hw0 : 0 < w) (hn : n + w = 8192) (f : ℕ → ℕ → ℝ) (r : Fin 8192) (k : Fin 1024) :
    Ideal.div (D8 f (ix2 r k)) (FloatOps.sitofp (F := Ideal) .f32 (IntOp.minsi (IntOp.addi (BitVec.ofNat 32 r.val) 1#32) (BitVec.ofNat 32 w)))
      + (if h : r.val < n then -Ideal.div (D8 f (ix2 ⟨w + r.val, by omega⟩ k))
          (FloatOps.sitofp (F := Ideal) .f32 (IntOp.minsi (IntOp.addi (BitVec.ofNat 32 (w + r.val)) 1#32) (BitVec.ofNat 32 w))) else (0 : EReal))
      = ((shr w f r.val k.val : ℝ) : EReal) := by
  have hr := r.isLt
  unfold shr
  have e : ∀ (i : Fin 8192) (j : Fin 1024), D8 f (ix2 i j) = ((f i.val j.val : ℝ) : EReal) := fun i j => rfl
  rw [e, div_cnt _ (by omega) (by omega) hw0, show 8192 - w = n by omega]
  by_cases h : r.val < n
  · rw [dif_pos h, if_pos h, e, div_cnt _ (by omega) (by omega) hw0]; norm_cast
  · rw [dif_neg h, if_neg h]; norm_cast

theorem v99_up (f) (r : Fin 8192) (c : Fin 256) : val_main_v99 (F := Ideal) (D8 f) (ix2 r c) = ((shr 16 f r.val (768 + c.val) : ℝ) : EReal) := by
  refine Eq.trans ?_ (share 16 8176 (by decide) (by decide) f r ⟨768 + c.val, by omega⟩)
  pointwise [val_main_v99, val_main_v94, val_main_v89, val_main_v88, val_main_v81, val_main_v93, val_main_v69, val_main_v68, val_main_v67, val_main_v65, val_main_v2, val_main_v64, val_main_c_12, val_main_v66, val_main_c_13, val_main_v98, val_main_v97, val_main_v95, val_main_cst_15]

theorem v112_up (f) (r : Fin 8192) (c : Fin 256) : val_main_v112 (F := Ideal) (D8 f) (ix2 r c) = ((shr 8 f r.val (512 + c.val) : ℝ) : EReal) := by
  refine Eq.trans ?_ (share 8 8184 (by decide) (by decide) f r ⟨512 + c.val, by omega⟩)
  pointwise [val_main_v112, val_main_v107, val_main_v87, val_main_v86, val_main_v81, val_main_v106, val_main_v51, val_main_v50, val_main_v49, val_main_v47, val_main_v2, val_main_v46, val_main_c_8, val_main_v48, val_main_c_9, val_main_v111, val_main_v110, val_main_v108, val_main_cst_18]

theorem v126_up (f) (r : Fin 8192) (c : Fin 256) : val_main_v126 (F := Ideal) (D8 f) (ix2 r c) = ((shr 4 f r.val (256 + c.val) : ℝ) : EReal) := by
  refine Eq.trans ?_ (share 4 8188 (by decide) (by decide) f r ⟨256 + c.val, by omega⟩)
  pointwise [val_main_v126, val_main_v121, val_main_v85, val_main_v84, val_main_v81, val_main_v120, val_main_v33, val_main_v32, val_main_v31, val_main_v29, val_main_v2, val_main_v28, val_main_c_4, val_main_v30, val_main_c_5, val_main_v125, val_main_v124, val_main_v122, val_main_cst_21]

theorem v140_up (f) (r : Fin 8192) (c : Fin 256) : val_main_v140 (F := Ideal) (D8 f) (ix2 r c) = ((shr 2 f r.val (0 + c.val) : ℝ) : EReal) := by
  refine Eq.trans ?_ (share 2 8190 (by decide) (by decide) f r ⟨0 + c.val, by omega⟩)
  pointwise [val_main_v140, val_main_v135, val_main_v83, val_main_v82, val_main_v81, val_main_v134, val_main_v15, val_main_v14, val_main_v13, val_main_v11, val_main_v2, val_main_v10, val_main_c, val_main_v12, val_main_c_1, val_main_v139, val_main_v138, val_main_v136, val_main_cst_24]

theorem win_eq (g l : ℕ) (hl : l < 256) : win (256 * g + l) = 2 ^ (g + 1) := by
  unfold win
  rw [show (256 * g + l) / 256 = g by omega]

theorem v143_up (f) (j : Fin 8192) (g : Fin 4) (l : Fin 256) : val_main_v143 (F := Ideal) (D8 f) (ix3 j g l)
    = ((shr (win (256 * g.val + l.val)) f j.val (256 * g.val + l.val) : ℝ) : EReal) := by
  have hl := l.isLt
  rw [win_eq _ _ hl]
  pointwise [val_main_v143, val_main_v129, val_main_v115, val_main_v101, val_main_v100, val_main_cst_16, val_main_v114, val_main_v113, val_main_cst_19, val_main_v128, val_main_v127, val_main_cst_22, val_main_v142, val_main_v141, val_main_cst_25]
  fin_cases g
  · refine Eq.trans ?_ (v140_up f j l)
    simp [val_main_cst_16, val_main_cst_19, val_main_cst_22]
  · refine Eq.trans ?_ (v126_up f j l)
    simp [val_main_cst_16, val_main_cst_19, val_main_cst_25]
  · refine Eq.trans ?_ (v112_up f j l)
    simp [val_main_cst_16, val_main_cst_22, val_main_cst_25]
  · refine Eq.trans ?_ (v99_up f j l)
    simp [val_main_cst_19, val_main_cst_22, val_main_cst_25]

/-- A window along the first axis, from an element on. -/
theorem window0 (f : ℕ → ℕ → ℕ → ℝ) (h : (⟨3, ![8192, 4, 256]⟩ : Shape).ReduceWindows
      (![8192, 1, 1] : Fin 3 → ℕ) ![1, 1, 1] ![0, 0, 0] ![8191, 0, 0] ⟨3, ![8192, 4, 256]⟩) (s : Fin 8192) (b : Fin 4) (l : Fin 256) :
    Host.reduceWindow (s := ⟨3, ![8192, 4, 256]⟩) (t := ⟨3, ![8192, 4, 256]⟩) (u := ⟨0, ![]⟩) (· + ·) ![8192, 1, 1] ![1, 1, 1] ![0, 0, 0]
        ![8191, 0, 0] (up3 (φ := .f32) f) (fun _ : (⟨0, ![]⟩ : Shape).Idx => (0 : EReal)) h (by decide) (ix3 s b l)
      = ((∑ j ∈ Ico s.val 8192, f j b.val l.val : ℝ) : EReal) := by
  have hs := s.isLt
  unfold Host.reduceWindow
  dsimp only
  rw [foldl_sum, zero_add, ← Fin.sum_univ_def]
  rw [← Fintype.sum_equiv (Shape.rowMajor ⟨3, ![8192, 1, 1]⟩) _ _ (fun w => rfl), sum_idx3]
  simp only [Equiv.symm_apply_apply, Fin.sum_univ_one, Finset.univ_unique, Finset.sum_singleton]
  have e : ∀ n : ℕ, ∀ hn : n < 8192, (if n < 8192 - s.val then ((f (s.val + n) b.val l.val : ℝ) : EReal) else 0) = ((if n < 8192 - s.val then f (s.val + n) b.val l.val else 0 : ℝ) : EReal) := fun n _ => by
    split_ifs <;> rfl
  refine Eq.trans (Finset.sum_congr rfl fun n _ => Eq.trans ?_ (e n.val n.isLt)) ?_
  · have hn0 := n.isLt
    by_cases hn : n.val < 8192 - s.val
    · rw [if_pos hn, dif_pos (fun e => by
        match e with
        | ⟨0, _⟩ => exact ⟨Nat.zero_le _, show s.val * 1 + n.val - 0 < 8192 by omega⟩
        | ⟨1, _⟩ => exact ⟨Nat.zero_le _, show b.val * 1 + 0 - 0 < 4 by omega⟩
        | ⟨2, _⟩ => exact ⟨Nat.zero_le _, show l.val * 1 + 0 - 0 < 256 by omega⟩)]
      refine congrArg (fun x : ℝ => (x : EReal)) ?_
      exact congr (congr (congrArg f (show s.val * 1 + n.val - 0 = s.val + n.val by omega)) (show b.val * 1 + 0 - 0 = b.val by omega)) (show l.val * 1 + 0 - 0 = l.val by omega)
    · rw [if_neg hn, dif_neg (fun hin => hn (by
        have h2 := hin 0
        change 0 ≤ s.val * 1 + n.val ∧ s.val * 1 + n.val - 0 < 8192 at h2
        omega))]
  · rw [coe_sum, EReal.coe_eq_coe_iff, ← Finset.sum_range (fun n => if n < 8192 - s.val then f (s.val + n) b.val l.val else 0),
      ← Finset.sum_filter, show (range 8192).filter (fun n => n < 8192 - s.val) = range (8192 - s.val) by ext; simp only [Finset.mem_filter, Finset.mem_range]; omega,
      Finset.sum_Ico_eq_sum_range]

theorem v143_fun (f) : val_main_v143 (F := Ideal) (D8 f) = up3 (φ := .f32) fun j g l => shr (win (256 * g + l)) f j (256 * g + l) := by
  funext y
  idx_vars y
  exact v143_up f _ _ _

theorem v144_up (f) (s : Fin 8192) (g : Fin 4) (l : Fin 256) : val_main_v144 (F := Ideal) (D8 f) (ix3 s g l)
    = ((∑ j ∈ Ico s.val 8192, shr (win (256 * g.val + l.val)) f j (256 * g.val + l.val) : ℝ) : EReal) := by
  have h0 : val_main_call1_call0_v0 (F := Ideal) (Shape.Idx.first (by decide)) = (0 : EReal) := by pointwise [val_main_call1_call0_v0, val_main_call1_call0_cst]
  unfold val_main_v144 Host.reduceWindowAdd
  rw [v143_fun, h0, Ideal.hostReduceWindowAdd_def]
  exact window0 (fun j g l => shr (win (256 * g + l)) f j (256 * g + l)) _ s g l

theorem v133_up (f) (s : Fin 8192) (g : Fin 4) (l : Fin 256) : val_main_v133 (F := Ideal) (D8 f) (ix3 s g l) = ((-f s.val (256 * g.val + l.val) : ℝ) : EReal) := by
  rw [EReal.coe_neg]
  pointwise [val_main_v133, val_main_v119, val_main_v105, val_main_v92, val_main_v91, val_main_v90, val_main_v89, val_main_v88, val_main_v81, val_main_cst_14, val_main_v104, val_main_v103, val_main_v102, val_main_v87, val_main_v86, val_main_cst_17, val_main_v118, val_main_v117, val_main_v116, val_main_v85, val_main_v84, val_main_cst_20, val_main_v132, val_main_v131, val_main_v130, val_main_v83, val_main_v82, val_main_cst_23]
  fin_cases g <;> simp [val_main_cst_14, val_main_cst_17, val_main_cst_20, val_main_cst_23] <;> rfl

theorem ref2 (f) : val_main_v147 (F := Ideal) (D8 f) = G f := by
  have e : ∀ (s : Fin 8192) (g : Fin 4) (l : Fin 256), val_main_v145 (F := Ideal) (D8 f) (ix3 s g l)
      = ((full (win (256 * g.val + l.val)) f s.val (256 * g.val + l.val) : ℝ) : EReal) := fun s g l => by
    have hl := l.isLt
    have hg := g.isLt
    have hw : win (256 * g.val + l.val) = 2 ^ (g.val + 1) := win_eq _ _ hl
    have hp : 2 ^ (g.val + 1) ≤ 2 ^ 4 := Nat.pow_le_pow_right (by decide) (by omega)
    rw [← full_ref _ (by rw [hw]; positivity) (by rw [hw]; omega) f s.val _ s.isLt, EReal.coe_add]
    exact congrArg₂ (· + ·) (v133_up f s g l) (v144_up f s g l)
  funext y
  idx_vars y
  pointwise [val_main_v147, val_main_v146]
  have h : 256 * (y1.val / 256) + y1.val % 256 = y1.val := Nat.div_add_mod _ _
  have e2 := e y0 ⟨y1.val / 256, by omega⟩ ⟨y1.val % 256, by omega⟩
  dsimp only at e2
  rw [h] at e2
  exact e2

theorem fn_real (a b : FVec Ideal Cert.Pre_finite5.S8192x1024 .f32) (i : Cert.Pre_finite5.S8192x1024.Idx)
    (h : Cert.Pre_finite5.fn (F := Ideal) a b i = 1#1) : b i = (((b i : EReal).toReal : ℝ) : EReal) := by
  unfold Cert.Pre_finite5.fn at h
  pointwise at h
  simp only [and_one, of_one, Bool.and_eq_true, decide_eq_true_eq] at h
  exact real_of_lt _ h

open Cert.Kernel5Ideal in
/-- The call returns what the reference does. -/
theorem ref_final (m : (ℓ : Loc nD τ sig) → Buf (Elt Ideal) ℓ) (h : Cert.Pre_Kernel5Ideal_finite5 m) (c : Dev nD) :
    val_main_v147 (F := Ideal) (m ((c : Thread nD τ).loc main_arg1)) = (Gen.dats m 0 c).arrAt 2 (cfgs 0).N := by
  have hd := reals_eq _ fun i => fn_real _ _ i (congrFun (h c) i)
  exact ((congrArg _ hd).trans (ref2 _)).trans (final2 m c _ hd).symm

end Cert.Kernel5Ideal.Window

end
-- ==== Proof.Real.lean ====
/-
  Numbers that are real, and what a test of finiteness says.
-/
module

public import Idealize.ShloMosaic.Lib.Pipeline.ValueKit
public import Idealize.ShloMosaic.PureOps.Ideal.Laws

@[expose] public section

set_option maxRecDepth 16384

noncomputable section

namespace Cert.Real

open Idealize.ShloMosaic
open scoped BigOperators

theorem and_one (p q : Bool) : IntOp.andi (BitVec.ofBool p) (BitVec.ofBool q) = BitVec.ofBool (p && q) := by cases p <;> cases q <;> decide

theorem of_one (p : Bool) : (BitVec.ofBool p = 1#1) ↔ p = true := by cases p <;> decide

/-- A real number among the extended ones. -/
def IsReal (x : EReal) : Prop := ∃ r : ℝ, x = (r : EReal)

/-- Below infinity in size, a number is real. -/
theorem of_lt (x : EReal) (h : FloatOps.absf (F := Ideal) (φ := .f32) x < Ideal.ofBits .f32 2139095040#32) : IsReal x := by
  have e : Ideal.ofBits .f32 2139095040#32 = (⊤ : EReal) := by
    simp [Ideal.ofBits, Ideal.ieee]
  rw [e] at h
  induction x using EReal.rec with
  | bot => exact absurd h (by simp [FloatOps.absf])
  | top => exact absurd h (by simp [FloatOps.absf])
  | coe r => exact ⟨r, rfl⟩

theorem coe (r : ℝ) : IsReal (r : EReal) := ⟨r, rfl⟩

theorem mul {x y : EReal} : IsReal x → IsReal y → IsReal (x * y)
  | ⟨a, ha⟩, ⟨b, hb⟩ => ⟨a * b, by rw [ha, hb, EReal.coe_mul]⟩

theorem add {x y : EReal} : IsReal x → IsReal y → IsReal (x + y)
  | ⟨a, ha⟩, ⟨b, hb⟩ => ⟨a + b, by rw [ha, hb, EReal.coe_add]⟩

theorem sum {ι : Type} (s : Finset ι) (f : ι → EReal) (h : ∀ i, IsReal (f i)) : IsReal (∑ i ∈ s, f i) := by
  choose g hg using h
  refine ⟨∑ i ∈ s, g i, ?_⟩
  rw [Finset.sum_congr rfl fun i _ => hg i]
  induction s using Finset.cons_induction with
  | empty => simp
  | cons a s ha ih => rw [Finset.sum_cons, Finset.sum_cons, ih, EReal.coe_add]

theorem coe_sum {ι : Type} (s : Finset ι) (f : ι → ℝ) : (∑ i ∈ s, (f i : EReal)) = ((∑ i ∈ s, f i : ℝ) : EReal) := by
  induction s using Finset.cons_induction with
  | empty => simp
  | cons a s ha ih => rw [Finset.sum_cons, Finset.sum_cons, ih, EReal.coe_add]

theorem half_word : Ideal.ofBits .f32 1056964608#32 = ((1 / 2 : ℝ) : EReal) := by
  simp [Ideal.ofBits, Ideal.ieee, -EReal.coe_mul]; norm_num

theorem ix_2 (n k : Nat) (x : (⟨2, ![n, k]⟩ : Shape).Idx) (g : Fin n) (a : Fin k) (h0 : (x 0).val = g.val) (h1 : (x 1).val = a.val) : x = ix2 g a := by
  refine funext fun d => Fin.ext ?_
  fin_cases d
  exacts [h0, h1]

end Cert.Real

end
-- ==== Proof.FfnAct.lean ====
/-
  The gradient of the gated product.
-/
module

public import proofs.«01_k».proof.Proof.Gen.Kernel7Ideal.Value
public import proofs.«01_k».proof.Proof.Gen.Reference7Ideal.Read
public import Idealize.ShloMosaic.Lib.Pipeline.ValueKit
public import Idealize.ShloMosaic.Lib.Pipeline.ReadBack
public import proofs.«01_k».proof.Proof.Real
public import proofs.«01_k».proof.Proof.Gen.Pre_finite7

@[expose] public section

set_option maxRecDepth 16384

noncomputable section

namespace Cert.Kernel7Ideal.Act

open Cert.Kernel7Ideal Cert.Kernel7Ideal.Gen Idealize.ShloMosaic Idealize.ShloMosaic.TcCoe Idealize.SL.Sem Idealize.ShloMosaic.StableHlo
open scoped BigOperators

open Cert.Real (IsReal)

theorem of_pre (x0 x1 : FVec Ideal S8192x2816 .f32) (x2 : FVec Ideal S2816x1024 .f32) (x3 : FVec Ideal S8192x1024 .f32) (h : Cert.Pre_finite7.fn x0 x1 x2 x3 = fun _ => 1#1) :
    (∀ (r : Fin 8192) (k : Fin 2816), IsReal (x0 (ix2 r k)) ∧ IsReal (x1 (ix2 r k))) ∧ (∀ (k : Fin 2816) (l : Fin 1024), IsReal (x2 (ix2 k l)))
      ∧ ∀ (r : Fin 8192) (l : Fin 1024), IsReal (x3 (ix2 r l)) := by
  have key : ∀ (r : Fin 8192) (k : Fin 11264), ((IsReal (x0 (ix2 r ⟨k.val % 2816, by omega⟩)) ∧ IsReal (x1 (ix2 r ⟨k.val % 2816, by omega⟩)))
      ∧ IsReal (x2 (ix2 ⟨k.val % 2816, by omega⟩ ⟨r.val % 1024, by omega⟩))) ∧ IsReal (x3 (ix2 r ⟨k.val % 1024, by omega⟩)) := fun r k => by
    have h := congrFun h (ix2 r k)
    pointwise [Cert.Pre_finite7.fn, Cert.Pre_finite7.fn_part1] at h
    simp only [Cert.Real.and_one, Cert.Real.of_one, Bool.and_eq_true, decide_eq_true_eq] at h
    exact ⟨⟨⟨Cert.Real.of_lt _ h.1.1.1, Cert.Real.of_lt _ h.1.1.2⟩, Cert.Real.of_lt _ h.1.2⟩, Cert.Real.of_lt _ h.2⟩
  refine ⟨fun r k => ?_, fun k l => ?_, fun r l => ?_⟩
  · have := (key r ⟨k.val, by omega⟩).1.1
    simpa only [Nat.mod_eq_of_lt k.isLt] using this
  · have := (key ⟨l.val, by omega⟩ ⟨k.val, by omega⟩).1.2
    simpa only [Nat.mod_eq_of_lt k.isLt, Nat.mod_eq_of_lt l.isLt] using this
  · have := (key r ⟨l.val, by omega⟩).2
    simpa only [Nat.mod_eq_of_lt l.isLt] using this

theorem logistic_eq (x : EReal) : Ideal.logistic x = Ideal.div 1 (1 + Ideal.exp (-x)) := rfl

theorem logistic_real (x : ℝ) : IsReal (Ideal.logistic (x : EReal)) := by
  have h : (1 : EReal) + Ideal.exp (-(x : EReal)) = ((1 + Real.exp (-x) : ℝ) : EReal) := rfl
  have hp : 0 < 1 + Real.exp (-x) := by positivity
  rw [logistic_eq, h, Ideal.div, if_neg (by exact_mod_cast hp.ne'), ← EReal.coe_inv, one_mul]
  exact Cert.Real.coe _

/-- The gradient of the product with the half of the incoming gradient. -/
def dact (w : FVec Ideal S2816x1024 .f32) (dx : FVec Ideal S8192x1024 .f32) (r : Fin 8192) (k : Fin 2816) : EReal :=
  ∑ l : Fin 1024, Ideal.ofBits .f32 1056964608#32 * dx (ix2 r l) * w (ix2 k l)

theorem law (d u x : EReal) (hd : IsReal d) (hu : IsReal u) (hx : IsReal x) :
    d * u * (Ideal.logistic x + x * Ideal.logistic x * (1 - Ideal.logistic x)) = d * u * Ideal.logistic x + x * (d * u) * (Ideal.logistic x * (1 - Ideal.logistic x)) := by
  obtain ⟨d, rfl⟩ := hd
  obtain ⟨u, rfl⟩ := hu
  obtain ⟨x, rfl⟩ := hx
  obtain ⟨s, hs⟩ := logistic_real x
  rw [hs, ← EReal.coe_one]
  simp only [← EReal.coe_mul, ← EReal.coe_sub, ← EReal.coe_add]
  exact congrArg (fun z : ℝ => (z : EReal)) (by ring)

theorem pay5_apply (a : Vec Ideal S512x1024 .f32) (w : Vec Ideal S1408x1024 .bf16) (g u : Vec Ideal S512x1408 .bf16) (r : Fin 512) (k : Fin 1408) :
    k0_pay5 a w g u (ix2 r k) = (∑ l : Fin 1024, Ideal.ofBits .f32 1056964608#32 * a (ix2 r l) * w (ix2 k l)) * u (ix2 r k)
      * (Ideal.logistic (g (ix2 r k)) + g (ix2 r k) * Ideal.logistic (g (ix2 r k)) * (1 - Ideal.logistic (g (ix2 r k)))) := by
  pointwise [k0_pay5, k0_pay4, k0_pay3, k0_pay2, k0_pay1]

theorem pay6_apply (a : Vec Ideal S512x1024 .f32) (w : Vec Ideal S1408x1024 .bf16) (g : Vec Ideal S512x1408 .bf16) (r : Fin 512) (k : Fin 1408) :
    k0_pay6 a w g (ix2 r k) = (∑ l : Fin 1024, Ideal.ofBits .f32 1056964608#32 * a (ix2 r l) * w (ix2 k l)) * (g (ix2 r k) * Ideal.logistic (g (ix2 r k))) := by
  pointwise [k0_pay6, k0_pay4, k0_pay3, k0_pay2, k0_pay1]

open Cert.Reference7Ideal.Read in
theorem ref13 (x0 x1 : FVec Ideal S8192x2816 .f32) (x2 : FVec Ideal S2816x1024 .f32) (x3 : FVec Ideal S8192x1024 .f32) (r : Fin 8192) (k : Fin 2816) :
    val_main_v13 (F := Ideal) x0 x1 x2 x3 (ix2 r k) = dact x2 x3 r k * x1 (ix2 r k) * Ideal.logistic (x0 (ix2 r k))
      + x0 (ix2 r k) * (dact x2 x3 r k * x1 (ix2 r k)) * (Ideal.logistic (x0 (ix2 r k)) * (1 - Ideal.logistic (x0 (ix2 r k)))) := by
  simp only [logistic_eq, dact]
  pointwise [val_main_v13, val_main_v12, val_main_call1_v1, val_main_v11, val_main_v9, val_main_v6, val_main_v5, val_main_cst_0, val_main_v0_2, val_main_call0_v4, val_main_call0_cst_0, val_main_call0_v3, val_main_call0_v2, val_main_call0_cst, val_main_call0_v1, val_main_call0_v0, val_main_call1_v2, val_main_call1_v0, val_main_v0_1, val_main_call0_v7, val_main_call0_v6, val_main_call0_cst_1]

open Cert.Reference7Ideal.Read in
theorem ref14 (x0 : FVec Ideal S8192x2816 .f32) (x2 : FVec Ideal S2816x1024 .f32) (x3 : FVec Ideal S8192x1024 .f32) (r : Fin 8192) (k : Fin 2816) :
    val_main_v14 (F := Ideal) x0 x2 x3 (ix2 r k) = x0 (ix2 r k) * Ideal.logistic (x0 (ix2 r k)) * dact x2 x3 r k := by
  simp only [logistic_eq, dact]
  pointwise [val_main_v14, val_main_v10, val_main_v0_0, val_main_v0_2, val_main_call0_v4, val_main_call0_cst_0, val_main_call0_v3, val_main_call0_v2, val_main_call0_cst, val_main_call0_v1, val_main_call0_v0, val_main_v9, val_main_v6, val_main_v5, val_main_cst_0]

variable (m : (ℓ : Loc nD τ sig) → Buf (Elt Ideal) ℓ)

theorem idx_val : ∀ t : Fin cfg0.N, win0_0.index t = ![t.val % 16, 0] ∧ win0_1.index t = ![t.val / 16, 0] ∧ win0_2.index t = ![t.val % 16, t.val / 16]
    ∧ win0_3.index t = ![t.val % 16, t.val / 16] ∧ win0_4.index t = ![t.val % 16, t.val / 16] ∧ win0_5.index t = ![t.val % 16, t.val / 16] :=
  (by decide +kernel : ∀ t : Fin grid0.N, _)

/-- A row of a point's block in the whole array. -/
def row (t : Fin cfg0.N) (r : Fin 512) : Fin 8192 := ⟨t.val % 16 * 512 + r.val, by omega⟩

/-- A column of a point's block in the whole array. -/
def col (t : Fin cfg0.N) (k : Fin 1408) : Fin 2816 := ⟨t.val / 16 * 1408 + k.val, by
  have := lt_of_lt_of_eq t.isLt N_0
  omega⟩

theorem in0 (c : Dev nD) (t : Fin cfg0.N) (r : Fin 512) (k : Fin 1024) : iblk m c 0 t (ix2 r k) = m ((c : Thread nD τ).loc main_arg3) (ix2 (row t r) k) := by
  unfold row
  blk_ext [iblk, V, idx_val t]

theorem in1 (c : Dev nD) (t : Fin cfg0.N) (r : Fin 1408) (k : Fin 1024) : iblk m c 1 t (ix2 r k) = m ((c : Thread nD τ).loc main_arg2) (ix2 (col t r) k) := by
  unfold col
  blk_simp [iblk]
  entry_read
  pointwise
  blk_point [iblk, V, idx_val t]

theorem in2 (c : Dev nD) (t : Fin cfg0.N) (r : Fin 512) (k : Fin 1408) : iblk m c 2 t (ix2 r k) = m ((c : Thread nD τ).loc main_arg0) (ix2 (row t r) (col t k)) := by
  unfold row col
  blk_simp [iblk]
  entry_read
  pointwise
  blk_point [iblk, V, idx_val t]

theorem in3 (c : Dev nD) (t : Fin cfg0.N) (r : Fin 512) (k : Fin 1408) : iblk m c 3 t (ix2 r k) = m ((c : Thread nD τ).loc main_arg1) (ix2 (row t r) (col t k)) := by
  unfold row col
  blk_simp [iblk]
  entry_read
  pointwise
  blk_point [iblk, V, idx_val t]

theorem final4 (c : Dev nD) (h : Cert.Pre_finite7.fn (F := Ideal) (m ((c : Thread nD τ).loc main_arg0)) (m ((c : Thread nD τ).loc main_arg1)) (m ((c : Thread nD τ).loc main_arg2)) (m ((c : Thread nD τ).loc main_arg3)) = fun _ => 1#1) : (dats m 0 c).arrAt 4 (cfgs 0).N
    = Cert.Reference7Ideal.Read.val_main_v13 (F := Ideal) (m ((c : Thread nD τ).loc main_arg0)) (m ((c : Thread nD τ).loc main_arg1)) (m ((c : Thread nD τ).loc main_arg2)) (m ((c : Thread nD τ).loc main_arg3)) := by
  obtain ⟨h01, h2, h3⟩ := of_pre _ _ _ _ h
  refine (dats m 0 c).arrAt_eq_of_covers 4 _ (by decide +kernel) fun t hf y => ?_
  blk_simp
  rw [after0_4]
  unfold out0_4
  frame_out
  obtain ⟨r, hr⟩ : ∃ r : Fin 512, r = y 0 := ⟨_, rfl⟩
  obtain ⟨k, hk⟩ : ∃ k : Fin 1408, k = y 1 := ⟨_, rfl⟩
  refine (congrArg (k0_pay5 (iblk m c 0 t) (iblk m c 1 t) (iblk m c 2 t) (iblk m c 3 t)) (Cert.Real.ix_2 512 1408 y r k (by rw [hr]) (by rw [hk]))).trans ?_
  rw [pay5_apply]
  simp only [in0, in1, in2, in3]
  refine (law _ _ _ (Cert.Real.sum _ _ fun l => Cert.Real.mul (Cert.Real.mul (by rw [Cert.Real.half_word]; exact Cert.Real.coe _) (h3 _ _)) (h2 _ _)) (h01 _ _).2 (h01 _ _).1).trans ?_
  refine (ref13 _ _ _ _ _ _).symm.trans ?_
  refine congrArg _ (Cert.Real.ix_2 8192 2816 _ _ _ ?_ ?_).symm <;> blk_simp [idx_val t, hr, hk] <;> rfl

theorem final5 (c : Dev nD) : (dats m 0 c).arrAt 5 (cfgs 0).N
    = Cert.Reference7Ideal.Read.val_main_v14 (F := Ideal) (m ((c : Thread nD τ).loc main_arg0)) (m ((c : Thread nD τ).loc main_arg2)) (m ((c : Thread nD τ).loc main_arg3)) := by
  refine (dats m 0 c).arrAt_eq_of_covers 5 _ (by decide +kernel) fun t hf y => ?_
  blk_simp
  rw [after0_5]
  unfold out0_5
  frame_out
  obtain ⟨r, hr⟩ : ∃ r : Fin 512, r = y 0 := ⟨_, rfl⟩
  obtain ⟨k, hk⟩ : ∃ k : Fin 1408, k = y 1 := ⟨_, rfl⟩
  refine (congrArg (k0_pay6 (iblk m c 0 t) (iblk m c 1 t) (iblk m c 2 t)) (Cert.Real.ix_2 512 1408 y r k (by rw [hr]) (by rw [hk]))).trans ?_
  rw [pay6_apply]
  simp only [in0, in1, in2]
  refine (mul_comm _ _).trans ((ref14 _ _ _ _ _).symm.trans ?_)
  refine congrArg _ (Cert.Real.ix_2 8192 2816 _ _ _ ?_ ?_).symm <;> blk_simp [idx_val t, hr, hk] <;> rfl

end Cert.Kernel7Ideal.Act

end
-- ==== Proof.NormGrad.lean ====
/-
  The gradient of a row divided by its root mean square, in the two forms of it: the one the kernels take, and the one the chain rule gives.
-/
module

public import proofs.«01_k».proof.Proof.Real

@[expose] public section

set_option maxRecDepth 16384

noncomputable section

namespace Cert.NormGrad

open Idealize.ShloMosaic
open Cert.Real (IsReal)
open scoped BigOperators

/-- The mean square of a row, with the small number added. -/
def ms (x : Fin 1024 → EReal) : EReal :=
  Ideal.div (∑ l, x l * x l) (Ideal.ofBits .f32 1149239296#32) + Ideal.ofBits .f32 897988541#32

/-- A row's gradient from the gradient `h` of the scaled row, as a kernel forms it. -/
def kern (x h : Fin 1024 → EReal) (k : Fin 1024) : EReal :=
  Ideal.rsqrt (ms x) * (h k - x k * Ideal.rsqrt (ms x) * Ideal.div (∑ l, h l * (x l * Ideal.rsqrt (ms x))) (Ideal.ofBits .f32 1149239296#32))

/-- The gradient that reaches each square of the row. -/
def sqGrad (x h : Fin 1024 → EReal) : EReal :=
  Ideal.div ((∑ l, x l * h l) * (Ideal.ofBits .f32 3204448256#32 * Ideal.div (Ideal.rsqrt (ms x)) (ms x))) (Ideal.ofBits .f32 1149239296#32)

/-- The same gradient as the chain rule gives it, beside what comes past the row. -/
def back (x h : Fin 1024 → EReal) (d : EReal) (k : Fin 1024) : EReal :=
  d + h k * Ideal.rsqrt (ms x) + x k * (∑ _i : Fin 1, sqGrad x h) + (∑ _i : Fin 1, sqGrad x h) * x k

theorem w1024 : Ideal.ofBits .f32 1149239296#32 = ((1024 : ℝ) : EReal) := by
  simp [Ideal.ofBits, Ideal.ieee, -EReal.coe_mul]; norm_num

theorem wneg : Ideal.ofBits .f32 3204448256#32 = ((-(1 / 2) : ℝ) : EReal) := by
  simp [Ideal.ofBits, Ideal.ieee, -EReal.coe_mul]; norm_num

theorem weps : ∃ e : ℝ, 0 < e ∧ Ideal.ofBits .f32 897988541#32 = (e : EReal) := by
  refine ⟨8796093 / 2 ^ 43, by norm_num, ?_⟩
  simp [Ideal.ofBits, Ideal.ieee, -EReal.coe_mul]; norm_num

theorem div_coe (a b : ℝ) (h : b ≠ 0) : Ideal.div (a : EReal) (b : EReal) = ((a / b : ℝ) : EReal) := by
  rw [Ideal.div, if_neg (by exact_mod_cast h), ← EReal.coe_inv, ← EReal.coe_mul, div_eq_mul_inv]

theorem rsqrt_coe (q : ℝ) (h : 0 < q) : Ideal.rsqrt (q : EReal) = (((Real.sqrt q)⁻¹ : ℝ) : EReal) := by
  change (if q < 0 then (⊥ : EReal) else if q = 0 then ⊤ else (((Real.sqrt q)⁻¹ : ℝ) : EReal)) = _
  rw [if_neg h.not_gt, if_neg h.ne']

theorem ms_real (x : Fin 1024 → ℝ) : ∃ q : ℝ, 0 < q ∧ ms (fun l => (x l : EReal)) = (q : EReal) := by
  obtain ⟨e, he, hw⟩ := weps
  refine ⟨(∑ l, x l * x l) / 1024 + e, ?_, ?_⟩
  · have : 0 ≤ ∑ l, x l * x l := Finset.sum_nonneg fun l _ => mul_self_nonneg _
    positivity
  · unfold ms
    simp only [← EReal.coe_mul]
    rw [hw, w1024, Cert.Real.coe_sum, div_coe _ _ (by norm_num), ← EReal.coe_add]

theorem sq_nonneg (x : EReal) : 0 ≤ x * x := by
  induction x using EReal.rec with
  | bot => rw [EReal.bot_mul_bot]; exact le_top
  | coe a => rw [← EReal.coe_mul]; exact EReal.coe_nonneg.mpr (mul_self_nonneg a)
  | top => rw [EReal.top_mul_top]; exact le_top

theorem div_real (a : EReal) (b : ℝ) (h : b ≠ 0) : Ideal.div a (b : EReal) = a * ((b⁻¹ : ℝ) : EReal) := by
  rw [Ideal.div, if_neg (by rw [← EReal.coe_zero, EReal.coe_eq_coe_iff]; exact h), ← EReal.coe_inv]

/-- A positive factor comes out of a sum, whatever its terms are. -/
theorem sum_scale {ι : Type} (s : Finset ι) (f : ι → EReal) (c : ℝ) (hc : 0 ≤ c) : ∑ i ∈ s, f i * (c : EReal) = (∑ i ∈ s, f i) * (c : EReal) := by
  classical
  induction s using Finset.induction_on with
  | empty => rw [Finset.sum_empty, Finset.sum_empty, zero_mul]
  | insert a s ha ih =>
    rw [Finset.sum_insert ha, Finset.sum_insert ha, ih, EReal.right_distrib_of_nonneg_of_ne_top (EReal.coe_nonneg.mpr hc) (EReal.coe_ne_top c)]

/-- A mean of squares with a small number added is a positive number or infinite. -/
theorem mean_cases {n : Nat} (x : Fin n → EReal) (b : ℝ) (hb : 0 < b) :
    (∃ q : ℝ, 0 < q ∧ Ideal.div (∑ l, x l * x l) (b : EReal) + Ideal.ofBits .f32 897988541#32 = (q : EReal))
      ∨ Ideal.div (∑ l, x l * x l) (b : EReal) + Ideal.ofBits .f32 897988541#32 = ⊤ := by
  obtain ⟨e, he, hw⟩ := weps
  have h : 0 ≤ ∑ l, x l * x l := Finset.sum_nonneg fun l _ => sq_nonneg _
  rw [hw, div_real _ _ hb.ne']
  generalize ∑ l, x l * x l = z at h
  induction z using EReal.rec with
  | bot => exact absurd h (by simp)
  | coe a =>
    have h := EReal.coe_nonneg.mp h
    refine Or.inl ⟨a * b⁻¹ + e, by positivity, ?_⟩
    rw [← EReal.coe_mul, ← EReal.coe_add]
  | top =>
    refine Or.inr ?_
    rw [EReal.top_mul_coe_of_pos (inv_pos.mpr hb), EReal.top_add_coe]

/-- The difference a kernel scales against the three terms of the chain rule, whatever the entries are. -/
theorem core (d a x t : EReal) (p u c : ℝ) (hp : 0 ≤ p) (hc : 2 * c = -(p * p * p * u)) :
    d + (p : EReal) * (a - x * (p : EReal) * (t * (p : EReal) * (u : EReal))) = d + a * (p : EReal) + x * (t * (c : EReal)) + t * (c : EReal) * x := by
  have e1 : (p : EReal) * (a - x * (p : EReal) * (t * (p : EReal) * (u : EReal))) = a * (p : EReal) + x * t * ((2 * c : ℝ) : EReal) := by
    rw [sub_eq_add_neg, EReal.left_distrib_of_nonneg_of_ne_top (EReal.coe_nonneg.mpr hp) (EReal.coe_ne_top p), mul_neg, hc, EReal.coe_neg, mul_neg, mul_comm _ a]
    refine congrArg (fun z : EReal => a * (p : EReal) + -z) ?_
    simp only [EReal.coe_mul]
    ac_rfl
  have e2 : x * t * ((2 * c : ℝ) : EReal) = x * t * (c : EReal) + x * t * (c : EReal) := by
    have two : ((2 : ℝ) : EReal) = 1 + 1 := by
      rw [← EReal.coe_one, ← EReal.coe_add]
      norm_num
    rw [EReal.coe_mul, mul_left_comm, mul_comm, two, EReal.left_distrib_of_nonneg zero_le_one zero_le_one, mul_one]
  rw [e1, e2, add_assoc, add_assoc]
  refine congrArg (d + ·) (congrArg (a * (p : EReal) + ·) (congrArg₂ (· + ·) (mul_assoc _ _ _) ?_))
  rw [mul_comm _ x, mul_assoc]

theorem cube (q : ℝ) (hq : 0 < q) (b : ℝ) :
    2 * (-(1 / 2) * ((Real.sqrt q)⁻¹ / q) * b⁻¹) = -((Real.sqrt q)⁻¹ * (Real.sqrt q)⁻¹ * (Real.sqrt q)⁻¹ * b⁻¹) := by
  have hpq : (Real.sqrt q)⁻¹ / q = (Real.sqrt q)⁻¹ * (Real.sqrt q)⁻¹ * (Real.sqrt q)⁻¹ := by
    rw [← mul_inv, Real.mul_self_sqrt hq.le, div_eq_inv_mul]
  rw [hpq]
  ring

theorem div_zero_top : Ideal.div 0 ⊤ = 0 := by
  rw [Ideal.div, if_neg EReal.top_ne_zero, zero_mul]

theorem law (x h : Fin 1024 → EReal) (d : EReal) (k : Fin 1024) : d + kern x h k = back x h d k := by
  have hm := mean_cases x 1024 (by norm_num)
  rw [← w1024] at hm
  change (∃ q : ℝ, 0 < q ∧ ms x = (q : EReal)) ∨ ms x = ⊤ at hm
  unfold kern back sqGrad
  simp only [Fin.sum_univ_one]
  rcases hm with ⟨q, hq, hm⟩ | hm
  · have hs : ∀ p : ℝ, 0 ≤ p → ∑ l, h l * (x l * (p : EReal)) = (∑ l, x l * h l) * (p : EReal) := fun p hp => by
      rw [← sum_scale _ _ _ hp]
      exact Finset.sum_congr rfl fun l _ => by rw [← mul_assoc, mul_comm (h l)]
    have hc := cube q hq 1024
    have hp : 0 ≤ (Real.sqrt q)⁻¹ := by positivity
    rw [hm, rsqrt_coe q hq, w1024, wneg, div_coe _ _ hq.ne']
    generalize (Real.sqrt q)⁻¹ = p at hc hp ⊢
    rw [hs p hp]
    generalize ∑ l, x l * h l = t
    have e1 : Ideal.div (t * (p : EReal)) ((1024 : ℝ) : EReal) = t * (p : EReal) * ((1024⁻¹ : ℝ) : EReal) := div_real _ _ (by norm_num)
    have e2 : Ideal.div (t * (((-(1 / 2) : ℝ) : EReal) * ((p / q : ℝ) : EReal))) ((1024 : ℝ) : EReal) = t * ((-(1 / 2) * (p / q) * 1024⁻¹ : ℝ) : EReal) := by
      rw [div_real _ _ (by norm_num), mul_assoc, ← EReal.coe_mul, ← EReal.coe_mul]
    rw [e1, e2]
    exact core d (h k) (x k) t p _ _ hp hc
  · have e0 : Ideal.div 0 ((1024 : ℝ) : EReal) = 0 := by rw [div_real _ _ (by norm_num), zero_mul]
    rw [hm, show Ideal.rsqrt ⊤ = 0 from rfl, div_zero_top, w1024]
    simp only [zero_mul, mul_zero, add_zero, e0]

end Cert.NormGrad

end
-- ==== Proof.FfnDh.lean ====
/-
  The gradient through the scaled rows of the two products.
-/
module

public import proofs.«01_k».proof.Proof.Gen.Kernel8Ideal.Value
public import proofs.«01_k».proof.Proof.Gen.Reference8Ideal.Read
public import Idealize.ShloMosaic.Lib.Pipeline.ValueKit
public import Idealize.ShloMosaic.Lib.Pipeline.ReadBack
public import proofs.«01_k».proof.Proof.NormGrad

@[expose] public section

set_option maxRecDepth 16384

noncomputable section

namespace Cert.Kernel8Ideal.Dh

open Cert.Kernel8Ideal Cert.Kernel8Ideal.Gen Idealize.ShloMosaic Idealize.ShloMosaic.TcCoe Idealize.SL.Sem Idealize.ShloMosaic.StableHlo
open scoped BigOperators

open Cert.Real (IsReal)
open Cert.NormGrad (kern back sqGrad ms)

/-- The gradient of the product. -/
def dy (w : FVec Ideal S1024x5632 .f32) (a a' : FVec Ideal S8192x2816 .f32) (r : Fin 8192) (k : Fin 1024) : EReal :=
  ∑ l : Fin 2816, a (ix2 r l) * w (ix2 k ⟨l.val, by omega⟩) + ∑ l : Fin 2816, a' (ix2 r l) * w (ix2 k ⟨2816 + l.val, by omega⟩)

theorem pay5_apply (a : Vec Ideal S512x2816 .bf16) (w : Vec Ideal S2816x1024 .bf16) (a' : Vec Ideal S512x2816 .bf16) (w' : Vec Ideal S2816x1024 .bf16) (x : Vec Ideal S512x1024 .f32) (g : Vec Ideal S1x1024 .f32) (d : Vec Ideal S512x1024 .f32) (r : Fin 512) (k : Fin 1024) :
    k0_pay5 a w a' w' x g d (ix2 r k) = d (ix2 r k) + kern (fun l => x (ix2 r l)) (fun l => (∑ j : Fin 2816, a (ix2 r j) * w (ix2 j l) + ∑ j : Fin 2816, a' (ix2 r j) * w' (ix2 j l)) * g (ix2 0 l)) k := by
  simp only [kern, ms]
  pointwise [k0_pay5, k0_pay4, k0_pay3, k0_pay2]

/-- What a block of rows adds to the scale's gradient. -/
def add (a : Vec Ideal S512x2816 .bf16) (w : Vec Ideal S2816x1024 .bf16) (a' : Vec Ideal S512x2816 .bf16) (w' : Vec Ideal S2816x1024 .bf16) (x : Vec Ideal S512x1024 .f32) (k : Fin 1024) : EReal :=
  ∑ r : Fin 512, (∑ j : Fin 2816, a (ix2 r j) * w (ix2 j k) + ∑ j : Fin 2816, a' (ix2 r j) * w' (ix2 j k)) * (x (ix2 r k) * Ideal.rsqrt (ms fun l => x (ix2 r l)))

theorem pay6_apply (a : Vec Ideal S512x2816 .bf16) (w : Vec Ideal S2816x1024 .bf16) (a' : Vec Ideal S512x2816 .bf16) (w' : Vec Ideal S2816x1024 .bf16) (x : Vec Ideal S512x1024 .f32) (d : Vec Ideal S1x1024 .f32) (k : Fin 1024) :
    k0_pay6 a w a' w' x d (ix2 0 k) = d (ix2 0 k) + add a w a' w' x k := by
  simp only [add, ms]
  pointwise [k0_pay6, k0_pay4, k0_pay3, k0_pay2]

theorem pay1_apply (k : Fin 1024) : k0_pay1 (F := Ideal) (ix2 0 k) = 0 := by pointwise [k0_pay1]

open Cert.Reference8Ideal.Read in
theorem refx (x0 : FVec Ideal S8192x1024 .f32) (x1 : FVec Ideal S1024 .f32) (x2 : FVec Ideal S1024x5632 .f32) (x3 x4 : FVec Ideal S8192x2816 .f32) (x5 : FVec Ideal S8192x1024 .f32) (r : Fin 8192) (k : Fin 1024) :
    val_main_v43 (F := Ideal) x0 x1 x2 x3 x4 x5 (ix2 r k) = back (fun l => x0 (ix2 r l)) (fun l => dy x2 x3 x4 r l * x1 (ix1 l)) (x5 (ix2 r k)) k := by
  simp only [back, sqGrad, ms, dy]
  pointwise [val_main_v43, val_main_v41, val_main_v34, val_main_v33, val_main_v27, val_main_v22, val_main_v19, val_main_v26, val_main_v13, val_main_v32, val_main_v7, val_main_v6, val_main_v4, val_main_v2, val_main_v1, val_main_v0, val_main_cst, val_main_v3, val_main_cst_0, val_main_v5, val_main_cst_1, val_main_v40, val_main_v39, val_main_v38, val_main_v37, val_main_v35, val_main_v31, val_main_v30, val_main_v29, val_main_cst_5, val_main_v10, val_main_v9, val_main_cst_2, val_main_v8, val_main_v36, val_main_cst_6, val_main_cst_7, val_main_v42]

open Cert.Reference8Ideal.Read in
theorem refg (x0 : FVec Ideal S8192x1024 .f32) (x2 : FVec Ideal S1024x5632 .f32) (x3 x4 : FVec Ideal S8192x2816 .f32) (k : Fin 1024) :
    val_main_v44 (F := Ideal) x0 x2 x3 x4 (ix2 0 k) = ∑ r : Fin 8192, dy x2 x3 x4 r k * (x0 (ix2 r k) * Ideal.rsqrt (ms fun l => x0 (ix2 r l))) := by
  have e : val_main_v44 (F := Ideal) x0 x2 x3 x4 (ix2 0 k) = ∑ _i : Fin 1, ∑ r : Fin 8192, x0 (ix2 r k) * Ideal.rsqrt (ms fun l => x0 (ix2 r l)) * dy x2 x3 x4 r k := by
    simp only [ms, dy]
    pointwise [val_main_v44, val_main_v28, val_main_v25, val_main_v24, val_main_v23, val_main_v12, val_main_v11, val_main_v7, val_main_v6, val_main_v4, val_main_v2, val_main_v1, val_main_v0, val_main_cst, val_main_v3, val_main_cst_0, val_main_v5, val_main_cst_1, val_main_v22, val_main_v19, val_main_cst_3, val_main_cst_4]
  rw [e, Fin.sum_univ_one]
  exact Finset.sum_congr rfl fun r _ => mul_comm _ _

theorem meet (x0 : FVec Ideal S8192x1024 .f32) (x1 : FVec Ideal S1024 .f32) (x2 : FVec Ideal S1024x5632 .f32) (x3 x4 : FVec Ideal S8192x2816 .f32) (x5 : FVec Ideal S8192x1024 .f32) (r : Fin 8192) (k : Fin 1024) :
    x5 (ix2 r k) + kern (fun l => x0 (ix2 r l)) (fun l => (∑ j : Fin 2816, x3 (ix2 r j) * x2 (ix2 l ⟨j.val, by omega⟩) + ∑ j : Fin 2816, x4 (ix2 r j) * x2 (ix2 l ⟨2816 + j.val, by omega⟩)) * x1 (ix1 l)) k = Cert.Reference8Ideal.Read.val_main_v43 (F := Ideal) x0 x1 x2 x3 x4 x5 (ix2 r k) := by
  rw [refx]
  exact Cert.NormGrad.law (fun l => x0 (ix2 r l)) (fun l => dy x2 x3 x4 r l * x1 (ix1 l)) _ k

variable (m : (ℓ : Loc nD τ sig) → Buf (Elt Ideal) ℓ)

theorem idx_val : ∀ t : Fin cfg0.N, win0_0.index t = ![t.val, 0] ∧ win0_1.index t = ![t.val, 0] ∧ win0_2.index t = ![0, 0] ∧ win0_3.index t = ![1, 0] ∧ win0_4.index t = ![t.val, 0] ∧ win0_5.index t = ![0, 0] ∧ win0_6.index t = ![t.val, 0]
    ∧ win0_7.index t = ![t.val, 0] ∧ win0_8.index t = ![0, 0] :=
  (by decide +kernel : ∀ t : Fin grid0.N, _)

/-- A row of a point's block in the whole array. -/
def row (t : Fin cfg0.N) (r : Fin 512) : Fin 8192 := ⟨t.val * 512 + r.val, by
  have := lt_of_lt_of_eq t.isLt N_0
  omega⟩

theorem in0 (c : Dev nD) (t : Fin cfg0.N) (r : Fin 512) (k : Fin 2816) : iblk m c 0 t (ix2 r k) = m ((c : Thread nD τ).loc main_arg3) (ix2 (row t r) k) := by
  unfold row
  blk_simp [iblk]
  entry_read
  pointwise
  blk_point [iblk, V, idx_val t]

theorem in1 (c : Dev nD) (t : Fin cfg0.N) (r : Fin 512) (k : Fin 2816) : iblk m c 1 t (ix2 r k) = m ((c : Thread nD τ).loc main_arg4) (ix2 (row t r) k) := by
  unfold row
  blk_simp [iblk]
  entry_read
  pointwise
  blk_point [iblk, V, idx_val t]

theorem in2 (c : Dev nD) (t : Fin cfg0.N) (r : Fin 2816) (k : Fin 1024) : iblk m c 2 t (ix2 r k) = m ((c : Thread nD τ).loc main_arg2) (ix2 k ⟨r.val, by omega⟩) := by
  blk_simp [iblk]
  entry_read
  pointwise
  blk_point [iblk, V, idx_val t]

theorem in3 (c : Dev nD) (t : Fin cfg0.N) (r : Fin 2816) (k : Fin 1024) : iblk m c 3 t (ix2 r k) = m ((c : Thread nD τ).loc main_arg2) (ix2 k ⟨2816 + r.val, by omega⟩) := by
  blk_simp [iblk]
  entry_read
  pointwise
  blk_point [iblk, V, idx_val t]

theorem in4 (c : Dev nD) (t : Fin cfg0.N) (r : Fin 512) (k : Fin 1024) : iblk m c 4 t (ix2 r k) = m ((c : Thread nD τ).loc main_arg0) (ix2 (row t r) k) := by
  unfold row
  blk_ext [iblk, V, idx_val t]

theorem in5 (c : Dev nD) (t : Fin cfg0.N) (k : Fin 1024) : iblk m c 5 t (ix2 0 k) = m ((c : Thread nD τ).loc main_arg1) (ix1 k) := by
  blk_simp [iblk]
  entry_read
  pointwise
  blk_point [iblk, V, idx_val t]

theorem in6 (c : Dev nD) (t : Fin cfg0.N) (r : Fin 512) (k : Fin 1024) : iblk m c 6 t (ix2 r k) = m ((c : Thread nD τ).loc main_arg5) (ix2 (row t r) k) := by
  unfold row
  blk_ext [iblk, V, idx_val t]

theorem out (c : Dev nD) (t : Fin cfg0.N) : (outsAt0 m c t.val t.isLt).1 = k0_pay5 (iblk m c 0 t) (iblk m c 2 t) (iblk m c 1 t) (iblk m c 3 t) (iblk m c 4 t) (iblk m c 5 t) (iblk m c 6 t) := by
  by_cases h0 : t.val % 16 = 0
  · rw [outsAt0_A m c t h0]
    frame_out
  · rw [outsAt0_B m c t h0]
    frame_out

theorem accA (c : Dev nD) (t : Fin cfg0.N) (h0 : t.val % 16 = 0) (k : Fin 1024) :
    (outsAt0 m c t.val t.isLt).2 (ix2 0 k) = (0 : EReal) + add (iblk m c 0 t) (iblk m c 2 t) (iblk m c 1 t) (iblk m c 3 t) (iblk m c 4 t) k := by
  rw [outsAt0_A m c t h0]
  frame_out
  rw [pay6_apply, pay1_apply]

theorem accB (c : Dev nD) (t : Fin cfg0.N) (h0 : ¬ t.val % 16 = 0) (k : Fin 1024) :
    (outsAt0 m c t.val t.isLt).2 (ix2 0 k) = (outsAt0 m c (t.val - 1) (Nat.lt_of_le_of_lt (Nat.sub_le _ _) t.isLt)).2 (ix2 0 k) + add (iblk m c 0 t) (iblk m c 2 t) (iblk m c 1 t) (iblk m c 3 t) (iblk m c 4 t) k := by
  rw [outsAt0_B m c t h0]
  frame_out
  rw [pay6_apply]

theorem accSum (c : Dev nD) (t : Fin cfg0.N) (ht : t.val % 16 = 15) (k : Fin 1024) :
    (outsAt0 m c t.val t.isLt).2 (ix2 0 k) = Cert.Reference8Ideal.Read.val_main_v44 (F := Ideal) (m ((c : Thread nD τ).loc main_arg0)) (m ((c : Thread nD τ).loc main_arg2)) (m ((c : Thread nD τ).loc main_arg3)) (m ((c : Thread nD τ).loc main_arg4)) (ix2 0 k) := by
  rw [Pipeline.eq_sum_fin_of_reset_step_apply_of_flush (fun n h (k : Fin 1024) => (outsAt0 m c n h).2 (ix2 0 k)) 16 (fun _ => (0 : EReal)) (fun t k => add (iblk m c 0 t) (iblk m c 2 t) (iblk m c 1 t) (iblk m c 3 t) (iblk m c 4 t) k)
    (fun t h j => accA m c t h j) (fun t h j => accB m c t h j) t ht k, zero_add, refg]
  unfold add
  refine Fin.sum_mul_add_congr fun s r hl => ?_
  have e : row ⟨16 * (t.val / 16) + s.val, Pipeline.run_point_lt_of_flush t ht s⟩ r = ⟨s.val * 512 + r.val, hl⟩ := by
    have := lt_of_lt_of_eq t.isLt N_0
    apply Fin.ext
    change (16 * (t.val / 16) + s.val) * 512 + r.val = s.val * 512 + r.val
    omega
  simp only [in0, in1, in2, in3, in4, in5, in6, e, dy]

theorem final7 (c : Dev nD) : (dats m 0 c).arrAt 7 (cfgs 0).N
    = Cert.Reference8Ideal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7, out]
  obtain ⟨r, hr⟩ : ∃ r : Fin 512, r = y 0 := ⟨_, rfl⟩
  obtain ⟨k, hk⟩ : ∃ k : Fin 1024, k = y 1 := ⟨_, rfl⟩
  refine (congrArg (k0_pay5 (iblk m c 0 t) (iblk m c 2 t) (iblk m c 1 t) (iblk m c 3 t) (iblk m c 4 t) (iblk m c 5 t) (iblk m c 6 t)) (Cert.Real.ix_2 512 1024 y r k (by rw [hr]) (by rw [hk]))).trans ?_
  rw [pay5_apply]
  simp only [in0, in1, in2, in3, in4, in5, in6]
  refine (meet (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t r) k).trans ?_
  refine congrArg _ (Cert.Real.ix_2 8192 1024 _ _ _ ?_ ?_).symm <;> blk_simp [idx_val t, hr, hk] <;> rfl

theorem final8 (c : Dev nD) : (dats m 0 c).arrAt 8 (cfgs 0).N
    = Cert.Reference8Ideal.Read.val_main_v44 (F := Ideal) (m ((c : Thread nD τ).loc main_arg0)) (m ((c : Thread nD τ).loc main_arg2)) (m ((c : Thread nD τ).loc main_arg3)) (m ((c : Thread nD τ).loc main_arg4)) := by
  refine (dats m 0 c).arrAt_eq_of_covers 8 _ (by decide +kernel) fun t hf y => ?_
  have ht := (flush0_8 t).mp hf
  blk_simp
  rw [after0_8]
  obtain ⟨k, hk⟩ : ∃ k : Fin 1024, k = y 1 := ⟨_, rfl⟩
  have h0 : (y 0).val = 0 := by
    have : (y 0).val < 1 := (y 0).isLt
    omega
  refine (congrArg (outsAt0 m c t.val t.isLt).2 (Cert.Real.ix_2 1 1024 y 0 k h0 (by rw [hk]))).trans ?_
  rw [accSum m c t ht]
  refine congrArg _ (Cert.Real.ix_2 1 1024 _ _ _ ?_ ?_).symm <;> blk_simp [idx_val t, h0, hk] <;> rfl

end Cert.Kernel8Ideal.Dh

end
-- ==== Proof.SquareDh.lean ====
/-
  The gradient through the scaled rows of a square product.
-/
module

public import proofs.«01_k».proof.Proof.Gen.Kernel9Ideal.Value
public import proofs.«01_k».proof.Proof.Gen.Reference9Ideal.Read
public import Idealize.ShloMosaic.Lib.Pipeline.ValueKit
public import Idealize.ShloMosaic.Lib.Pipeline.ReadBack
public import proofs.«01_k».proof.Proof.NormGrad

@[expose] public section

set_option maxRecDepth 16384

noncomputable section

namespace Cert.Kernel9Ideal.Dh

open Cert.Kernel9Ideal Cert.Kernel9Ideal.Gen Idealize.ShloMosaic Idealize.ShloMosaic.TcCoe Idealize.SL.Sem Idealize.ShloMosaic.StableHlo
open scoped BigOperators

open Cert.Real (IsReal)
open Cert.NormGrad (kern back sqGrad ms)

/-- The gradient of the product. -/
def dy (w : FVec Ideal S1024x1024 .f32) (a : FVec Ideal S8192x1024 .f32) (r : Fin 8192) (k : Fin 1024) : EReal :=
  ∑ l : Fin 1024, a (ix2 r l) * w (ix2 k l)

theorem pay5_apply (a : Vec Ideal S512x1024 .bf16) (w : Vec Ideal S1024x1024 .bf16) (x : Vec Ideal S512x1024 .f32) (g : Vec Ideal S1x1024 .f32) (d : Vec Ideal S512x1024 .f32) (r : Fin 512) (k : Fin 1024) :
    k0_pay5 a w x g d (ix2 r k) = d (ix2 r k) + kern (fun l => x (ix2 r l)) (fun l => (∑ j : Fin 1024, a (ix2 r j) * w (ix2 l j)) * g (ix2 0 l)) k := by
  simp only [kern, ms]
  pointwise [k0_pay5, k0_pay4, k0_pay3, k0_pay2]

/-- What a block of rows adds to the scale's gradient. -/
def add (a : Vec Ideal S512x1024 .bf16) (w : Vec Ideal S1024x1024 .bf16) (x : Vec Ideal S512x1024 .f32) (k : Fin 1024) : EReal :=
  ∑ r : Fin 512, (∑ j : Fin 1024, a (ix2 r j) * w (ix2 k j)) * (x (ix2 r k) * Ideal.rsqrt (ms fun l => x (ix2 r l)))

theorem pay6_apply (a : Vec Ideal S512x1024 .bf16) (w : Vec Ideal S1024x1024 .bf16) (x : Vec Ideal S512x1024 .f32) (d : Vec Ideal S1x1024 .f32) (k : Fin 1024) :
    k0_pay6 a w x d (ix2 0 k) = d (ix2 0 k) + add a w x k := by
  simp only [add, ms]
  pointwise [k0_pay6, k0_pay4, k0_pay3, k0_pay2]

theorem pay1_apply (k : Fin 1024) : k0_pay1 (F := Ideal) (ix2 0 k) = 0 := by pointwise [k0_pay1]

open Cert.Reference9Ideal.Read in
theorem refx (x0 : FVec Ideal S8192x1024 .f32) (x1 : FVec Ideal S1024 .f32) (x2 : FVec Ideal S1024x1024 .f32) (x3 : FVec Ideal S8192x1024 .f32) (x4 : FVec Ideal S8192x1024 .f32) (r : Fin 8192) (k : Fin 1024) :
    val_main_v40 (F := Ideal) x0 x1 x2 x3 x4 (ix2 r k) = back (fun l => x0 (ix2 r l)) (fun l => dy x2 x3 r l * x1 (ix1 l)) (x4 (ix2 r k)) k := by
  simp only [back, sqGrad, ms, dy]
  pointwise [val_main_v40, val_main_v38, val_main_v31, val_main_v30, val_main_v24, val_main_v19, val_main_v23, val_main_v13, val_main_v29, val_main_v7, val_main_v6, val_main_v4, val_main_v2, val_main_v1, val_main_v0, val_main_cst, val_main_v3, val_main_cst_0, val_main_v5, val_main_cst_1, val_main_v37, val_main_v36, val_main_v35, val_main_v34, val_main_v32, val_main_v28, val_main_v27, val_main_v26, val_main_cst_5, val_main_v10, val_main_v9, val_main_cst_2, val_main_v8, val_main_v33, val_main_cst_6, val_main_cst_7, val_main_v39]

open Cert.Reference9Ideal.Read in
theorem refg (x0 : FVec Ideal S8192x1024 .f32) (x2 : FVec Ideal S1024x1024 .f32) (x3 : FVec Ideal S8192x1024 .f32) (k : Fin 1024) :
    val_main_v41 (F := Ideal) x0 x2 x3 (ix2 0 k) = ∑ r : Fin 8192, dy x2 x3 r k * (x0 (ix2 r k) * Ideal.rsqrt (ms fun l => x0 (ix2 r l))) := by
  have e : val_main_v41 (F := Ideal) x0 x2 x3 (ix2 0 k) = ∑ _i : Fin 1, ∑ r : Fin 8192, x0 (ix2 r k) * Ideal.rsqrt (ms fun l => x0 (ix2 r l)) * dy x2 x3 r k := by
    simp only [ms, dy]
    pointwise [val_main_v41, val_main_v25, val_main_v22, val_main_v21, val_main_v20, val_main_v12, val_main_v11, val_main_v7, val_main_v6, val_main_v4, val_main_v2, val_main_v1, val_main_v0, val_main_cst, val_main_v3, val_main_cst_0, val_main_v5, val_main_cst_1, val_main_v19, val_main_cst_3, val_main_cst_4]
  rw [e, Fin.sum_univ_one]
  exact Finset.sum_congr rfl fun r _ => mul_comm _ _

theorem meet (x0 : FVec Ideal S8192x1024 .f32) (x1 : FVec Ideal S1024 .f32) (x2 : FVec Ideal S1024x1024 .f32) (x3 : FVec Ideal S8192x1024 .f32) (x4 : FVec Ideal S8192x1024 .f32) (r : Fin 8192) (k : Fin 1024) :
    x4 (ix2 r k) + kern (fun l => x0 (ix2 r l)) (fun l => (∑ j : Fin 1024, x3 (ix2 r j) * x2 (ix2 l j)) * x1 (ix1 l)) k = Cert.Reference9Ideal.Read.val_main_v40 (F := Ideal) x0 x1 x2 x3 x4 (ix2 r k) := by
  rw [refx]
  exact Cert.NormGrad.law (fun l => x0 (ix2 r l)) (fun l => dy x2 x3 r l * x1 (ix1 l)) _ k

variable (m : (ℓ : Loc nD τ sig) → Buf (Elt Ideal) ℓ)

theorem idx_val : ∀ t : Fin cfg0.N, win0_0.index t = ![t.val, 0] ∧ win0_1.index t = ![0, 0] ∧ win0_2.index t = ![t.val, 0] ∧ win0_3.index t = ![0, 0] ∧ win0_4.index t = ![t.val, 0]
    ∧ win0_5.index t = ![t.val, 0] ∧ win0_6.index t = ![0, 0] :=
  (by decide +kernel : ∀ t : Fin grid0.N, _)

/-- A row of a point's block in the whole array. -/
def row (t : Fin cfg0.N) (r : Fin 512) : Fin 8192 := ⟨t.val * 512 + r.val, by
  have := lt_of_lt_of_eq t.isLt N_0
  omega⟩

theorem in0 (c : Dev nD) (t : Fin cfg0.N) (r : Fin 512) (k : Fin 1024) : iblk m c 0 t (ix2 r k) = m ((c : Thread nD τ).loc main_arg3) (ix2 (row t r) k) := by
  unfold row
  blk_simp [iblk]
  entry_read
  pointwise
  blk_point [iblk, V, idx_val t]

theorem in1 (c : Dev nD) (t : Fin cfg0.N) (r : Fin 1024) (k : Fin 1024) : iblk m c 1 t (ix2 r k) = m ((c : Thread nD τ).loc main_arg2) (ix2 r k) := by
  blk_simp [iblk]
  entry_read
  pointwise
  blk_point [iblk, V, idx_val t]

theorem in2 (c : Dev nD) (t : Fin cfg0.N) (r : Fin 512) (k : Fin 1024) : iblk m c 2 t (ix2 r k) = m ((c : Thread nD τ).loc main_arg0) (ix2 (row t r) k) := by
  unfold row
  blk_ext [iblk, V, idx_val t]

theorem in3 (c : Dev nD) (t : Fin cfg0.N) (k : Fin 1024) : iblk m c 3 t (ix2 0 k) = m ((c : Thread nD τ).loc main_arg1) (ix1 k) := by
  blk_simp [iblk]
  entry_read
  pointwise
  blk_point [iblk, V, idx_val t]

theorem in4 (c : Dev nD) (t : Fin cfg0.N) (r : Fin 512) (k : Fin 1024) : iblk m c 4 t (ix2 r k) = m ((c : Thread nD τ).loc main_arg4) (ix2 (row t r) k) := by
  unfold row
  blk_ext [iblk, V, idx_val t]

theorem out (c : Dev nD) (t : Fin cfg0.N) : (outsAt0 m c t.val t.isLt).1 = k0_pay5 (iblk m c 0 t) (iblk m c 1 t) (iblk m c 2 t) (iblk m c 3 t) (iblk m c 4 t) := by
  by_cases h0 : t.val % 16 = 0
  · rw [outsAt0_A m c t h0]
    frame_out
  · rw [outsAt0_B m c t h0]
    frame_out

theorem accA (c : Dev nD) (t : Fin cfg0.N) (h0 : t.val % 16 = 0) (k : Fin 1024) :
    (outsAt0 m c t.val t.isLt).2 (ix2 0 k) = (0 : EReal) + add (iblk m c 0 t) (iblk m c 1 t) (iblk m c 2 t) k := by
  rw [outsAt0_A m c t h0]
  frame_out
  rw [pay6_apply, pay1_apply]

theorem accB (c : Dev nD) (t : Fin cfg0.N) (h0 : ¬ t.val % 16 = 0) (k : Fin 1024) :
    (outsAt0 m c t.val t.isLt).2 (ix2 0 k) = (outsAt0 m c (t.val - 1) (Nat.lt_of_le_of_lt (Nat.sub_le _ _) t.isLt)).2 (ix2 0 k) + add (iblk m c 0 t) (iblk m c 1 t) (iblk m c 2 t) k := by
  rw [outsAt0_B m c t h0]
  frame_out
  rw [pay6_apply]

theorem accSum (c : Dev nD) (t : Fin cfg0.N) (ht : t.val % 16 = 15) (k : Fin 1024) :
    (outsAt0 m c t.val t.isLt).2 (ix2 0 k) = Cert.Reference9Ideal.Read.val_main_v41 (F := Ideal) (m ((c : Thread nD τ).loc main_arg0)) (m ((c : Thread nD τ).loc main_arg2)) (m ((c : Thread nD τ).loc main_arg3)) (ix2 0 k) := by
  rw [Pipeline.eq_sum_fin_of_reset_step_apply_of_flush (fun n h (k : Fin 1024) => (outsAt0 m c n h).2 (ix2 0 k)) 16 (fun _ => (0 : EReal)) (fun t k => add (iblk m c 0 t) (iblk m c 1 t) (iblk m c 2 t) k)
    (fun t h j => accA m c t h j) (fun t h j => accB m c t h j) t ht k, zero_add, refg]
  unfold add
  refine Fin.sum_mul_add_congr fun s r hl => ?_
  have e : row ⟨16 * (t.val / 16) + s.val, Pipeline.run_point_lt_of_flush t ht s⟩ r = ⟨s.val * 512 + r.val, hl⟩ := by
    have := lt_of_lt_of_eq t.isLt N_0
    apply Fin.ext
    change (16 * (t.val / 16) + s.val) * 512 + r.val = s.val * 512 + r.val
    omega
  simp only [in0, in1, in2, in3, in4, e, dy]

theorem final5 (c : Dev nD) : (dats m 0 c).arrAt 5 (cfgs 0).N
    = Cert.Reference9Ideal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5, out]
  obtain ⟨r, hr⟩ : ∃ r : Fin 512, r = y 0 := ⟨_, rfl⟩
  obtain ⟨k, hk⟩ : ∃ k : Fin 1024, k = y 1 := ⟨_, rfl⟩
  refine (congrArg (k0_pay5 (iblk m c 0 t) (iblk m c 1 t) (iblk m c 2 t) (iblk m c 3 t) (iblk m c 4 t)) (Cert.Real.ix_2 512 1024 y r k (by rw [hr]) (by rw [hk]))).trans ?_
  rw [pay5_apply]
  simp only [in0, in1, in2, in3, in4]
  refine (meet (m ((c : Thread nD τ).loc main_arg0)) (m ((c : Thread nD τ).loc main_arg1)) (m ((c : Thread nD τ).loc main_arg2)) (m ((c : Thread nD τ).loc main_arg3)) (m ((c : Thread nD τ).loc main_arg4)) (row t r) k).trans ?_
  refine congrArg _ (Cert.Real.ix_2 8192 1024 _ _ _ ?_ ?_).symm <;> blk_simp [idx_val t, hr, hk] <;> rfl

theorem final6 (c : Dev nD) : (dats m 0 c).arrAt 6 (cfgs 0).N
    = Cert.Reference9Ideal.Read.val_main_v41 (F := Ideal) (m ((c : Thread nD τ).loc main_arg0)) (m ((c : Thread nD τ).loc main_arg2)) (m ((c : Thread nD τ).loc main_arg3)) := by
  refine (dats m 0 c).arrAt_eq_of_covers 6 _ (by decide +kernel) fun t hf y => ?_
  have ht := (flush0_6 t).mp hf
  blk_simp
  rw [after0_6]
  obtain ⟨k, hk⟩ : ∃ k : Fin 1024, k = y 1 := ⟨_, rfl⟩
  have h0 : (y 0).val = 0 := by
    have : (y 0).val < 1 := (y 0).isLt
    omega
  refine (congrArg (outsAt0 m c t.val t.isLt).2 (Cert.Real.ix_2 1 1024 y 0 k h0 (by rw [hk]))).trans ?_
  rw [accSum m c t ht]
  refine congrArg _ (Cert.Real.ix_2 1 1024 _ _ _ ?_ ?_).symm <;> blk_simp [idx_val t, h0, hk] <;> rfl

end Cert.Kernel9Ideal.Dh

end
-- ==== Proof.QkvDh.lean ====
/-
  The gradient through the scaled rows of the three products.
-/
module

public import proofs.«01_k».proof.Proof.Gen.Kernel10Ideal.Value
public import proofs.«01_k».proof.Proof.Gen.Reference10Ideal.Read
public import Idealize.ShloMosaic.Lib.Pipeline.ValueKit
public import Idealize.ShloMosaic.Lib.Pipeline.ReadBack
public import proofs.«01_k».proof.Proof.NormGrad

@[expose] public section

set_option maxRecDepth 16384

noncomputable section

namespace Cert.Kernel10Ideal.Dh

open Cert.Kernel10Ideal Cert.Kernel10Ideal.Gen Idealize.ShloMosaic Idealize.ShloMosaic.TcCoe Idealize.SL.Sem Idealize.ShloMosaic.StableHlo
open scoped BigOperators

open Cert.Real (IsReal)
open Cert.NormGrad (kern back sqGrad ms)

/-- The gradient of the product. -/
def dy (w : FVec Ideal S1024x3072 .f32) (a : FVec Ideal S8192x3072 .f32) (r : Fin 8192) (k : Fin 1024) : EReal :=
  ∑ l : Fin 3072, a (ix2 r l) * w (ix2 k l)

theorem pay5_apply (a : Vec Ideal S512x3072 .bf16) (w : Vec Ideal S1024x3072 .bf16) (x : Vec Ideal S512x1024 .f32) (g : Vec Ideal S1x1024 .f32) (d : Vec Ideal S512x1024 .f32) (r : Fin 512) (k : Fin 1024) :
    k0_pay5 a w x g d (ix2 r k) = d (ix2 r k) + kern (fun l => x (ix2 r l)) (fun l => (∑ j : Fin 3072, a (ix2 r j) * w (ix2 l j)) * g (ix2 0 l)) k := by
  simp only [kern, ms]
  pointwise [k0_pay5, k0_pay4, k0_pay3, k0_pay2]

/-- What a block of rows adds to the scale's gradient. -/
def add (a : Vec Ideal S512x3072 .bf16) (w : Vec Ideal S1024x3072 .bf16) (x : Vec Ideal S512x1024 .f32) (k : Fin 1024) : EReal :=
  ∑ r : Fin 512, (∑ j : Fin 3072, a (ix2 r j) * w (ix2 k j)) * (x (ix2 r k) * Ideal.rsqrt (ms fun l => x (ix2 r l)))

theorem pay6_apply (a : Vec Ideal S512x3072 .bf16) (w : Vec Ideal S1024x3072 .bf16) (x : Vec Ideal S512x1024 .f32) (d : Vec Ideal S1x1024 .f32) (k : Fin 1024) :
    k0_pay6 a w x d (ix2 0 k) = d (ix2 0 k) + add a w x k := by
  simp only [add, ms]
  pointwise [k0_pay6, k0_pay4, k0_pay3, k0_pay2]

theorem pay1_apply (k : Fin 1024) : k0_pay1 (F := Ideal) (ix2 0 k) = 0 := by pointwise [k0_pay1]

open Cert.Reference10Ideal.Read in
theorem refx (x0 : FVec Ideal S8192x1024 .f32) (x1 : FVec Ideal S1024 .f32) (x2 : FVec Ideal S1024x3072 .f32) (x3 : FVec Ideal S8192x3072 .f32) (x4 : FVec Ideal S8192x1024 .f32) (r : Fin 8192) (k : Fin 1024) :
    val_main_v40 (F := Ideal) x0 x1 x2 x3 x4 (ix2 r k) = back (fun l => x0 (ix2 r l)) (fun l => dy x2 x3 r l * x1 (ix1 l)) (x4 (ix2 r k)) k := by
  simp only [back, sqGrad, ms, dy]
  pointwise [val_main_v40, val_main_v38, val_main_v31, val_main_v30, val_main_v24, val_main_v19, val_main_v23, val_main_v13, val_main_v29, val_main_v7, val_main_v6, val_main_v4, val_main_v2, val_main_v1, val_main_v0, val_main_cst, val_main_v3, val_main_cst_0, val_main_v5, val_main_cst_1, val_main_v37, val_main_v36, val_main_v35, val_main_v34, val_main_v32, val_main_v28, val_main_v27, val_main_v26, val_main_cst_5, val_main_v10, val_main_v9, val_main_cst_2, val_main_v8, val_main_v33, val_main_cst_6, val_main_cst_7, val_main_v39]

open Cert.Reference10Ideal.Read in
theorem refg (x0 : FVec Ideal S8192x1024 .f32) (x2 : FVec Ideal S1024x3072 .f32) (x3 : FVec Ideal S8192x3072 .f32) (k : Fin 1024) :
    val_main_v41 (F := Ideal) x0 x2 x3 (ix2 0 k) = ∑ r : Fin 8192, dy x2 x3 r k * (x0 (ix2 r k) * Ideal.rsqrt (ms fun l => x0 (ix2 r l))) := by
  have e : val_main_v41 (F := Ideal) x0 x2 x3 (ix2 0 k) = ∑ _i : Fin 1, ∑ r : Fin 8192, x0 (ix2 r k) * Ideal.rsqrt (ms fun l => x0 (ix2 r l)) * dy x2 x3 r k := by
    simp only [ms, dy]
    pointwise [val_main_v41, val_main_v25, val_main_v22, val_main_v21, val_main_v20, val_main_v12, val_main_v11, val_main_v7, val_main_v6, val_main_v4, val_main_v2, val_main_v1, val_main_v0, val_main_cst, val_main_v3, val_main_cst_0, val_main_v5, val_main_cst_1, val_main_v19, val_main_cst_3, val_main_cst_4]
  rw [e, Fin.sum_univ_one]
  exact Finset.sum_congr rfl fun r _ => mul_comm _ _

theorem meet (x0 : FVec Ideal S8192x1024 .f32) (x1 : FVec Ideal S1024 .f32) (x2 : FVec Ideal S1024x3072 .f32) (x3 : FVec Ideal S8192x3072 .f32) (x4 : FVec Ideal S8192x1024 .f32) (r : Fin 8192) (k : Fin 1024) :
    x4 (ix2 r k) + kern (fun l => x0 (ix2 r l)) (fun l => (∑ j : Fin 3072, x3 (ix2 r j) * x2 (ix2 l j)) * x1 (ix1 l)) k = Cert.Reference10Ideal.Read.val_main_v40 (F := Ideal) x0 x1 x2 x3 x4 (ix2 r k) := by
  rw [refx]
  exact Cert.NormGrad.law (fun l => x0 (ix2 r l)) (fun l => dy x2 x3 r l * x1 (ix1 l)) _ k

variable (m : (ℓ : Loc nD τ sig) → Buf (Elt Ideal) ℓ)

theorem idx_val : ∀ t : Fin cfg0.N, win0_0.index t = ![t.val, 0] ∧ win0_1.index t = ![0, 0] ∧ win0_2.index t = ![t.val, 0] ∧ win0_3.index t = ![0, 0] ∧ win0_4.index t = ![t.val, 0]
    ∧ win0_5.index t = ![t.val, 0] ∧ win0_6.index t = ![0, 0] :=
  (by decide +kernel : ∀ t : Fin grid0.N, _)

/-- A row of a point's block in the whole array. -/
def row (t : Fin cfg0.N) (r : Fin 512) : Fin 8192 := ⟨t.val * 512 + r.val, by
  have := lt_of_lt_of_eq t.isLt N_0
  omega⟩

theorem in0 (c : Dev nD) (t : Fin cfg0.N) (r : Fin 512) (k : Fin 3072) : iblk m c 0 t (ix2 r k) = m ((c : Thread nD τ).loc main_arg3) (ix2 (row t r) k) := by
  unfold row
  blk_simp [iblk]
  entry_read
  pointwise
  blk_point [iblk, V, idx_val t]

theorem in1 (c : Dev nD) (t : Fin cfg0.N) (r : Fin 1024) (k : Fin 3072) : iblk m c 1 t (ix2 r k) = m ((c : Thread nD τ).loc main_arg2) (ix2 r k) := by
  blk_simp [iblk]
  entry_read
  pointwise
  blk_point [iblk, V, idx_val t]

theorem in2 (c : Dev nD) (t : Fin cfg0.N) (r : Fin 512) (k : Fin 1024) : iblk m c 2 t (ix2 r k) = m ((c : Thread nD τ).loc main_arg0) (ix2 (row t r) k) := by
  unfold row
  blk_ext [iblk, V, idx_val t]

theorem in3 (c : Dev nD) (t : Fin cfg0.N) (k : Fin 1024) : iblk m c 3 t (ix2 0 k) = m ((c : Thread nD τ).loc main_arg1) (ix1 k) := by
  blk_simp [iblk]
  entry_read
  pointwise
  blk_point [iblk, V, idx_val t]

theorem in4 (c : Dev nD) (t : Fin cfg0.N) (r : Fin 512) (k : Fin 1024) : iblk m c 4 t (ix2 r k) = m ((c : Thread nD τ).loc main_arg4) (ix2 (row t r) k) := by
  unfold row
  blk_ext [iblk, V, idx_val t]

theorem out (c : Dev nD) (t : Fin cfg0.N) : (outsAt0 m c t.val t.isLt).1 = k0_pay5 (iblk m c 0 t) (iblk m c 1 t) (iblk m c 2 t) (iblk m c 3 t) (iblk m c 4 t) := by
  by_cases h0 : t.val % 16 = 0
  · rw [outsAt0_A m c t h0]
    frame_out
  · rw [outsAt0_B m c t h0]
    frame_out

theorem accA (c : Dev nD) (t : Fin cfg0.N) (h0 : t.val % 16 = 0) (k : Fin 1024) :
    (outsAt0 m c t.val t.isLt).2 (ix2 0 k) = (0 : EReal) + add (iblk m c 0 t) (iblk m c 1 t) (iblk m c 2 t) k := by
  rw [outsAt0_A m c t h0]
  frame_out
  rw [pay6_apply, pay1_apply]

theorem accB (c : Dev nD) (t : Fin cfg0.N) (h0 : ¬ t.val % 16 = 0) (k : Fin 1024) :
    (outsAt0 m c t.val t.isLt).2 (ix2 0 k) = (outsAt0 m c (t.val - 1) (Nat.lt_of_le_of_lt (Nat.sub_le _ _) t.isLt)).2 (ix2 0 k) + add (iblk m c 0 t) (iblk m c 1 t) (iblk m c 2 t) k := by
  rw [outsAt0_B m c t h0]
  frame_out
  rw [pay6_apply]

theorem accSum (c : Dev nD) (t : Fin cfg0.N) (ht : t.val % 16 = 15) (k : Fin 1024) :
    (outsAt0 m c t.val t.isLt).2 (ix2 0 k) = Cert.Reference10Ideal.Read.val_main_v41 (F := Ideal) (m ((c : Thread nD τ).loc main_arg0)) (m ((c : Thread nD τ).loc main_arg2)) (m ((c : Thread nD τ).loc main_arg3)) (ix2 0 k) := by
  rw [Pipeline.eq_sum_fin_of_reset_step_apply_of_flush (fun n h (k : Fin 1024) => (outsAt0 m c n h).2 (ix2 0 k)) 16 (fun _ => (0 : EReal)) (fun t k => add (iblk m c 0 t) (iblk m c 1 t) (iblk m c 2 t) k)
    (fun t h j => accA m c t h j) (fun t h j => accB m c t h j) t ht k, zero_add, refg]
  unfold add
  refine Fin.sum_mul_add_congr fun s r hl => ?_
  have e : row ⟨16 * (t.val / 16) + s.val, Pipeline.run_point_lt_of_flush t ht s⟩ r = ⟨s.val * 512 + r.val, hl⟩ := by
    have := lt_of_lt_of_eq t.isLt N_0
    apply Fin.ext
    change (16 * (t.val / 16) + s.val) * 512 + r.val = s.val * 512 + r.val
    omega
  simp only [in0, in1, in2, in3, in4, e, dy]

theorem final5 (c : Dev nD) : (dats m 0 c).arrAt 5 (cfgs 0).N
    = Cert.Reference10Ideal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5, out]
  obtain ⟨r, hr⟩ : ∃ r : Fin 512, r = y 0 := ⟨_, rfl⟩
  obtain ⟨k, hk⟩ : ∃ k : Fin 1024, k = y 1 := ⟨_, rfl⟩
  refine (congrArg (k0_pay5 (iblk m c 0 t) (iblk m c 1 t) (iblk m c 2 t) (iblk m c 3 t) (iblk m c 4 t)) (Cert.Real.ix_2 512 1024 y r k (by rw [hr]) (by rw [hk]))).trans ?_
  rw [pay5_apply]
  simp only [in0, in1, in2, in3, in4]
  refine (meet (m ((c : Thread nD τ).loc main_arg0)) (m ((c : Thread nD τ).loc main_arg1)) (m ((c : Thread nD τ).loc main_arg2)) (m ((c : Thread nD τ).loc main_arg3)) (m ((c : Thread nD τ).loc main_arg4)) (row t r) k).trans ?_
  refine congrArg _ (Cert.Real.ix_2 8192 1024 _ _ _ ?_ ?_).symm <;> blk_simp [idx_val t, hr, hk] <;> rfl

theorem final6 (c : Dev nD) : (dats m 0 c).arrAt 6 (cfgs 0).N
    = Cert.Reference10Ideal.Read.val_main_v41 (F := Ideal) (m ((c : Thread nD τ).loc main_arg0)) (m ((c : Thread nD τ).loc main_arg2)) (m ((c : Thread nD τ).loc main_arg3)) := by
  refine (dats m 0 c).arrAt_eq_of_covers 6 _ (by decide +kernel) fun t hf y => ?_
  have ht := (flush0_6 t).mp hf
  blk_simp
  rw [after0_6]
  obtain ⟨k, hk⟩ : ∃ k : Fin 1024, k = y 1 := ⟨_, rfl⟩
  have h0 : (y 0).val = 0 := by
    have : (y 0).val < 1 := (y 0).isLt
    omega
  refine (congrArg (outsAt0 m c t.val t.isLt).2 (Cert.Real.ix_2 1 1024 y 0 k h0 (by rw [hk]))).trans ?_
  rw [accSum m c t ht]
  refine congrArg _ (Cert.Real.ix_2 1 1024 _ _ _ ?_ ?_).symm <;> blk_simp [idx_val t, h0, hk] <;> rfl

end Cert.Kernel10Ideal.Dh

end
-- ==== Proof.AttnFwd.Body.lean ====
/-
  The attention's body at one grid point, as a function of what its staging memrefs hold: the two blocks before the loop,
  the loop's label answered through a specification at the number of blocks left, and the body's triple.
-/
module

public import proofs.«01_k».proof.Proof.Attn.Owns
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points

@[expose] public section

set_option maxRecDepth 16384

noncomputable section

namespace Cert.Kernel11Ideal.Attn

open Cert.Kernel11Ideal Cert.Kernel11Ideal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The variants: the blocks a loop has left. -/
abbrev 𝒱₀ : Variants := Variants.nat

/-! ## The rectangles -/

/-- A block staging buffer whole, -/
abbrev rB : Rect S256x128 := Rect.unit (s := S256x128) ![0, 0] S256x128.size inb_S256x128_S256x128_0_0
/-- the point's own block of rows, -/
abbrev r1 (i : grid0.Coords) : Rect S8192x128 := Rect.unit (s := S8192x128) (k0_off1 i) S256x128.size (k0_off1_inb i)
/-- the block before it (or the first), -/
abbrev r2 (i : grid0.Coords) : Rect S8192x128 := Rect.unit (s := S8192x128) (k0_off2 i) S256x128.size (k0_off2_inb i)
/-- and the block a loop's counter names. -/
abbrev r3 (a : BitVec 32) (h : k0_chk1 a) : Rect S8192x128 := Rect.unit (s := S8192x128) (k0_off3 a) S256x128.size (k0_off3_inb a h)

/-! ## The loop -/

/-- What a pass over the key blocks carries. -/
structure St (F : FTy → Type) [FloatOps F] where
  mx : F .f32
  carry : FVec F S512x1 .f32
  acc : FVec F S512x128 .f32

section Step

variable (K V : Vec F S8192x128 .bf16) (q2 : FVec F S512x128 .bf16)

/-- One block of the loop. -/
def stepL (a : BitVec 32) (h : k0_chk1 a) (s : St F) : St F where
  mx := k0_pay6 q2 s.carry (View.ld K (r3 a h))
  carry := k0_pay4 q2 s.carry (View.ld K (r3 a h))
  acc := k0_pay5 q2 k0_pay8 s.carry s.acc (View.ld K (r3 a h)) (View.ld V (r3 a h))

/-- Whether the loop's early-exit test lets it go on. -/
def goes (x : F .f32) : Prop := Scalar.cmpf .ogt x (Named.named κ "log_zero" 0xC2D00000#32) = 1#1

open Classical in
/-- The loop with `n` blocks left. -/
def loop : ℕ → St F → St F
  | 0, s => s
  | n + 1, s => if goes s.mx then (if h : k0_chk1 (BitVec.ofNat 32 n) then loop n (stepL K V q2 _ h s) else s) else s

end Step

/-- The loop's counter with `n` blocks left. -/
def Cnt : ℕ → BitVec 32 → Prop
  | 0, a => ¬Scalar.cmpi .sge a 0#32 = 1#1
  | n + 1, a => a = BitVec.ofNat 32 n ∧ n < 32

theorem chk_of_lt : ∀ n : ℕ, n < 32 → k0_chk1 (BitVec.ofNat 32 n) := by
  have h : ∀ n : Fin 32, k0_chk1 (BitVec.ofNat 32 n.val) := by decide +kernel
  exact fun n hn => h ⟨n, hn⟩

theorem cnt_sge : ∀ n : ℕ, n < 32 → Scalar.cmpi .sge (BitVec.ofNat 32 n) 0#32 = 1#1 := by
  have h : ∀ n : Fin 32, Scalar.cmpi .sge (BitVec.ofNat 32 n.val) 0#32 = 1#1 := by decide +kernel
  exact fun n hn => h ⟨n, hn⟩

theorem cnt_pred (n : ℕ) (hn : n < 32) : Cnt n (Scalar.subi (BitVec.ofNat 32 n) 1#32) := by
  have h : ∀ n : Fin 32, (n.val = 0 → ¬Scalar.cmpi .sge (Scalar.subi (BitVec.ofNat 32 n.val) 1#32) 0#32 = 1#1)
      ∧ (n.val ≠ 0 → Scalar.subi (BitVec.ofNat 32 n.val) 1#32 = BitVec.ofNat 32 (n.val - 1)) := by decide +kernel
  cases n with
  | zero => exact (h ⟨0, hn⟩).1 rfl
  | succ n => exact ⟨(h ⟨n + 1, hn⟩).2 (Nat.succ_ne_zero n), by omega⟩

/-- The counter the loop starts at: the blocks before the point's own two. -/
theorem cnt_start (i : grid0.Coords) : Cnt ((i 1).val - 1) (Scalar.subi (BitVec.ofNat 32 (i 1).val) 2#32) := by
  have h : ∀ n : Fin 32, (n.val - 1 = 0 → ¬Scalar.cmpi .sge (Scalar.subi (BitVec.ofNat 32 n.val) 2#32) 0#32 = 1#1)
      ∧ (n.val - 1 ≠ 0 → Scalar.subi (BitVec.ofNat 32 n.val) 2#32 = BitVec.ofNat 32 (n.val - 2)) := by decide +kernel
  have hi : (i 1).val < 32 := (i 1).isLt
  obtain ⟨h0, h1⟩ := h ⟨(i 1).val, hi⟩
  dsimp only at h0 h1
  rcases hk : (i 1).val - 1 with _ | k
  · exact h0 hk
  · refine ⟨(h1 (by omega)).trans ?_, by omega⟩
    congr 1; omega

section Label

variable (c : Dev nD) (i : grid0.Coords)
  (arg3 : Memref sig .tc .vmem S8192x128 .bf16) (harg3 : arg3.IsWhole) (arg4 : Memref sig .tc .vmem S8192x128 .bf16) (harg4 : arg4.IsWhole)
  (K V : Vec F S8192x128 .bf16) (q2 : FVec F S512x128 .bf16)

/-- The memrefs the loop reads. -/
def held : sProp 𝕄 :=
  iprop(owns (c : Thread nD τ) arg3 fullShare K ∗ owns (c : Thread nD τ) arg4 fullShare V)

/-- The label's specification with `n` blocks left from `s`. -/
def spec (n : ℕ) (s : St F) : sWPT 𝕄 (BitVec 32 × F .f32 × FVec F S512x1 .f32 × FVec F S512x128 .f32) := do
  sWPT.consume (held c arg3 arg4 K V)
  let r ← sWPT.arbitrary
  sWPT.assume (r.2.2.2 = (loop K V q2 n s).acc)
  sWPT.produce (held c arg3 arg4 K V)
  pure r

theorem spec_apply (n : ℕ) (s : St F) (Q : BitVec 32 × F .f32 × FVec F S512x1 .f32 × FVec F S512x128 .f32 → sProp 𝕄) :
    spec c arg3 arg4 K V q2 n s Q
      = iprop(held c arg3 arg4 K V
        ∗ ∀ r : BitVec 32 × F .f32 × FVec F S512x1 .f32 × FVec F S512x128 .f32,
          ⌜r.2.2.2 = (loop K V q2 n s).acc⌝ -∗ (held c arg3 arg4 K V -∗ Q r)) := rfl

set_option maxHeartbeats 4000000 in
theorem spec_le (E : Set ℕ) : ∀ n a, Cnt n a → ∀ (s : St F) Q, spec c arg3 arg4 K V q2 n s Q
    ⊢ wp frame (wpE (defs₀ (F := F)) 𝒱₀ (c : Thread nD τ) (some n)) E
        (defs₀ (F := F) .tc 1 ⟨i, arg3, harg3, arg4, harg4, q2, k0_pay8, a, s.mx, s.carry, s.acc⟩) Q := by
  intro n
  induction n with
  | zero =>
    intro a ha s Q
    rw [spec_apply]
    show _ ⊢ wp frame (wpE (defs₀ (F := F)) 𝒱₀ (c : Thread nD τ) (some 0)) E
      (cc0_while1 i arg3 harg3 arg4 harg4 q2 k0_pay8 a s.mx s.carry s.acc) Q
    simp only [cc0_while1_eq_skeleton]; unfold cc0_while1_skel
    have ht : ¬Scalar.andi (Scalar.cmpi .sge a 0#32) (Scalar.cmpf .ogt s.mx (Named.named κ "log_zero" 0xC2D00000#32)) = 1#1 := by
      intro h; exact ha (by revert h; unfold Scalar.andi; generalize Scalar.cmpi .sge a 0#32 = x; generalize Scalar.cmpf .ogt s.mx _ = y; revert x y; decide)
    simp only [ht, ↓reduceIte, Prog.pure_eq_ret]
    iintro ⟨H, Hk⟩
    rw [wp_ret]; imodintro
    iapply Hk
    · ipureintro; rfl
    · iexact H
  | succ n ih =>
    intro a ha s Q
    obtain ⟨rfl, hn⟩ := ha
    rw [spec_apply]
    show _ ⊢ wp frame (wpE (defs₀ (F := F)) 𝒱₀ (c : Thread nD τ) (some (n + 1))) E
      (cc0_while1 i arg3 harg3 arg4 harg4 q2 k0_pay8 (BitVec.ofNat 32 n) s.mx s.carry s.acc) Q
    simp only [cc0_while1_eq_skeleton]; unfold cc0_while1_skel
    have hc := chk_of_lt n hn
    by_cases hg : goes s.mx
    · have ht : Scalar.andi (Scalar.cmpi .sge (BitVec.ofNat 32 n) 0#32) (Scalar.cmpf .ogt s.mx (Named.named κ "log_zero" 0xC2D00000#32)) = 1#1 := by
        unfold goes at hg; rw [hg, cnt_sge n hn]; decide
      have hl : loop K V q2 (n + 1) s = loop K V q2 n (stepL K V q2 _ hc s) := by
        rw [loop, if_pos hg, dif_pos hc]
      rw [hl]
      simp only [ht, ↓reduceIte, Prog.lift, Prog.bind_op, Prog.bind_ret, Prog.pure_eq_ret]
      unfold held
      iintro ⟨⟨H3, H4⟩, Hk⟩
      iapply (wp_assume 𝒱₀ (c : Thread nD τ) (some (n + 1)) E hc)
      iapply (wp_load_owns 𝒱₀ (c : Thread nD τ) (some (n + 1)) E) $$ H3; iintro H3
      iapply (wp_load_owns 𝒱₀ (c : Thread nD τ) (some (n + 1)) E) $$ H4; iintro H4
      iapply (wp_call_spec 𝒱₀ (c : Thread nD τ) (some (n + 1)) E (spec c arg3 arg4 K V q2 n (stepL K V q2 _ hc s)) n
        (fun u hu => by cases hu; exact Nat.lt_succ_self n) (ih _ (cnt_pred n hn) (stepL K V q2 _ hc s)))
      rw [spec_apply]; unfold held
      isplitl [H3 H4]
      · isplitl [H3]; · iexact H3
        iexact H4
      iintro %r %hr ⟨H3, H4⟩
      rw [wp_ret]; imodintro
      iapply Hk
      · ipureintro; exact hr
      · isplitl [H3]; · iexact H3
        iexact H4
    · have ht : ¬Scalar.andi (Scalar.cmpi .sge (BitVec.ofNat 32 n) 0#32) (Scalar.cmpf .ogt s.mx (Named.named κ "log_zero" 0xC2D00000#32)) = 1#1 := by
        intro h; exact hg (by unfold goes; revert h; unfold Scalar.andi; generalize Scalar.cmpi .sge _ 0#32 = x; generalize Scalar.cmpf .ogt s.mx _ = y; revert x y; decide)
      have hl : loop K V q2 (n + 1) s = s := by rw [loop, if_neg hg]
      rw [hl]
      simp only [ht, ↓reduceIte, Prog.pure_eq_ret]
      iintro ⟨H, Hk⟩
      rw [wp_ret]; imodintro
      iapply Hk
      · ipureintro; rfl
      · iexact H

end Label

/-! ## The body -/

/-- The scalars the printed body hands from part to part. -/
abbrev one : F .f32 := Scalar.ofBits .f32 0x3F800000#32
abbrev nought : F .f32 := Scalar.ofBits .f32 0x00000000#32

/-- The point's own block. -/
def first (i : grid0.Coords) (xq : Vec F S256x128 .bf16) (K V : Vec F S8192x128 .bf16) : St F where
  mx := nought
  carry := k0_pay18 k0_pay7 k0_pay10 (k0_pay14 (View.ld xq rB) (View.ld K (r1 i))) (k0_pay15 (View.ld xq rB) (View.ld K (r1 i))) one
  acc := k0_pay19 k0_pay7 k0_pay8 k0_pay10 k0_pay11 (k0_pay12 (View.ld V (r1 i))) (k0_pay13 (View.ld xq rB) (View.ld K (r1 i)))
    (k0_pay14 (View.ld xq rB) (View.ld K (r1 i))) (k0_pay15 (View.ld xq rB) (View.ld K (r1 i))) one

/-- The block before it, masked out at the head pair's first point. -/
def second (i : grid0.Coords) (q2 : FVec F S512x128 .bf16) (K V : Vec F S8192x128 .bf16) (s : St F) : St F where
  mx := k0_pay29 s.carry (k0_pay20 (BitVec.ofNat 32 (i 1).val)) (k0_pay23 q2 (View.ld K (r2 i))) (k0_pay24 q2 (View.ld K (r2 i))) nought
  carry := k0_pay27 s.carry (k0_pay20 (BitVec.ofNat 32 (i 1).val)) (k0_pay23 q2 (View.ld K (r2 i))) (k0_pay24 q2 (View.ld K (r2 i))) nought
  acc := k0_pay28 k0_pay8 s.carry s.acc (k0_pay20 (BitVec.ofNat 32 (i 1).val)) (k0_pay21 (View.ld V (r2 i)))
    (k0_pay22 q2 (View.ld K (r2 i))) (k0_pay23 q2 (View.ld K (r2 i))) (k0_pay24 q2 (View.ld K (r2 i))) nought

/-- The point. -/
def point (i : grid0.Coords) (xq : Vec F S256x128 .bf16) (K V : Vec F S8192x128 .bf16) : St F :=
  loop K V (k0_pay9 (View.ld xq rB)) ((i 1).val - 1) (second i (k0_pay9 (View.ld xq rB)) K V (first i xq K V))

section Body

variable (c : Dev nD) (i : grid0.Coords)
  (arg2 : Memref sig .tc .vmem S256x128 .bf16) (harg2 : arg2.IsWhole)
  (arg3 : Memref sig .tc .vmem S8192x128 .bf16) (harg3 : arg3.IsWhole) (arg4 : Memref sig .tc .vmem S8192x128 .bf16) (harg4 : arg4.IsWhole)
  (arg5 : Memref sig .tc .vmem S256x128 .f32) (harg5 : arg5.IsWhole)
  (xq : Vec F S256x128 .bf16) (K V : Vec F S8192x128 .bf16) (d : Vec F S256x128 .f32)

/-- What the body holds. -/
def rest (c : Dev nD) : sProp 𝕄 :=
  iprop(owns (c : Thread nD τ) arg2 fullShare xq ∗ owns (c : Thread nD τ) arg3 fullShare K ∗ owns (c : Thread nD τ) arg4 fullShare V
    ∗ owns (c : Thread nD τ) arg5 fullShare d)

set_option maxHeartbeats 8000000 in
theorem body_wp (Q : PUnit → sProp 𝕄) :
    iprop(rest arg2 arg3 arg4 arg5 xq K V d c
      ∗ (rest arg2 arg3 arg4 arg5 xq K V (rB.overlay d (k0_pay30 (point i xq K V).acc)) c -∗ Q ⟨⟩))
      ⊢ wp frame (wpE (defs₀ (F := F)) 𝒱₀ (c : Thread nD τ) none) Set.univ
          (cc0_attention i arg2 harg2 arg3 harg3 arg4 harg4 arg5 harg5) Q := by
  simp only [cc0_attention_eq_skeleton]; unfold cc0_attention_skel
  simp only [k0_part1_eq_skeleton, k0_part2_eq_skeleton, k0_part3_eq_skeleton]
  unfold k0_part3_skel
  simp only [k0_part1_eq_skeleton, k0_part2_eq_skeleton]
  unfold k0_part1_skel k0_part2_skel
  simp only [Prog.lift, Prog.bind_op, Prog.bind_ret, Prog.pure_eq_ret]
  unfold rest
  iintro ⟨⟨H2, H3, H4, H5⟩, Hk⟩
  iapply (wp_load_owns 𝒱₀ (c : Thread nD τ) none Set.univ) $$ H2; iintro H2
  iapply (wp_load_owns 𝒱₀ (c : Thread nD τ) none Set.univ) $$ H3; iintro H3
  iapply (wp_load_owns 𝒱₀ (c : Thread nD τ) none Set.univ) $$ H4; iintro H4
  iapply (wp_load_owns 𝒱₀ (c : Thread nD τ) none Set.univ) $$ H3; iintro H3
  iapply (wp_load_owns 𝒱₀ (c : Thread nD τ) none Set.univ) $$ H4; iintro H4
  have hT := spec_le (F := F) c i arg3 harg3 arg4 harg4 K V (k0_pay9 (View.ld xq rB)) Set.univ _ _ (cnt_start i)
    (second i (k0_pay9 (View.ld xq rB)) K V (first i xq K V))
  iapply (wp_call_spec 𝒱₀ (c : Thread nD τ) none Set.univ (spec c arg3 arg4 K V (k0_pay9 (View.ld xq rB)) ((i 1).val - 1)
    (second i (k0_pay9 (View.ld xq rB)) K V (first i xq K V))) _ (fun u hu => nomatch hu) hT)
  rw [spec_apply]; unfold held
  isplitl [H3 H4]
  · isplitl [H3]; · iexact H3
    iexact H4
  iintro %r %hr ⟨H3, H4⟩
  obtain ⟨x0, x1, x2, x3⟩ := r
  dsimp only at hr
  subst hr
  simp only [Prog.bind_op, Prog.bind_ret]
  iapply (wp_load_owns 𝒱₀ (c : Thread nD τ) none Set.univ) $$ H5; iintro H5
  iapply (wp_store_owns 𝒱₀ (c : Thread nD τ) none Set.univ) $$ H5; iintro H5
  rw [wp_ret]; imodintro
  iapply Hk
  isplitl [H2]; · iexact H2
  isplitl [H3]; · iexact H3
  isplitl [H4]; · iexact H4
  iexact H5

end Body

end Cert.Kernel11Ideal.Attn

end
-- ==== Proof.AttnFwd.Run.lean ====
/-
  The attention's run: the proof data of its one pipeline (each input's buffer at its block, the output at what the point
  leaves), the body's obligation, the launch and the frame, at any float type.
-/
module

public import proofs.«01_k».proof.Proof.AttnFwd.Body
public import Idealize.ShloMosaic.Lib.Pipeline.FrameBody
public import Idealize.ShloMosaic.Lib.Tactic
public import Idealize.ShloMosaic.Lib.WordCmp
public import Idealize.ShloMosaic.Lib.Claim

@[expose] public section

set_option maxRecDepth 16384

noncomputable section

namespace Cert.Kernel11Ideal.Attn

open Cert.Kernel11Ideal Cert.Kernel11Ideal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Up to the region -/

/-- The host's operations. -/
abbrev opss : List (List (HloOp τ sig (Elt F))) := [hostOps0]

/-- The buffers as the region finds them. -/
abbrev V (c : Dev nD) (b : Ref sig .tc) : Buf (Elt F) ((c : Thread nD τ).loc b) := StableHlo.after (List.flatten opss) (fun b => m (c, b)) b

theorem opss_fresh : (opss : List (List (HloOp τ sig (Elt F)))).Forall fun ops => ops.Forall fun op => op.fresh = ∅ := by
  simp only [List.Forall]; repeat' constructor

theorem hmain : Pipeline.HMain (Ix := Unit) (Name := ℕ) (U := UR sig nD τ) (Lvl := ℕ) cfgs 0 defs₀ 𝒱₀ m (main (F := F)) (V m) :=
  Pipeline.hmain_prefixes cfgs 0 defs₀ 𝒱₀ m main opss hostOps0_sub opss_fresh main_chain

/-- A buffer that none of the host's operations writes is as launched. -/
theorem V_kept (c : Dev nD) (b : Ref sig .tc)
    (h : (List.flatten (opss : List (List (HloOp τ sig (Elt F))))).Forall fun op => Proc.devRef .tc b ∉ op.writes) :
    V m c b = m ((c : Thread nD τ).loc b) :=
  StableHlo.after_of_forall_not_mem (b := Proc.devRef .tc b) _ _ (List.forall_iff_forall_mem.mp h)

/-- The arguments, in order. -/
abbrev args : Fin 3 → Ref sig .tc := ![main_arg0, main_arg1, main_arg2]

theorem V_args (c : Dev nD) : ∀ j, V m c (args j) = m ((c : Thread nD τ).loc (args j)) := fun j => V_kept m c (args j) (by
  simp only [opss, hostOps0,
    List.flatten_cons, List.flatten_nil, List.append_nil, List.cons_append, List.nil_append, List.Forall, StableHlo.nullary_writes,
    StableHlo.unary_writes, StableHlo.binary_writes, StableHlo.ternary_writes, StableHlo.reshape_writes, StableHlo.TRef.nullary,
    StableHlo.TRef.unary, StableHlo.TRef.binary, StableHlo.TRef.ternary, Finset.mem_singleton]
  fin_cases j <;> repeat' apply And.intro
  all_goals exact StableHlo.devRef_ne_of_ne (by decide))

/-! ## What the buffers hold, point by point -/

/-- A window's block at a point, in the array as the region finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  ((cfg0.win w).blk t).view.read (Elt F) (V m c (Pipeline.arrRef spec0 w))

/-- What the point leaves. -/
def pointAt (c : Dev nD) (t : Fin (cfg0 (F := F)).N) : St F :=
  point (grid0.coords t) (iblk m c 0 t) (iblk m c 1 t) (iblk m c 2 t)

theorem rB_overlay (d w : Vec F S256x128 .f32) : rB.overlay d w = w := by
  funext y
  have e : rB.emb (show rB.shape.Idx from y) = y := funext fun a => Fin.ext (by fin_cases a <;> simp [Rect.emb, Rect.unit])
  conv_lhs => rw [← e]
  exact Rect.overlay_emb _ _ _ _

/-- The proof data of the pipeline. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay30 (pointAt m c t).acc
  Φ _ := Pipeline.ΦA spec0 c
  q _ := fullShare
  owed _ := 0

theorem A_eq (c : Dev nD) (w : Fin (cfg0 (F := F)).W) : (dats m 0 c).A w = V m c (Pipeline.arrRef spec0 w) := by
  rfl

theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem after0_3 (c : Dev nD) (t : Fin (cfg0 (F := F)).N) : (dats m 0 c).after 3 t = k0_pay30 (pointAt m c t).acc := rfl

/-! An input's buffer holds its block at each point. -/

theorem before0_0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans (by unfold Dat.fetched Dat.blockOf iblk; rw [A_eq]; try rfl)

/-! ## The body's obligation -/

def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin (cfg0 (F := F)).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- The body's triple with the block stored whole and the point's state named. -/
theorem body_at (c : Dev nD) (i : grid0.Coords)
    (arg2 : Memref sig .tc .vmem S256x128 .bf16) (harg2 : arg2.IsWhole)
    (arg3 : Memref sig .tc .vmem S8192x128 .bf16) (harg3 : arg3.IsWhole) (arg4 : Memref sig .tc .vmem S8192x128 .bf16) (harg4 : arg4.IsWhole)
    (arg5 : Memref sig .tc .vmem S256x128 .f32) (harg5 : arg5.IsWhole)
    (xq : Vec F S256x128 .bf16) (K V : Vec F S8192x128 .bf16) (d : Vec F S256x128 .f32)
    (s : St F) (e : point i xq K V = s) (Q : PUnit → sProp (MT nD τ sig Unit (Elt F) ℕ (UR sig nD τ) ℕ)) :
    iprop(rest arg2 arg3 arg4 arg5 xq K V d c
      ∗ (rest arg2 arg3 arg4 arg5 xq K V (k0_pay30 s.acc) c -∗ Q ⟨⟩))
      ⊢ wp frame (wpE (defs₀ (F := F)) 𝒱₀ (c : Thread nD τ) none) Set.univ
          (cc0_attention i arg2 harg2 arg3 harg3 arg4 harg4 arg5 harg5) Q := by
  subst e
  have h := body_wp c i arg2 harg2 arg3 harg3 arg4 harg4 arg5 harg5 xq K V d Q
  rwa [rB_overlay] at h

set_option maxHeartbeats 3200000 in
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (st0_0 t) fullShare ((dats m 0 c).after 0 t) from by
    unfold Dat.leavesExact; rw [show (cfg0 (F := F)).idle 0 (cfg0.grid.coords t) = false from rfl], after0_0]
  rw [show (dats m 0 c).leavesExact 1 t = owns (c : Thread nD τ) (st0_1 t) fullShare ((dats m 0 c).after 1 t) from by
    unfold Dat.leavesExact; rw [show (cfg0 (F := F)).idle 1 (cfg0.grid.coords t) = false from rfl], after0_1]
  rw [show (dats m 0 c).leavesExact 2 t = owns (c : Thread nD τ) (st0_2 t) fullShare ((dats m 0 c).after 2 t) from by
    unfold Dat.leavesExact; rw [show (cfg0 (F := F)).idle 2 (cfg0.grid.coords t) = false from rfl], after0_2]
  rw [show (dats m 0 c).leavesExact 3 t = owns (c : Thread nD τ) (st0_3 t) fullShare ((dats m 0 c).after 3 t) from by
    unfold Dat.leavesExact; rw [show (cfg0 (F := F)).idle 3 (cfg0.grid.coords t) = false from rfl], after0_3]
  iintro ⟨HΦ, Ho, ⟨%d0, H0⟩, ⟨%d1, H1⟩, ⟨%d2, H2⟩, ⟨%d3, H3⟩⟩
  iapply (body_at c (grid0.coords t) _ _ _ _ _ _ _ _ (iblk m c 0 t) (iblk m c 1 t) (iblk m c 2 t)
    ((dats m 0 c).before 3 t d3) (pointAt m c t) rfl _)
  unfold rest
  isplitl [H0 H1 H2 H3]
  · isplitl [H0]; · iexact H0
    isplitl [H1]; · iexact H1
    isplitl [H2]; · iexact H2
    iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem defs₀_row (t : Fin (cfg0 (F := F)).N) : defs₀ (F := F) .tc (cfg0 (F := F)).body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments are kept. -/
theorem kept {r} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (show main_arg0 ∈ Pipeline.restRefs sig spec0 from Pipeline.mem_restRefs_of main_arg0 (by decide) (by decide))).trans (V_args m c 0),
    ((h c).2 main_arg1 (show main_arg1 ∈ Pipeline.restRefs sig spec0 from Pipeline.mem_restRefs_of main_arg1 (by decide) (by decide))).trans (V_args m c 1),
    ((h c).2 main_arg2 (show main_arg2 ∈ Pipeline.restRefs sig spec0 from Pipeline.mem_restRefs_of main_arg2 (by decide) (by decide))).trans (V_args m c 2)⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => kept m h.1 c, h.2⟩) (run_main_quiescent m ρ)

end Cert.Kernel11Ideal.Attn

end
-- ==== Proof.AttnFwd.Block.lean ====
/-
  The attention's grid point at real operands. A block of keys is the same step as in the gradient's sweep, with the
  block's weights times its values added up instead; after the last block the sums are whole.
-/
module

public import proofs.«01_k».proof.Proof.Attn.Value
public import proofs.«01_k».proof.Proof.AttnFwd.Run

@[expose] public section

set_option maxRecDepth 16384

noncomputable section

namespace Cert.Kernel11Ideal.Attn

open Cert.Kernel11Ideal Cert.Kernel11Ideal.Gen
open Cert.KernelIdeal.Attn (up col bits Z LS W rW ld_bf sp cL cW sum_block LS_cl W_cl stack pay41_up pay42_up pay44_up pay46_up pay2_up pay4_up pay5_gt
  pay17_up pay19_up mask_true mask_first mask_second inb)
open Idealize.ShloMosaic Idealize.ShloMosaic.TcCoe Idealize.SL.Sem
open Finset (Ico range)

/-- A block of keys under a mask. -/
def blk (M : IVec S512x256 1) (off : Fin 2 → ℕ) (h : ∀ a, off a + S256x128.size a ≤ S8192x128.size a) (K V : Vec Ideal S8192x128 .bf16)
    (q2 : FVec Ideal S512x128 .bf16) (s : St Ideal) : St Ideal where
  mx := KernelIdeal.Gen.k0_pay5 s.carry (KernelIdeal.Gen.k0_pay44 M (KernelIdeal.Gen.k0_pay42 q2 (View.ld K (rW off h))) KernelIdeal.Gen.k0_pay43)
  carry := KernelIdeal.Gen.k0_pay2 s.carry (KernelIdeal.Gen.k0_pay44 M (KernelIdeal.Gen.k0_pay42 q2 (View.ld K (rW off h))) KernelIdeal.Gen.k0_pay43)
  acc := KernelIdeal.Gen.k0_pay4 s.acc (KernelIdeal.Gen.k0_pay40 (View.ld V (rW off h))) (KernelIdeal.Gen.k0_pay46 KernelIdeal.Gen.k0_pay17 s.carry M
    (KernelIdeal.Gen.k0_pay41 q2 (View.ld K (rW off h))) (KernelIdeal.Gen.k0_pay42 q2 (View.ld K (rW off h))) KernelIdeal.Gen.k0_pay43)

theorem blk_congr (M : IVec S512x256 1) {off off' : Fin 2 → ℕ} (he : off = off') (h : ∀ a, off a + S256x128.size a ≤ S8192x128.size a)
    (h' : ∀ a, off' a + S256x128.size a ≤ S8192x128.size a) (K V : Vec Ideal S8192x128 .bf16) (q2 : FVec Ideal S512x128 .bf16) (s : St Ideal) :
    blk M off h K V q2 s = blk M off' h' K V q2 s := by
  subst he; rfl

theorem stepL_eq (K V : Vec Ideal S8192x128 .bf16) (q2 : FVec Ideal S512x128 .bf16) (a : BitVec 32) (h : k0_chk1 a) (s : St Ideal) :
    stepL K V q2 a h s = blk (fun _ => 1#1) (k0_off3 a) (k0_off3_inb a h) K V q2 s := rfl

theorem second_eq (i : grid0.Coords) (q2 : FVec Ideal S512x128 .bf16) (K V : Vec Ideal S8192x128 .bf16) (s : St Ideal) :
    second i q2 K V s = blk (KernelIdeal.Gen.k0_pay38 (BitVec.ofNat 32 (i 1).val)) (k0_off2 i) (k0_off2_inb i) K V q2 s := rfl

theorem first_carry (i : grid0.Coords) (xq : Vec Ideal S256x128 .bf16) (K V : Vec Ideal S8192x128 .bf16) :
    (first i xq K V).carry = (blk KernelIdeal.Gen.k0_pay16 (k0_off1 i) (k0_off1_inb i) K V (k0_pay9 (View.ld xq rB)) ⟨nought, k0_pay10, k0_pay11⟩).carry := rfl

theorem first_acc (i : grid0.Coords) (xq : Vec Ideal S256x128 .bf16) (K V : Vec Ideal S8192x128 .bf16) :
    (first i xq K V).acc = (blk KernelIdeal.Gen.k0_pay16 (k0_off1 i) (k0_off1_inb i) K V (k0_pay9 (View.ld xq rB)) ⟨nought, k0_pay10, k0_pay11⟩).acc := rfl

/-! ## The step on real sums -/

/-- What a pass over the key blocks carries, in reals. -/
structure RSt where
  carry : ℕ → ℝ
  acc : ℕ → ℕ → ℝ

/-- A state that holds those sums. -/
structure Is (s : St Ideal) (R : RSt) : Prop where
  carry : s.carry = col R.carry
  acc : s.acc = up R.acc

/-- The step, in reals, on the block of keys from `o` on. -/
def rstep (M : ℕ → ℕ → Prop) (o : ℕ) (q k v : ℕ → ℕ → ℝ) (R : RSt) : RSt where
  carry r := R.carry r + ∑ c : Fin 256, LS M (Z q (fun c => k (o + c))) r c.val
  acc r l := R.acc r l + ∑ c : Fin 256, W M (Z q (fun c => k (o + c))) R.carry r c.val * v (o + c.val) l

theorem blk_is (M : ℕ → ℕ → Prop) (o : ℕ) (h) (q k v : ℕ → ℕ → ℝ) (s : St Ideal) (R : RSt) (hs : Is s R) :
    Is (blk (bits M) ![o, 0] h (up (a := 8192) (b := 128) (φ := .bf16) k) (up (a := 8192) (b := 128) (φ := .bf16) v) (up q) s) (rstep M o q k v R) := by
  obtain ⟨hc, ha⟩ := hs
  have e40 : ∀ x : Vec Ideal S256x128 .bf16, KernelIdeal.Gen.k0_pay40 x = x := fun x => shapeCast_self _ _
  constructor
  · simp only [blk, hc, ld_bf, pay42_up, pay44_up, pay2_up]
    rfl
  · simp only [blk, hc, ha, ld_bf, e40, pay17_up, pay41_up, pay42_up, pay46_up, pay4_up]
    rfl

theorem blk_mx (M : ℕ → ℕ → Prop) (o : ℕ) (h) (q k : ℕ → ℕ → ℝ) (V : Vec Ideal S8192x128 .bf16) (s : St Ideal) (R : RSt) (hs : Is s R) :
    ⊥ < (blk (bits M) ![o, 0] h (up (a := 8192) (b := 128) (φ := .bf16) k) V (up q) s).mx := by
  simp only [blk, hs.carry, ld_bf, pay42_up, pay44_up]
  exact pay5_gt _ _

section

variable (q k v : ℕ → ℕ → ℝ) (tr : ℕ → ℕ)

/-- The sums over the keys from `o` on. -/
def cl (o : ℕ) : RSt where
  carry r := ∑ j ∈ Ico o 8192, cL q k tr r j
  acc r l := ∑ j ∈ Ico o 8192, cW q k tr r j * v j l

/-- One block more. -/
theorem rstep_cl (M : ℕ → ℕ → Prop) (o : ℕ) (hM : ∀ r c, c < 256 → (M r c ↔ o + c < tr r)) (ho : o + 256 ≤ 8192) :
    rstep M o q k v (cl q k v tr (o + 256)) = cl q k v tr o := by
  unfold rstep cl
  simp only [RSt.mk.injEq]
  constructor
  · funext r
    rw [← sum_block _ o ho]
    congr 1
    exact Finset.sum_congr rfl fun c _ => LS_cl q k tr M o hM r c.val c.isLt
  · funext r l
    rw [← sum_block _ o ho]
    congr 1
    exact Finset.sum_congr rfl fun c _ => by rw [W_cl q k tr M o hM ho r c.val c.isLt]

/-- A block masked out changes nothing. -/
theorem rstep_none (M : ℕ → ℕ → Prop) (hM : ∀ r c, ¬M r c) (o : ℕ) (R : RSt) : rstep M o q k v R = R := by
  cases R
  unfold rstep
  simp [LS, W, hM]

/-- Keys past every row add nothing. -/
theorem cl_top (o : ℕ) (h : ∀ r, tr r ≤ o) : cl q k v tr o = ⟨fun _ => 0, fun _ _ => 0⟩ := by
  unfold cl
  simp only [RSt.mk.injEq]
  constructor
  · funext r
    exact Finset.sum_eq_zero fun s hs => if_neg (by have := h r; have := (Finset.mem_Ico.mp hs).1; omega)
  · funext r l
    refine Finset.sum_eq_zero fun s hs => ?_
    rw [show cW q k tr r s = 0 from if_neg (by have := h r; have := (Finset.mem_Ico.mp hs).1; omega), zero_mul]

theorem blk_cl (M : ℕ → ℕ → Prop) (o : ℕ) (hM : ∀ r c, c < 256 → (M r c ↔ o + c < tr r)) (ho : o + 256 ≤ 8192) (s : St Ideal)
    (h : Is s (cl q k v tr (o + 256))) :
    Is (blk (bits M) ![o, 0] (inb o ho) (up (a := 8192) (b := 128) (φ := .bf16) k) (up (a := 8192) (b := 128) (φ := .bf16) v) (up q) s) (cl q k v tr o) := by
  rw [← rstep_cl q k v tr M o hM ho]
  exact blk_is _ _ _ _ _ _ _ _ h

/-! ## Offsets and the exit -/

theorem off1_eq (i : grid0.Coords) : k0_off1 i = ![256 * (i 1).val, 0] := by
  have h : ∀ n : Fin 32, (Scalar.indexCast (Scalar.muli (BitVec.ofNat 32 n.val) 256#32) : Index).toNat = 256 * n.val := by decide +kernel
  exact congrArg (fun x => ![x, 0]) (h (i 1))

theorem off2_eq (i : grid0.Coords) : k0_off2 i = ![256 * ((i 1).val - 1), 0] := by
  have h : ∀ n : Fin 32, (Scalar.indexCast (Scalar.muli (Scalar.maxsi (Scalar.subi (BitVec.ofNat 32 n.val) 1#32) 0#32) 256#32) : Index).toNat = 256 * (n.val - 1) := by decide +kernel
  exact congrArg (fun x => ![x, 0]) (h (i 1))

theorem off3_eq (n : ℕ) (hn : n < 32) : k0_off3 (BitVec.ofNat 32 n) = ![256 * n, 0] := by
  have h : ∀ n : Fin 32, (Scalar.indexCast (Scalar.muli (BitVec.ofNat 32 n.val) 256#32) : Index).toNat = 256 * n.val := by decide +kernel
  exact congrArg (fun x => ![x, 0]) (h ⟨n, hn⟩)

theorem goes_of {x : Ideal .f32} (h : ⊥ < x) : goes x := by
  unfold goes
  rw [show (Named.named κ "log_zero" 0xC2D00000#32 : Ideal .f32) = ⊥ from IdealRules.named_const.ideal_named_scalar κ "log_zero" (φ := .f32) 0xC2D00000#32 ⊥ rfl]
  simp only [Ideal.scalar_cmpf_def, Ideal.cmp, h, decide_true]
  rfl

/-! ## The point -/

theorem loop_is : ∀ n, n < 32 → (∀ r, 256 * n ≤ tr r) → ∀ s : St Ideal, ⊥ < s.mx → Is s (cl q k v tr (256 * n)) →
      Is (loop (up (a := 8192) (b := 128) (φ := .bf16) k) (up (a := 8192) (b := 128) (φ := .bf16) v) (up q) n s) (cl q k v tr 0)
  | 0, _, _, s, _, h => h
  | n + 1, hn, hr, s, hx, h => by
    have hc : k0_chk1 (BitVec.ofNat 32 n) := chk_of_lt n (by omega)
    rw [loop, if_pos (goes_of hx), dif_pos hc, stepL_eq, blk_congr _ (off3_eq n (by omega)) _ (inb (256 * n) (by omega)), mask_true]
    refine loop_is n (by omega) (fun r => by have := hr r; omega) _ ?_ ?_
    · exact blk_mx _ _ _ _ _ _ _ _ h
    · exact blk_cl q k v tr _ _ (fun r c hc => ⟨fun _ => by have := hr r; omega, fun _ => trivial⟩) (by omega) s h

end

/-- The row a stacked row stands for. -/
def rowOf (i : grid0.Coords) (r : ℕ) : ℕ := 256 * (i 1).val + r % 256

theorem ld_rB (X : Vec Ideal S256x128 .bf16) : View.ld X rB = X :=
  View.ld_unit_zero (S := S256x128) (funext fun a => by fin_cases a <;> rfl) inb_S256x128_S256x128_0_0 X

theorem q2_up (x : ℕ → ℕ → ℝ) : k0_pay9 (F := Ideal) (View.ld (up (a := 256) (b := 128) (φ := .bf16) x) rB) = up (stack x) := by
  rw [ld_rB]
  exact pay19_up x

/-- The point's sums. -/
theorem point_is (i : grid0.Coords) (x k v : ℕ → ℕ → ℝ) :
    Is (point i (up (a := 256) (b := 128) (φ := .bf16) x) (up (a := 8192) (b := 128) (φ := .bf16) k) (up (a := 8192) (b := 128) (φ := .bf16) v))
      (cl (stack x) k v (rowOf i) 0) := by
  have hi : (i 1).val < 32 := (i 1).isLt
  have h0 : Is ⟨nought, k0_pay10, k0_pay11⟩ (cl (stack x) k v (rowOf i) (256 * (i 1).val + 256)) := by
    rw [cl_top _ _ _ _ _ (fun r => by unfold rowOf; omega)]
    refine ⟨?_, ?_⟩
    · funext y; pointwise [k0_pay10]; rfl
    · funext y; pointwise [k0_pay11]; rfl
  have h1 : Is (first i (up (a := 256) (b := 128) (φ := .bf16) x) (up (a := 8192) (b := 128) (φ := .bf16) k) (up (a := 8192) (b := 128) (φ := .bf16) v))
      (cl (stack x) k v (rowOf i) (256 * (i 1).val)) := by
    have h := blk_cl (stack x) k v (rowOf i) (fun r c => c < r % 256) (256 * (i 1).val) (fun r c hc => by unfold rowOf; omega) (by omega) _ h0
    rw [← mask_first, ← blk_congr _ (off1_eq i) (k0_off1_inb i), ← q2_up] at h
    exact ⟨(first_carry i _ _ _).trans h.carry, (first_acc i _ _ _).trans h.acc⟩
  unfold point
  rw [q2_up]
  generalize first (F := Ideal) i _ _ _ = s at h1 ⊢
  rw [second_eq, blk_congr _ (off2_eq i) _ (inb (256 * ((i 1).val - 1)) (by omega)), mask_second _ hi]
  refine loop_is (stack x) k v (rowOf i) _ (by omega) (fun r => by unfold rowOf; omega) _ (blk_mx _ _ _ _ _ _ _ _ h1) ?_
  by_cases hp : 0 < (i 1).val
  · have e : 256 * (i 1).val = 256 * ((i 1).val - 1) + 256 := by omega
    exact blk_cl (stack x) k v _ _ _ (fun r c hc => by unfold rowOf; omega) (by omega) s (by rw [← e]; exact h1)
  · have e : (i 1).val = (i 1).val - 1 := by omega
    have h := blk_is (fun _ _ => 0 < (i 1).val) (256 * ((i 1).val - 1)) (inb _ (by omega)) (stack x) k v s _ h1
    rw [rstep_none _ _ _ _ (fun _ _ => hp)] at h
    rw [show cl (stack x) k v (rowOf i) (256 * (i 1).val) = cl (stack x) k v (rowOf i) (256 * ((i 1).val - 1)) from
      congrArg (fun n => cl (stack x) k v (rowOf i) (256 * n)) e] at h
    exact h

end Cert.Kernel11Ideal.Attn

end
-- ==== Proof.AttnFwd.Value.lean ====
/-
  The attention's value: the launch's operands are the host's scaled and cast arrays, each point stores its rows of its two
  heads, and together they are the reference's result.
-/
module

public import proofs.«01_k».proof.Proof.AttnFwd.Block
public import proofs.«01_k».proof.Proof.Attn.Finite
public import proofs.«01_k».proof.Proof.Gen.Reference11Ideal.Read
public import proofs.«01_k».proof.Proof.Gen.Pre_finite11
public import Idealize.ShloMosaic.Lib.Pointwise

@[expose] public section

set_option maxRecDepth 16384

noncomputable section

namespace Cert.Kernel11Ideal.Attn

open Cert.Kernel11Ideal Cert.Kernel11Ideal.Gen
open Cert.KernelIdeal.Attn (up up_ix2 A8 B8 zH sW cW cW_head stack hd xq xk O a8_at up_congr ofBits_eighth lane_lt scalar_ite coe_ite real_of_lt reals reals_eq)
open Idealize.ShloMosaic Idealize.ShloMosaic.TcCoe Idealize.SL.Sem
open Idealize.ShloMosaic.Pipeline (Dat)
open Finset (Ico range)

/-- The two halves of the stacked sums, side by side. -/
theorem pay30_up (x : ℕ → ℕ → ℝ) : k0_pay30 (F := Ideal) (up x) = up (fun r l => if l < 64 then x r l else x (r + 256) l) := by
  funext y
  idx_vars y
  pointwise [k0_pay30]
  simp only [up_ix2, lane_lt, scalar_ite, coe_ite, Nat.add_comm 256]

theorem head (q k v : ℕ → ℕ → ℝ) (H I : ℕ) (tr : ℕ → ℕ) (htr : ∀ r, tr r = 256 * I + r % 256) (r l : ℕ) (hr : r < 256) (hl : l < 128) :
    (if l < 64 then (cl (stack (xq q H I)) (xk k H) (xk v H) tr 0).acc r l else (cl (stack (xq q H I)) (xk k H) (xk v H) tr 0).acc (r + 256) l)
      = O q k v (256 * I + r) (128 * H + l) := by
  unfold O
  rw [show (128 * H + l) / 64 = 2 * H + l / 64 by omega,
    ← Finset.sum_range (fun s => sW (zH q k (2 * H + l / 64)) (256 * I + r) s * v s (128 * H + l)), Finset.range_eq_Ico]
  have h1 : r % 256 = r := Nat.mod_eq_of_lt hr
  have h2 : (r + 256) % 256 = r := by omega
  split
  · change ∑ j ∈ Ico 0 8192, cW (stack (xq q H I)) (xk k H) tr r j * xk v H j l = _
    refine Finset.sum_congr rfl fun s _ => ?_
    rw [cW_head q k H I tr htr, h1, show hd r = l / 64 by unfold hd; rw [if_pos hr]; omega]
    rfl
  · change ∑ j ∈ Ico 0 8192, cW (stack (xq q H I)) (xk k H) tr (r + 256) j * xk v H j l = _
    refine Finset.sum_congr rfl fun s _ => ?_
    rw [cW_head q k H I tr htr, h2, show hd (r + 256) = l / 64 by unfold hd; rw [if_neg (by omega)]; omega]
    rfl

variable (m : (ℓ : Loc nD τ sig) → Buf (Elt Ideal) ℓ) (ρ : Dev nD → PrngReg) (c : Dev nD)

section

variable {F : FTy → Type} [FloatOps F] [Named F] (m : (ℓ : Loc nD τ sig) → Buf (Elt F) ℓ)

set_option maxHeartbeats 4000000 in
theorem V2_eq : V m c main_v2 = truncf (F := F) (s := S8192x1024) (φ := .f32) .bf16
    (mulf (m ((c : Thread nD τ).loc main_arg0)) (broadcastInDim S8192x1024 ![] bcast_S_S8192x1024 (constant S_ .f32 0x3E000000#32))) := by
  rfl

set_option maxHeartbeats 4000000 in
theorem V3_eq : V m c main_v3 = truncf (F := F) (s := S8192x1024) (φ := .f32) .bf16 (m ((c : Thread nD τ).loc main_arg1)) := by
  rfl

set_option maxHeartbeats 4000000 in
theorem V4_eq : V m c main_v4 = truncf (F := F) (s := S8192x1024) (φ := .f32) .bf16 (m ((c : Thread nD τ).loc main_arg2)) := by
  rfl

end

/-- The arguments are those reals. -/
structure Real3 (q k v : ℕ → ℕ → ℝ) : Prop where
  q : m ((c : Thread nD τ).loc main_arg0) = A8 q
  k : m ((c : Thread nD τ).loc main_arg1) = A8 k
  v : m ((c : Thread nD τ).loc main_arg2) = A8 v

theorem fn_real (x0 x1 x2 : FVec Ideal S8192x1024 .f32) (r : Fin 8192) (l : Fin 1024) (h : Cert.Pre_finite11.fn (F := Ideal) x0 x1 x2 (ix2 r l) = 1#1) :
    x0 (ix2 r l) = (((x0 (ix2 r l) : EReal).toReal : ℝ) : EReal) ∧ x1 (ix2 r l) = (((x1 (ix2 r l) : EReal).toReal : ℝ) : EReal)
      ∧ x2 (ix2 r l) = (((x2 (ix2 r l) : EReal).toReal : ℝ) : EReal) := by
  pointwise [Cert.Pre_finite11.fn] at h
  simp only [Cert.KernelIdeal.Attn.and_one, Cert.KernelIdeal.Attn.of_one, Bool.and_eq_true, decide_eq_true_eq] at h
  exact ⟨real_of_lt _ h.1.1, real_of_lt _ h.1.2, real_of_lt _ h.2⟩

theorem real3_of_pre (h : Cert.Pre_Kernel11Ideal_finite11 m) : ∃ q k v : ℕ → ℕ → ℝ, Real3 m c q k v := by
  have e := fun r l => fn_real _ _ _ r l (congrFun (h c) (ix2 r l))
  refine ⟨_, _, _, reals_eq _ fun i => ?_, reals_eq _ fun i => ?_, reals_eq _ fun i => ?_⟩ <;> idx_vars i
  · exact (e _ _).1
  · exact (e _ _).2.1
  · exact (e _ _).2.2

theorem idx_val : ∀ t : Fin (cfg0 (F := Ideal)).N, win0_0.index t = ![t.val % 32, t.val / 32] ∧ win0_1.index t = ![0, t.val / 32]
    ∧ win0_2.index t = ![0, t.val / 32] ∧ win0_3.index t = ![t.val % 32, t.val / 32] :=
  (by decide +kernel : ∀ t : Fin grid0.N, _)

theorem coord_row : ∀ t : Fin (cfg0 (F := Ideal)).N, ((grid0.coords t) 1).val = t.val % 32 :=
  (by decide +kernel : ∀ t : Fin grid0.N, _)

section

variable (q k v : ℕ → ℕ → ℝ) (hm : Real3 m c q k v) (t : Fin (cfg0 (F := Ideal)).N)

include hm

theorem blk0 : iblk m c 0 t = up (a := 256) (b := 128) (φ := .bf16) (xq q (t.val / 32) (t.val % 32)) := by
  have e : V m c main_v2 = B8 (fun t l => q t l * (1 / 8)) := by
    rw [V2_eq, hm.q]
    funext y
    idx_vars y
    pointwise
    rw [ofBits_eighth]
    exact (EReal.coe_mul _ _).symm
  funext y
  blk_simp [iblk]
  rw [e]
  refine congrArg (fun x : ℝ => (x : EReal)) (congrArg₂ (fun t l => q t l * (1 / 8)) ?_ ?_) <;> blk_simp [idx_val t] <;> omega

theorem blk1 : iblk m c 1 t = up (a := 8192) (b := 128) (φ := .bf16) (xk k (t.val / 32)) := by
  have e : V m c main_v3 = B8 k := by rw [V3_eq, hm.k]; rfl
  funext y
  blk_simp [iblk]
  rw [e]
  refine congrArg (fun x : ℝ => (x : EReal)) (congrArg₂ k ?_ ?_) <;> blk_simp [idx_val t] <;> omega

theorem blk2 : iblk m c 2 t = up (a := 8192) (b := 128) (φ := .bf16) (xk v (t.val / 32)) := by
  have e : V m c main_v4 = B8 v := by rw [V4_eq, hm.v]; rfl
  funext y
  blk_simp [iblk]
  rw [e]
  refine congrArg (fun x : ℝ => (x : EReal)) (congrArg₂ v ?_ ?_) <;> blk_simp [idx_val t] <;> omega

/-- What a point stores. -/
theorem point_out : k0_pay30 (pointAt m c t).acc
    = up (a := 256) (b := 128) (φ := .f32) (fun r l => O q k v (256 * (t.val % 32) + r) (128 * (t.val / 32) + l)) := by
  unfold pointAt
  rw [blk0 m c q k v hm, blk1 m c q k v hm, blk2 m c q k v hm, (point_is _ _ _ _).acc, pay30_up]
  exact up_congr fun r l hr hl => head q k v _ _ _ (fun r => by unfold rowOf; rw [coord_row]) r l hr hl

omit t in
theorem final3 : (dats m 0 c).arrAt 3 (cfgs (F := Ideal) 0).N = A8 (O q k v) := by
  refine (dats m 0 c).arrAt_eq_of_covers 3 _ (by decide +kernel) fun t _ y => ?_
  blk_simp
  rw [after0_3, point_out m c q k v hm t]
  exact (a8_at _ (r := 256 * (t.val % 32) + (y 0).val) (l := 128 * (t.val / 32) + (y 1).val) (by blk_simp [idx_val t]; omega) (by blk_simp [idx_val t]; omega)).symm

end

/-- The reference's text is the gradient's own forward lines. -/
theorem ref_eq (x0 x1 x2 : FVec Ideal S8192x1024 .f32) :
    Cert.Reference11Ideal.Read.val_main_v26 (F := Ideal) x0 x1 x2 = Cert.ReferenceIdeal.Read.val_main_v26 (F := Ideal) x0 x1 x2 := rfl

theorem ref3 (h : ∃ q k v, Real3 m c q k v) :
    Cert.Reference11Ideal.Read.val_main_v26 (F := Ideal) (m ((c : Thread nD τ).loc main_arg0)) (m ((c : Thread nD τ).loc main_arg1))
      (m ((c : Thread nD τ).loc main_arg2)) = (dats m 0 c).arrAt 3 (cfgs (F := Ideal) 0).N := by
  obtain ⟨q, k, v, h⟩ := h
  rw [final3 m c q k v h, h.q, h.k, h.v, ref_eq]
  exact Cert.KernelIdeal.Attn.v26_up q k v

theorem run_blocks : θ_run defs (onTc (τ := τ) (main (F := Ideal))) ⟨m, fun _ => 0, ρ⟩ fun r => ∀ c : Dev nD,
      r.2.mem ((c : Thread nD τ).loc main_v5) = (dats m 0 c).arrAt 3 (cfgs (F := Ideal) 0).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3, kept m h c⟩) (run_main m ρ)

end Cert.Kernel11Ideal.Attn

end
-- ==== Proof.QkNorm.Head.lean ====
/-
  The gradient of a head's norm: a product with the matrix that takes the mean over each head of a pair, and the chain rule's form.
-/
module

public import proofs.«01_k».proof.Proof.NormGrad

@[expose] public section

set_option maxRecDepth 16384

noncomputable section

namespace Cert.HeadGrad

open Idealize.ShloMosaic
open Cert.Real (IsReal)
open scoped BigOperators

/-- The mean square of a head, with the small number added. -/
def ms (x : Fin 64 → EReal) : EReal :=
  Ideal.div (∑ l, x l * x l) (Ideal.ofBits .f32 1115684864#32) + Ideal.ofBits .f32 897988541#32

/-- The gradient that reaches each square of the head. -/
def sqGrad (x h : Fin 64 → EReal) : EReal :=
  Ideal.div ((∑ l, x l * h l) * (Ideal.ofBits .f32 3204448256#32 * Ideal.div (Ideal.rsqrt (ms x)) (ms x))) (Ideal.ofBits .f32 1115684864#32)

/-- The head's gradient as the chain rule gives it. -/
def back (x h : Fin 64 → EReal) (k : Fin 64) : EReal :=
  h k * Ideal.rsqrt (ms x) + x k * (∑ _i : Fin 1, sqGrad x h) + (∑ _i : Fin 1, sqGrad x h) * x k

/-- The matrix that takes the mean over each of the two heads of a pair. -/
def mean (l k : Fin 128) : EReal :=
  if l.val / 64 = k.val / 64 then Ideal.ofBits .f32 1015021568#32 else Ideal.ofBits .f32 0#32

/-- The inverse root mean square that a lane of a pair sees. -/
def inv (x : Fin 128 → EReal) (k : Fin 128) : EReal :=
  Ideal.rsqrt ((∑ l, x l * x l * mean l k) + Ideal.ofBits .f32 897988541#32)

/-- A pair's gradient as a kernel forms it. -/
def kern (x h : Fin 128 → EReal) (k : Fin 128) : EReal :=
  inv x k * (h k - x k * inv x k * ∑ l, h l * (x l * inv x l) * mean l k)

/-- The lane of the pair that holds entry `e` of the head of lane `k`. -/
def pick (k : Fin 128) (e : Fin 64) : Fin 128 := ⟨64 * (k.val / 64) + e.val, by omega⟩

/-- A lane's place in its head. -/
def own (k : Fin 128) : Fin 64 := ⟨k.val % 64, Nat.mod_lt _ (by norm_num)⟩

theorem pick_own (k : Fin 128) : pick k (own k) = k := Fin.ext (Nat.div_add_mod k.val 64)

theorem pick_head (k : Fin 128) (e : Fin 64) : (pick k e).val / 64 = k.val / 64 := by
  change (64 * (k.val / 64) + e.val) / 64 = k.val / 64
  omega

theorem pick_pick (k : Fin 128) (e e' : Fin 64) : pick (pick k e) e' = pick k e' := by
  refine Fin.ext ?_
  change 64 * ((pick k e).val / 64) + e'.val = 64 * (k.val / 64) + e'.val
  rw [pick_head]

theorem w64 : Ideal.ofBits .f32 1115684864#32 = ((64 : ℝ) : EReal) := by
  simp [Ideal.ofBits, Ideal.ieee, -EReal.coe_mul]; norm_num

theorem wmean : Ideal.ofBits .f32 1015021568#32 = ((1 / 64 : ℝ) : EReal) := by
  simp [Ideal.ofBits, Ideal.ieee, -EReal.coe_mul]; norm_num

theorem wzero : Ideal.ofBits .f32 0#32 = ((0 : ℝ) : EReal) := by
  simp [Ideal.ofBits, Ideal.ieee]

/-- A sum over a pair that only a head takes part in. -/
theorem sum_pair {M : Type} [AddCommMonoid M] (f : Fin 128 → M) (k : Fin 128) (h : ∀ l : Fin 128, l.val / 64 ≠ k.val / 64 → f l = 0) :
    ∑ l, f l = ∑ e, f (pick k e) := by
  have inj : Function.Injective (pick k) := fun a b h => by
    have h : 64 * (k.val / 64) + a.val = 64 * (k.val / 64) + b.val := congrArg Fin.val h
    exact Fin.ext (by omega)
  refine Eq.trans ?_ (Finset.sum_map Finset.univ ⟨pick k, inj⟩ f)
  refine (Finset.sum_subset (Finset.subset_univ _) fun l _ hl => h l fun e => hl ?_).symm
  refine Finset.mem_map.mpr ⟨own l, Finset.mem_univ _, Fin.ext ?_⟩
  change 64 * (k.val / 64) + l.val % 64 = l.val
  omega

/-- The inverse root mean square of a lane is that of its head, whatever the entries are. -/
theorem inv_eq (x : Fin 128 → EReal) (k : Fin 128) : inv x k = Ideal.rsqrt (ms fun e => x (pick k e)) := by
  have key : ∑ l, x l * x l * mean l k = Ideal.div (∑ e, x (pick k e) * x (pick k e)) (Ideal.ofBits .f32 1115684864#32) := by
    rw [sum_pair _ k fun l hl => by rw [mean, if_neg hl, wzero]; exact mul_zero _]
    have : ∀ e, x (pick k e) * x (pick k e) * mean (pick k e) k = x (pick k e) * x (pick k e) * ((1 / 64 : ℝ) : EReal) := fun e => by
      rw [mean, if_pos (pick_head k e), wmean]
    rw [Finset.sum_congr rfl fun e _ => this e, Cert.NormGrad.sum_scale _ _ _ (by norm_num), w64, Cert.NormGrad.div_real _ _ (by norm_num), one_div]
  rw [inv, key, ms]

theorem law (x h : Fin 128 → EReal) (k : Fin 128) :
    kern x h k = back (fun e => x (pick k e)) (fun e => h (pick k e)) (own k) := by
  have hm := Cert.NormGrad.mean_cases (fun e => x (pick k e)) 64 (by norm_num)
  rw [← w64] at hm
  change (∃ q : ℝ, 0 < q ∧ ms (fun e => x (pick k e)) = (q : EReal)) ∨ ms (fun e => x (pick k e)) = ⊤ at hm
  have hsum : ∑ l, h l * (x l * inv x l) * mean l k = ∑ e, h (pick k e) * (x (pick k e) * Ideal.rsqrt (ms fun e => x (pick k e))) * ((64⁻¹ : ℝ) : EReal) := by
    rw [sum_pair _ k fun l hl => by rw [mean, if_neg hl, wzero]; exact mul_zero _]
    refine Finset.sum_congr rfl fun e _ => ?_
    rw [mean, if_pos (pick_head k e), wmean, inv_eq, one_div]
    simp only [pick_pick]
  rw [kern, hsum, inv_eq]
  unfold back sqGrad
  simp only [Fin.sum_univ_one, pick_own]
  rcases hm with ⟨q, hq, hm⟩ | hm
  · have hs : ∀ p : ℝ, 0 ≤ p → ∑ e, h (pick k e) * (x (pick k e) * (p : EReal)) = (∑ e, x (pick k e) * h (pick k e)) * (p : EReal) := fun p hp => by
      rw [← Cert.NormGrad.sum_scale _ _ _ hp]
      exact Finset.sum_congr rfl fun l _ => by rw [← mul_assoc, mul_comm (h _)]
    have hc := Cert.NormGrad.cube q hq 64
    have hp : 0 ≤ (Real.sqrt q)⁻¹ := by positivity
    rw [hm, Cert.NormGrad.rsqrt_coe q hq, Cert.NormGrad.wneg, Cert.NormGrad.div_coe _ _ hq.ne', w64]
    generalize (Real.sqrt q)⁻¹ = p at hc hp ⊢
    rw [Cert.NormGrad.sum_scale _ _ _ (by norm_num), hs p hp]
    generalize ∑ e, x (pick k e) * h (pick k e) = t
    have e2 : Ideal.div (t * (((-(1 / 2) : ℝ) : EReal) * ((p / q : ℝ) : EReal))) ((64 : ℝ) : EReal) = t * ((-(1 / 2) * (p / q) * 64⁻¹ : ℝ) : EReal) := by
      rw [Cert.NormGrad.div_real _ _ (by norm_num), mul_assoc, ← EReal.coe_mul, ← EReal.coe_mul]
    rw [e2]
    have hk := Cert.NormGrad.core 0 (h k) (x k) t p _ _ hp hc
    rw [zero_add, zero_add] at hk
    exact hk
  · have e0 : Ideal.div 0 ((64 : ℝ) : EReal) = 0 := by rw [Cert.NormGrad.div_real _ _ (by norm_num), zero_mul]
    rw [hm, show Ideal.rsqrt ⊤ = 0 from rfl, Cert.NormGrad.div_zero_top, w64]
    simp only [zero_mul, mul_zero, add_zero, e0]

end Cert.HeadGrad

end
-- ==== Proof.QkNorm.Pay.lean ====
/-
  What one pair of heads gets from a point of the gradient of the norms, at an index.
-/
module

public import proofs.«01_k».proof.Proof.Gen.Kernel6Ideal.Skeleton
public import Idealize.ShloMosaic.Lib.Pipeline.ValueKit
public import proofs.«01_k».proof.Proof.QkNorm.Head

@[expose] public section

set_option maxRecDepth 16384

noncomputable section

namespace Cert.Kernel6Ideal.Qk

open Cert.Kernel6Ideal Cert.Kernel6Ideal.Gen Idealize.ShloMosaic Idealize.ShloMosaic.TcCoe
open Cert.HeadGrad (kern mean)
open scoped BigOperators

/-- The matrix of means as the body builds it. -/
def meanMat : FVec Ideal S128x128 .f32 :=
  k0_pay11 (F := Ideal) k0_pay7 (iota .tc S128x128 32 [1] iota_S128x128_d1_w32) 64#32 k0_pay8 k0_pay9 k0_pay10

/-- A lane's head, as the body's words spell a quotient rounded down. -/
def headWord (w : BitVec 32) : BitVec 32 :=
  Scalar.select
    (IntOp.andi
      (IntOp.cmpi .ne (IntOp.subi (BitVec.setWidth 32 (IntOp.cmpi .sgt w 0#32)) (BitVec.setWidth 32 (IntOp.cmpi .slt w 0#32)))
        (Scalar.subi (Scalar.extui (Scalar.cmpi .sgt 64#32 0#32)) (Scalar.extui (Scalar.cmpi .slt 64#32 0#32))))
      (IntOp.cmpi .ne (IntOp.remsi .vector w 64#32) 0#32))
    (IntOp.subi (IntOp.divsi .vector w 64#32) 1#32) (IntOp.divsi .vector w 64#32)

theorem headWord_eq : ∀ l : Fin 128, headWord (BitVec.ofNat 32 l.val) = BitVec.ofNat 32 (l.val / 64) := by decide +kernel

/-- A lane's place in its head, as the body's words spell a remainder. -/
def ownWord (w : BitVec 32) : BitVec 32 :=
  Scalar.select
    (IntOp.andi
      (IntOp.xori (IntOp.cmpi .slt (IntOp.remsi .vector w (Scalar.select (Scalar.cmpi .eq 64#32 0#32) 1#32 64#32)) 0#32)
        (Scalar.cmpi .slt (Scalar.select (Scalar.cmpi .eq 64#32 0#32) 1#32 64#32) 0#32))
      (IntOp.cmpi .ne (IntOp.remsi .vector w (Scalar.select (Scalar.cmpi .eq 64#32 0#32) 1#32 64#32)) 0#32))
    (IntOp.addi (IntOp.remsi .vector w (Scalar.select (Scalar.cmpi .eq 64#32 0#32) 1#32 64#32)) (Scalar.select (Scalar.cmpi .eq 64#32 0#32) 1#32 64#32))
    (IntOp.remsi .vector w (Scalar.select (Scalar.cmpi .eq 64#32 0#32) 1#32 64#32))

theorem ownWord_eq : ∀ l : Fin 128, ownWord (BitVec.ofNat 32 l.val) = BitVec.ofNat 32 (l.val % 64) := by decide +kernel

theorem same_word (a b : Nat) (ha : a < 64) (hb : b < 64) (u v : EReal) :
    Scalar.select (IntOp.cmpi .eq (BitVec.ofNat 32 a) (BitVec.ofNat 32 b)) u v = if a = b then u else v := by
  have e : ∀ a b : Fin 64, IntOp.cmpi .eq (BitVec.ofNat 32 a.val) (BitVec.ofNat 32 b.val) = if a = b then 1#1 else 0#1 := by decide +kernel
  rw [e ⟨a, ha⟩ ⟨b, hb⟩]
  by_cases h : a = b
  · subst h
    rw [if_pos rfl, if_pos rfl]
    rfl
  · rw [if_neg h, if_neg fun h' => h (congrArg Fin.val h')]
    rfl

theorem meanMat_apply (l k : Fin 128) : meanMat (ix2 l k) = mean l k := by
  unfold meanMat mean
  pointwise [k0_pay11, k0_pay7, k0_pay8, k0_pay9, k0_pay10]
  change Scalar.select (IntOp.cmpi .eq (headWord (BitVec.ofNat 32 l.val)) (headWord (BitVec.ofNat 32 k.val))) _ _ = _
  rw [headWord_eq, headWord_eq, same_word _ _ (by omega) (by omega)]

theorem pay19_apply (x d : Vec Ideal S512x128 .f32) (g : Vec Ideal S1x128 .f32) (r : Fin 512) (k : Fin 128) :
    k0_pay19 meanMat x d g (ix2 r k) = kern (fun l => x (ix2 r l)) (fun l => d (ix2 r l) * g (ix2 0 l)) k := by
  simp only [kern, Cert.HeadGrad.inv]
  pointwise [k0_pay19, k0_pay17, k0_pay16]
  simp only [meanMat_apply]

theorem pay18_apply (x d : Vec Ideal S512x128 .f32) (s : Vec Ideal S1x128 .f32) (k : Fin 128) :
    k0_pay18 meanMat x d s (ix2 0 k) = s (ix2 0 k) + ∑ r : Fin 512, d (ix2 r k) * (x (ix2 r k) * Cert.HeadGrad.inv (fun l => x (ix2 r l)) k) := by
  simp only [Cert.HeadGrad.inv]
  pointwise [k0_pay18, k0_pay17, k0_pay16]
  simp only [meanMat_apply]

theorem pay4_apply (s : Vec Ideal S8x128 .f32) (r : Fin 8) (k : Fin 128) :
    k0_pay4 s (ix2 r k) = ∑ l : Fin 128, if l.val % 64 = k.val % 64 then s (ix2 r l) else 0 := by
  pointwise [k0_pay4]
  refine Finset.sum_congr rfl fun l _ => ?_
  change Scalar.select (IntOp.cmpi .eq (ownWord (BitVec.ofNat 32 l.val)) (ownWord (BitVec.ofNat 32 k.val))) _ _ = _
  rw [ownWord_eq, ownWord_eq, same_word _ _ (by omega) (by omega)]

theorem pay5_apply (s : Vec Ideal S8x128 .f32) (r : Fin 8) (k : Fin 128) : k0_pay5 s (ix2 r k) = k0_pay4 s (ix2 0 k) := by
  pointwise [k0_pay5]

theorem pay3_apply (s : Vec Ideal S8x128 .f32) (r : Fin 8) (k : Fin 128) : k0_pay3 (k0_pay4 s) (ix2 r k) = k0_pay4 s (ix2 1 k) := by
  pointwise [k0_pay3]

end Cert.Kernel6Ideal.Qk

end
-- ==== Proof.QkNorm.Ref.lean ====
/-
  The reference's gradient of the norms, at an index.
-/
module

public import proofs.«01_k».proof.Proof.Gen.Reference6Ideal.Read
public import Idealize.ShloMosaic.Lib.Pipeline.ValueKit
public import proofs.«01_k».proof.Proof.QkNorm.Head

@[expose] public section

set_option maxRecDepth 16384

noncomputable section

namespace Cert.Reference6Ideal.Qk

open Cert.Reference6Ideal Cert.Reference6Ideal.Read Idealize.ShloMosaic
open Cert.HeadGrad (back sqGrad ms own)
open scoped BigOperators

/-- The column of entry `e` of head `h`, past the first `o` columns. -/
def col (o : Nat) (ho : o ≤ 2048) (h : Fin 16) (e : Fin 64) : Fin 3072 := ⟨o + (h.val * 64 + e.val), by omega⟩

/-- The same without columns before it. -/
def lane (h : Fin 16) (e : Fin 64) : Fin 1024 := ⟨h.val * 64 + e.val, by omega⟩

theorem qhead (x0 : FVec Ideal S8192x3072 .f32) (R : Fin 8192) (h : Fin 16) (e : Fin 64) :
    val_main_v3 (F := Ideal) x0 (ix3 R h e) = x0 (ix2 R (col 0 (by norm_num) h e)) := by
  unfold col
  pointwise [val_main_v3, val_main_v0]

theorem khead (x0 : FVec Ideal S8192x3072 .f32) (R : Fin 8192) (h : Fin 16) (e : Fin 64) :
    val_main_v20 (F := Ideal) x0 (ix3 R h e) = x0 (ix2 R (col 1024 (by norm_num) h e)) := by
  unfold col
  pointwise [val_main_v20, val_main_v1]

theorem dhead (d : FVec Ideal S8192x1024 .f32) (R : Fin 8192) (h : Fin 16) (e : Fin 64) :
    val_main_v40 (F := Ideal) d (ix3 R h e) = d (ix2 R (lane h e)) := by
  unfold lane
  pointwise [val_main_v40]

theorem refq (x0 : FVec Ideal S8192x3072 .f32) (x1 : FVec Ideal S64 .f32) (x3 : FVec Ideal S8192x1024 .f32) (R : Fin 8192) (h : Fin 16) (e : Fin 64) :
    val_main_v81 (F := Ideal) x0 x1 x3 (ix3 R h e) = back (fun e => x0 (ix2 R (col 0 (by norm_num) h e))) (fun e => x3 (ix2 R (lane h e)) * x1 (ix1 e)) e := by
  simp only [back, sqGrad, ms, ← qhead, ← dhead]
  pointwise [val_main_v81, val_main_v79, val_main_v80, val_main_v78, val_main_v77, val_main_v76, val_main_cst_16, val_main_v75, val_main_v74, val_main_cst_15, val_main_v73, val_main_v72, val_main_v71, val_main_v70, val_main_v69, val_main_cst_14, val_main_v68, val_main_v66, val_main_v65, val_main_v17, val_main_v14, val_main_v13, val_main_cst_2, val_main_v12, val_main_v11, val_main_v10, val_main_v9, val_main_cst_1, val_main_v8, val_main_v7, val_main_cst_0, val_main_v6, val_main_v5, val_main_cst, val_main_v4]

theorem refk (x0 : FVec Ideal S8192x3072 .f32) (x2 : FVec Ideal S64 .f32) (x4 : FVec Ideal S8192x1024 .f32) (R : Fin 8192) (h : Fin 16) (e : Fin 64) :
    val_main_v60 (F := Ideal) x0 x2 x4 (ix3 R h e) = back (fun e => x0 (ix2 R (col 1024 (by norm_num) h e))) (fun e => x4 (ix2 R (lane h e)) * x2 (ix1 e)) e := by
  simp only [back, sqGrad, ms, ← khead, ← dhead]
  pointwise [val_main_v60, val_main_v59, val_main_v58, val_main_v57, val_main_v56, val_main_v55, val_main_cst_11, val_main_v54, val_main_v53, val_main_cst_10, val_main_v52, val_main_v51, val_main_v50, val_main_v49, val_main_v48, val_main_cst_9, val_main_v47, val_main_v45, val_main_v44, val_main_v34, val_main_v39, val_main_v40, val_main_v31, val_main_v30, val_main_cst_6, val_main_v29, val_main_v28, val_main_v27, val_main_v26, val_main_cst_5, val_main_v25, val_main_v24, val_main_cst_4, val_main_v23, val_main_v22, val_main_cst_3, val_main_v21]

theorem khead2 (d : FVec Ideal S8192x1024 .f32) (R : Fin 8192) (h : Fin 16) (e : Fin 64) :
    val_main_v39 (F := Ideal) d (ix3 R h e) = d (ix2 R (lane h e)) := by
  unfold lane
  pointwise [val_main_v39]

/-- A sum over the first two of three axes. -/
theorem sum_first {n0 n1 n2 : Nat} (h : (⟨3, ![n0, n1, n2]⟩ : Shape).ReducesTo [0, 1] ⟨1, ![n2]⟩) (v : (⟨3, ![n0, n1, n2]⟩ : Shape).Idx → EReal) (init : EReal) (e : Fin n2) :
    Ideal.hostReduceAdd h v init (ix1 e) = init + ∑ a : Fin n0, ∑ b : Fin n1, v (ix3 a b e) := by
  refine congrArg (init + ·) ?_
  refine (Finset.sum_filter_eq_sum_of_fiber _ (fun k : Fin n0 × Fin n1 => (ix3 k.1 k.2 e : (⟨3, ![n0, n1, n2]⟩ : Shape).Idx))
    (fun _ _ e => Prod.ext (congrFun e 0) (congrFun e 1)) (fun i => ?_) v).trans ?_
  · constructor
    · intro q
      refine ⟨(i 0, i 1), ?_⟩
      funext a; apply Fin.ext
      match a with
      | ⟨0, _⟩ => rfl
      | ⟨1, _⟩ => rfl
      | ⟨2, _⟩ => exact (congrArg Fin.val (congrFun q ⟨0, Nat.one_pos⟩)).symm
    · rintro ⟨k, rfl⟩
      funext b
      apply Fin.ext
      match b with
      | ⟨0, _⟩ => rfl
  · simp only [Fintype.sum_prod_type]

theorem zero_word : Ideal.ofBits .f32 0#32 = 0 := by
  simp [Ideal.ofBits, Ideal.ieee]

/-- The query columns of the first result. -/
theorem outq (x0 : FVec Ideal S8192x3072 .f32) (x1 x2 : FVec Ideal S64 .f32) (x3 x4 x5 : FVec Ideal S8192x1024 .f32) (R : Fin 8192) (n : Fin 1024) :
    val_main_v92 (F := Ideal) x0 x1 x2 x3 x4 x5 (ix2 R ⟨n.val, by omega⟩) = val_main_v81 (F := Ideal) x0 x1 x3 (ix3 R ⟨n.val / 64, by omega⟩ ⟨n.val % 64, Nat.mod_lt _ (by norm_num)⟩) := by
  pointwise [val_main_v92, val_main_v83, val_main_v82]

/-- The key columns of the first result. -/
theorem outk (x0 : FVec Ideal S8192x3072 .f32) (x1 x2 : FVec Ideal S64 .f32) (x3 x4 x5 : FVec Ideal S8192x1024 .f32) (R : Fin 8192) (n : Fin 1024) :
    val_main_v92 (F := Ideal) x0 x1 x2 x3 x4 x5 (ix2 R ⟨1024 + n.val, by omega⟩) = val_main_v60 (F := Ideal) x0 x2 x4 (ix3 R ⟨n.val / 64, by omega⟩ ⟨n.val % 64, Nat.mod_lt _ (by norm_num)⟩) := by
  pointwise [val_main_v92, val_main_v83, val_main_v61]

/-- The value columns of the first result. -/
theorem outv (x0 : FVec Ideal S8192x3072 .f32) (x1 x2 : FVec Ideal S64 .f32) (x3 x4 x5 : FVec Ideal S8192x1024 .f32) (R : Fin 8192) (n : Fin 1024) :
    val_main_v92 (F := Ideal) x0 x1 x2 x3 x4 x5 (ix2 R ⟨2048 + n.val, by omega⟩) = x5 (ix2 R n) := by
  pointwise [val_main_v92, val_main_v83]
  rw [dif_neg (by omega), dif_neg (by omega)]
  refine congrArg x5 (congrArg (ix2 R) (Fin.ext ?_))
  show 2048 + n.val - 1024 - 1024 = n.val
  omega

theorem gainq (x0 : FVec Ideal S8192x3072 .f32) (d : FVec Ideal S8192x1024 .f32) (r : Fin 8) (l : Fin 128) :
    val_main_v87 (F := Ideal) x0 d (ix2 r l) = ∑ R : Fin 8192, ∑ h : Fin 16, (fun x : Fin 64 → EReal => x (own l) * Ideal.rsqrt (ms x)) (fun e => x0 (ix2 R (col 0 (by norm_num) h e))) * d (ix2 R (lane h (own l))) := by
  have e1 : ∀ e : Fin 64, val_main_v63 (F := Ideal) x0 d (ix1 e) = ∑ R : Fin 8192, ∑ h : Fin 16, (fun x : Fin 64 → EReal => x e * Ideal.rsqrt (ms x)) (fun e => x0 (ix2 R (col 0 (by norm_num) h e))) * d (ix2 R (lane h e)) := by
    intro e
    refine (sum_first _ _ _ e).trans ?_
    refine (congrArg (· + _) ?_).trans (zero_add _ |>.trans ?_)
    · exact zero_word
    · refine Finset.sum_congr rfl fun R _ => Finset.sum_congr rfl fun h _ => ?_
      simp only [ms, ← qhead, ← dhead]
      pointwise [val_main_v62, val_main_v16, val_main_v15, val_main_v14, val_main_v13, val_main_cst_2, val_main_v12, val_main_v11, val_main_v10, val_main_v9, val_main_cst_1, val_main_v8, val_main_v7, val_main_cst_0, val_main_v6, val_main_v5, val_main_cst, val_main_v4]
  have e2 : ∀ e : Fin 64, val_main_v67 (F := Ideal) x0 d (ix1 e) = val_main_v63 (F := Ideal) x0 d (ix1 e) := by
    intro e
    refine (sum_first _ _ _ e).trans ?_
    refine (congrArg (· + _) ?_).trans (zero_add _ |>.trans ?_)
    · exact zero_word
    · simp only [Fin.sum_univ_one]
      pointwise [val_main_v64]
  rw [← e1, ← e2]
  pointwise [val_main_v87, val_main_v86, val_main_v85, val_main_v84]
  rfl

theorem gaink (x0 : FVec Ideal S8192x3072 .f32) (d : FVec Ideal S8192x1024 .f32) (r : Fin 8) (l : Fin 128) :
    val_main_v91 (F := Ideal) x0 d (ix2 r l) = ∑ R : Fin 8192, ∑ h : Fin 16, (fun x : Fin 64 → EReal => x (own l) * Ideal.rsqrt (ms x)) (fun e => x0 (ix2 R (col 1024 (by norm_num) h e))) * d (ix2 R (lane h (own l))) := by
  have e1 : ∀ e : Fin 64, val_main_v42 (F := Ideal) x0 d (ix1 e) = ∑ R : Fin 8192, ∑ h : Fin 16, (fun x : Fin 64 → EReal => x e * Ideal.rsqrt (ms x)) (fun e => x0 (ix2 R (col 1024 (by norm_num) h e))) * d (ix2 R (lane h e)) := by
    intro e
    refine (sum_first _ _ _ e).trans ?_
    refine (congrArg (· + _) ?_).trans (zero_add _ |>.trans ?_)
    · exact zero_word
    · refine Finset.sum_congr rfl fun R _ => Finset.sum_congr rfl fun h _ => ?_
      simp only [ms, ← khead, ← khead2]
      pointwise [val_main_v41, val_main_v33, val_main_v32, val_main_v31, val_main_v30, val_main_cst_6, val_main_v29, val_main_v28, val_main_v27, val_main_v26, val_main_cst_5, val_main_v25, val_main_v24, val_main_cst_4, val_main_v23, val_main_v22, val_main_cst_3, val_main_v21]
  have e2 : ∀ e : Fin 64, val_main_v46 (F := Ideal) x0 d (ix1 e) = val_main_v42 (F := Ideal) x0 d (ix1 e) := by
    intro e
    refine (sum_first _ _ _ e).trans ?_
    refine (congrArg (· + _) ?_).trans (zero_add _ |>.trans ?_)
    · exact zero_word
    · simp only [Fin.sum_univ_one]
      pointwise [val_main_v43]
  rw [← e1, ← e2]
  pointwise [val_main_v91, val_main_v90, val_main_v89, val_main_v88]
  rfl

end Cert.Reference6Ideal.Qk

end
-- ==== Proof.QkNorm.Row.lean ====
/-
  What a point of the gradient of the norms leaves.
-/
module

public import proofs.«01_k».proof.Proof.Gen.Kernel6Ideal.Value
public import Idealize.ShloMosaic.Lib.Pipeline.ValueKit
public import Idealize.ShloMosaic.Lib.Pipeline.ReadBack
public import proofs.«01_k».proof.Proof.QkNorm.Pay
public import proofs.«01_k».proof.Proof.QkNorm.Ref

@[expose] public section

set_option maxRecDepth 16384

noncomputable section

namespace Cert.Kernel6Ideal.Qk

open Cert.Kernel6Ideal Cert.Kernel6Ideal.Gen Idealize.ShloMosaic Idealize.ShloMosaic.TcCoe Idealize.SL.Sem Idealize.ShloMosaic.StableHlo
open scoped BigOperators

variable (m : (ℓ : Loc nD τ sig) → Buf (Elt Ideal) ℓ)

theorem idx_val : ∀ t : Fin cfg0.N, win0_0.index t = ![t.val, 0] ∧ win0_1.index t = ![t.val, 1] ∧ win0_2.index t = ![t.val, 0] ∧ win0_3.index t = ![t.val, 0] ∧ win0_4.index t = ![t.val, 0]
    ∧ win0_5.index t = ![0, 0] ∧ win0_6.index t = ![0, 0] ∧ win0_7.index t = ![t.val, 0] ∧ win0_8.index t = ![0, 0] ∧ win0_9.index t = ![0, 0] :=
  (by decide +kernel : ∀ t : Fin grid0.N, _)

/-- A row of a point's block in the whole array. -/
def row (t : Fin cfg0.N) (r : Fin 512) : Fin 8192 := ⟨t.val * 512 + r.val, by
  have := lt_of_lt_of_eq t.isLt N_0
  omega⟩

theorem in0 (c : Dev nD) (t : Fin cfg0.N) (r : Fin 512) (k : Fin 1024) : iblk m c 0 t (ix2 r k) = m ((c : Thread nD τ).loc main_arg0) (ix2 (row t r) ⟨k.val, by omega⟩) := by
  unfold row
  blk_ext [iblk, V, idx_val t]

theorem in1 (c : Dev nD) (t : Fin cfg0.N) (r : Fin 512) (k : Fin 1024) : iblk m c 1 t (ix2 r k) = m ((c : Thread nD τ).loc main_arg0) (ix2 (row t r) ⟨1024 + k.val, by omega⟩) := by
  unfold row
  blk_ext [iblk, V, idx_val t]

theorem in2 (c : Dev nD) (t : Fin cfg0.N) (r : Fin 512) (k : Fin 1024) : iblk m c 2 t (ix2 r k) = m ((c : Thread nD τ).loc main_arg3) (ix2 (row t r) k) := by
  unfold row
  blk_ext [iblk, V, idx_val t]

theorem in3 (c : Dev nD) (t : Fin cfg0.N) (r : Fin 512) (k : Fin 1024) : iblk m c 3 t (ix2 r k) = m ((c : Thread nD τ).loc main_arg4) (ix2 (row t r) k) := by
  unfold row
  blk_ext [iblk, V, idx_val t]

theorem in4 (c : Dev nD) (t : Fin cfg0.N) (r : Fin 512) (k : Fin 1024) : iblk m c 4 t (ix2 r k) = m ((c : Thread nD τ).loc main_arg5) (ix2 (row t r) k) := by
  unfold row
  blk_ext [iblk, V, idx_val t]

theorem in5 (c : Dev nD) (t : Fin cfg0.N) (k : Fin 1024) : iblk m c 5 t (ix2 0 k) = m ((c : Thread nD τ).loc main_arg1) (ix1 ⟨k.val % 64, Nat.mod_lt _ (by norm_num)⟩) := by
  blk_simp [iblk]
  entry_read
  pointwise
  blk_point [iblk, V, idx_val t]

theorem in6 (c : Dev nD) (t : Fin cfg0.N) (k : Fin 1024) : iblk m c 6 t (ix2 0 k) = m ((c : Thread nD τ).loc main_arg2) (ix1 ⟨k.val % 64, Nat.mod_lt _ (by norm_num)⟩) := by
  blk_simp [iblk]
  entry_read
  pointwise
  blk_point [iblk, V, idx_val t]

end Cert.Kernel6Ideal.Qk

end
-- ==== Proof.QkNorm.Scan.lean ====
/-
  The row of the carried sums that a point adds its eight pairs of heads to.
-/
module

public import proofs.«01_k».proof.Proof.QkNorm.Row

@[expose] public section

set_option maxRecDepth 16384

noncomputable section

namespace Cert.Kernel6Ideal.Qk

open Cert.Kernel6Ideal Cert.Kernel6Ideal.Gen Idealize.ShloMosaic Idealize.ShloMosaic.TcCoe Idealize.SL.Sem Idealize.ShloMosaic.StableHlo
open scoped BigOperators

/-- Lane `k` of the pair at columns `128 j`. -/
def at8 (j : Fin 8) (k : Fin 128) : Fin 1024 := ⟨128 * j.val + k.val, by omega⟩

/-- A pair's columns of a block of rows. -/
def cols (x : FVec Ideal S512x1024 .f32) (o : Nat) (h : ∀ a, (![0, o] : Fin 2 → Nat) a + S512x128.size a ≤ S512x1024.size a) : FVec Ideal S512x128 .f32 :=
  View.ld (Val := Elt Ideal) (e' := .f32) x (Rect.unit ![0, o] S512x128.size h)

theorem cols_apply (x : FVec Ideal S512x1024 .f32) (j : Fin 8) (o : Nat) (e : o = 128 * j.val) (h : ∀ a, (![0, o] : Fin 2 → Nat) a + S512x128.size a ≤ S512x1024.size a) (r : Fin 512) (k : Fin 128) :
    cols x o h (ix2 r k) = x (ix2 r (at8 j k)) := by
  subst e
  refine View.ld_unit_apply_of (Val := Elt Ideal) (e := .f32) x _ _ _ _ _ fun a => ?_
  match a with
  | ⟨0, _⟩ => exact (Nat.zero_add _).symm
  | ⟨1, _⟩ => rfl

/-- The eight sums a point makes, one after the other. -/
def scan (x d : FVec Ideal S512x1024 .f32) (s : FVec Ideal S1x128 .f32) : FVec Ideal S1x128 .f32 :=
  k0_pay18 meanMat (cols x 896 inb_S512x1024_S512x128_0_896) (cols d 896 inb_S512x1024_S512x128_0_896) <|
  k0_pay18 meanMat (cols x 768 inb_S512x1024_S512x128_0_768) (cols d 768 inb_S512x1024_S512x128_0_768) <|
  k0_pay18 meanMat (cols x 640 inb_S512x1024_S512x128_0_640) (cols d 640 inb_S512x1024_S512x128_0_640) <|
  k0_pay18 meanMat (cols x 512 inb_S512x1024_S512x128_0_512) (cols d 512 inb_S512x1024_S512x128_0_512) <|
  k0_pay18 meanMat (cols x 384 inb_S512x1024_S512x128_0_384) (cols d 384 inb_S512x1024_S512x128_0_384) <|
  k0_pay18 meanMat (cols x 256 inb_S512x1024_S512x128_0_256) (cols d 256 inb_S512x1024_S512x128_0_256) <|
  k0_pay18 meanMat (cols x 128 inb_S512x1024_S512x128_0_128) (cols d 128 inb_S512x1024_S512x128_0_128) <|
  k0_pay18 meanMat (cols x 0 inb_S512x1024_S512x128_0_0) (cols d 0 inb_S512x1024_S512x128_0_0) s

/-- What the pair at columns `128 j` adds. -/
def pair (x d : FVec Ideal S512x1024 .f32) (k : Fin 128) (j : Fin 8) : EReal :=
  ∑ r : Fin 512, d (ix2 r (at8 j k)) * (x (ix2 r (at8 j k)) * Cert.HeadGrad.inv (fun l => x (ix2 r (at8 j l))) k)

theorem pair_apply (x d : FVec Ideal S512x1024 .f32) (s : FVec Ideal S1x128 .f32) (j : Fin 8) (o : Nat) (e : o = 128 * j.val) (h : ∀ a, (![0, o] : Fin 2 → Nat) a + S512x128.size a ≤ S512x1024.size a) (k : Fin 128) :
    k0_pay18 meanMat (cols x o h) (cols d o h) s (ix2 0 k) = s (ix2 0 k) + pair x d k j := by
  rw [pay18_apply]
  simp only [cols_apply x j o e, cols_apply d j o e]
  rfl

theorem scan_apply (x d : FVec Ideal S512x1024 .f32) (s : FVec Ideal S1x128 .f32) (k : Fin 128) :
    scan x d s (ix2 0 k) = s (ix2 0 k) + ∑ j : Fin 8, pair x d k j := by
  unfold scan
  rw [pair_apply x d _ 7 _ (by decide), pair_apply x d _ 6 _ (by decide), pair_apply x d _ 5 _ (by decide), pair_apply x d _ 4 _ (by decide),
    pair_apply x d _ 3 _ (by decide), pair_apply x d _ 2 _ (by decide), pair_apply x d _ 1 _ (by decide), pair_apply x d _ 0 _ (by decide), Fin.sum_univ_eight]
  simp only [add_assoc]

theorem zero_apply (i : S8x128.Idx) : k0_pay6 (F := Ideal) i = 0 := by
  pointwise [k0_pay6]

/-- A row's place in the array of carried sums. -/
theorem row_idx (i : Fin 8) (h : ∀ a, (![i.val, 0] : Fin 2 → Nat) a + S1x128.size a ≤ S8x128.size a) (k : Fin 128) :
    (ix2 i k : S8x128.Idx) = (Rect.unit (s := S8x128) ![i.val, 0] S1x128.size h).idx (ix2 (0 : Fin 1) k) := by
  refine Cert.Real.ix_2 8 128 _ _ _ ?_ ?_ |>.symm
  · exact (Rect.idx_unit_val (s := S8x128) ![i.val, 0] S1x128.size h (ix2 (0 : Fin 1) k) 0).trans (Nat.add_zero _)
  · exact (Rect.idx_unit_val (s := S8x128) ![i.val, 0] S1x128.size h (ix2 (0 : Fin 1) k) 1).trans (Nat.zero_add _)

theorem row_mem (i : Fin 8) (h : ∀ a, (![i.val, 0] : Fin 2 → Nat) a + S1x128.size a ≤ S8x128.size a) (k : Fin 128) :
    (ix2 i k : S8x128.Idx) ∈ (Rect.unit (s := S8x128) ![i.val, 0] S1x128.size h).set := by
  rw [row_idx i h k]
  exact (Rect.unit (s := S8x128) ![i.val, 0] S1x128.size h).idx_mem _

/-- The row of the carried sums that is written last. -/
theorem last_row {L : List (View.Piece (Elt Ideal) S8x128 .f32)} (i : Fin 8) (h : ∀ a, (![i.val, 0] : Fin 2 → Nat) a + S1x128.size a ≤ S8x128.size a)
    (w : FVec Ideal S1x128 .f32) (k : Fin 128) :
    View.canon (⟨Rect.unit ![i.val, 0] S1x128.size h, w⟩ :: L : List (View.Piece (Elt Ideal) S8x128 .f32)) (ix2 i k) = w (ix2 0 k) := by
  rw [row_idx i h k]
  exact View.canon_cons_emb _ _ _ _

/-- The row of the carried sums that is written before another. -/
theorem other_row {L : List (View.Piece (Elt Ideal) S8x128 .f32)} (i i' : Fin 8) (hi : i ≠ i') (h : ∀ a, (![i'.val, 0] : Fin 2 → Nat) a + S1x128.size a ≤ S8x128.size a)
    (w : FVec Ideal S1x128 .f32) (k : Fin 128) :
    View.canon (⟨Rect.unit ![i'.val, 0] S1x128.size h, w⟩ :: L : List (View.Piece (Elt Ideal) S8x128 .f32)) (ix2 i k) = View.canon L (ix2 i k) := by
  refine View.canon_cons_of_not_mem _ _ fun hm => ?_
  obtain ⟨x, hx⟩ := (Rect.unit (s := S8x128) ![i'.val, 0] S1x128.size h).exists_idx_of_mem hm
  have e := (Rect.idx_unit_val (s := S8x128) ![i'.val, 0] S1x128.size h x 0).symm.trans (congrArg (fun y : S8x128.Idx => (y 0).val) hx)
  have hx0 : (x 0).val < 1 := (x 0).isLt
  have e : i'.val + (x 0).val = i.val := e
  exact hi (Fin.ext (by omega))

theorem ld_row (X : FVec Ideal S8x128 .f32) (i : Fin 8) (h : ∀ a, (![i.val, 0] : Fin 2 → Nat) a + S1x128.size a ≤ S8x128.size a) (k : Fin 128) :
    View.ld (Val := Elt Ideal) (e' := .f32) X (Rect.unit ![i.val, 0] S1x128.size h) (ix2 0 k) = X (ix2 i k) := by
  refine View.ld_unit_apply_of (Val := Elt Ideal) (e := .f32) X _ _ _ _ _ fun a => ?_
  match a with
  | ⟨0, _⟩ => rfl
  | ⟨1, _⟩ => exact (Nat.zero_add _).symm

variable (m : (ℓ : Loc nD τ sig) → Buf (Elt Ideal) ℓ)

theorem rowA0 (c : Dev nD) (t : Fin cfg0.N) (h0 : t.val % 16 = 0) (h1 : ¬ t.val % 16 = 15) (k : Fin 128) :
    (outsAt0 m c t.val t.isLt).2.2.2 (ix2 0 k) = (0 : EReal) + ∑ j : Fin 8, pair (iblk m c 0 t) (iblk m c 2 t) k j := by
  rw [outsAt0_A m c t h0 h1]
  frame_open
  simp (disch := decide) only [↓ View.readCov_skip, ↓ View.readCov_cons_toLoadRect, ↓ View.readCov_fill]
  frame_out
  refine (other_row 0 1 (by decide) _ _ k).trans ((last_row 0 _ _ k).trans ?_)
  refine (?_ : _ = scan (iblk m c 0 t) (iblk m c 2 t) (View.ld (Val := Elt Ideal) (e' := .f32) (k0_pay6 (F := Ideal)) (Rect.unit ![0, 0] S1x128.size inb_S8x128_S1x128_0_0)) (ix2 0 k)).trans ((scan_apply _ _ _ k).trans ?_)
  · simp only [read_unread_whole]
    rfl
  · refine congrArg (· + _) ?_
    exact zero_apply _

theorem rowA1 (c : Dev nD) (t : Fin cfg0.N) (h0 : t.val % 16 = 0) (h1 : ¬ t.val % 16 = 15) (k : Fin 128) :
    (outsAt0 m c t.val t.isLt).2.2.2 (ix2 1 k) = (0 : EReal) + ∑ j : Fin 8, pair (iblk m c 1 t) (iblk m c 3 t) k j := by
  rw [outsAt0_A m c t h0 h1]
  frame_open
  simp (disch := decide) only [↓ View.readCov_skip, ↓ View.readCov_cons_toLoadRect, ↓ View.readCov_fill]
  frame_out
  refine (last_row 1 _ _ k).trans ?_
  refine (?_ : _ = scan (iblk m c 1 t) (iblk m c 3 t) (View.ld (Val := Elt Ideal) (e' := .f32) (k0_pay6 (F := Ideal)) (Rect.unit ![1, 0] S1x128.size inb_S8x128_S1x128_1_0)) (ix2 0 k)).trans ((scan_apply _ _ _ k).trans ?_)
  · simp only [read_unread_whole]
    rfl
  · refine congrArg (· + _) ?_
    exact zero_apply _

theorem rowB0 (c : Dev nD) (t : Fin cfg0.N) (h0 : ¬ t.val % 16 = 0) (h1 : ¬ t.val % 16 = 15) (k : Fin 128) :
    (outsAt0 m c t.val t.isLt).2.2.2 (ix2 0 k) = (outsAt0 m c (t.val - 1) (Nat.lt_of_le_of_lt (Nat.sub_le _ _) t.isLt)).2.2.2 (ix2 0 k) + ∑ j : Fin 8, pair (iblk m c 0 t) (iblk m c 2 t) k j := by
  rw [outsAt0_B m c t h0 h1]
  frame_open
  simp (disch := decide) only [↓ View.readCov_skip, ↓ View.readCov_cons_toLoadRect, ↓ View.readCov_fill]
  frame_out
  refine (View.read_writes_apply_eq_canon _ _ _ _ ?_).trans ?_
  · exact ⟨_, List.mem_cons_of_mem _ List.mem_cons_self, row_mem 0 inb_S8x128_S1x128_0_0 k⟩
  refine (other_row 0 1 (by decide) _ _ k).trans ((last_row 0 _ _ k).trans ?_)
  refine (?_ : _ = scan (iblk m c 0 t) (iblk m c 2 t) (View.ld (Val := Elt Ideal) (e' := .f32) (outsAt0 m c (t.val - 1) (Nat.lt_of_le_of_lt (Nat.sub_le _ _) t.isLt)).2.2.2 (Rect.unit ![0, 0] S1x128.size inb_S8x128_S1x128_0_0)) (ix2 0 k)).trans ((scan_apply _ _ _ k).trans ?_)
  · simp only [read_unread_whole]
    rfl
  · refine congrArg (· + _) ?_
    exact ld_row _ 0 _ k

theorem rowB1 (c : Dev nD) (t : Fin cfg0.N) (h0 : ¬ t.val % 16 = 0) (h1 : ¬ t.val % 16 = 15) (k : Fin 128) :
    (outsAt0 m c t.val t.isLt).2.2.2 (ix2 1 k) = (outsAt0 m c (t.val - 1) (Nat.lt_of_le_of_lt (Nat.sub_le _ _) t.isLt)).2.2.2 (ix2 1 k) + ∑ j : Fin 8, pair (iblk m c 1 t) (iblk m c 3 t) k j := by
  rw [outsAt0_B m c t h0 h1]
  frame_open
  simp (disch := decide) only [↓ View.readCov_skip, ↓ View.readCov_cons_toLoadRect, ↓ View.readCov_fill]
  frame_out
  refine (View.read_writes_apply_eq_canon _ _ _ _ ?_).trans ?_
  · exact ⟨_, List.mem_cons_self, row_mem 1 inb_S8x128_S1x128_1_0 k⟩
  refine (last_row 1 _ _ k).trans ?_
  refine (?_ : _ = scan (iblk m c 1 t) (iblk m c 3 t) (View.ld (Val := Elt Ideal) (e' := .f32) (outsAt0 m c (t.val - 1) (Nat.lt_of_le_of_lt (Nat.sub_le _ _) t.isLt)).2.2.2 (Rect.unit ![1, 0] S1x128.size inb_S8x128_S1x128_1_0)) (ix2 0 k)).trans ((scan_apply _ _ _ k).trans ?_)
  · simp only [read_unread_whole]
    rfl
  · refine congrArg (· + _) ?_
    exact ld_row _ 1 _ k

theorem rowC0 (c : Dev nD) (t : Fin cfg0.N) (h0 : ¬ t.val % 16 = 0) (h1 : t.val % 16 = 15) (k : Fin 128) :
    (outsAt0 m c t.val t.isLt).2.2.2 (ix2 0 k) = (outsAt0 m c (t.val - 1) (Nat.lt_of_le_of_lt (Nat.sub_le _ _) t.isLt)).2.2.2 (ix2 0 k) + ∑ j : Fin 8, pair (iblk m c 0 t) (iblk m c 2 t) k j := by
  rw [outsAt0_C m c t h0 h1]
  frame_open
  simp (disch := decide) only [↓ View.readCov_skip, ↓ View.readCov_cons_toLoadRect, ↓ View.readCov_fill]
  frame_out
  refine (View.read_writes_apply_eq_canon _ _ _ _ ?_).trans ?_
  · exact ⟨_, List.mem_cons_of_mem _ List.mem_cons_self, row_mem 0 inb_S8x128_S1x128_0_0 k⟩
  refine (other_row 0 1 (by decide) _ _ k).trans ((last_row 0 _ _ k).trans ?_)
  refine (?_ : _ = scan (iblk m c 0 t) (iblk m c 2 t) (View.ld (Val := Elt Ideal) (e' := .f32) (outsAt0 m c (t.val - 1) (Nat.lt_of_le_of_lt (Nat.sub_le _ _) t.isLt)).2.2.2 (Rect.unit ![0, 0] S1x128.size inb_S8x128_S1x128_0_0)) (ix2 0 k)).trans ((scan_apply _ _ _ k).trans ?_)
  · simp only [read_unread_whole]
    rfl
  · refine congrArg (· + _) ?_
    exact ld_row _ 0 _ k

theorem rowC1 (c : Dev nD) (t : Fin cfg0.N) (h0 : ¬ t.val % 16 = 0) (h1 : t.val % 16 = 15) (k : Fin 128) :
    (outsAt0 m c t.val t.isLt).2.2.2 (ix2 1 k) = (outsAt0 m c (t.val - 1) (Nat.lt_of_le_of_lt (Nat.sub_le _ _) t.isLt)).2.2.2 (ix2 1 k) + ∑ j : Fin 8, pair (iblk m c 1 t) (iblk m c 3 t) k j := by
  rw [outsAt0_C m c t h0 h1]
  frame_open
  simp (disch := decide) only [↓ View.readCov_skip, ↓ View.readCov_cons_toLoadRect, ↓ View.readCov_fill]
  frame_out
  refine (View.read_writes_apply_eq_canon _ _ _ _ ?_).trans ?_
  · exact ⟨_, List.mem_cons_self, row_mem 1 inb_S8x128_S1x128_1_0 k⟩
  refine (last_row 1 _ _ k).trans ?_
  refine (?_ : _ = scan (iblk m c 1 t) (iblk m c 3 t) (View.ld (Val := Elt Ideal) (e' := .f32) (outsAt0 m c (t.val - 1) (Nat.lt_of_le_of_lt (Nat.sub_le _ _) t.isLt)).2.2.2 (Rect.unit ![1, 0] S1x128.size inb_S8x128_S1x128_1_0)) (ix2 0 k)).trans ((scan_apply _ _ _ k).trans ?_)
  · simp only [read_unread_whole]
    rfl
  · refine congrArg (· + _) ?_
    exact ld_row _ 1 _ k

theorem out8C (c : Dev nD) (t : Fin cfg0.N) (h0 : ¬ t.val % 16 = 0) (h1 : t.val % 16 = 15) :
    (outsAt0 m c t.val t.isLt).2.1 = k0_pay5 (outsAt0 m c t.val t.isLt).2.2.2 := by
  rw [outsAt0_C m c t h0 h1]
  frame_open
  simp (disch := decide) only [↓ View.readCov_skip, ↓ View.readCov_cons_toLoadRect, ↓ View.readCov_fill]
  frame_out

theorem out9C (c : Dev nD) (t : Fin cfg0.N) (h0 : ¬ t.val % 16 = 0) (h1 : t.val % 16 = 15) :
    (outsAt0 m c t.val t.isLt).2.2.1 = k0_pay3 (k0_pay4 (outsAt0 m c t.val t.isLt).2.2.2) := by
  rw [outsAt0_C m c t h0 h1]
  frame_open
  simp (disch := decide) only [↓ View.readCov_skip, ↓ View.readCov_cons_toLoadRect, ↓ View.readCov_fill]
  frame_out

end Cert.Kernel6Ideal.Qk

end
-- ==== Proof.QkNorm.Meet.lean ====
/-
  The kernel's form of each result against the reference's.
-/
module

public import proofs.«01_k».proof.Proof.QkNorm.Scan

@[expose] public section

set_option maxRecDepth 16384

noncomputable section

namespace Cert.Kernel6Ideal.Qk

open Cert.Kernel6Ideal Cert.Kernel6Ideal.Gen Idealize.ShloMosaic Idealize.ShloMosaic.TcCoe Idealize.SL.Sem Idealize.ShloMosaic.StableHlo
open scoped BigOperators
open Cert.Real (IsReal)
open Cert.HeadGrad (kern back own pick ms law inv_eq)
open Cert.Reference6Ideal.Qk (col lane outq outk outv refq refk gainq gaink)
open Cert.Reference6Ideal.Read (val_main_v92 val_main_v87 val_main_v91)

/-- The head and place that a lane of a pair of columns belongs to. -/
theorem col_at (j : Fin 8) (k : Fin 128) (e : Fin 64) (o : Nat) (ho : o ≤ 2048) :
    (⟨o + (at8 j (pick k e)).val, by omega⟩ : Fin 3072) = col o ho ⟨(at8 j k).val / 64, by omega⟩ e := by
  refine Fin.ext ?_
  change o + (128 * j.val + (64 * (k.val / 64) + e.val)) = o + ((128 * j.val + k.val) / 64 * 64 + e.val)
  omega

theorem lane_at (j : Fin 8) (k : Fin 128) (e : Fin 64) : at8 j (pick k e) = lane ⟨(at8 j k).val / 64, by omega⟩ e := by
  refine Fin.ext ?_
  change 128 * j.val + (64 * (k.val / 64) + e.val) = (128 * j.val + k.val) / 64 * 64 + e.val
  omega

theorem gain_at (j : Fin 8) (k : Fin 128) (e : Fin 64) : (⟨(at8 j (pick k e)).val % 64, Nat.mod_lt _ (by norm_num)⟩ : Fin 64) = e := by
  refine Fin.ext ?_
  change (128 * j.val + (64 * (k.val / 64) + e.val)) % 64 = e.val
  omega

theorem own_at (j : Fin 8) (k : Fin 128) : (⟨(at8 j k).val % 64, Nat.mod_lt _ (by norm_num)⟩ : Fin 64) = own k := by
  refine Fin.ext ?_
  change (128 * j.val + k.val) % 64 = k.val % 64
  omega

section
variable (x0 : FVec Ideal S8192x3072 .f32) (x1 x2 : FVec Ideal S64 .f32) (x3 x4 x5 : FVec Ideal S8192x1024 .f32)

/-- A query pair's columns. -/
theorem meetq (R : Fin 8192) (j : Fin 8) (k : Fin 128) :
    kern (fun l => x0 (ix2 R ⟨(at8 j l).val, by omega⟩)) (fun l => x3 (ix2 R (at8 j l)) * x1 (ix1 ⟨(at8 j l).val % 64, Nat.mod_lt _ (by norm_num)⟩)) k
      = val_main_v92 (F := Ideal) x0 x1 x2 x3 x4 x5 (ix2 R ⟨(at8 j k).val, by omega⟩) := by
  rw [outq x0 x1 x2 x3 x4 x5 R (at8 j k), refq, own_at j k]
  refine (law _ _ k).trans ?_
  refine congrArg₂ (fun a b => back a b (own k)) (funext fun e => ?_) (funext fun e => ?_)
  · exact congrArg (fun n => x0 (ix2 R n)) ((Fin.ext (Nat.zero_add _).symm).trans (col_at j k e 0 (by norm_num)))
  · rw [gain_at, lane_at]

/-- A key pair's columns. -/
theorem meetk (R : Fin 8192) (j : Fin 8) (k : Fin 128) :
    kern (fun l => x0 (ix2 R ⟨1024 + (at8 j l).val, by omega⟩)) (fun l => x4 (ix2 R (at8 j l)) * x2 (ix1 ⟨(at8 j l).val % 64, Nat.mod_lt _ (by norm_num)⟩)) k
      = val_main_v92 (F := Ideal) x0 x1 x2 x3 x4 x5 (ix2 R ⟨1024 + (at8 j k).val, by omega⟩) := by
  rw [outk x0 x1 x2 x3 x4 x5 R (at8 j k), refk, own_at j k]
  refine (law _ _ k).trans ?_
  refine congrArg₂ (fun a b => back a b (own k)) (funext fun e => ?_) (funext fun e => ?_)
  · exact congrArg (fun n => x0 (ix2 R n)) (col_at j k e 1024 (by norm_num))
  · rw [gain_at, lane_at]

end

/-- A sum over the lanes of a pair that hold one place of a head, both heads taken. -/
theorem sum_place (f : Fin 128 → EReal) (k : Fin 128) :
    (∑ l : Fin 128, if l.val % 64 = k.val % 64 then f l else 0) = ∑ b : Fin 2, f ⟨64 * b.val + k.val % 64, by omega⟩ := by
  have inj : Function.Injective fun b : Fin 2 => (⟨64 * b.val + k.val % 64, by omega⟩ : Fin 128) := fun a b q => by
    have q : 64 * a.val + k.val % 64 = 64 * b.val + k.val % 64 := congrArg Fin.val q
    exact Fin.ext (by omega)
  rw [← Finset.sum_filter]
  refine Eq.trans ?_ (Finset.sum_map Finset.univ ⟨_, inj⟩ f)
  refine Finset.sum_congr ?_ fun _ _ => rfl
  ext l
  simp only [Finset.mem_filter, Finset.mem_univ, true_and, Finset.mem_map, Function.Embedding.coeFn_mk]
  constructor
  · intro q
    refine ⟨⟨l.val / 64, by omega⟩, Fin.ext ?_⟩
    change 64 * (l.val / 64) + k.val % 64 = l.val
    omega
  · rintro ⟨b, rfl⟩
    change (64 * b.val + k.val % 64) % 64 = k.val % 64
    omega

/-- Heads two by two. -/
theorem sum_heads (f : Fin 16 → EReal) : ∑ h : Fin 16, f h = ∑ j : Fin 8, ∑ b : Fin 2, f ⟨2 * j.val + b.val, by omega⟩ := by
  simp only [Fin.sum_univ_eight, Fin.sum_univ_two]
  rw [show (∑ h : Fin 16, f h) = _ from Fin.sum_univ_castSucc f]
  simp only [Fin.sum_univ_castSucc, Fin.sum_univ_zero, zero_add, add_assoc]
  rfl

end Cert.Kernel6Ideal.Qk

end
-- ==== Proof.QkNorm.Gains.lean ====
/-
  The gains' gradients: the carried sums over a run of points, and the two heads of a pair put together.
-/
module

public import proofs.«01_k».proof.Proof.QkNorm.Meet

@[expose] public section

set_option maxRecDepth 16384

noncomputable section

namespace Cert.Kernel6Ideal.Qk

open Cert.Kernel6Ideal Cert.Kernel6Ideal.Gen Idealize.ShloMosaic Idealize.ShloMosaic.TcCoe Idealize.SL.Sem Idealize.ShloMosaic.StableHlo
open scoped BigOperators
open Cert.Real (IsReal)
open Cert.HeadGrad (kern back own pick ms law inv_eq)
open Cert.Reference6Ideal.Qk (col lane outq outk outv refq refk gainq gaink)
open Cert.Reference6Ideal.Read (val_main_v92 val_main_v87 val_main_v91)

/-- One entry's share of a gain's gradient. -/
def share (o : Nat) (ho : o ≤ 2048) (x : FVec Ideal S8192x3072 .f32) (d : FVec Ideal S8192x1024 .f32) (R : Fin 8192) (h : Fin 16) (e : Fin 64) : EReal :=
  (fun x : Fin 64 → EReal => x e * Ideal.rsqrt (ms x)) (fun e => x (ix2 R (col o ho h e))) * d (ix2 R (lane h e))

/-- The head that a lane of the pair at columns `128 j` belongs to. -/
def head (j : Fin 8) (l : Fin 128) : Fin 16 := ⟨2 * j.val + l.val / 64, by omega⟩

theorem head_at (j : Fin 8) (l : Fin 128) : (⟨(at8 j l).val / 64, by omega⟩ : Fin 16) = head j l := by
  refine Fin.ext ?_
  change (128 * j.val + l.val) / 64 = 2 * j.val + l.val / 64
  omega

theorem share_sum (o : Nat) (ho : o ≤ 2048) (x : FVec Ideal S8192x3072 .f32) (d : FVec Ideal S8192x1024 .f32) (R : Fin 8192) (j : Fin 8) (l : Fin 128) :
    d (ix2 R (at8 j l)) * (x (ix2 R ⟨o + (at8 j l).val, by omega⟩) * Cert.HeadGrad.inv (fun l => x (ix2 R ⟨o + (at8 j l).val, by omega⟩)) l) = share o ho x d R (head j l) (own l) := by
  rw [inv_eq, mul_comm]
  simp only [col_at j l _ o ho]
  have e1 : (⟨o + (at8 j l).val, by omega⟩ : Fin 3072) = col o ho (head j l) (own l) := by
    refine Fin.ext ?_
    change o + (128 * j.val + l.val) = o + ((2 * j.val + l.val / 64) * 64 + l.val % 64)
    omega
  have e2 : at8 j l = lane (head j l) (own l) := by
    refine Fin.ext ?_
    change 128 * j.val + l.val = (2 * j.val + l.val / 64) * 64 + l.val % 64
    omega
  rw [head_at, e1, e2]
  rfl

/-- Both heads of every pair: all sixteen heads. -/
theorem place_sum (f : Fin 8192 → Fin 16 → Fin 64 → EReal) (k : Fin 128) :
    (∑ l : Fin 128, if l.val % 64 = k.val % 64 then ∑ R : Fin 8192, ∑ j : Fin 8, f R (head j l) (own l) else 0) = ∑ R : Fin 8192, ∑ h : Fin 16, f R h (own k) := by
  rw [sum_place (fun l => ∑ R : Fin 8192, ∑ j : Fin 8, f R (head j l) (own l)), Finset.sum_comm]
  refine Finset.sum_congr rfl fun R _ => ?_
  rw [Finset.sum_comm, sum_heads]
  refine Finset.sum_congr rfl fun j _ => Finset.sum_congr rfl fun b _ => ?_
  refine congrArg₂ (f R) (Fin.ext ?_) (Fin.ext ?_)
  · change 2 * j.val + (64 * b.val + k.val % 64) / 64 = 2 * j.val + b.val
    omega
  · change (64 * b.val + k.val % 64) % 64 = k.val % 64
    omega

variable (m : (ℓ : Loc nD τ sig) → Buf (Elt Ideal) ℓ)

theorem step0 (c : Dev nD) (t : Fin cfg0.N) (h0 : ¬ t.val % 16 = 0) (k : Fin 128) :
    (outsAt0 m c t.val t.isLt).2.2.2 (ix2 0 k) = (outsAt0 m c (t.val - 1) (Nat.lt_of_le_of_lt (Nat.sub_le _ _) t.isLt)).2.2.2 (ix2 0 k) + ∑ j : Fin 8, pair (iblk m c 0 t) (iblk m c 2 t) k j := by
  by_cases h1 : t.val % 16 = 15
  · exact rowC0 m c t h0 h1 k
  · exact rowB0 m c t h0 h1 k

theorem step1 (c : Dev nD) (t : Fin cfg0.N) (h0 : ¬ t.val % 16 = 0) (k : Fin 128) :
    (outsAt0 m c t.val t.isLt).2.2.2 (ix2 1 k) = (outsAt0 m c (t.val - 1) (Nat.lt_of_le_of_lt (Nat.sub_le _ _) t.isLt)).2.2.2 (ix2 1 k) + ∑ j : Fin 8, pair (iblk m c 1 t) (iblk m c 3 t) k j := by
  by_cases h1 : t.val % 16 = 15
  · exact rowC1 m c t h0 h1 k
  · exact rowB1 m c t h0 h1 k

theorem run0 (c : Dev nD) (t : Fin cfg0.N) (ht : t.val % 16 = 15) (k : Fin 128) :
    (outsAt0 m c t.val t.isLt).2.2.2 (ix2 0 k) = ∑ R : Fin 8192, ∑ j : Fin 8, share 0 (by norm_num) (m ((c : Thread nD τ).loc main_arg0)) (m ((c : Thread nD τ).loc main_arg3)) R (head j k) (own k) := by
  rw [Pipeline.eq_sum_fin_of_reset_step_apply_of_flush (fun n h (k : Fin 128) => (outsAt0 m c n h).2.2.2 (ix2 0 k)) 16 (fun _ => (0 : EReal)) (fun t k => ∑ j : Fin 8, pair (iblk m c 0 t) (iblk m c 2 t) k j)
    (fun t h j => rowA0 m c t h (by omega) j) (fun t h j => step0 m c t h j) t ht k, zero_add]
  unfold pair
  simp only [Finset.sum_comm (s := (Finset.univ : Finset (Fin 8))) (t := (Finset.univ : Finset (Fin 512)))]
  refine Fin.sum_mul_add_congr fun s r hl => ?_
  have e : row ⟨16 * (t.val / 16) + s.val, Pipeline.run_point_lt_of_flush t ht s⟩ r = ⟨s.val * 512 + r.val, hl⟩ := by
    have := lt_of_lt_of_eq t.isLt N_0
    apply Fin.ext
    change (16 * (t.val / 16) + s.val) * 512 + r.val = s.val * 512 + r.val
    omega
  refine Finset.sum_congr rfl fun j _ => ?_
  simp only [in0, in2, e]
  refine Eq.trans ?_ (share_sum 0 (by norm_num) _ _ ⟨s.val * 512 + r.val, hl⟩ j k)
  simp only [Nat.zero_add]

theorem run1 (c : Dev nD) (t : Fin cfg0.N) (ht : t.val % 16 = 15) (k : Fin 128) :
    (outsAt0 m c t.val t.isLt).2.2.2 (ix2 1 k) = ∑ R : Fin 8192, ∑ j : Fin 8, share 1024 (by norm_num) (m ((c : Thread nD τ).loc main_arg0)) (m ((c : Thread nD τ).loc main_arg4)) R (head j k) (own k) := by
  rw [Pipeline.eq_sum_fin_of_reset_step_apply_of_flush (fun n h (k : Fin 128) => (outsAt0 m c n h).2.2.2 (ix2 1 k)) 16 (fun _ => (0 : EReal)) (fun t k => ∑ j : Fin 8, pair (iblk m c 1 t) (iblk m c 3 t) k j)
    (fun t h j => rowA1 m c t h (by omega) j) (fun t h j => step1 m c t h j) t ht k, zero_add]
  unfold pair
  simp only [Finset.sum_comm (s := (Finset.univ : Finset (Fin 8))) (t := (Finset.univ : Finset (Fin 512)))]
  refine Fin.sum_mul_add_congr fun s r hl => ?_
  have e : row ⟨16 * (t.val / 16) + s.val, Pipeline.run_point_lt_of_flush t ht s⟩ r = ⟨s.val * 512 + r.val, hl⟩ := by
    have := lt_of_lt_of_eq t.isLt N_0
    apply Fin.ext
    change (16 * (t.val / 16) + s.val) * 512 + r.val = s.val * 512 + r.val
    omega
  refine Finset.sum_congr rfl fun j _ => ?_
  simp only [in1, in3, e]
  exact share_sum 1024 (by norm_num) _ _ ⟨s.val * 512 + r.val, hl⟩ j k

theorem final8 (c : Dev nD) : (dats m 0 c).arrAt 8 (cfgs 0).N
    = val_main_v87 (F := Ideal) (m ((c : Thread nD τ).loc main_arg0)) (m ((c : Thread nD τ).loc main_arg3)) := by
  refine (dats m 0 c).arrAt_eq_of_covers 8 _ (by decide +kernel) fun t hf y => ?_
  have ht := (flush0_8 t).mp hf
  blk_simp
  rw [after0_8, out8C m c t (by omega) ht]
  obtain ⟨r, hr⟩ : ∃ r : Fin 8, r = y 0 := ⟨_, rfl⟩
  obtain ⟨k, hk⟩ : ∃ k : Fin 128, k = y 1 := ⟨_, rfl⟩
  refine (congrArg (k0_pay5 (outsAt0 m c t.val t.isLt).2.2.2) (Cert.Real.ix_2 8 128 y r k (by rw [hr]) (by rw [hk]))).trans ?_
  rw [pay5_apply, pay4_apply]
  simp only [run0 m c t ht]
  refine (place_sum _ k).trans ((show _ = val_main_v87 (F := Ideal) (m ((c : Thread nD τ).loc main_arg0)) (m ((c : Thread nD τ).loc main_arg3)) (ix2 r k) from (gainq _ _ r k).symm).trans ?_)
  refine congrArg _ (Cert.Real.ix_2 8 128 _ _ _ ?_ ?_).symm <;> blk_simp [idx_val t, hr, hk] <;> rfl

theorem final9 (c : Dev nD) : (dats m 0 c).arrAt 9 (cfgs 0).N
    = val_main_v91 (F := Ideal) (m ((c : Thread nD τ).loc main_arg0)) (m ((c : Thread nD τ).loc main_arg4)) := by
  refine (dats m 0 c).arrAt_eq_of_covers 9 _ (by decide +kernel) fun t hf y => ?_
  have ht := (flush0_9 t).mp hf
  blk_simp
  rw [after0_9, out9C m c t (by omega) ht]
  obtain ⟨r, hr⟩ : ∃ r : Fin 8, r = y 0 := ⟨_, rfl⟩
  obtain ⟨k, hk⟩ : ∃ k : Fin 128, k = y 1 := ⟨_, rfl⟩
  refine (congrArg (k0_pay3 (k0_pay4 (outsAt0 m c t.val t.isLt).2.2.2)) (Cert.Real.ix_2 8 128 y r k (by rw [hr]) (by rw [hk]))).trans ?_
  rw [pay3_apply, pay4_apply]
  simp only [run1 m c t ht]
  refine (place_sum _ k).trans ((show _ = val_main_v91 (F := Ideal) (m ((c : Thread nD τ).loc main_arg0)) (m ((c : Thread nD τ).loc main_arg4)) (ix2 r k) from (gaink _ _ r k).symm).trans ?_)
  refine congrArg _ (Cert.Real.ix_2 8 128 _ _ _ ?_ ?_).symm <;> blk_simp [idx_val t, hr, hk] <;> rfl

end Cert.Kernel6Ideal.Qk

end
-- ==== Proof.QkNorm.Columns.lean ====
/-
  The first result: the columns a point stores, pair by pair.
-/
module

public import proofs.«01_k».proof.Proof.QkNorm.Meet

@[expose] public section

set_option maxRecDepth 16384

noncomputable section

namespace Cert.Kernel6Ideal.Qk

open Cert.Kernel6Ideal Cert.Kernel6Ideal.Gen Idealize.ShloMosaic Idealize.ShloMosaic.TcCoe Idealize.SL.Sem Idealize.ShloMosaic.StableHlo
open scoped BigOperators
open Cert.Real (IsReal)
open Cert.HeadGrad (kern back own pick ms law inv_eq)
open Cert.Reference6Ideal.Qk (col lane outq outk outv refq refk gainq gaink)
open Cert.Reference6Ideal.Read (val_main_v92 val_main_v87 val_main_v91)

variable (m : (ℓ : Loc nD τ sig) → Buf (Elt Ideal) ℓ)

/-- A pair's columns of the gain. -/
def gains (g : FVec Ideal S1x1024 .f32) (o : Nat) (h : ∀ a, (![0, o] : Fin 2 → Nat) a + S1x128.size a ≤ S1x1024.size a) : FVec Ideal S1x128 .f32 :=
  View.ld (Val := Elt Ideal) (e' := .f32) g (Rect.unit ![0, o] S1x128.size h)

theorem gain_apply (g : FVec Ideal S1x1024 .f32) (j : Fin 8) (o : Nat) (e : o = 128 * j.val) (h : ∀ a, (![0, o] : Fin 2 → Nat) a + S1x128.size a ≤ S1x1024.size a) (k : Fin 128) :
    gains g o h (ix2 0 k) = g (ix2 0 (at8 j k)) := by
  subst e
  refine View.ld_unit_apply_of (Val := Elt Ideal) (e := .f32) g _ _ _ _ _ fun a => ?_
  match a with
  | ⟨0, _⟩ => rfl
  | ⟨1, _⟩ => rfl

/-- The first result's rows that a point writes. -/
def want (c : Dev nD) (t : Fin cfg0.N) (y : S512x3072.Idx) : EReal :=
  val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t (y 0)) (y 1))

section
variable (c : Dev nD) (t : Fin cfg0.N)
  (j : Fin 8) (o : Nat) (e : o = 128 * j.val) (hi : ∀ a, (![0, o] : Fin 2 → Nat) a + S512x128.size a ≤ S512x1024.size a) (hg : ∀ a, (![0, o] : Fin 2 → Nat) a + S1x128.size a ≤ S1x1024.size a)

theorem want_at (o' : Nat) (ho : ∀ a, (![0, o'] : Fin 2 → Nat) a + S512x128.size a ≤ S512x3072.size a) (r : Fin 512) (k : Fin 128) (n : Fin 3072) (hn : n.val = o' + k.val) :
    want m c t ((Rect.unit (s := S512x3072) ![0, o'] S512x128.size ho).emb (ix2 r k))
      = val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t r) n) := by
  unfold want
  refine congrArg₂ (fun a b => val_main_v92 (F := Ideal) _ _ _ _ _ _ (ix2 (row t a) b)) (Fin.ext ?_) (Fin.ext ?_)
  · exact (Rect.idx_unit_val (s := S512x3072) ![0, o'] S512x128.size ho (ix2 r k) 0).trans (Nat.zero_add _)
  · exact (Rect.idx_unit_val (s := S512x3072) ![0, o'] S512x128.size ho (ix2 r k) 1).trans hn.symm

include e

theorem pieceq (ho : ∀ a, (![0, o] : Fin 2 → Nat) a + S512x128.size a ≤ S512x3072.size a) (x : S512x128.Idx) :
    k0_pay19 meanMat (cols (iblk m c 0 t) o hi) (cols (iblk m c 2 t) o hi) (gains (iblk m c 5 t) o hg) x
      = want m c t ((Rect.unit (s := S512x3072) ![0, o] S512x128.size ho).emb x) := by
  obtain ⟨r, k, rfl⟩ : ∃ (r : Fin 512) (k : Fin 128), x = ix2 r k := ⟨x 0, x 1, Cert.Real.ix_2 512 128 x (x 0) (x 1) rfl rfl⟩
  rw [want_at m c t o ho r k ⟨(at8 j k).val, by omega⟩ (by subst e; rfl), pay19_apply]
  simp only [cols_apply _ j o e, gain_apply _ j o e, in0, in2, in5]
  exact meetq _ _ _ _ _ _ (row t r) j k

theorem piecek (o' : Nat) (e' : o' = 1024 + o) (ho : ∀ a, (![0, o'] : Fin 2 → Nat) a + S512x128.size a ≤ S512x3072.size a) (x : S512x128.Idx) :
    k0_pay19 meanMat (cols (iblk m c 1 t) o hi) (cols (iblk m c 3 t) o hi) (gains (iblk m c 6 t) o hg) x
      = want m c t ((Rect.unit (s := S512x3072) ![0, o'] S512x128.size ho).emb x) := by
  obtain ⟨r, k, rfl⟩ : ∃ (r : Fin 512) (k : Fin 128), x = ix2 r k := ⟨x 0, x 1, Cert.Real.ix_2 512 128 x (x 0) (x 1) rfl rfl⟩
  rw [want_at m c t o' ho r k ⟨1024 + (at8 j k).val, by omega⟩ (by subst e' e; exact (Nat.add_assoc _ _ _).symm), pay19_apply]
  simp only [cols_apply _ j o e, gain_apply _ j o e, in1, in3, in6]
  exact meetk _ _ _ _ _ _ (row t r) j k

end

theorem piecev (c : Dev nD) (t : Fin cfg0.N) (ho : ∀ a, (![0, 2048] : Fin 2 → Nat) a + S512x1024.size a ≤ S512x3072.size a) (x : S512x1024.Idx) :
    k0_pay2 (F := Ideal) (iblk m c 4 t) x = want m c t ((Rect.unit (s := S512x3072) ![0, 2048] S512x1024.size ho).emb x) := by
  obtain ⟨r, k, rfl⟩ : ∃ (r : Fin 512) (k : Fin 1024), x = ix2 r k := ⟨x 0, x 1, Cert.Real.ix_2 512 1024 x (x 0) (x 1) rfl rfl⟩
  have q : want m c t ((Rect.unit (s := S512x3072) ![0, 2048] S512x1024.size ho).emb (ix2 r k))
      = val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t r) ⟨2048 + k.val, by omega⟩) := by
    unfold want
    refine congrArg₂ (fun a b => val_main_v92 (F := Ideal) _ _ _ _ _ _ (ix2 (row t a) b)) (Fin.ext ?_) (Fin.ext ?_)
    · exact (Rect.idx_unit_val (s := S512x3072) ![0, 2048] S512x1024.size ho (ix2 r k) 0).trans (Nat.zero_add _)
    · exact Rect.idx_unit_val (s := S512x3072) ![0, 2048] S512x1024.size ho (ix2 r k) 1
  rw [q, outv]
  pointwise [k0_pay2]
  exact in4 m c t r k

theorem out7 (c : Dev nD) (t : Fin cfg0.N) (y : S512x3072.Idx) :
    (outsAt0 m c t.val t.isLt).1 y = want m c t y := by
  have key : ∀ L : List (View.Piece (Elt Ideal) S512x3072 .bf16), View.PiecesOf (Val := Elt Ideal) (e := .bf16) (want m c t) L → (∃ p ∈ L, y ∈ p.1.set) → View.canon L y = want m c t y :=
    fun L hL hc => View.canon_apply_of_pieces (Val := Elt Ideal) (e := .bf16) (want m c t) L hL.mem y hc
  by_cases h0 : t.val % 16 = 0
  · rw [outsAt0_A m c t h0 (by omega)]
    frame_open
    simp (disch := decide) only [↓ View.readCov_skip, ↓ View.readCov_cons_toLoadRect, ↓ View.readCov_fill]
    frame_out
    exact key _ ⟨fun x => piecev m c t inb_S512x3072_S512x1024_0_2048 x, fun x => piecek m c t 7 896 rfl inb_S512x1024_S512x128_0_896 inb_S1x1024_S1x128_0_896 1920 rfl inb_S512x3072_S512x128_0_1920 x, fun x => pieceq m c t 7 896 rfl inb_S512x1024_S512x128_0_896 inb_S1x1024_S1x128_0_896 inb_S512x3072_S512x128_0_896 x, fun x => piecek m c t 6 768 rfl inb_S512x1024_S512x128_0_768 inb_S1x1024_S1x128_0_768 1792 rfl inb_S512x3072_S512x128_0_1792 x, fun x => pieceq m c t 6 768 rfl inb_S512x1024_S512x128_0_768 inb_S1x1024_S1x128_0_768 inb_S512x3072_S512x128_0_768 x, fun x => piecek m c t 5 640 rfl inb_S512x1024_S512x128_0_640 inb_S1x1024_S1x128_0_640 1664 rfl inb_S512x3072_S512x128_0_1664 x, fun x => pieceq m c t 5 640 rfl inb_S512x1024_S512x128_0_640 inb_S1x1024_S1x128_0_640 inb_S512x3072_S512x128_0_640 x, fun x => piecek m c t 4 512 rfl inb_S512x1024_S512x128_0_512 inb_S1x1024_S1x128_0_512 1536 rfl inb_S512x3072_S512x128_0_1536 x, fun x => pieceq m c t 4 512 rfl inb_S512x1024_S512x128_0_512 inb_S1x1024_S1x128_0_512 inb_S512x3072_S512x128_0_512 x, fun x => piecek m c t 3 384 rfl inb_S512x1024_S512x128_0_384 inb_S1x1024_S1x128_0_384 1408 rfl inb_S512x3072_S512x128_0_1408 x, fun x => pieceq m c t 3 384 rfl inb_S512x1024_S512x128_0_384 inb_S1x1024_S1x128_0_384 inb_S512x3072_S512x128_0_384 x, fun x => piecek m c t 2 256 rfl inb_S512x1024_S512x128_0_256 inb_S1x1024_S1x128_0_256 1280 rfl inb_S512x3072_S512x128_0_1280 x, fun x => pieceq m c t 2 256 rfl inb_S512x1024_S512x128_0_256 inb_S1x1024_S1x128_0_256 inb_S512x3072_S512x128_0_256 x, fun x => piecek m c t 1 128 rfl inb_S512x1024_S512x128_0_128 inb_S1x1024_S1x128_0_128 1152 rfl inb_S512x3072_S512x128_0_1152 x, fun x => pieceq m c t 1 128 rfl inb_S512x1024_S512x128_0_128 inb_S1x1024_S1x128_0_128 inb_S512x3072_S512x128_0_128 x, fun x => piecek m c t 0 0 rfl inb_S512x1024_S512x128_0_0 inb_S1x1024_S1x128_0_0 1024 rfl inb_S512x3072_S512x128_0_1024 x, fun x => pieceq m c t 0 0 rfl inb_S512x1024_S512x128_0_0 inb_S1x1024_S1x128_0_0 inb_S512x3072_S512x128_0_0 x, trivial⟩ (View.cover_of_tiledBy (s := S512x3072) _ ![512, 128] (by sl_kernel_rfl) y)
  · by_cases h1 : t.val % 16 = 15
    · rw [outsAt0_C m c t h0 h1]
      frame_open
      simp (disch := decide) only [↓ View.readCov_skip, ↓ View.readCov_cons_toLoadRect, ↓ View.readCov_fill]
      frame_out
      exact key _ ⟨fun x => piecev m c t inb_S512x3072_S512x1024_0_2048 x, fun x => piecek m c t 7 896 rfl inb_S512x1024_S512x128_0_896 inb_S1x1024_S1x128_0_896 1920 rfl inb_S512x3072_S512x128_0_1920 x, fun x => pieceq m c t 7 896 rfl inb_S512x1024_S512x128_0_896 inb_S1x1024_S1x128_0_896 inb_S512x3072_S512x128_0_896 x, fun x => piecek m c t 6 768 rfl inb_S512x1024_S512x128_0_768 inb_S1x1024_S1x128_0_768 1792 rfl inb_S512x3072_S512x128_0_1792 x, fun x => pieceq m c t 6 768 rfl inb_S512x1024_S512x128_0_768 inb_S1x1024_S1x128_0_768 inb_S512x3072_S512x128_0_768 x, fun x => piecek m c t 5 640 rfl inb_S512x1024_S512x128_0_640 inb_S1x1024_S1x128_0_640 1664 rfl inb_S512x3072_S512x128_0_1664 x, fun x => pieceq m c t 5 640 rfl inb_S512x1024_S512x128_0_640 inb_S1x1024_S1x128_0_640 inb_S512x3072_S512x128_0_640 x, fun x => piecek m c t 4 512 rfl inb_S512x1024_S512x128_0_512 inb_S1x1024_S1x128_0_512 1536 rfl inb_S512x3072_S512x128_0_1536 x, fun x => pieceq m c t 4 512 rfl inb_S512x1024_S512x128_0_512 inb_S1x1024_S1x128_0_512 inb_S512x3072_S512x128_0_512 x, fun x => piecek m c t 3 384 rfl inb_S512x1024_S512x128_0_384 inb_S1x1024_S1x128_0_384 1408 rfl inb_S512x3072_S512x128_0_1408 x, fun x => pieceq m c t 3 384 rfl inb_S512x1024_S512x128_0_384 inb_S1x1024_S1x128_0_384 inb_S512x3072_S512x128_0_384 x, fun x => piecek m c t 2 256 rfl inb_S512x1024_S512x128_0_256 inb_S1x1024_S1x128_0_256 1280 rfl inb_S512x3072_S512x128_0_1280 x, fun x => pieceq m c t 2 256 rfl inb_S512x1024_S512x128_0_256 inb_S1x1024_S1x128_0_256 inb_S512x3072_S512x128_0_256 x, fun x => piecek m c t 1 128 rfl inb_S512x1024_S512x128_0_128 inb_S1x1024_S1x128_0_128 1152 rfl inb_S512x3072_S512x128_0_1152 x, fun x => pieceq m c t 1 128 rfl inb_S512x1024_S512x128_0_128 inb_S1x1024_S1x128_0_128 inb_S512x3072_S512x128_0_128 x, fun x => piecek m c t 0 0 rfl inb_S512x1024_S512x128_0_0 inb_S1x1024_S1x128_0_0 1024 rfl inb_S512x3072_S512x128_0_1024 x, fun x => pieceq m c t 0 0 rfl inb_S512x1024_S512x128_0_0 inb_S1x1024_S1x128_0_0 inb_S512x3072_S512x128_0_0 x, trivial⟩ (View.cover_of_tiledBy (s := S512x3072) _ ![512, 128] (by sl_kernel_rfl) y)
    · rw [outsAt0_B m c t h0 h1]
      frame_open
      simp (disch := decide) only [↓ View.readCov_skip, ↓ View.readCov_cons_toLoadRect, ↓ View.readCov_fill]
      frame_out
      exact key _ ⟨fun x => piecev m c t inb_S512x3072_S512x1024_0_2048 x, fun x => piecek m c t 7 896 rfl inb_S512x1024_S512x128_0_896 inb_S1x1024_S1x128_0_896 1920 rfl inb_S512x3072_S512x128_0_1920 x, fun x => pieceq m c t 7 896 rfl inb_S512x1024_S512x128_0_896 inb_S1x1024_S1x128_0_896 inb_S512x3072_S512x128_0_896 x, fun x => piecek m c t 6 768 rfl inb_S512x1024_S512x128_0_768 inb_S1x1024_S1x128_0_768 1792 rfl inb_S512x3072_S512x128_0_1792 x, fun x => pieceq m c t 6 768 rfl inb_S512x1024_S512x128_0_768 inb_S1x1024_S1x128_0_768 inb_S512x3072_S512x128_0_768 x, fun x => piecek m c t 5 640 rfl inb_S512x1024_S512x128_0_640 inb_S1x1024_S1x128_0_640 1664 rfl inb_S512x3072_S512x128_0_1664 x, fun x => pieceq m c t 5 640 rfl inb_S512x1024_S512x128_0_640 inb_S1x1024_S1x128_0_640 inb_S512x3072_S512x128_0_640 x, fun x => piecek m c t 4 512 rfl inb_S512x1024_S512x128_0_512 inb_S1x1024_S1x128_0_512 1536 rfl inb_S512x3072_S512x128_0_1536 x, fun x => pieceq m c t 4 512 rfl inb_S512x1024_S512x128_0_512 inb_S1x1024_S1x128_0_512 inb_S512x3072_S512x128_0_512 x, fun x => piecek m c t 3 384 rfl inb_S512x1024_S512x128_0_384 inb_S1x1024_S1x128_0_384 1408 rfl inb_S512x3072_S512x128_0_1408 x, fun x => pieceq m c t 3 384 rfl inb_S512x1024_S512x128_0_384 inb_S1x1024_S1x128_0_384 inb_S512x3072_S512x128_0_384 x, fun x => piecek m c t 2 256 rfl inb_S512x1024_S512x128_0_256 inb_S1x1024_S1x128_0_256 1280 rfl inb_S512x3072_S512x128_0_1280 x, fun x => pieceq m c t 2 256 rfl inb_S512x1024_S512x128_0_256 inb_S1x1024_S1x128_0_256 inb_S512x3072_S512x128_0_256 x, fun x => piecek m c t 1 128 rfl inb_S512x1024_S512x128_0_128 inb_S1x1024_S1x128_0_128 1152 rfl inb_S512x3072_S512x128_0_1152 x, fun x => pieceq m c t 1 128 rfl inb_S512x1024_S512x128_0_128 inb_S1x1024_S1x128_0_128 inb_S512x3072_S512x128_0_128 x, fun x => piecek m c t 0 0 rfl inb_S512x1024_S512x128_0_0 inb_S1x1024_S1x128_0_0 1024 rfl inb_S512x3072_S512x128_0_1024 x, fun x => pieceq m c t 0 0 rfl inb_S512x1024_S512x128_0_0 inb_S1x1024_S1x128_0_0 inb_S512x3072_S512x128_0_0 x, trivial⟩ (View.cover_of_tiledBy (s := S512x3072) _ ![512, 128] (by sl_kernel_rfl) y)

theorem final7 (c : Dev nD) : (dats m 0 c).arrAt 7 (cfgs 0).N
    = val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  refine (out7 m c t y).trans ?_
  unfold want
  refine congrArg _ (Cert.Real.ix_2 8192 3072 _ _ _ ?_ ?_).symm <;> blk_simp [idx_val t] <;> rfl

end Cert.Kernel6Ideal.Qk

end
-- ==== Proof.QkNormFwd.Row.lean ====
/-
  The norms of the queries and keys: what a point stores, against the reference at an index.
-/
module

public import proofs.«01_k».proof.Proof.Gen.Kernel12Ideal.Value
public import proofs.«01_k».proof.Proof.Gen.Reference12Ideal.Read
public import Idealize.ShloMosaic.Lib.Pipeline.ValueKit
public import proofs.«01_k».proof.Proof.QkNorm.Meet

@[expose] public section

set_option maxRecDepth 16384

noncomputable section

namespace Cert.Reference12Ideal.Qk

open Cert.Reference12Ideal Cert.Reference12Ideal.Read Idealize.ShloMosaic
open Cert.HeadGrad (ms)
open Cert.Reference6Ideal.Qk (col)

theorem qhead (x0 : FVec Ideal S8192x3072 .f32) (R : Fin 8192) (h : Fin 16) (e : Fin 64) :
    val_main_v3 (F := Ideal) x0 (ix3 R h e) = x0 (ix2 R (col 0 (by norm_num) h e)) := by
  unfold col
  pointwise [val_main_v3, val_main_v0]

theorem khead (x0 : FVec Ideal S8192x3072 .f32) (R : Fin 8192) (h : Fin 16) (e : Fin 64) :
    val_main_v17 (F := Ideal) x0 (ix3 R h e) = x0 (ix2 R (col 1024 (by norm_num) h e)) := by
  unfold col
  pointwise [val_main_v17, val_main_v1]

/-- An entry of a head, normed. -/
def normed (x : Fin 64 → EReal) (e : Fin 64) : EReal := x e * Ideal.rsqrt (ms x)

theorem refq (x0 : FVec Ideal S8192x3072 .f32) (x1 : FVec Ideal S64 .f32) (R : Fin 8192) (h : Fin 16) (e : Fin 64) :
    val_main_v16 (F := Ideal) x0 x1 (ix3 R h e) = normed (fun e => x0 (ix2 R (col 0 (by norm_num) h e))) e * x1 (ix1 e) := by
  simp only [normed, ms, ← qhead]
  pointwise [val_main_v16, val_main_v15, val_main_v14, val_main_v13, val_main_v12, val_main_v11, val_main_v10, val_main_v9, val_main_cst_1, val_main_v8, val_main_v7, val_main_cst_0, val_main_v6, val_main_v5, val_main_cst, val_main_v4]

theorem refk (x0 : FVec Ideal S8192x3072 .f32) (x2 : FVec Ideal S64 .f32) (R : Fin 8192) (h : Fin 16) (e : Fin 64) :
    val_main_v30 (F := Ideal) x0 x2 (ix3 R h e) = normed (fun e => x0 (ix2 R (col 1024 (by norm_num) h e))) e * x2 (ix1 e) := by
  simp only [normed, ms, ← khead]
  pointwise [val_main_v30, val_main_v29, val_main_v28, val_main_v27, val_main_v26, val_main_v25, val_main_v24, val_main_v23, val_main_cst_4, val_main_v22, val_main_v21, val_main_cst_3, val_main_v20, val_main_v19, val_main_cst_2, val_main_v18]

theorem outq (x0 : FVec Ideal S8192x3072 .f32) (x1 : FVec Ideal S64 .f32) (R : Fin 8192) (n : Fin 1024) :
    val_main_v35 (F := Ideal) x0 x1 (ix2 R n) = val_main_v16 (F := Ideal) x0 x1 (ix3 R ⟨n.val / 64, by omega⟩ ⟨n.val % 64, Nat.mod_lt _ (by norm_num)⟩) * Ideal.ofBits .f32 0x3E000000#32 := by
  pointwise [val_main_v35, val_main_v34, val_main_v33, val_main_cst_5, val_main_v31]

theorem outk (x0 : FVec Ideal S8192x3072 .f32) (x2 : FVec Ideal S64 .f32) (R : Fin 8192) (n : Fin 1024) :
    val_main_v36 (F := Ideal) x0 x2 (ix2 R n) = val_main_v30 (F := Ideal) x0 x2 (ix3 R ⟨n.val / 64, by omega⟩ ⟨n.val % 64, Nat.mod_lt _ (by norm_num)⟩) := by
  pointwise [val_main_v36, val_main_v32]

theorem outv (x0 : FVec Ideal S8192x3072 .f32) (R : Fin 8192) (n : Fin 1024) :
    val_main_v37 (F := Ideal) x0 (ix2 R n) = x0 (ix2 R ⟨2048 + n.val, by omega⟩) := by
  pointwise [val_main_v37, val_main_v2]

end Cert.Reference12Ideal.Qk

namespace Cert.Kernel12Ideal.Qk

open Cert.Kernel12Ideal Cert.Kernel12Ideal.Gen Idealize.ShloMosaic Idealize.ShloMosaic.TcCoe
open Cert.HeadGrad (mean)
open Cert.Kernel6Ideal.Qk (headWord headWord_eq same_word)
open scoped BigOperators

/-- The matrix of means as the body builds it. -/
def meanMat : FVec Ideal S128x128 .f32 := k0_pay8 (F := Ideal) k0_pay4 k0_pay5 k0_pay6 k0_pay7

theorem meanMat_apply (l k : Fin 128) : meanMat (ix2 l k) = mean l k := by
  unfold meanMat mean
  pointwise [k0_pay8, k0_pay4, k0_pay5, k0_pay6, k0_pay7]
  change Scalar.select (IntOp.cmpi .eq (headWord (BitVec.ofNat 32 l.val)) (headWord (BitVec.ofNat 32 k.val))) _ _ = _
  rw [headWord_eq, headWord_eq, same_word _ _ (by omega) (by omega)]

theorem pay11_apply (x : Vec Ideal S512x128 .f32) (g : Vec Ideal S1x128 .f32) (r : Fin 512) (k : Fin 128) :
    k0_pay11 meanMat x g (ix2 r k) = x (ix2 r k) * Cert.HeadGrad.inv (fun l => x (ix2 r l)) k * g (ix2 0 k) * Ideal.ofBits .f32 0x3E000000#32 := by
  simp only [Cert.HeadGrad.inv]
  pointwise [k0_pay11]
  simp only [meanMat_apply]

theorem pay12_apply (x : Vec Ideal S512x128 .f32) (g : Vec Ideal S1x128 .f32) (r : Fin 512) (k : Fin 128) :
    k0_pay12 meanMat x g (ix2 r k) = x (ix2 r k) * Cert.HeadGrad.inv (fun l => x (ix2 r l)) k * g (ix2 0 k) := by
  simp only [Cert.HeadGrad.inv]
  pointwise [k0_pay12]
  simp only [meanMat_apply]

end Cert.Kernel12Ideal.Qk

end
-- ==== Proof.QkNormFwd.Columns.lean ====
/-
  The norms of the queries and keys: the three results, block by block.
-/
module

public import proofs.«01_k».proof.Proof.QkNormFwd.Row

@[expose] public section

set_option maxRecDepth 16384

noncomputable section

namespace Cert.Kernel12Ideal.Qk

open Cert.Kernel12Ideal Cert.Kernel12Ideal.Gen Idealize.ShloMosaic Idealize.ShloMosaic.TcCoe Idealize.SL.Sem Idealize.ShloMosaic.StableHlo
open Cert.HeadGrad (own pick)
open Cert.Kernel6Ideal.Qk (at8 col_at own_at)
open Cert.Reference6Ideal.Qk (col)
open Cert.Reference12Ideal.Qk (refq refk outq outk outv normed)
open Cert.Reference12Ideal.Read (val_main_v35 val_main_v36 val_main_v37)
open scoped BigOperators

variable (m : (ℓ : Loc nD τ sig) → Buf (Elt Ideal) ℓ)

theorem idx_val : ∀ t : Fin cfg0.N, win0_0.index t = ![t.val, 0] ∧ win0_1.index t = ![t.val, 1] ∧ win0_2.index t = ![t.val, 2] ∧ win0_3.index t = ![0, 0] ∧ win0_4.index t = ![0, 0]
    ∧ win0_5.index t = ![t.val, 0] ∧ win0_6.index t = ![t.val, 0] ∧ win0_7.index t = ![t.val, 0] :=
  (by decide +kernel : ∀ t : Fin grid0.N, _)

/-- A row of a point's block in the whole array. -/
def row (t : Fin cfg0.N) (r : Fin 512) : Fin 8192 := ⟨t.val * 512 + r.val, by
  have := lt_of_lt_of_eq t.isLt N_0
  omega⟩

theorem in0 (c : Dev nD) (t : Fin cfg0.N) (r : Fin 512) (k : Fin 1024) : iblk m c 0 t (ix2 r k) = m ((c : Thread nD τ).loc main_arg0) (ix2 (row t r) ⟨0 + k.val, by omega⟩) := by
  unfold row
  blk_ext [iblk, V, idx_val t]

theorem in1 (c : Dev nD) (t : Fin cfg0.N) (r : Fin 512) (k : Fin 1024) : iblk m c 1 t (ix2 r k) = m ((c : Thread nD τ).loc main_arg0) (ix2 (row t r) ⟨1024 + k.val, by omega⟩) := by
  unfold row
  blk_ext [iblk, V, idx_val t]

theorem in2 (c : Dev nD) (t : Fin cfg0.N) (r : Fin 512) (k : Fin 1024) : iblk m c 2 t (ix2 r k) = m ((c : Thread nD τ).loc main_arg0) (ix2 (row t r) ⟨2048 + k.val, by omega⟩) := by
  unfold row
  blk_ext [iblk, V, idx_val t]

theorem in3 (c : Dev nD) (t : Fin cfg0.N) (k : Fin 1024) : iblk m c 3 t (ix2 0 k) = m ((c : Thread nD τ).loc main_arg1) (ix1 ⟨k.val % 64, Nat.mod_lt _ (by norm_num)⟩) := by
  blk_simp [iblk]
  entry_read
  pointwise
  blk_point [iblk, V, idx_val t]

theorem in4 (c : Dev nD) (t : Fin cfg0.N) (k : Fin 1024) : iblk m c 4 t (ix2 0 k) = m ((c : Thread nD τ).loc main_arg2) (ix1 ⟨k.val % 64, Nat.mod_lt _ (by norm_num)⟩) := by
  blk_simp [iblk]
  entry_read
  pointwise
  blk_point [iblk, V, idx_val t]

/-- A pair's columns of a block of rows. -/
def cols (x : FVec Ideal S512x1024 .f32) (o : Nat) (h : ∀ a, (![0, o] : Fin 2 → Nat) a + S512x128.size a ≤ S512x1024.size a) : FVec Ideal S512x128 .f32 :=
  View.ld (Val := Elt Ideal) (e' := .f32) x (Rect.unit ![0, o] S512x128.size h)

theorem cols_apply (x : FVec Ideal S512x1024 .f32) (j : Fin 8) (o : Nat) (e : o = 128 * j.val) (h : ∀ a, (![0, o] : Fin 2 → Nat) a + S512x128.size a ≤ S512x1024.size a) (r : Fin 512) (k : Fin 128) :
    cols x o h (ix2 r k) = x (ix2 r (at8 j k)) := by
  subst e
  refine View.ld_unit_apply_of (Val := Elt Ideal) (e := .f32) x _ _ _ _ _ fun a => ?_
  match a with
  | ⟨0, _⟩ => exact (Nat.zero_add _).symm
  | ⟨1, _⟩ => rfl

/-- A pair's columns of the gain. -/
def gains (g : FVec Ideal S1x1024 .f32) (o : Nat) (h : ∀ a, (![0, o] : Fin 2 → Nat) a + S1x128.size a ≤ S1x1024.size a) : FVec Ideal S1x128 .f32 :=
  View.ld (Val := Elt Ideal) (e' := .f32) g (Rect.unit ![0, o] S1x128.size h)

theorem gain_apply (g : FVec Ideal S1x1024 .f32) (j : Fin 8) (o : Nat) (e : o = 128 * j.val) (h : ∀ a, (![0, o] : Fin 2 → Nat) a + S1x128.size a ≤ S1x1024.size a) (k : Fin 128) :
    gains g o h (ix2 0 k) = g (ix2 0 (at8 j k)) := by
  subst e
  refine View.ld_unit_apply_of (Val := Elt Ideal) (e := .f32) g _ _ _ _ _ fun a => ?_
  match a with
  | ⟨0, _⟩ => rfl
  | ⟨1, _⟩ => rfl

/-- A lane of a pair, normed by the kernel's matrix and by its head. -/
theorem lane_normed (x0 : FVec Ideal S8192x3072 .f32) (o : Nat) (ho : o ≤ 2048) (R : Fin 8192) (j : Fin 8) (k : Fin 128) :
    x0 (ix2 R ⟨o + (at8 j k).val, by omega⟩) * Cert.HeadGrad.inv (fun l => x0 (ix2 R ⟨o + (at8 j l).val, by omega⟩)) k
      = normed (fun e => x0 (ix2 R (col o ho ⟨(at8 j k).val / 64, by omega⟩ e))) (own k) := by
  have e1 : (⟨o + (at8 j k).val, by omega⟩ : Fin 3072) = col o ho ⟨(at8 j k).val / 64, by omega⟩ (own k) := by
    rw [← col_at j k (own k) o ho]
    exact Fin.ext (congrArg (fun l => o + (at8 j l).val) (Cert.HeadGrad.pick_own k).symm)
  rw [Cert.HeadGrad.inv_eq, e1]
  simp only [col_at j k _ o ho]
  rfl

/-- A block of a result of one column per lane, at a pair's entry. -/
theorem emb_at (o : Nat) (ho : ∀ a, (![0, o] : Fin 2 → Nat) a + S512x128.size a ≤ S512x1024.size a) (r : Fin 512) (k : Fin 128) (n : Fin 1024) (hn : n.val = o + k.val) :
    ((Rect.unit (s := S512x1024) ![0, o] S512x128.size ho).emb (ix2 r k) : S512x1024.Idx) = ix2 r n := by
  refine Cert.Real.ix_2 512 1024 _ _ _ ?_ ?_
  · exact (Rect.idx_unit_val (s := S512x1024) ![0, o] S512x128.size ho (ix2 r k) 0).trans (Nat.zero_add _)
  · exact (Rect.idx_unit_val (s := S512x1024) ![0, o] S512x128.size ho (ix2 r k) 1).trans hn.symm

/-- The queries' rows that a point writes. -/
def wantq (c : Dev nD) (t : Fin cfg0.N) (y : S512x1024.Idx) : EReal :=
  val_main_v35 (F := Ideal) (m ((c : Thread nD τ).loc main_arg0)) (m ((c : Thread nD τ).loc main_arg1)) (ix2 (row t (y 0)) (y 1))

/-- The keys' rows that a point writes. -/
def wantk (c : Dev nD) (t : Fin cfg0.N) (y : S512x1024.Idx) : EReal :=
  val_main_v36 (F := Ideal) (m ((c : Thread nD τ).loc main_arg0)) (m ((c : Thread nD τ).loc main_arg2)) (ix2 (row t (y 0)) (y 1))

section
variable (c : Dev nD) (t : Fin cfg0.N) (j : Fin 8) (o : Nat) (e : o = 128 * j.val)
  (hi : ∀ a, (![0, o] : Fin 2 → Nat) a + S512x128.size a ≤ S512x1024.size a) (hg : ∀ a, (![0, o] : Fin 2 → Nat) a + S1x128.size a ≤ S1x1024.size a)

include e

theorem pieceq (x : S512x128.Idx) :
    k0_pay11 meanMat (cols (iblk m c 0 t) o hi) (gains (iblk m c 3 t) o hg) x = wantq m c t ((Rect.unit (s := S512x1024) ![0, o] S512x128.size hi).emb x) := by
  obtain ⟨r, k, rfl⟩ : ∃ (r : Fin 512) (k : Fin 128), x = ix2 r k := ⟨x 0, x 1, Cert.Real.ix_2 512 128 x (x 0) (x 1) rfl rfl⟩
  rw [emb_at o hi r k (at8 j k) (by subst e; rfl), pay11_apply]
  simp only [cols_apply _ j o e, gain_apply _ j o e, in0, in3]
  refine Eq.trans ?_ (outq _ _ (row t r) (at8 j k)).symm
  rw [refq, lane_normed _ 0 (by norm_num) (row t r) j k, own_at j k]

theorem piecek (x : S512x128.Idx) :
    k0_pay12 meanMat (cols (iblk m c 1 t) o hi) (gains (iblk m c 4 t) o hg) x = wantk m c t ((Rect.unit (s := S512x1024) ![0, o] S512x128.size hi).emb x) := by
  obtain ⟨r, k, rfl⟩ : ∃ (r : Fin 512) (k : Fin 128), x = ix2 r k := ⟨x 0, x 1, Cert.Real.ix_2 512 128 x (x 0) (x 1) rfl rfl⟩
  rw [emb_at o hi r k (at8 j k) (by subst e; rfl), pay12_apply]
  simp only [cols_apply _ j o e, gain_apply _ j o e, in1, in4]
  refine Eq.trans ?_ (outk _ _ (row t r) (at8 j k)).symm
  rw [refk, lane_normed _ 1024 (by norm_num) (row t r) j k, own_at j k]

end

theorem out5 (c : Dev nD) (t : Fin cfg0.N) (y : S512x1024.Idx) :
    out0_5 (iblk m c 0 t) (iblk m c 1 t) (iblk m c 2 t) (iblk m c 3 t) (iblk m c 4 t) y = wantq m c t y := by
  have key : ∀ L : List (View.Piece (Elt Ideal) S512x1024 .bf16), View.PiecesOf (Val := Elt Ideal) (e := .bf16) (wantq m c t) L → (∃ p ∈ L, y ∈ p.1.set) → View.canon L y = wantq m c t y :=
    fun L hL hc => View.canon_apply_of_pieces (Val := Elt Ideal) (e := .bf16) (wantq m c t) L hL.mem y hc
  exact key _ ⟨fun x => pieceq m c t 7 896 rfl inb_S512x1024_S512x128_0_896 inb_S1x1024_S1x128_0_896 x,
    fun x => pieceq m c t 6 768 rfl inb_S512x1024_S512x128_0_768 inb_S1x1024_S1x128_0_768 x,
    fun x => pieceq m c t 5 640 rfl inb_S512x1024_S512x128_0_640 inb_S1x1024_S1x128_0_640 x,
    fun x => pieceq m c t 4 512 rfl inb_S512x1024_S512x128_0_512 inb_S1x1024_S1x128_0_512 x,
    fun x => pieceq m c t 3 384 rfl inb_S512x1024_S512x128_0_384 inb_S1x1024_S1x128_0_384 x,
    fun x => pieceq m c t 2 256 rfl inb_S512x1024_S512x128_0_256 inb_S1x1024_S1x128_0_256 x,
    fun x => pieceq m c t 1 128 rfl inb_S512x1024_S512x128_0_128 inb_S1x1024_S1x128_0_128 x,
    fun x => pieceq m c t 0 0 rfl inb_S512x1024_S512x128_0_0 inb_S1x1024_S1x128_0_0 x, trivial⟩ (cover0_5 _ _ _ _ _ _ _ _ y)

theorem out6 (c : Dev nD) (t : Fin cfg0.N) (y : S512x1024.Idx) :
    out0_6 (iblk m c 0 t) (iblk m c 1 t) (iblk m c 2 t) (iblk m c 3 t) (iblk m c 4 t) y = wantk m c t y := by
  have key : ∀ L : List (View.Piece (Elt Ideal) S512x1024 .bf16), View.PiecesOf (Val := Elt Ideal) (e := .bf16) (wantk m c t) L → (∃ p ∈ L, y ∈ p.1.set) → View.canon L y = wantk m c t y :=
    fun L hL hc => View.canon_apply_of_pieces (Val := Elt Ideal) (e := .bf16) (wantk m c t) L hL.mem y hc
  exact key _ ⟨fun x => piecek m c t 7 896 rfl inb_S512x1024_S512x128_0_896 inb_S1x1024_S1x128_0_896 x,
    fun x => piecek m c t 6 768 rfl inb_S512x1024_S512x128_0_768 inb_S1x1024_S1x128_0_768 x,
    fun x => piecek m c t 5 640 rfl inb_S512x1024_S512x128_0_640 inb_S1x1024_S1x128_0_640 x,
    fun x => piecek m c t 4 512 rfl inb_S512x1024_S512x128_0_512 inb_S1x1024_S1x128_0_512 x,
    fun x => piecek m c t 3 384 rfl inb_S512x1024_S512x128_0_384 inb_S1x1024_S1x128_0_384 x,
    fun x => piecek m c t 2 256 rfl inb_S512x1024_S512x128_0_256 inb_S1x1024_S1x128_0_256 x,
    fun x => piecek m c t 1 128 rfl inb_S512x1024_S512x128_0_128 inb_S1x1024_S1x128_0_128 x,
    fun x => piecek m c t 0 0 rfl inb_S512x1024_S512x128_0_0 inb_S1x1024_S1x128_0_0 x, trivial⟩ (cover0_6 _ _ _ _ _ _ _ _ y)

theorem final5 (c : Dev nD) : (dats m 0 c).arrAt 5 (cfgs 0).N = val_main_v35 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  refine (out5 m c t y).trans ?_
  unfold wantq
  refine congrArg _ (Cert.Real.ix_2 8192 1024 _ _ _ ?_ ?_).symm <;> blk_simp [idx_val t] <;> rfl

theorem final6 (c : Dev nD) : (dats m 0 c).arrAt 6 (cfgs 0).N = val_main_v36 (F := Ideal) (m ((c : Thread nD τ).loc main_arg0)) (m ((c : Thread nD τ).loc main_arg2)) := by
  refine (dats m 0 c).arrAt_eq_of_covers 6 _ (by decide +kernel) fun t hf y => ?_
  blk_simp
  rw [after0_6]
  refine (out6 m c t y).trans ?_
  unfold wantk
  refine congrArg _ (Cert.Real.ix_2 8192 1024 _ _ _ ?_ ?_).symm <;> blk_simp [idx_val t] <;> rfl

theorem pay3_apply (x : FVec Ideal S512x1024 .f32) (y : S512x1024.Idx) : k0_pay3 (F := Ideal) x y = x y := by
  pointwise [k0_pay3]

theorem final7 (c : Dev nD) : (dats m 0 c).arrAt 7 (cfgs 0).N = val_main_v37 (F := Ideal) (m ((c : Thread nD τ).loc main_arg0)) := by
  refine (dats m 0 c).arrAt_eq_of_covers 7 _ (by decide +kernel) fun t hf y => ?_
  obtain ⟨r, k, rfl⟩ : ∃ (r : Fin 512) (k : Fin 1024), y = ix2 r k := ⟨y 0, y 1, Cert.Real.ix_2 512 1024 y (y 0) (y 1) rfl rfl⟩
  blk_simp
  rw [after0_7]; frame_out
  refine Eq.trans ?_ ((outv _ (row t r) k).symm.trans (congrArg _ (Cert.Real.ix_2 8192 1024 _ _ _ ?_ ?_).symm))
  · exact (pay3_apply _ _).trans (in2 m c t r k)
  all_goals blk_simp [idx_val t]
  all_goals rfl

end Cert.Kernel12Ideal.Qk

end
-- ==== Proof.PleFwd.lean ====
/-
  The gate beside the embedding's projection: the block's output and what it keeps.
-/
module

public import proofs.«01_k».proof.Proof.Gen.Kernel13Ideal.Value
public import proofs.«01_k».proof.Proof.Gen.Reference13Ideal.Read
public import Idealize.ShloMosaic.Lib.Pipeline.ValueKit
public import Idealize.ShloMosaic.Lib.Pipeline.ReadBack
public import proofs.«01_k».proof.Proof.NormGrad

@[expose] public section

set_option maxRecDepth 16384

noncomputable section

namespace Cert.Kernel13Ideal.Ple

open Cert.Kernel13Ideal Cert.Kernel13Ideal.Gen Idealize.ShloMosaic Idealize.ShloMosaic.TcCoe Idealize.SL.Sem Idealize.ShloMosaic.StableHlo
open scoped BigOperators
open Cert.NormGrad (ms)

/-- A row's entry, normed and scaled. -/
def normed (x g : Fin 1024 → EReal) (k : Fin 1024) : EReal := x k * Ideal.rsqrt (ms x) * g k

theorem logistic_eq (x : EReal) : Ideal.logistic x = Ideal.div 1 (1 + Ideal.exp (-x)) := rfl

theorem pay1_apply (x : Vec Ideal S512x1024 .f32) (g : Vec Ideal S1x1024 .f32) (r : Fin 512) (k : Fin 1024) :
    k0_pay1 x g (ix2 r k) = normed (fun l => x (ix2 r l)) (fun l => g (ix2 0 l)) k := by
  simp only [normed, ms]
  pointwise [k0_pay1]

theorem pay5_apply (x : Vec Ideal S512x1024 .f32) (g : Vec Ideal S1x1024 .f32) (w : Vec Ideal S1024x1024 .bf16) (r : Fin 512) (k : Fin 1024) :
    k0_pay5 x g w (ix2 r k) = Ideal.logistic (∑ j : Fin 1024, normed (fun l => x (ix2 r l)) (fun l => g (ix2 0 l)) j * w (ix2 j k)) := by
  simp only [normed, ms]
  pointwise [k0_pay5, k0_pay2, k0_pay1]

theorem pay6_apply (p : Vec Ideal S512x256 .f32) (w : Vec Ideal S256x1024 .bf16) (r : Fin 512) (k : Fin 1024) :
    k0_pay6 p w (ix2 r k) = ∑ j : Fin 256, p (ix2 r j) * w (ix2 j k) := by
  pointwise [k0_pay6, k0_pay3]

theorem pay4_apply (x : Vec Ideal S512x1024 .f32) (g : Vec Ideal S1x1024 .f32) (w : Vec Ideal S1024x1024 .bf16) (p : Vec Ideal S512x256 .f32) (v : Vec Ideal S256x1024 .bf16) (r : Fin 512) (k : Fin 1024) :
    k0_pay4 x g w p v (ix2 r k) = x (ix2 r k) + Ideal.logistic (∑ j : Fin 1024, normed (fun l => x (ix2 r l)) (fun l => g (ix2 0 l)) j * w (ix2 j k)) * ∑ j : Fin 256, p (ix2 r j) * v (ix2 j k) := by
  simp only [normed, ms]
  pointwise [k0_pay4, k0_pay3, k0_pay2, k0_pay1]

open Cert.Reference13Ideal.Read

theorem ref23 (x0 : FVec Ideal S8192x1024 .f32) (x1 : FVec Ideal S1024 .f32) (R : Fin 8192) (k : Fin 1024) : val_main_v23 (F := Ideal) x0 x1 (ix2 R k) = normed (fun l => x0 (ix2 R l)) (fun l => x1 (ix1 l)) k := by
  simp only [normed, ms]
  pointwise [val_main_v23, val_main_v12, val_main_v11, val_main_v10, val_main_v9, val_main_v8, val_main_v7, val_main_v6, val_main_v5, val_main_cst_1, val_main_v4, val_main_v3, val_main_cst_0, val_main_v2, val_main_v1, val_main_cst, val_main_v0]

theorem ref24 (x0 : FVec Ideal S8192x1024 .f32) (x1 : FVec Ideal S1024 .f32) (x2 : FVec Ideal S1024x1024 .f32) (R : Fin 8192) (k : Fin 1024) :
    val_main_v24 (F := Ideal) x0 x1 x2 (ix2 R k) = Ideal.logistic (∑ j : Fin 1024, normed (fun l => x0 (ix2 R l)) (fun l => x1 (ix1 l)) j * x2 (ix2 j k)) := by
  simp only [normed, ms, logistic_eq]
  pointwise [val_main_v24, val_main_v19, val_main_v18, val_main_cst_3, val_main_v17, val_main_v16, val_main_cst_2, val_main_v15, val_main_v14, val_main_v13, val_main_v12, val_main_v11, val_main_v10, val_main_v9, val_main_v8, val_main_v7, val_main_v6, val_main_v5, val_main_cst_1, val_main_v4, val_main_v3, val_main_cst_0, val_main_v2, val_main_v1, val_main_cst, val_main_v0]

theorem ref25 (x3 : FVec Ideal S8192x256 .f32) (x4 : FVec Ideal S256x1024 .f32) (R : Fin 8192) (k : Fin 1024) :
    val_main_v25 (F := Ideal) x3 x4 (ix2 R k) = ∑ j : Fin 256, x3 (ix2 R j) * x4 (ix2 j k) := by
  pointwise [val_main_v25, val_main_v20]

theorem ref22 (x0 : FVec Ideal S8192x1024 .f32) (x1 : FVec Ideal S1024 .f32) (x2 : FVec Ideal S1024x1024 .f32) (x3 : FVec Ideal S8192x256 .f32) (x4 : FVec Ideal S256x1024 .f32) (R : Fin 8192) (k : Fin 1024) :
    val_main_v22 (F := Ideal) x0 x1 x2 x3 x4 (ix2 R k) = x0 (ix2 R k) + Ideal.logistic (∑ j : Fin 1024, normed (fun l => x0 (ix2 R l)) (fun l => x1 (ix1 l)) j * x2 (ix2 j k)) * ∑ j : Fin 256, x3 (ix2 R j) * x4 (ix2 j k) := by
  simp only [normed, ms, logistic_eq]
  pointwise [val_main_v22, val_main_v21, val_main_v20, val_main_v19, val_main_v18, val_main_cst_3, val_main_v17, val_main_v16, val_main_cst_2, val_main_v15, val_main_v14, val_main_v13, val_main_v12, val_main_v11, val_main_v10, val_main_v9, val_main_v8, val_main_v7, val_main_v6, val_main_v5, val_main_cst_1, val_main_v4, val_main_v3, val_main_cst_0, val_main_v2, val_main_v1, val_main_cst, val_main_v0]

variable (m : (ℓ : Loc nD τ sig) → Buf (Elt Ideal) ℓ)

theorem idx_val : ∀ t : Fin cfg0.N, win0_0.index t = ![t.val, 0] ∧ win0_1.index t = ![0, 0] ∧ win0_2.index t = ![0, 0] ∧ win0_3.index t = ![t.val, 0] ∧ win0_4.index t = ![0, 0]
    ∧ win0_5.index t = ![t.val, 0] ∧ win0_6.index t = ![t.val, 0] ∧ win0_7.index t = ![t.val, 0] ∧ win0_8.index t = ![t.val, 0] :=
  (by decide +kernel : ∀ t : Fin grid0.N, _)

/-- A row of a point's block in the whole array. -/
def row (t : Fin cfg0.N) (r : Fin 512) : Fin 8192 := ⟨t.val * 512 + r.val, by
  have := lt_of_lt_of_eq t.isLt N_0
  omega⟩

theorem in0 (c : Dev nD) (t : Fin cfg0.N) (r : Fin 512) (k : Fin 1024) : iblk m c 0 t (ix2 r k) = m ((c : Thread nD τ).loc main_arg0) (ix2 (row t r) k) := by
  unfold row
  blk_ext [iblk, V, idx_val t]

theorem in1 (c : Dev nD) (t : Fin cfg0.N) (k : Fin 1024) : iblk m c 1 t (ix2 0 k) = m ((c : Thread nD τ).loc main_arg1) (ix1 k) := by
  blk_simp [iblk]
  entry_read
  pointwise
  blk_point [iblk, V, idx_val t]

theorem in2 (c : Dev nD) (t : Fin cfg0.N) (r : Fin 1024) (k : Fin 1024) : iblk m c 2 t (ix2 r k) = m ((c : Thread nD τ).loc main_arg2) (ix2 r k) := by
  blk_simp [iblk]
  entry_read
  pointwise
  blk_point [iblk, V, idx_val t]

theorem in3 (c : Dev nD) (t : Fin cfg0.N) (r : Fin 512) (k : Fin 256) : iblk m c 3 t (ix2 r k) = m ((c : Thread nD τ).loc main_arg3) (ix2 (row t r) k) := by
  unfold row
  blk_ext [iblk, V, idx_val t]

theorem in4 (c : Dev nD) (t : Fin cfg0.N) (r : Fin 256) (k : Fin 1024) : iblk m c 4 t (ix2 r k) = m ((c : Thread nD τ).loc main_arg4) (ix2 r k) := by
  blk_simp [iblk]
  entry_read
  pointwise
  blk_point [iblk, V, idx_val t]

theorem final5 (c : Dev nD) : (dats m 0 c).arrAt 5 (cfgs 0).N = val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  obtain ⟨r, k, rfl⟩ : ∃ (r : Fin 512) (k : Fin 1024), y = ix2 r k := ⟨y 0, y 1, Cert.Real.ix_2 512 1024 y (y 0) (y 1) rfl rfl⟩
  blk_simp
  rw [after0_5]; frame_out
  refine Eq.trans ?_ ((ref22 _ _ _ _ _ (row t r) k).symm.trans (congrArg _ (Cert.Real.ix_2 8192 1024 _ _ _ ?_ ?_).symm))
  · refine (pay4_apply _ _ _ _ _ r k).trans ?_
    simp only [in0, in1, in2, in3, in4]
  all_goals blk_simp [idx_val t]
  all_goals rfl

theorem final6 (c : Dev nD) : (dats m 0 c).arrAt 6 (cfgs 0).N = val_main_v23 (F := Ideal) (m ((c : Thread nD τ).loc main_arg0)) (m ((c : Thread nD τ).loc main_arg1)) := by
  refine (dats m 0 c).arrAt_eq_of_covers 6 _ (by decide +kernel) fun t hf y => ?_
  obtain ⟨r, k, rfl⟩ : ∃ (r : Fin 512) (k : Fin 1024), y = ix2 r k := ⟨y 0, y 1, Cert.Real.ix_2 512 1024 y (y 0) (y 1) rfl rfl⟩
  blk_simp
  rw [after0_6]; frame_out
  refine Eq.trans ?_ ((ref23 _ _ (row t r) k).symm.trans (congrArg _ (Cert.Real.ix_2 8192 1024 _ _ _ ?_ ?_).symm))
  · refine (pay1_apply _ _ r k).trans ?_
    simp only [in0, in1]
  all_goals blk_simp [idx_val t]
  all_goals rfl

theorem final7 (c : Dev nD) : (dats m 0 c).arrAt 7 (cfgs 0).N = val_main_v24 (F := Ideal) (m ((c : Thread nD τ).loc main_arg0)) (m ((c : Thread nD τ).loc main_arg1)) (m ((c : Thread nD τ).loc main_arg2)) := by
  refine (dats m 0 c).arrAt_eq_of_covers 7 _ (by decide +kernel) fun t hf y => ?_
  obtain ⟨r, k, rfl⟩ : ∃ (r : Fin 512) (k : Fin 1024), y = ix2 r k := ⟨y 0, y 1, Cert.Real.ix_2 512 1024 y (y 0) (y 1) rfl rfl⟩
  blk_simp
  rw [after0_7]; frame_out
  refine Eq.trans ?_ ((ref24 _ _ _ (row t r) k).symm.trans (congrArg _ (Cert.Real.ix_2 8192 1024 _ _ _ ?_ ?_).symm))
  · refine (pay5_apply _ _ _ r k).trans ?_
    simp only [in0, in1, in2]
  all_goals blk_simp [idx_val t]
  all_goals rfl

theorem final8 (c : Dev nD) : (dats m 0 c).arrAt 8 (cfgs 0).N = val_main_v25 (F := Ideal) (m ((c : Thread nD τ).loc main_arg3)) (m ((c : Thread nD τ).loc main_arg4)) := by
  refine (dats m 0 c).arrAt_eq_of_covers 8 _ (by decide +kernel) fun t hf y => ?_
  obtain ⟨r, k, rfl⟩ : ∃ (r : Fin 512) (k : Fin 1024), y = ix2 r k := ⟨y 0, y 1, Cert.Real.ix_2 512 1024 y (y 0) (y 1) rfl rfl⟩
  blk_simp
  rw [after0_8]; frame_out
  refine Eq.trans ?_ ((ref25 _ _ (row t r) k).symm.trans (congrArg _ (Cert.Real.ix_2 8192 1024 _ _ _ ?_ ?_).symm))
  · refine (pay6_apply _ _ r k).trans ?_
    simp only [in3, in4]
  all_goals blk_simp [idx_val t]
  all_goals rfl

end Cert.Kernel13Ideal.Ple

end
-- ==== Proof.PoolIn.lean ====
/-
  The pooling's input: the normed rows and their product.
-/
module

public import proofs.«01_k».proof.Proof.Gen.Kernel14Ideal.Value
public import proofs.«01_k».proof.Proof.Gen.Reference14Ideal.Read
public import Idealize.ShloMosaic.Lib.Pipeline.ValueKit
public import Idealize.ShloMosaic.Lib.Pipeline.ReadBack
public import proofs.«01_k».proof.Proof.NormGrad

@[expose] public section

set_option maxRecDepth 16384

noncomputable section

namespace Cert.Kernel14Ideal.In

open Cert.Kernel14Ideal Cert.Kernel14Ideal.Gen Idealize.ShloMosaic Idealize.ShloMosaic.TcCoe Idealize.SL.Sem Idealize.ShloMosaic.StableHlo
open scoped BigOperators
open Cert.NormGrad (ms)

/-- A row's entry, normed and scaled. -/
def normed (x g : Fin 1024 → EReal) (k : Fin 1024) : EReal := x k * Ideal.rsqrt (ms x) * g k

theorem pay1_apply (x : Vec Ideal S512x1024 .f32) (g : Vec Ideal S1x1024 .f32) (r : Fin 512) (k : Fin 1024) :
    k0_pay1 x g (ix2 r k) = normed (fun l => x (ix2 r l)) (fun l => g (ix2 0 l)) k := by
  simp only [normed, ms]
  pointwise [k0_pay1]

theorem pay2_apply (h : Vec Ideal S512x1024 .bf16) (w : Vec Ideal S1024x1024 .bf16) (r : Fin 512) (k : Fin 1024) :
    k0_pay2 h w (ix2 r k) = ∑ j : Fin 1024, h (ix2 r j) * w (ix2 j k) := by
  pointwise [k0_pay2]

open Cert.Reference14Ideal.Read

theorem ref14 (x0 : FVec Ideal S8192x1024 .f32) (x1 : FVec Ideal S1024 .f32) (R : Fin 8192) (k : Fin 1024) : val_main_v14 (F := Ideal) x0 x1 (ix2 R k) = normed (fun l => x0 (ix2 R l)) (fun l => x1 (ix1 l)) k := by
  simp only [normed, ms]
  pointwise [val_main_v14, val_main_v12, val_main_v11, val_main_v10, val_main_v9, val_main_v8, val_main_v7, val_main_v6, val_main_v5, val_main_cst_1, val_main_v4, val_main_v3, val_main_cst_0, val_main_v2, val_main_v1, val_main_cst, val_main_v0]

theorem ref13 (x0 : FVec Ideal S8192x1024 .f32) (x1 : FVec Ideal S1024 .f32) (x2 : FVec Ideal S1024x1024 .f32) (R : Fin 8192) (k : Fin 1024) :
    val_main_v13 (F := Ideal) x0 x1 x2 (ix2 R k) = ∑ j : Fin 1024, normed (fun l => x0 (ix2 R l)) (fun l => x1 (ix1 l)) j * x2 (ix2 j k) := by
  simp only [normed, ms]
  pointwise [val_main_v13, val_main_v12, val_main_v11, val_main_v10, val_main_v9, val_main_v8, val_main_v7, val_main_v6, val_main_v5, val_main_cst_1, val_main_v4, val_main_v3, val_main_cst_0, val_main_v2, val_main_v1, val_main_cst, val_main_v0]

variable (m : (ℓ : Loc nD τ sig) → Buf (Elt Ideal) ℓ)

theorem idx_val : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

/-- A row of a point's block in the whole array. -/
def row (t : Fin cfg0.N) (r : Fin 512) : Fin 8192 := ⟨t.val * 512 + r.val, by
  have := lt_of_lt_of_eq t.isLt N_0
  omega⟩

theorem in0 (c : Dev nD) (t : Fin cfg0.N) (r : Fin 512) (k : Fin 1024) : iblk m c 0 t (ix2 r k) = m ((c : Thread nD τ).loc main_arg0) (ix2 (row t r) k) := by
  unfold row
  blk_ext [iblk, V, idx_val t]

theorem in1 (c : Dev nD) (t : Fin cfg0.N) (k : Fin 1024) : iblk m c 1 t (ix2 0 k) = m ((c : Thread nD τ).loc main_arg1) (ix1 k) := by
  blk_simp [iblk]
  entry_read
  pointwise
  blk_point [iblk, V, idx_val t]

theorem in2 (c : Dev nD) (t : Fin cfg0.N) (r : Fin 1024) (k : Fin 1024) : iblk m c 2 t (ix2 r k) = m ((c : Thread nD τ).loc main_arg2) (ix2 r k) := by
  blk_simp [iblk]
  entry_read
  pointwise
  blk_point [iblk, V, idx_val t]

theorem out3 (c : Dev nD) (t : Fin cfg0.N) : (outsAt0 m c t).1 = k0_pay1 (iblk m c 0 t) (iblk m c 1 t) := by
  unfold outsAt0
  frame_out

theorem out4 (c : Dev nD) (t : Fin cfg0.N) : (outsAt0 m c t).2 = k0_pay2 (k0_pay1 (iblk m c 0 t) (iblk m c 1 t)) (iblk m c 2 t) := by
  unfold outsAt0
  frame_out

theorem final3 (c : Dev nD) : (dats m 0 c).arrAt 3 (cfgs 0).N = val_main_v14 (F := Ideal) (m ((c : Thread nD τ).loc main_arg0)) (m ((c : Thread nD τ).loc main_arg1)) := by
  refine (dats m 0 c).arrAt_eq_of_covers 3 _ (by decide +kernel) fun t hf y => ?_
  obtain ⟨r, k, rfl⟩ : ∃ (r : Fin 512) (k : Fin 1024), y = ix2 r k := ⟨y 0, y 1, Cert.Real.ix_2 512 1024 y (y 0) (y 1) rfl rfl⟩
  blk_simp
  rw [after0_3]
  rw [out3]
  refine Eq.trans ?_ ((ref14 _ _ (row t r) k).symm.trans (congrArg _ (Cert.Real.ix_2 8192 1024 _ _ _ ?_ ?_).symm))
  · refine (pay1_apply _ _ r k).trans ?_
    simp only [in0, in1]
  all_goals blk_simp [idx_val t]
  all_goals rfl

theorem final4 (c : Dev nD) : (dats m 0 c).arrAt 4 (cfgs 0).N = val_main_v13 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  obtain ⟨r, k, rfl⟩ : ∃ (r : Fin 512) (k : Fin 1024), y = ix2 r k := ⟨y 0, y 1, Cert.Real.ix_2 512 1024 y (y 0) (y 1) rfl rfl⟩
  blk_simp
  rw [after0_4]
  rw [out4]
  refine Eq.trans ?_ ((ref13 _ _ _ (row t r) k).symm.trans (congrArg _ (Cert.Real.ix_2 8192 1024 _ _ _ ?_ ?_).symm))
  · refine (pay2_apply _ _ r k).trans ?_
    simp only [pay1_apply, in0, in1, in2]
  all_goals blk_simp [idx_val t]
  all_goals rfl

end Cert.Kernel14Ideal.In

end
-- ==== Proof.FfnUp.lean ====
/-
  The feed-forward part's input: the normed rows, the two factors and their gated product.
-/
module

public import proofs.«01_k».proof.Proof.Gen.Kernel15Ideal.Value
public import proofs.«01_k».proof.Proof.Gen.Reference15Ideal.Read
public import Idealize.ShloMosaic.Lib.Pipeline.ValueKit
public import Idealize.ShloMosaic.Lib.Pipeline.ReadBack
public import proofs.«01_k».proof.Proof.NormGrad

@[expose] public section

set_option maxRecDepth 16384

noncomputable section

namespace Cert.Kernel15Ideal.Up

open Cert.Kernel15Ideal Cert.Kernel15Ideal.Gen Idealize.ShloMosaic Idealize.ShloMosaic.TcCoe Idealize.SL.Sem Idealize.ShloMosaic.StableHlo
open scoped BigOperators
open Cert.NormGrad (ms)

/-- A row's entry, normed and scaled. -/
def normed (x g : Fin 1024 → EReal) (k : Fin 1024) : EReal := x k * Ideal.rsqrt (ms x) * g k

theorem logistic_eq (x : EReal) : Ideal.logistic x = Ideal.div 1 (1 + Ideal.exp (-x)) := rfl

theorem pay6_apply (x : Vec Ideal S512x1024 .f32) (g : Vec Ideal S1x1024 .f32) (r : Fin 512) (k : Fin 1024) :
    k0_pay6 x g (ix2 r k) = normed (fun l => x (ix2 r l)) (fun l => g (ix2 0 l)) k := by
  simp only [normed, ms]
  pointwise [k0_pay6]

theorem pay3_apply (h : FVec Ideal S512x1024 .bf16) (w : Vec Ideal S1408x1024 .bf16) (r : Fin 512) (l : Fin 1408) :
    k0_pay3 h w (ix2 r l) = ∑ j : Fin 1024, h (ix2 r j) * w (ix2 l j) := by
  pointwise [k0_pay3, k0_pay1]

theorem pay4_apply (h : FVec Ideal S512x1024 .bf16) (w : Vec Ideal S1408x1024 .bf16) (r : Fin 512) (l : Fin 1408) :
    k0_pay4 h w (ix2 r l) = ∑ j : Fin 1024, h (ix2 r j) * w (ix2 l j) := by
  pointwise [k0_pay4, k0_pay2]

theorem pay5_apply (h : FVec Ideal S512x1024 .bf16) (w v : Vec Ideal S1408x1024 .bf16) (r : Fin 512) (l : Fin 1408) :
    k0_pay5 h w v (ix2 r l) = (∑ j : Fin 1024, h (ix2 r j) * w (ix2 l j)) * Ideal.logistic (∑ j : Fin 1024, h (ix2 r j) * w (ix2 l j)) * ∑ j : Fin 1024, h (ix2 r j) * v (ix2 l j) := by
  pointwise [k0_pay5, k0_pay1, k0_pay2]

/-- The first half's stores are the second half's, of the normed rows. -/
theorem pay9_eq (x : Vec Ideal S512x1024 .f32) (g : Vec Ideal S1x1024 .f32) (w : Vec Ideal S1408x1024 .bf16) : k0_pay9 x g w = k0_pay3 (k0_pay6 x g) w := rfl

theorem pay10_eq (x : Vec Ideal S512x1024 .f32) (g : Vec Ideal S1x1024 .f32) (w : Vec Ideal S1408x1024 .bf16) : k0_pay10 x g w = k0_pay4 (k0_pay6 x g) w := rfl

theorem pay11_eq (x : Vec Ideal S512x1024 .f32) (g : Vec Ideal S1x1024 .f32) (w v : Vec Ideal S1408x1024 .bf16) : k0_pay11 x g w v = k0_pay5 (k0_pay6 x g) w v := rfl

open Cert.Reference15Ideal.Read

/-- A factor's entry. -/
def factor (x0 : FVec Ideal S8192x1024 .f32) (x1 : FVec Ideal S1024 .f32) (x2 : FVec Ideal S1024x5632 .f32) (R : Fin 8192) (n : Fin 5632) : EReal := ∑ j : Fin 1024, normed (fun l => x0 (ix2 R l)) (fun l => x1 (ix1 l)) j * x2 (ix2 j n)

theorem ref18 (x0 : FVec Ideal S8192x1024 .f32) (x1 : FVec Ideal S1024 .f32) (R : Fin 8192) (k : Fin 1024) : val_main_v18 (F := Ideal) x0 x1 (ix2 R k) = normed (fun l => x0 (ix2 R l)) (fun l => x1 (ix1 l)) k := by
  simp only [normed, ms]
  pointwise [val_main_v18, val_main_v12, val_main_v11, val_main_v10, val_main_v9, val_main_v8, val_main_v7, val_main_v6, val_main_v5, val_main_cst_1, val_main_v4, val_main_v3, val_main_cst_0, val_main_v2, val_main_v1, val_main_cst, val_main_v0]

theorem ref19 (x0 : FVec Ideal S8192x1024 .f32) (x1 : FVec Ideal S1024 .f32) (x2 : FVec Ideal S1024x5632 .f32) (R : Fin 8192) (n : Fin 2816) :
    val_main_v19 (F := Ideal) x0 x1 x2 (ix2 R n) = factor x0 x1 x2 R ⟨n.val, by omega⟩ := by
  simp only [factor, normed, ms]
  pointwise [val_main_v19, val_main_v14, val_main_v13, val_main_v12, val_main_v11, val_main_v10, val_main_v9, val_main_v8, val_main_v7, val_main_v6, val_main_v5, val_main_cst_1, val_main_v4, val_main_v3, val_main_cst_0, val_main_v2, val_main_v1, val_main_cst, val_main_v0]

theorem ref20 (x0 : FVec Ideal S8192x1024 .f32) (x1 : FVec Ideal S1024 .f32) (x2 : FVec Ideal S1024x5632 .f32) (R : Fin 8192) (n : Fin 2816) :
    val_main_v20 (F := Ideal) x0 x1 x2 (ix2 R n) = factor x0 x1 x2 R ⟨2816 + n.val, by omega⟩ := by
  simp only [factor, normed, ms]
  pointwise [val_main_v20, val_main_v15, val_main_v13, val_main_v12, val_main_v11, val_main_v10, val_main_v9, val_main_v8, val_main_v7, val_main_v6, val_main_v5, val_main_cst_1, val_main_v4, val_main_v3, val_main_cst_0, val_main_v2, val_main_v1, val_main_cst, val_main_v0]

theorem ref21 (x0 : FVec Ideal S8192x1024 .f32) (x1 : FVec Ideal S1024 .f32) (x2 : FVec Ideal S1024x5632 .f32) (R : Fin 8192) (n : Fin 2816) :
    val_main_v21 (F := Ideal) x0 x1 x2 (ix2 R n) = factor x0 x1 x2 R ⟨n.val, by omega⟩ * Ideal.logistic (factor x0 x1 x2 R ⟨n.val, by omega⟩) * factor x0 x1 x2 R ⟨2816 + n.val, by omega⟩ := by
  simp only [factor, normed, ms, logistic_eq]
  pointwise [val_main_v21, val_main_v17, val_main_v16, val_main_call0_v5, val_main_call0_v4, val_main_call0_cst_0, val_main_call0_v3, val_main_call0_v2, val_main_call0_cst, val_main_call0_v1, val_main_call0_v0, val_main_v15, val_main_v14, val_main_v13, val_main_v12, val_main_v11, val_main_v10, val_main_v9, val_main_v8, val_main_v7, val_main_v6, val_main_v5, val_main_cst_1, val_main_v4, val_main_v3, val_main_cst_0, val_main_v2, val_main_v1, val_main_cst, val_main_v0]

variable (m : (ℓ : Loc nD τ sig) → Buf (Elt Ideal) ℓ)

theorem idx_val : ∀ t : Fin cfg0.N, win0_0.index t = ![t.val, 0] ∧ win0_1.index t = ![0, 0] ∧ win0_2.index t = ![0, 0] ∧ win0_3.index t = ![t.val, 0] ∧ win0_4.index t = ![t.val, 0]
    ∧ win0_5.index t = ![t.val, 0] ∧ win0_6.index t = ![t.val, 0] :=
  (by decide +kernel : ∀ t : Fin grid0.N, _)

/-- A row of a point's block in the whole array. -/
def row (t : Fin cfg0.N) (r : Fin 512) : Fin 8192 := ⟨t.val * 512 + r.val, by
  have := lt_of_lt_of_eq t.isLt N_0
  omega⟩

theorem in0 (c : Dev nD) (t : Fin cfg0.N) (r : Fin 512) (k : Fin 1024) : iblk m c 0 t (ix2 r k) = m ((c : Thread nD τ).loc main_arg0) (ix2 (row t r) k) := by
  unfold row
  blk_ext [iblk, V, idx_val t]

theorem in1 (c : Dev nD) (t : Fin cfg0.N) (k : Fin 1024) : iblk m c 1 t (ix2 0 k) = m ((c : Thread nD τ).loc main_arg1) (ix1 k) := by
  blk_simp [iblk]
  entry_read
  pointwise
  blk_point [iblk, V, idx_val t]

theorem in2 (c : Dev nD) (t : Fin cfg0.N) (r : Fin 5632) (k : Fin 1024) : iblk m c 2 t (ix2 r k) = m ((c : Thread nD τ).loc main_arg2) (ix2 k r) := by
  blk_simp [iblk]
  entry_read
  pointwise
  blk_point [iblk, V, idx_val t]

theorem rows_apply (x : FVec Ideal S512x1024 .f32) (r : Fin 512) (k : Fin 1024) : View.ld (Val := Elt Ideal) (e' := .f32) x r0_0 (ix2 r k) = x (ix2 r k) := by
  refine View.ld_unit_apply_of (Val := Elt Ideal) (e := .f32) x _ _ _ _ _ fun a => ?_
  match a with
  | ⟨0, _⟩ => exact (Nat.zero_add _).symm
  | ⟨1, _⟩ => exact (Nat.zero_add _).symm

theorem gain_apply (x : FVec Ideal S1x1024 .f32) (k : Fin 1024) : View.ld (Val := Elt Ideal) (e' := .f32) x r0_1 (ix2 0 k) = x (ix2 0 k) := by
  refine View.ld_unit_apply_of (Val := Elt Ideal) (e := .f32) x _ _ _ _ _ fun a => ?_
  match a with
  | ⟨0, _⟩ => rfl
  | ⟨1, _⟩ => exact (Nat.zero_add _).symm

/-- A quarter of the weights' rows. -/
def quarter (w : FVec Ideal S5632x1024 .bf16) (o : Nat) (h : ∀ a, (![o, 0] : Fin 2 → Nat) a + S1408x1024.size a ≤ S5632x1024.size a) : FVec Ideal S1408x1024 .bf16 :=
  View.ld (Val := Elt Ideal) (e' := .bf16) w (Rect.unit ![o, 0] S1408x1024.size h)

theorem quarter_apply (w : FVec Ideal S5632x1024 .bf16) (o : Nat) (h : ∀ a, (![o, 0] : Fin 2 → Nat) a + S1408x1024.size a ≤ S5632x1024.size a) (l : Fin 1408) (k : Fin 1024) (n : Fin 5632) (hn : n.val = o + l.val) :
    quarter w o h (ix2 l k) = w (ix2 n k) := by
  refine View.ld_unit_apply_of (Val := Elt Ideal) (e := .bf16) w _ _ _ _ _ fun a => ?_
  match a with
  | ⟨0, _⟩ => exact hn
  | ⟨1, _⟩ => exact (Nat.zero_add _).symm

/-- The normed rows of a point. -/
def rows (c : Dev nD) (t : Fin cfg0.N) : FVec Ideal S512x1024 .bf16 := k0_pay12 (iblk m c 0 t) (iblk m c 1 t) (iblk m c 2 t)

theorem half (c : Dev nD) (t : Fin cfg0.N) (o : Nat) (h : ∀ a, (![o, 0] : Fin 2 → Nat) a + S1408x1024.size a ≤ S5632x1024.size a) (r : Fin 512) (l : Fin 1408) (n : Fin 5632) (hn : n.val = o + l.val) :
    (∑ j : Fin 1024, rows m c t (ix2 r j) * quarter (iblk m c 2 t) o h (ix2 l j)) = factor (m ((c : Thread nD τ).loc main_arg0)) (m ((c : Thread nD τ).loc main_arg1)) (m ((c : Thread nD τ).loc main_arg2)) (row t r) n := by
  unfold factor rows k0_pay12
  simp only [quarter_apply _ o h l _ n hn, pay6_apply, in2]
  refine Finset.sum_congr rfl fun j _ => congrArg (· * _) (congrArg₂ (fun a b => normed a b j) (funext fun l => ?_) (funext fun l => ?_))
  · exact (rows_apply (iblk m c 0 t) r l).trans (in0 m c t r l)
  · exact (gain_apply (iblk m c 1 t) l).trans (in1 m c t l)

theorem emb_at (o : Nat) (ho : ∀ a, (![0, o] : Fin 2 → Nat) a + S512x1408.size a ≤ S512x2816.size a) (r : Fin 512) (l : Fin 1408) (n : Fin 2816) (hn : n.val = o + l.val) :
    ((Rect.unit (s := S512x2816) ![0, o] S512x1408.size ho).emb (ix2 r l) : S512x2816.Idx) = ix2 r n := by
  refine Cert.Real.ix_2 512 2816 _ _ _ ?_ ?_
  · exact (Rect.idx_unit_val (s := S512x2816) ![0, o] S512x1408.size ho (ix2 r l) 0).trans (Nat.zero_add _)
  · exact (Rect.idx_unit_val (s := S512x2816) ![0, o] S512x1408.size ho (ix2 r l) 1).trans hn.symm

/-- The rows of a result that a point writes. -/
def want4 (c : Dev nD) (t : Fin cfg0.N) (y : S512x2816.Idx) : EReal := val_main_v19 (F := Ideal) (m ((c : Thread nD τ).loc main_arg0)) (m ((c : Thread nD τ).loc main_arg1)) (m ((c : Thread nD τ).loc main_arg2)) (ix2 (row t (y 0)) (y 1))

/-- The rows of a result that a point writes. -/
def want5 (c : Dev nD) (t : Fin cfg0.N) (y : S512x2816.Idx) : EReal := val_main_v20 (F := Ideal) (m ((c : Thread nD τ).loc main_arg0)) (m ((c : Thread nD τ).loc main_arg1)) (m ((c : Thread nD τ).loc main_arg2)) (ix2 (row t (y 0)) (y 1))

/-- The rows of a result that a point writes. -/
def want6 (c : Dev nD) (t : Fin cfg0.N) (y : S512x2816.Idx) : EReal := val_main_v21 (F := Ideal) (m ((c : Thread nD τ).loc main_arg0)) (m ((c : Thread nD τ).loc main_arg1)) (m ((c : Thread nD τ).loc main_arg2)) (ix2 (row t (y 0)) (y 1))

section
variable (c : Dev nD) (t : Fin cfg0.N) (o : Nat) (hb : o ≤ 1408) (h : ∀ a, (![o, 0] : Fin 2 → Nat) a + S1408x1024.size a ≤ S5632x1024.size a) (o' : Nat) (e : o' = 2816 + o) (h' : ∀ a, (![o', 0] : Fin 2 → Nat) a + S1408x1024.size a ≤ S5632x1024.size a) (ho : ∀ a, (![0, o] : Fin 2 → Nat) a + S512x1408.size a ≤ S512x2816.size a)

include hb

theorem piece4 (x : S512x1408.Idx) : k0_pay3 (rows m c t) (quarter (iblk m c 2 t) o h) x = want4 m c t ((Rect.unit (s := S512x2816) ![0, o] S512x1408.size ho).emb x) := by
  obtain ⟨r, l, rfl⟩ : ∃ (r : Fin 512) (l : Fin 1408), x = ix2 r l := ⟨x 0, x 1, Cert.Real.ix_2 512 1408 x (x 0) (x 1) rfl rfl⟩
  rw [emb_at o ho r l ⟨o + l.val, by omega⟩ rfl, pay3_apply]
  refine Eq.trans ?_ (ref19 _ _ _ (row t r) ⟨o + l.val, by omega⟩).symm
  exact half m c t o h r l _ rfl

include e

theorem piece5 (x : S512x1408.Idx) : k0_pay4 (rows m c t) (quarter (iblk m c 2 t) o' h') x = want5 m c t ((Rect.unit (s := S512x2816) ![0, o] S512x1408.size ho).emb x) := by
  obtain ⟨r, l, rfl⟩ : ∃ (r : Fin 512) (l : Fin 1408), x = ix2 r l := ⟨x 0, x 1, Cert.Real.ix_2 512 1408 x (x 0) (x 1) rfl rfl⟩
  rw [emb_at o ho r l ⟨o + l.val, by omega⟩ rfl, pay4_apply]
  refine Eq.trans ?_ (ref20 _ _ _ (row t r) ⟨o + l.val, by omega⟩).symm
  exact half m c t o' h' r l _ (by subst e; exact (Nat.add_assoc _ _ _).symm)

theorem piece6 (x : S512x1408.Idx) : k0_pay5 (rows m c t) (quarter (iblk m c 2 t) o h) (quarter (iblk m c 2 t) o' h') x = want6 m c t ((Rect.unit (s := S512x2816) ![0, o] S512x1408.size ho).emb x) := by
  obtain ⟨r, l, rfl⟩ : ∃ (r : Fin 512) (l : Fin 1408), x = ix2 r l := ⟨x 0, x 1, Cert.Real.ix_2 512 1408 x (x 0) (x 1) rfl rfl⟩
  rw [emb_at o ho r l ⟨o + l.val, by omega⟩ rfl, pay5_apply]
  refine Eq.trans ?_ (ref21 _ _ _ (row t r) ⟨o + l.val, by omega⟩).symm
  rw [half m c t o h r l ⟨o + l.val, by omega⟩ rfl, half m c t o' h' r l ⟨2816 + (o + l.val), by omega⟩ (by subst e; exact (Nat.add_assoc _ _ _).symm)]

end

theorem out4 (c : Dev nD) (t : Fin cfg0.N) (y : S512x2816.Idx) : out0_4 (iblk m c 0 t) (iblk m c 1 t) (iblk m c 2 t) y = want4 m c t y := by
  have key : ∀ L : List (View.Piece (Elt Ideal) S512x2816 .bf16), View.PiecesOf (Val := Elt Ideal) (e := .bf16) (want4 m c t) L → (∃ p ∈ L, y ∈ p.1.set) → View.canon L y = want4 m c t y :=
    fun L hL hc => View.canon_apply_of_pieces (Val := Elt Ideal) (e := .bf16) (want4 m c t) L hL.mem y hc
  exact key _ ⟨fun x => piece4 m c t 1408 (by norm_num) inb_S5632x1024_S1408x1024_1408_0 inb_S512x2816_S512x1408_0_1408 x,
    fun x => piece4 m c t 0 (by norm_num) inb_S5632x1024_S1408x1024_0_0 inb_S512x2816_S512x1408_0_0 x, trivial⟩ (cover0_4 _ _ y)

theorem final4 (c : Dev nD) : (dats m 0 c).arrAt 4 (cfgs 0).N = val_main_v19 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  refine (out4 m c t y).trans ?_
  unfold want4
  refine congrArg _ (Cert.Real.ix_2 8192 2816 _ _ _ ?_ ?_).symm <;> blk_simp [idx_val t] <;> rfl

theorem out5 (c : Dev nD) (t : Fin cfg0.N) (y : S512x2816.Idx) : out0_5 (iblk m c 0 t) (iblk m c 1 t) (iblk m c 2 t) y = want5 m c t y := by
  have key : ∀ L : List (View.Piece (Elt Ideal) S512x2816 .bf16), View.PiecesOf (Val := Elt Ideal) (e := .bf16) (want5 m c t) L → (∃ p ∈ L, y ∈ p.1.set) → View.canon L y = want5 m c t y :=
    fun L hL hc => View.canon_apply_of_pieces (Val := Elt Ideal) (e := .bf16) (want5 m c t) L hL.mem y hc
  exact key _ ⟨fun x => piece5 m c t 1408 (by norm_num) 4224 rfl inb_S5632x1024_S1408x1024_4224_0 inb_S512x2816_S512x1408_0_1408 x,
    fun x => piece5 m c t 0 (by norm_num) 2816 rfl inb_S5632x1024_S1408x1024_2816_0 inb_S512x2816_S512x1408_0_0 x, trivial⟩ (cover0_5 _ _ y)

theorem final5 (c : Dev nD) : (dats m 0 c).arrAt 5 (cfgs 0).N = val_main_v20 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  refine (out5 m c t y).trans ?_
  unfold want5
  refine congrArg _ (Cert.Real.ix_2 8192 2816 _ _ _ ?_ ?_).symm <;> blk_simp [idx_val t] <;> rfl

theorem out6 (c : Dev nD) (t : Fin cfg0.N) (y : S512x2816.Idx) : out0_6 (iblk m c 0 t) (iblk m c 1 t) (iblk m c 2 t) y = want6 m c t y := by
  have key : ∀ L : List (View.Piece (Elt Ideal) S512x2816 .bf16), View.PiecesOf (Val := Elt Ideal) (e := .bf16) (want6 m c t) L → (∃ p ∈ L, y ∈ p.1.set) → View.canon L y = want6 m c t y :=
    fun L hL hc => View.canon_apply_of_pieces (Val := Elt Ideal) (e := .bf16) (want6 m c t) L hL.mem y hc
  exact key _ ⟨fun x => piece6 m c t 1408 (by norm_num) inb_S5632x1024_S1408x1024_1408_0 4224 rfl inb_S5632x1024_S1408x1024_4224_0 inb_S512x2816_S512x1408_0_1408 x,
    fun x => piece6 m c t 0 (by norm_num) inb_S5632x1024_S1408x1024_0_0 2816 rfl inb_S5632x1024_S1408x1024_2816_0 inb_S512x2816_S512x1408_0_0 x, trivial⟩ (cover0_6 _ _ y)

theorem final6 (c : Dev nD) : (dats m 0 c).arrAt 6 (cfgs 0).N = val_main_v21 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  refine (out6 m c t y).trans ?_
  unfold want6
  refine congrArg _ (Cert.Real.ix_2 8192 2816 _ _ _ ?_ ?_).symm <;> blk_simp [idx_val t] <;> rfl

theorem final3 (c : Dev nD) : (dats m 0 c).arrAt 3 (cfgs 0).N = val_main_v18 (F := Ideal) (m ((c : Thread nD τ).loc main_arg0)) (m ((c : Thread nD τ).loc main_arg1)) := by
  refine (dats m 0 c).arrAt_eq_of_covers 3 _ (by decide +kernel) fun t hf y => ?_
  obtain ⟨r, k, rfl⟩ : ∃ (r : Fin 512) (k : Fin 1024), y = ix2 r k := ⟨y 0, y 1, Cert.Real.ix_2 512 1024 y (y 0) (y 1) rfl rfl⟩
  blk_simp
  rw [after0_3]; frame_out
  refine Eq.trans ?_ ((ref18 _ _ (row t r) k).symm.trans (congrArg _ (Cert.Real.ix_2 8192 1024 _ _ _ ?_ ?_).symm))
  · refine (pay6_apply _ _ r k).trans ?_
    simp only [in0, in1]
  all_goals blk_simp [idx_val t]
  all_goals rfl

end Cert.Kernel15Ideal.Up

end
-- ==== Proof.FfnDown.lean ====
/-
  The feed-forward part's second product, halved and added to the stream.
-/
module

public import proofs.«01_k».proof.Proof.Gen.Kernel16Ideal.Value
public import proofs.«01_k».proof.Proof.Gen.Reference16Ideal.Read
public import Idealize.ShloMosaic.Lib.Pipeline.ValueKit
public import Idealize.ShloMosaic.Lib.Pipeline.ReadBack
public import proofs.«01_k».proof.Proof.NormGrad

@[expose] public section

set_option maxRecDepth 16384

noncomputable section

namespace Cert.Kernel16Ideal.Down

open Cert.Kernel16Ideal Cert.Kernel16Ideal.Gen Idealize.ShloMosaic Idealize.ShloMosaic.TcCoe Idealize.SL.Sem Idealize.ShloMosaic.StableHlo
open scoped BigOperators

theorem pay_apply (x : Vec Ideal S512x1024 .f32) (a : Vec Ideal S512x2816 .bf16) (w : Vec Ideal S2816x1024 .bf16) (r : Fin 512) (k : Fin 1024) :
    k0_pay1 x a w (ix2 r k) = x (ix2 r k) + Ideal.ofBits .f32 0x3F000000#32 * ∑ j : Fin 2816, a (ix2 r j) * w (ix2 j k) := by
  pointwise [k0_pay1]

open Cert.Reference16Ideal.Read in
theorem ref (x0 : FVec Ideal S8192x2816 .f32) (x1 : FVec Ideal S2816x1024 .f32) (x2 : FVec Ideal S8192x1024 .f32) (R : Fin 8192) (k : Fin 1024) :
    val_main_v3 (F := Ideal) x0 x1 x2 (ix2 R k) = x2 (ix2 R k) + Ideal.ofBits .f32 0x3F000000#32 * ∑ j : Fin 2816, x0 (ix2 R j) * x1 (ix2 j k) := by
  pointwise [val_main_v3, val_main_v2, val_main_v1, val_main_cst, val_main_v0]

variable (m : (ℓ : Loc nD τ sig) → Buf (Elt Ideal) ℓ)

theorem idx_val : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- A row of a point's block in the whole array. -/
def row (t : Fin cfg0.N) (r : Fin 512) : Fin 8192 := ⟨t.val * 512 + r.val, by
  have := lt_of_lt_of_eq t.isLt N_0
  omega⟩

theorem in0 (c : Dev nD) (t : Fin cfg0.N) (r : Fin 512) (k : Fin 2816) : iblk m c 0 t (ix2 r k) = m ((c : Thread nD τ).loc main_arg0) (ix2 (row t r) k) := by
  unfold row
  blk_simp [iblk]
  entry_read
  pointwise
  blk_point [iblk, V, idx_val t]

theorem in1 (c : Dev nD) (t : Fin cfg0.N) (r : Fin 2816) (k : Fin 1024) : iblk m c 1 t (ix2 r k) = m ((c : Thread nD τ).loc main_arg1) (ix2 r k) := by
  blk_simp [iblk]
  entry_read
  pointwise
  blk_point [iblk, V, idx_val t]

theorem in2 (c : Dev nD) (t : Fin cfg0.N) (r : Fin 512) (k : Fin 1024) : iblk m c 2 t (ix2 r k) = m ((c : Thread nD τ).loc main_arg2) (ix2 (row t r) k) := by
  unfold row
  blk_ext [iblk, V, idx_val t]

theorem final3 (c : Dev nD) : (dats m 0 c).arrAt 3 (cfgs 0).N = Cert.Reference16Ideal.Read.val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨r, k, rfl⟩ : ∃ (r : Fin 512) (k : Fin 1024), y = ix2 r k := ⟨y 0, y 1, Cert.Real.ix_2 512 1024 y (y 0) (y 1) rfl rfl⟩
  blk_simp
  rw [after0_3]; frame_out
  refine Eq.trans ?_ ((ref _ _ _ (row t r) k).symm.trans (congrArg _ (Cert.Real.ix_2 8192 1024 _ _ _ ?_ ?_).symm))
  · refine (pay_apply _ _ _ r k).trans ?_
    simp only [in0, in1, in2]
  all_goals blk_simp [idx_val t]
  all_goals rfl

end Cert.Kernel16Ideal.Down

end
-- ==== Proof.AttnOut.lean ====
/-
  The attention output's product, added to the stream.
-/
module

public import proofs.«01_k».proof.Proof.Gen.Kernel17Ideal.Value
public import proofs.«01_k».proof.Proof.Gen.Reference17Ideal.Read
public import Idealize.ShloMosaic.Lib.Pipeline.ValueKit
public import Idealize.ShloMosaic.Lib.Pipeline.ReadBack
public import proofs.«01_k».proof.Proof.NormGrad

@[expose] public section

set_option maxRecDepth 16384

noncomputable section

namespace Cert.Kernel17Ideal.Out

open Cert.Kernel17Ideal Cert.Kernel17Ideal.Gen Idealize.ShloMosaic Idealize.ShloMosaic.TcCoe Idealize.SL.Sem Idealize.ShloMosaic.StableHlo
open scoped BigOperators

theorem pay_apply (x : Vec Ideal S512x1024 .f32) (a : Vec Ideal S512x1024 .bf16) (w : Vec Ideal S1024x1024 .bf16) (r : Fin 512) (k : Fin 1024) :
    k0_pay1 x a w (ix2 r k) = x (ix2 r k) + ∑ j : Fin 1024, a (ix2 r j) * w (ix2 j k) := by
  pointwise [k0_pay1]

open Cert.Reference17Ideal.Read in
theorem ref (x0 : FVec Ideal S8192x1024 .f32) (x1 : FVec Ideal S1024x1024 .f32) (x2 : FVec Ideal S8192x1024 .f32) (R : Fin 8192) (k : Fin 1024) :
    val_main_v1 (F := Ideal) x0 x1 x2 (ix2 R k) = x2 (ix2 R k) + ∑ j : Fin 1024, x0 (ix2 R j) * x1 (ix2 j k) := by
  pointwise [val_main_v1, val_main_v0]

variable (m : (ℓ : Loc nD τ sig) → Buf (Elt Ideal) ℓ)

theorem idx_val : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- A row of a point's block in the whole array. -/
def row (t : Fin cfg0.N) (r : Fin 512) : Fin 8192 := ⟨t.val * 512 + r.val, by
  have := lt_of_lt_of_eq t.isLt N_0
  omega⟩

theorem in0 (c : Dev nD) (t : Fin cfg0.N) (r : Fin 512) (k : Fin 1024) : iblk m c 0 t (ix2 r k) = m ((c : Thread nD τ).loc main_arg0) (ix2 (row t r) k) := by
  unfold row
  blk_simp [iblk]
  entry_read
  pointwise
  blk_point [iblk, V, idx_val t]

theorem in1 (c : Dev nD) (t : Fin cfg0.N) (r : Fin 1024) (k : Fin 1024) : iblk m c 1 t (ix2 r k) = m ((c : Thread nD τ).loc main_arg1) (ix2 r k) := by
  blk_simp [iblk]
  entry_read
  pointwise
  blk_point [iblk, V, idx_val t]

theorem in2 (c : Dev nD) (t : Fin cfg0.N) (r : Fin 512) (k : Fin 1024) : iblk m c 2 t (ix2 r k) = m ((c : Thread nD τ).loc main_arg2) (ix2 (row t r) k) := by
  unfold row
  blk_ext [iblk, V, idx_val t]

theorem final3 (c : Dev nD) : (dats m 0 c).arrAt 3 (cfgs 0).N = Cert.Reference17Ideal.Read.val_main_v1 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨r, k, rfl⟩ : ∃ (r : Fin 512) (k : Fin 1024), y = ix2 r k := ⟨y 0, y 1, Cert.Real.ix_2 512 1024 y (y 0) (y 1) rfl rfl⟩
  blk_simp
  rw [after0_3]; frame_out
  refine Eq.trans ?_ ((ref _ _ _ (row t r) k).symm.trans (congrArg _ (Cert.Real.ix_2 8192 1024 _ _ _ ?_ ?_).symm))
  · refine (pay_apply _ _ _ r k).trans ?_
    simp only [in0, in1, in2]
  all_goals blk_simp [idx_val t]
  all_goals rfl

end Cert.Kernel17Ideal.Out

end
-- ==== Proof.AttnOutBwd.lean ====
/-
  The gradient through the attention output's product.
-/
module

public import proofs.«01_k».proof.Proof.Gen.Kernel18Ideal.Value
public import proofs.«01_k».proof.Proof.Gen.Reference18Ideal.Read
public import Idealize.ShloMosaic.Lib.Pipeline.ValueKit
public import Idealize.ShloMosaic.Lib.Pipeline.ReadBack
public import proofs.«01_k».proof.Proof.NormGrad

@[expose] public section

set_option maxRecDepth 16384

noncomputable section

namespace Cert.Kernel18Ideal.Back

open Cert.Kernel18Ideal Cert.Kernel18Ideal.Gen Idealize.ShloMosaic Idealize.ShloMosaic.TcCoe Idealize.SL.Sem Idealize.ShloMosaic.StableHlo
open scoped BigOperators

theorem pay_apply (d : Vec Ideal S512x1024 .f32) (w : Vec Ideal S1024x1024 .bf16) (r : Fin 512) (k : Fin 1024) :
    k0_pay1 d w (ix2 r k) = ∑ j : Fin 1024, d (ix2 r j) * w (ix2 k j) := by
  pointwise [k0_pay1]

open Cert.Reference18Ideal.Read in
theorem ref (x1 : FVec Ideal S1024x1024 .f32) (x3 : FVec Ideal S8192x1024 .f32) (R : Fin 8192) (k : Fin 1024) :
    val_main_v6 (F := Ideal) x1 x3 (ix2 R k) = ∑ j : Fin 1024, x3 (ix2 R j) * x1 (ix2 k j) := by
  pointwise [val_main_v6, val_main_v5, val_main_v2]

variable (m : (ℓ : Loc nD τ sig) → Buf (Elt Ideal) ℓ)

theorem idx_val : ∀ t : Fin cfg0.N, win0_0.index t = ![t.val, 0] ∧ win0_1.index t = ![0, 0] ∧ win0_2.index t = ![t.val, 0] :=
  (by decide +kernel : ∀ t : Fin grid0.N, _)

/-- A row of a point's block in the whole array. -/
def row (t : Fin cfg0.N) (r : Fin 512) : Fin 8192 := ⟨t.val * 512 + r.val, by
  have := lt_of_lt_of_eq t.isLt N_0
  omega⟩

theorem in0 (c : Dev nD) (t : Fin cfg0.N) (r : Fin 512) (k : Fin 1024) : iblk m c 0 t (ix2 r k) = m ((c : Thread nD τ).loc main_arg3) (ix2 (row t r) k) := by
  unfold row
  blk_ext [iblk, V, idx_val t]

theorem in1 (c : Dev nD) (t : Fin cfg0.N) (r : Fin 1024) (k : Fin 1024) : iblk m c 1 t (ix2 r k) = m ((c : Thread nD τ).loc main_arg1) (ix2 r k) := by
  blk_simp [iblk]
  entry_read
  pointwise
  blk_point [iblk, V, idx_val t]

theorem final2 (c : Dev nD) : (dats m 0 c).arrAt 2 (cfgs 0).N = Cert.Reference18Ideal.Read.val_main_v6 (F := Ideal) (m ((c : Thread nD τ).loc main_arg1)) (m ((c : Thread nD τ).loc main_arg3)) := by
  refine (dats m 0 c).arrAt_eq_of_covers 2 _ (by decide +kernel) fun t hf y => ?_
  obtain ⟨r, k, rfl⟩ : ∃ (r : Fin 512) (k : Fin 1024), y = ix2 r k := ⟨y 0, y 1, Cert.Real.ix_2 512 1024 y (y 0) (y 1) rfl rfl⟩
  blk_simp
  rw [after0_2]; frame_out
  refine Eq.trans ?_ ((ref _ _ (row t r) k).symm.trans (congrArg _ (Cert.Real.ix_2 8192 1024 _ _ _ ?_ ?_).symm))
  · refine (pay_apply _ _ r k).trans ?_
    simp only [in0, in1]
  all_goals blk_simp [idx_val t]
  all_goals rfl

end Cert.Kernel18Ideal.Back

end
-- ==== Proof.AttnOutGrad.lean ====
/-
  The gradient of the attention output's weights.
-/
module

public import proofs.«01_k».proof.Proof.Gen.Kernel19Ideal.Value
public import proofs.«01_k».proof.Proof.Gen.Reference19Ideal.Read
public import Idealize.ShloMosaic.Lib.Pipeline.ValueKit
public import Idealize.ShloMosaic.Lib.Pipeline.ReadBack
public import proofs.«01_k».proof.Proof.NormGrad

@[expose] public section

set_option maxRecDepth 16384

noncomputable section

namespace Cert.Kernel19Ideal.Grad

open Cert.Kernel19Ideal Cert.Kernel19Ideal.Gen Idealize.ShloMosaic Idealize.ShloMosaic.TcCoe Idealize.SL.Sem Idealize.ShloMosaic.StableHlo
open scoped BigOperators

/-- What a block of rows adds to the gradient. -/
def add (a : Vec Ideal S2048x1024 .bf16) (d : Vec Ideal S2048x1024 .f32) (i k : Fin 1024) : EReal := ∑ r : Fin 2048, a (ix2 r i) * d (ix2 r k)

theorem pay2_apply (a : Vec Ideal S2048x1024 .bf16) (d : Vec Ideal S2048x1024 .f32) (i k : Fin 1024) : k0_pay2 a d (ix2 i k) = add a d i k := by
  unfold add
  pointwise [k0_pay2, k0_pay1]

theorem pay3_apply (a : Vec Ideal S2048x1024 .bf16) (d : Vec Ideal S2048x1024 .f32) (v : Vec Ideal S1024x1024 .f32) (i k : Fin 1024) : k0_pay3 a d v (ix2 i k) = v (ix2 i k) + add a d i k := by
  unfold add
  pointwise [k0_pay3, k0_pay1]

theorem pay4_apply (a : Vec Ideal S2048x1024 .bf16) (d : Vec Ideal S2048x1024 .f32) (v : Vec Ideal S1024x1024 .f32) (i k : Fin 1024) : k0_pay4 a d v (ix2 i k) = v (ix2 i k) + add a d i k := by
  unfold add
  pointwise [k0_pay4, k0_pay1]

open Cert.Reference19Ideal.Read in
theorem ref (x0 x3 : FVec Ideal S8192x1024 .f32) (i k : Fin 1024) :
    val_main_v6 (F := Ideal) x0 x3 (ix2 i k) = ∑ r : Fin 8192, x0 (ix2 r i) * x3 (ix2 r k) := by
  have e : val_main_v6 (F := Ideal) x0 x3 (ix2 i k) = ∑ r : Fin 8192, x3 (ix2 r k) * x0 (ix2 r i) := by
    pointwise [val_main_v6, val_main_v4, val_main_v3, val_main_v2]
  rw [e]
  exact Finset.sum_congr rfl fun r _ => mul_comm _ _

variable (m : (ℓ : Loc nD τ sig) → Buf (Elt Ideal) ℓ)

theorem idx_val : ∀ t : Fin cfg0.N, win0_0.index t = ![t.val, 0] ∧ win0_1.index t = ![t.val, 0] ∧ win0_2.index t = ![0, 0] :=
  (by decide +kernel : ∀ t : Fin grid0.N, _)

/-- A row of a point's block in the whole array. -/
def row (t : Fin cfg0.N) (r : Fin 2048) : Fin 8192 := ⟨t.val * 2048 + r.val, by
  have := lt_of_lt_of_eq t.isLt N_0
  omega⟩

theorem in0 (c : Dev nD) (t : Fin cfg0.N) (r : Fin 2048) (k : Fin 1024) : iblk m c 0 t (ix2 r k) = m ((c : Thread nD τ).loc main_arg0) (ix2 (row t r) k) := by
  unfold row
  blk_simp [iblk]
  entry_read
  pointwise
  blk_point [iblk, V, idx_val t]

theorem in1 (c : Dev nD) (t : Fin cfg0.N) (r : Fin 2048) (k : Fin 1024) : iblk m c 1 t (ix2 r k) = m ((c : Thread nD τ).loc main_arg3) (ix2 (row t r) k) := by
  unfold row
  blk_ext [iblk, V, idx_val t]

/-- The running sum after a point: the kept one, or at a run's end the one written out. -/
def run (c : Dev nD) (n : Nat) (h : n < cfg0.N) (p : Fin 1024 × Fin 1024) : EReal :=
  if n % 4 = 3 then (outsAt0 m c n h).1 (ix2 p.1 p.2) else (outsAt0 m c n h).2 (ix2 p.1 p.2)

theorem runA (c : Dev nD) (t : Fin cfg0.N) (h0 : t.val % 4 = 0) (p : Fin 1024 × Fin 1024) :
    run m c t.val t.isLt p = (0 : EReal) + add (iblk m c 0 t) (iblk m c 1 t) p.1 p.2 := by
  rw [zero_add, run, if_neg (by omega), outsAt0_A m c t h0 (by omega) (by omega)]
  frame_out
  exact pay2_apply _ _ _ _

theorem runB (c : Dev nD) (t : Fin cfg0.N) (h0 : ¬ t.val % 4 = 0) (p : Fin 1024 × Fin 1024) :
    run m c t.val t.isLt p = run m c (t.val - 1) (Nat.lt_of_le_of_lt (Nat.sub_le _ _) t.isLt) p + add (iblk m c 0 t) (iblk m c 1 t) p.1 p.2 := by
  have e : run m c (t.val - 1) (Nat.lt_of_le_of_lt (Nat.sub_le _ _) t.isLt) p = (outsAt0 m c (t.val - 1) (Nat.lt_of_le_of_lt (Nat.sub_le _ _) t.isLt)).2 (ix2 p.1 p.2) := by
    rw [run, if_neg (by omega)]
  rw [e]
  by_cases h3 : t.val % 4 = 3
  · rw [run, if_pos h3, outsAt0_C m c t h0 (by omega) h3]
    frame_out
    rw [read_unread_whole]
    exact pay4_apply _ _ _ _ _
  · rw [run, if_neg h3, outsAt0_B m c t h0 (by omega) h3]
    frame_out
    rw [read_unread_whole]
    exact pay3_apply _ _ _ _ _

theorem runSum (c : Dev nD) (t : Fin cfg0.N) (ht : t.val % 4 = 3) (p : Fin 1024 × Fin 1024) :
    run m c t.val t.isLt p = Cert.Reference19Ideal.Read.val_main_v6 (F := Ideal) (m ((c : Thread nD τ).loc main_arg0)) (m ((c : Thread nD τ).loc main_arg3)) (ix2 p.1 p.2) := by
  rw [Pipeline.eq_sum_fin_of_reset_step_apply_of_flush (fun n h p => run m c n h p) 4 (fun _ => (0 : EReal)) (fun t p => add (iblk m c 0 t) (iblk m c 1 t) p.1 p.2)
    (fun t h j => runA m c t h j) (fun t h j => runB m c t h j) t ht p, zero_add, ref]
  unfold add
  refine Fin.sum_mul_add_congr fun s r hl => ?_
  have e : row ⟨4 * (t.val / 4) + s.val, Pipeline.run_point_lt_of_flush t ht s⟩ r = ⟨s.val * 2048 + r.val, hl⟩ := by
    have := lt_of_lt_of_eq t.isLt N_0
    apply Fin.ext
    change (4 * (t.val / 4) + s.val) * 2048 + r.val = s.val * 2048 + r.val
    omega
  simp only [in0, in1, e]

theorem final2 (c : Dev nD) : (dats m 0 c).arrAt 2 (cfgs 0).N = Cert.Reference19Ideal.Read.val_main_v6 (F := Ideal) (m ((c : Thread nD τ).loc main_arg0)) (m ((c : Thread nD τ).loc main_arg3)) := by
  refine (dats m 0 c).arrAt_eq_of_covers 2 _ (by decide +kernel) fun t hf y => ?_
  have ht := (flush0_2 t).mp hf
  obtain ⟨i, k, rfl⟩ : ∃ (i k : Fin 1024), y = ix2 i k := ⟨y 0, y 1, Cert.Real.ix_2 1024 1024 y (y 0) (y 1) rfl rfl⟩
  blk_simp
  rw [after0_2]
  have e := runSum m c t ht (i, k)
  rw [run, if_pos ht] at e
  refine e.trans ?_
  refine congrArg _ (Cert.Real.ix_2 1024 1024 _ _ _ ?_ ?_).symm <;> blk_simp [idx_val t] <;> rfl

end Cert.Kernel19Ideal.Grad

end
-- ==== Proof.PleGateGrad.lean ====
/-
  The gradient of the embedding gate's weights.
-/
module

public import proofs.«01_k».proof.Proof.Gen.Kernel20Ideal.Value
public import proofs.«01_k».proof.Proof.Gen.Reference20Ideal.Read
public import Idealize.ShloMosaic.Lib.Pipeline.ValueKit
public import Idealize.ShloMosaic.Lib.Pipeline.ReadBack
public import proofs.«01_k».proof.Proof.NormGrad

@[expose] public section

set_option maxRecDepth 16384

noncomputable section

namespace Cert.Kernel20Ideal.Grad

open Cert.Kernel20Ideal Cert.Kernel20Ideal.Gen Idealize.ShloMosaic Idealize.ShloMosaic.TcCoe Idealize.SL.Sem Idealize.ShloMosaic.StableHlo
open scoped BigOperators

/-- What a block of rows adds to the gradient. -/
def add (a : Vec Ideal S2048x1024 .bf16) (d : Vec Ideal S2048x1024 .bf16) (i : Fin 1024) (k : Fin 1024) : EReal := ∑ r : Fin 2048, a (ix2 r i) * d (ix2 r k)

theorem pay2_apply (a : Vec Ideal S2048x1024 .bf16) (d : Vec Ideal S2048x1024 .bf16) (i : Fin 1024) (k : Fin 1024) : k0_pay2 a d (ix2 i k) = add a d i k := by
  unfold add
  pointwise [k0_pay2, k0_pay1]

theorem pay3_apply (a : Vec Ideal S2048x1024 .bf16) (d : Vec Ideal S2048x1024 .bf16) (v : Vec Ideal S1024x1024 .f32) (i : Fin 1024) (k : Fin 1024) : k0_pay3 a d v (ix2 i k) = v (ix2 i k) + add a d i k := by
  unfold add
  pointwise [k0_pay3, k0_pay1]

theorem pay4_apply (a : Vec Ideal S2048x1024 .bf16) (d : Vec Ideal S2048x1024 .bf16) (v : Vec Ideal S1024x1024 .f32) (i : Fin 1024) (k : Fin 1024) : k0_pay4 a d v (ix2 i k) = v (ix2 i k) + add a d i k := by
  unfold add
  pointwise [k0_pay4, k0_pay1]

open Cert.Reference20Ideal.Read in
theorem ref (x : FVec Ideal S8192x1024 .f32) (y : FVec Ideal S8192x1024 .f32) (i : Fin 1024) (k : Fin 1024) :
    val_main_v4 (F := Ideal) x y (ix2 i k) = ∑ r : Fin 8192, x (ix2 r i) * y (ix2 r k) := by
  have e : val_main_v4 (F := Ideal) x y (ix2 i k) = ∑ r : Fin 8192, y (ix2 r k) * x (ix2 r i) := by
    pointwise [val_main_v4, val_main_v2, val_main_v1]
  rw [e]
  exact Finset.sum_congr rfl fun r _ => mul_comm _ _

variable (m : (ℓ : Loc nD τ sig) → Buf (Elt Ideal) ℓ)

theorem idx_val : ∀ t : Fin cfg0.N, win0_0.index t = ![t.val % 4, 0] ∧ win0_1.index t = ![t.val % 4, 0] ∧ win0_2.index t = ![0, 0] :=
  (by decide +kernel : ∀ t : Fin grid0.N, _)

/-- A row of a point's block in the whole array. -/
def row (t : Fin cfg0.N) (r : Fin 2048) : Fin 8192 := ⟨t.val % 4 * 2048 + r.val, by omega⟩

theorem in0 (c : Dev nD) (t : Fin cfg0.N) (r : Fin 2048) (k : Fin 1024) : iblk m c 0 t (ix2 r k) = m ((c : Thread nD τ).loc main_arg0) (ix2 (row t r) k) := by
  unfold row
  blk_simp [iblk]
  entry_read
  pointwise
  blk_point [iblk, V, idx_val t]

theorem in1 (c : Dev nD) (t : Fin cfg0.N) (r : Fin 2048) (k : Fin 1024) : iblk m c 1 t (ix2 r k) = m ((c : Thread nD τ).loc main_arg2) (ix2 (row t r) k) := by
  unfold row
  blk_simp [iblk]
  entry_read
  pointwise
  blk_point [iblk, V, idx_val t]

/-- The running sum after a point: the kept one, or at a run's end the one written out. -/
def run (c : Dev nD) (n : Nat) (h : n < cfg0.N) (p : Fin 1024 × Fin 1024) : EReal :=
  if n % 4 = 3 then (outsAt0 m c n h).1 (ix2 p.1 p.2) else (outsAt0 m c n h).2 (ix2 p.1 p.2)

theorem runA (c : Dev nD) (t : Fin cfg0.N) (h0 : t.val % 4 = 0) (p : Fin 1024 × Fin 1024) :
    run m c t.val t.isLt p = (0 : EReal) + add (iblk m c 0 t) (iblk m c 1 t) p.1 p.2 := by
  rw [zero_add, run, if_neg (by omega), outsAt0_A m c t h0 (by omega) (by omega)]
  frame_out
  exact pay2_apply _ _ _ _

theorem runB (c : Dev nD) (t : Fin cfg0.N) (h0 : ¬ t.val % 4 = 0) (p : Fin 1024 × Fin 1024) :
    run m c t.val t.isLt p = run m c (t.val - 1) (Nat.lt_of_le_of_lt (Nat.sub_le _ _) t.isLt) p + add (iblk m c 0 t) (iblk m c 1 t) p.1 p.2 := by
  have e : run m c (t.val - 1) (Nat.lt_of_le_of_lt (Nat.sub_le _ _) t.isLt) p = (outsAt0 m c (t.val - 1) (Nat.lt_of_le_of_lt (Nat.sub_le _ _) t.isLt)).2 (ix2 p.1 p.2) := by
    rw [run, if_neg (by omega)]
  rw [e]
  by_cases h3 : t.val % 4 = 3
  · rw [run, if_pos h3, outsAt0_C m c t h0 (by omega) h3]
    frame_out
    rw [read_unread_whole]
    exact pay4_apply _ _ _ _ _
  · rw [run, if_neg h3, outsAt0_B m c t h0 (by omega) h3]
    frame_out
    rw [read_unread_whole]
    exact pay3_apply _ _ _ _ _

theorem runSum (c : Dev nD) (t : Fin cfg0.N) (ht : t.val % 4 = 3) (p : Fin 1024 × Fin 1024) :
    run m c t.val t.isLt p = Cert.Reference20Ideal.Read.val_main_v4 (F := Ideal) (m ((c : Thread nD τ).loc main_arg0)) (m ((c : Thread nD τ).loc main_arg2)) (ix2 p.1 p.2) := by
  rw [Pipeline.eq_sum_fin_of_reset_step_apply_of_flush (fun n h p => run m c n h p) 4 (fun _ => (0 : EReal)) (fun t p => add (iblk m c 0 t) (iblk m c 1 t) p.1 p.2)
    (fun t h j => runA m c t h j) (fun t h j => runB m c t h j) t ht p, zero_add, ref]
  unfold add
  refine Fin.sum_mul_add_congr fun s r hl => ?_
  have e : row ⟨4 * (t.val / 4) + s.val, Pipeline.run_point_lt_of_flush t ht s⟩ r = ⟨s.val * 2048 + r.val, hl⟩ := by
    apply Fin.ext
    change (4 * (t.val / 4) + s.val) % 4 * 2048 + r.val = s.val * 2048 + r.val
    omega
  simp only [in0, in1, e]

theorem final2 (c : Dev nD) : (dats m 0 c).arrAt 2 (cfgs 0).N = Cert.Reference20Ideal.Read.val_main_v4 (F := Ideal) (m ((c : Thread nD τ).loc main_arg0)) (m ((c : Thread nD τ).loc main_arg2)) := by
  refine (dats m 0 c).arrAt_eq_of_covers 2 _ (by decide +kernel) fun t hf y => ?_
  have ht := (flush0_2 t).mp hf
  obtain ⟨i, k, rfl⟩ : ∃ (i : Fin 1024) (k : Fin 1024), y = ix2 i k := ⟨y 0, y 1, Cert.Real.ix_2 1024 1024 y (y 0) (y 1) rfl rfl⟩
  blk_simp
  rw [after0_2]
  have e := runSum m c t ht (i, k)
  rw [run, if_pos ht] at e
  refine e.trans ?_
  refine congrArg _ (Cert.Real.ix_2 1024 1024 _ _ _ ?_ ?_).symm <;> blk_simp [idx_val t] <;> rfl

end Cert.Kernel20Ideal.Grad

end
-- ==== Proof.PleProjGrad.lean ====
/-
  The gradient of the embedding projection's weights.
-/
module

public import proofs.«01_k».proof.Proof.Gen.Kernel21Ideal.Value
public import proofs.«01_k».proof.Proof.Gen.Reference21Ideal.Read
public import Idealize.ShloMosaic.Lib.Pipeline.ValueKit
public import Idealize.ShloMosaic.Lib.Pipeline.ReadBack
public import proofs.«01_k».proof.Proof.NormGrad

@[expose] public section

set_option maxRecDepth 16384

noncomputable section

namespace Cert.Kernel21Ideal.Grad

open Cert.Kernel21Ideal Cert.Kernel21Ideal.Gen Idealize.ShloMosaic Idealize.ShloMosaic.TcCoe Idealize.SL.Sem Idealize.ShloMosaic.StableHlo
open scoped BigOperators

/-- What a block of rows adds to the gradient. -/
def add (a : Vec Ideal S2048x256 .f32) (d : Vec Ideal S2048x1024 .bf16) (i : Fin 256) (k : Fin 1024) : EReal := ∑ r : Fin 2048, a (ix2 r i) * d (ix2 r k)

theorem pay2_apply (a : Vec Ideal S2048x256 .f32) (d : Vec Ideal S2048x1024 .bf16) (i : Fin 256) (k : Fin 1024) : k0_pay2 a d (ix2 i k) = add a d i k := by
  unfold add
  pointwise [k0_pay2, k0_pay1]

theorem pay3_apply (a : Vec Ideal S2048x256 .f32) (d : Vec Ideal S2048x1024 .bf16) (v : Vec Ideal S256x1024 .f32) (i : Fin 256) (k : Fin 1024) : k0_pay3 a d v (ix2 i k) = v (ix2 i k) + add a d i k := by
  unfold add
  pointwise [k0_pay3, k0_pay1]

theorem pay4_apply (a : Vec Ideal S2048x256 .f32) (d : Vec Ideal S2048x1024 .bf16) (v : Vec Ideal S256x1024 .f32) (i : Fin 256) (k : Fin 1024) : k0_pay4 a d v (ix2 i k) = v (ix2 i k) + add a d i k := by
  unfold add
  pointwise [k0_pay4, k0_pay1]

open Cert.Reference21Ideal.Read in
theorem ref (x : FVec Ideal S8192x256 .f32) (y : FVec Ideal S8192x1024 .f32) (i : Fin 256) (k : Fin 1024) :
    val_main_v4 (F := Ideal) x y (ix2 i k) = ∑ r : Fin 8192, x (ix2 r i) * y (ix2 r k) := by
  have e : val_main_v4 (F := Ideal) x y (ix2 i k) = ∑ r : Fin 8192, y (ix2 r k) * x (ix2 r i) := by
    pointwise [val_main_v4, val_main_v2, val_main_v1]
  rw [e]
  exact Finset.sum_congr rfl fun r _ => mul_comm _ _

variable (m : (ℓ : Loc nD τ sig) → Buf (Elt Ideal) ℓ)

theorem idx_val : ∀ t : Fin cfg0.N, win0_0.index t = ![t.val % 4, 0] ∧ win0_1.index t = ![t.val % 4, 0] ∧ win0_2.index t = ![0, 0] :=
  (by decide +kernel : ∀ t : Fin grid0.N, _)

/-- A row of a point's block in the whole array. -/
def row (t : Fin cfg0.N) (r : Fin 2048) : Fin 8192 := ⟨t.val % 4 * 2048 + r.val, by omega⟩

theorem in0 (c : Dev nD) (t : Fin cfg0.N) (r : Fin 2048) (k : Fin 256) : iblk m c 0 t (ix2 r k) = m ((c : Thread nD τ).loc main_arg0) (ix2 (row t r) k) := by
  unfold row
  blk_ext [iblk, V, idx_val t]

theorem in1 (c : Dev nD) (t : Fin cfg0.N) (r : Fin 2048) (k : Fin 1024) : iblk m c 1 t (ix2 r k) = m ((c : Thread nD τ).loc main_arg2) (ix2 (row t r) k) := by
  unfold row
  blk_simp [iblk]
  entry_read
  pointwise
  blk_point [iblk, V, idx_val t]

/-- The running sum after a point: the kept one, or at a run's end the one written out. -/
def run (c : Dev nD) (n : Nat) (h : n < cfg0.N) (p : Fin 256 × Fin 1024) : EReal :=
  if n % 4 = 3 then (outsAt0 m c n h).1 (ix2 p.1 p.2) else (outsAt0 m c n h).2 (ix2 p.1 p.2)

theorem runA (c : Dev nD) (t : Fin cfg0.N) (h0 : t.val % 4 = 0) (p : Fin 256 × Fin 1024) :
    run m c t.val t.isLt p = (0 : EReal) + add (iblk m c 0 t) (iblk m c 1 t) p.1 p.2 := by
  rw [zero_add, run, if_neg (by omega), outsAt0_A m c t h0 (by omega) (by omega)]
  frame_out
  exact pay2_apply _ _ _ _

theorem runB (c : Dev nD) (t : Fin cfg0.N) (h0 : ¬ t.val % 4 = 0) (p : Fin 256 × Fin 1024) :
    run m c t.val t.isLt p = run m c (t.val - 1) (Nat.lt_of_le_of_lt (Nat.sub_le _ _) t.isLt) p + add (iblk m c 0 t) (iblk m c 1 t) p.1 p.2 := by
  have e : run m c (t.val - 1) (Nat.lt_of_le_of_lt (Nat.sub_le _ _) t.isLt) p = (outsAt0 m c (t.val - 1) (Nat.lt_of_le_of_lt (Nat.sub_le _ _) t.isLt)).2 (ix2 p.1 p.2) := by
    rw [run, if_neg (by omega)]
  rw [e]
  by_cases h3 : t.val % 4 = 3
  · rw [run, if_pos h3, outsAt0_C m c t h0 (by omega) h3]
    frame_out
    rw [read_unread_whole]
    exact pay4_apply _ _ _ _ _
  · rw [run, if_neg h3, outsAt0_B m c t h0 (by omega) h3]
    frame_out
    rw [read_unread_whole]
    exact pay3_apply _ _ _ _ _

theorem runSum (c : Dev nD) (t : Fin cfg0.N) (ht : t.val % 4 = 3) (p : Fin 256 × Fin 1024) :
    run m c t.val t.isLt p = Cert.Reference21Ideal.Read.val_main_v4 (F := Ideal) (m ((c : Thread nD τ).loc main_arg0)) (m ((c : Thread nD τ).loc main_arg2)) (ix2 p.1 p.2) := by
  rw [Pipeline.eq_sum_fin_of_reset_step_apply_of_flush (fun n h p => run m c n h p) 4 (fun _ => (0 : EReal)) (fun t p => add (iblk m c 0 t) (iblk m c 1 t) p.1 p.2)
    (fun t h j => runA m c t h j) (fun t h j => runB m c t h j) t ht p, zero_add, ref]
  unfold add
  refine Fin.sum_mul_add_congr fun s r hl => ?_
  have e : row ⟨4 * (t.val / 4) + s.val, Pipeline.run_point_lt_of_flush t ht s⟩ r = ⟨s.val * 2048 + r.val, hl⟩ := by
    apply Fin.ext
    change (4 * (t.val / 4) + s.val) % 4 * 2048 + r.val = s.val * 2048 + r.val
    omega
  simp only [in0, in1, e]

theorem final2 (c : Dev nD) : (dats m 0 c).arrAt 2 (cfgs 0).N = Cert.Reference21Ideal.Read.val_main_v4 (F := Ideal) (m ((c : Thread nD τ).loc main_arg0)) (m ((c : Thread nD τ).loc main_arg2)) := by
  refine (dats m 0 c).arrAt_eq_of_covers 2 _ (by decide +kernel) fun t hf y => ?_
  have ht := (flush0_2 t).mp hf
  obtain ⟨i, k, rfl⟩ : ∃ (i : Fin 256) (k : Fin 1024), y = ix2 i k := ⟨y 0, y 1, Cert.Real.ix_2 256 1024 y (y 0) (y 1) rfl rfl⟩
  blk_simp
  rw [after0_2]
  have e := runSum m c t ht (i, k)
  rw [run, if_pos ht] at e
  refine e.trans ?_
  refine congrArg _ (Cert.Real.ix_2 256 1024 _ _ _ ?_ ?_).symm <;> blk_simp [idx_val t] <;> rfl

end Cert.Kernel21Ideal.Grad

end
-- ==== Proof.QkvGrad.lean ====
/-
  The gradient of the joint projection's weights, in three column blocks.
-/
module

public import proofs.«01_k».proof.Proof.Gen.Kernel22Ideal.Value
public import proofs.«01_k».proof.Proof.Gen.Reference22Ideal.Read
public import Idealize.ShloMosaic.Lib.Pipeline.ValueKit
public import Idealize.ShloMosaic.Lib.Pipeline.ReadBack
public import proofs.«01_k».proof.Proof.NormGrad

@[expose] public section

set_option maxRecDepth 16384

noncomputable section

namespace Cert.Kernel22Ideal.Grad

open Cert.Kernel22Ideal Cert.Kernel22Ideal.Gen Idealize.ShloMosaic Idealize.ShloMosaic.TcCoe Idealize.SL.Sem Idealize.ShloMosaic.StableHlo
open scoped BigOperators

/-- What a block of rows adds to the gradient. -/
def add (a : Vec Ideal S2048x1024 .bf16) (d : Vec Ideal S2048x1024 .bf16) (i : Fin 1024) (k : Fin 1024) : EReal := ∑ r : Fin 2048, a (ix2 r i) * d (ix2 r k)

theorem pay2_apply (a : Vec Ideal S2048x1024 .bf16) (d : Vec Ideal S2048x1024 .bf16) (i : Fin 1024) (k : Fin 1024) : k0_pay2 a d (ix2 i k) = add a d i k := by
  unfold add
  pointwise [k0_pay2, k0_pay1]

theorem pay3_apply (a : Vec Ideal S2048x1024 .bf16) (d : Vec Ideal S2048x1024 .bf16) (v : Vec Ideal S1024x1024 .f32) (i : Fin 1024) (k : Fin 1024) : k0_pay3 a d v (ix2 i k) = v (ix2 i k) + add a d i k := by
  unfold add
  pointwise [k0_pay3, k0_pay1]

theorem pay4_apply (a : Vec Ideal S2048x1024 .bf16) (d : Vec Ideal S2048x1024 .bf16) (v : Vec Ideal S1024x1024 .f32) (i : Fin 1024) (k : Fin 1024) : k0_pay4 a d v (ix2 i k) = v (ix2 i k) + add a d i k := by
  unfold add
  pointwise [k0_pay4, k0_pay1]

open Cert.Reference22Ideal.Read in
theorem ref (x : FVec Ideal S8192x1024 .f32) (y : FVec Ideal S8192x3072 .f32) (i : Fin 1024) (k : Fin 3072) :
    val_main_v4 (F := Ideal) x y (ix2 i k) = ∑ r : Fin 8192, x (ix2 r i) * y (ix2 r k) := by
  have e : val_main_v4 (F := Ideal) x y (ix2 i k) = ∑ r : Fin 8192, y (ix2 r k) * x (ix2 r i) := by
    pointwise [val_main_v4, val_main_v2, val_main_v1]
  rw [e]
  exact Finset.sum_congr rfl fun r _ => mul_comm _ _

variable (m : (ℓ : Loc nD τ sig) → Buf (Elt Ideal) ℓ)

theorem idx_val : ∀ t : Fin cfg0.N, win0_0.index t = ![t.val % 4, 0] ∧ win0_1.index t = ![t.val % 4, t.val / 4] ∧ win0_2.index t = ![0, t.val / 4] :=
  (by decide +kernel : ∀ t : Fin grid0.N, _)

/-- A row of a point's block in the whole array. -/
def row (t : Fin cfg0.N) (r : Fin 2048) : Fin 8192 := ⟨t.val % 4 * 2048 + r.val, by omega⟩

/-- A column of a point's block in the whole array. -/
def col (t : Fin cfg0.N) (k : Fin 1024) : Fin 3072 := ⟨t.val / 4 * 1024 + k.val, by
  have := lt_of_lt_of_eq t.isLt N_0
  omega⟩

theorem in0 (c : Dev nD) (t : Fin cfg0.N) (r : Fin 2048) (k : Fin 1024) : iblk m c 0 t (ix2 r k) = m ((c : Thread nD τ).loc main_arg0) (ix2 (row t r) k) := by
  unfold row
  blk_simp [iblk]
  entry_read
  pointwise
  blk_point [iblk, V, idx_val t]

theorem in1 (c : Dev nD) (t : Fin cfg0.N) (r : Fin 2048) (k : Fin 1024) : iblk m c 1 t (ix2 r k) = m ((c : Thread nD τ).loc main_arg2) (ix2 (row t r) (col t k)) := by
  unfold row col
  blk_simp [iblk]
  entry_read
  pointwise
  blk_point [iblk, V, idx_val t]

/-- The running sum after a point: the kept one, or at a run's end the one written out. -/
def run (c : Dev nD) (n : Nat) (h : n < cfg0.N) (p : Fin 1024 × Fin 1024) : EReal :=
  if n % 4 = 3 then (outsAt0 m c n h).1 (ix2 p.1 p.2) else (outsAt0 m c n h).2 (ix2 p.1 p.2)

theorem runA (c : Dev nD) (t : Fin cfg0.N) (h0 : t.val % 4 = 0) (p : Fin 1024 × Fin 1024) :
    run m c t.val t.isLt p = (0 : EReal) + add (iblk m c 0 t) (iblk m c 1 t) p.1 p.2 := by
  rw [zero_add, run, if_neg (by omega), outsAt0_A m c t h0 (by omega) (by omega)]
  frame_out
  exact pay2_apply _ _ _ _

theorem runB (c : Dev nD) (t : Fin cfg0.N) (h0 : ¬ t.val % 4 = 0) (p : Fin 1024 × Fin 1024) :
    run m c t.val t.isLt p = run m c (t.val - 1) (Nat.lt_of_le_of_lt (Nat.sub_le _ _) t.isLt) p + add (iblk m c 0 t) (iblk m c 1 t) p.1 p.2 := by
  have e : run m c (t.val - 1) (Nat.lt_of_le_of_lt (Nat.sub_le _ _) t.isLt) p = (outsAt0 m c (t.val - 1) (Nat.lt_of_le_of_lt (Nat.sub_le _ _) t.isLt)).2 (ix2 p.1 p.2) := by
    rw [run, if_neg (by omega)]
  rw [e]
  by_cases h3 : t.val % 4 = 3
  · rw [run, if_pos h3, outsAt0_C m c t h0 (by omega) h3]
    frame_out
    rw [read_unread_whole]
    exact pay4_apply _ _ _ _ _
  · rw [run, if_neg h3, outsAt0_B m c t h0 (by omega) h3]
    frame_out
    rw [read_unread_whole]
    exact pay3_apply _ _ _ _ _

theorem runSum (c : Dev nD) (t : Fin cfg0.N) (ht : t.val % 4 = 3) (p : Fin 1024 × Fin 1024) :
    run m c t.val t.isLt p = Cert.Reference22Ideal.Read.val_main_v4 (F := Ideal) (m ((c : Thread nD τ).loc main_arg0)) (m ((c : Thread nD τ).loc main_arg2)) (ix2 p.1 (col t p.2)) := by
  rw [Pipeline.eq_sum_fin_of_reset_step_apply_of_flush (fun n h p => run m c n h p) 4 (fun _ => (0 : EReal)) (fun t p => add (iblk m c 0 t) (iblk m c 1 t) p.1 p.2)
    (fun t h j => runA m c t h j) (fun t h j => runB m c t h j) t ht p, zero_add, ref]
  unfold add
  refine Fin.sum_mul_add_congr fun s r hl => ?_
  have e : row ⟨4 * (t.val / 4) + s.val, Pipeline.run_point_lt_of_flush t ht s⟩ r = ⟨s.val * 2048 + r.val, hl⟩ := by
    apply Fin.ext
    change (4 * (t.val / 4) + s.val) % 4 * 2048 + r.val = s.val * 2048 + r.val
    omega
  have e2 : ∀ k, col ⟨4 * (t.val / 4) + s.val, Pipeline.run_point_lt_of_flush t ht s⟩ k = col t k := by
    intro k
    apply Fin.ext
    change (4 * (t.val / 4) + s.val) / 4 * 1024 + k.val = t.val / 4 * 1024 + k.val
    omega
  simp only [in0, in1, e, e2]

theorem final2 (c : Dev nD) : (dats m 0 c).arrAt 2 (cfgs 0).N = Cert.Reference22Ideal.Read.val_main_v4 (F := Ideal) (m ((c : Thread nD τ).loc main_arg0)) (m ((c : Thread nD τ).loc main_arg2)) := by
  refine (dats m 0 c).arrAt_eq_of_covers 2 _ (by decide +kernel) fun t hf y => ?_
  have ht := (flush0_2 t).mp hf
  obtain ⟨i, k, rfl⟩ : ∃ (i : Fin 1024) (k : Fin 1024), y = ix2 i k := ⟨y 0, y 1, Cert.Real.ix_2 1024 1024 y (y 0) (y 1) rfl rfl⟩
  blk_simp
  rw [after0_2]
  have e := runSum m c t ht (i, k)
  rw [run, if_pos ht] at e
  refine e.trans ?_
  refine congrArg _ (Cert.Real.ix_2 1024 3072 _ _ _ ?_ ?_).symm <;> blk_simp [idx_val t] <;> rfl

end Cert.Kernel22Ideal.Grad

end
-- ==== Proof.PoolInGrad.lean ====
/-
  The gradient of the pooling's input weights.
-/
module

public import proofs.«01_k».proof.Proof.Gen.Kernel23Ideal.Value
public import proofs.«01_k».proof.Proof.Gen.Reference23Ideal.Read
public import Idealize.ShloMosaic.Lib.Pipeline.ValueKit
public import Idealize.ShloMosaic.Lib.Pipeline.ReadBack
public import proofs.«01_k».proof.Proof.NormGrad

@[expose] public section

set_option maxRecDepth 16384

noncomputable section

namespace Cert.Kernel23Ideal.Grad

open Cert.Kernel23Ideal Cert.Kernel23Ideal.Gen Idealize.ShloMosaic Idealize.ShloMosaic.TcCoe Idealize.SL.Sem Idealize.ShloMosaic.StableHlo
open scoped BigOperators

/-- What a block of rows adds to the gradient. -/
def add (a : Vec Ideal S2048x1024 .bf16) (d : Vec Ideal S2048x1024 .bf16) (i : Fin 1024) (k : Fin 1024) : EReal := ∑ r : Fin 2048, a (ix2 r i) * d (ix2 r k)

theorem pay2_apply (a : Vec Ideal S2048x1024 .bf16) (d : Vec Ideal S2048x1024 .bf16) (i : Fin 1024) (k : Fin 1024) : k0_pay2 a d (ix2 i k) = add a d i k := by
  unfold add
  pointwise [k0_pay2, k0_pay1]

theorem pay3_apply (a : Vec Ideal S2048x1024 .bf16) (d : Vec Ideal S2048x1024 .bf16) (v : Vec Ideal S1024x1024 .f32) (i : Fin 1024) (k : Fin 1024) : k0_pay3 a d v (ix2 i k) = v (ix2 i k) + add a d i k := by
  unfold add
  pointwise [k0_pay3, k0_pay1]

theorem pay4_apply (a : Vec Ideal S2048x1024 .bf16) (d : Vec Ideal S2048x1024 .bf16) (v : Vec Ideal S1024x1024 .f32) (i : Fin 1024) (k : Fin 1024) : k0_pay4 a d v (ix2 i k) = v (ix2 i k) + add a d i k := by
  unfold add
  pointwise [k0_pay4, k0_pay1]

open Cert.Reference23Ideal.Read in
theorem ref (x : FVec Ideal S8192x1024 .f32) (y : FVec Ideal S8192x1024 .f32) (i : Fin 1024) (k : Fin 1024) :
    val_main_v4 (F := Ideal) x y (ix2 i k) = ∑ r : Fin 8192, x (ix2 r i) * y (ix2 r k) := by
  have e : val_main_v4 (F := Ideal) x y (ix2 i k) = ∑ r : Fin 8192, y (ix2 r k) * x (ix2 r i) := by
    pointwise [val_main_v4, val_main_v2, val_main_v1]
  rw [e]
  exact Finset.sum_congr rfl fun r _ => mul_comm _ _

variable (m : (ℓ : Loc nD τ sig) → Buf (Elt Ideal) ℓ)

theorem idx_val : ∀ t : Fin cfg0.N, win0_0.index t = ![t.val % 4, 0] ∧ win0_1.index t = ![t.val % 4, 0] ∧ win0_2.index t = ![0, 0] :=
  (by decide +kernel : ∀ t : Fin grid0.N, _)

/-- A row of a point's block in the whole array. -/
def row (t : Fin cfg0.N) (r : Fin 2048) : Fin 8192 := ⟨t.val % 4 * 2048 + r.val, by omega⟩

theorem in0 (c : Dev nD) (t : Fin cfg0.N) (r : Fin 2048) (k : Fin 1024) : iblk m c 0 t (ix2 r k) = m ((c : Thread nD τ).loc main_arg0) (ix2 (row t r) k) := by
  unfold row
  blk_simp [iblk]
  entry_read
  pointwise
  blk_point [iblk, V, idx_val t]

theorem in1 (c : Dev nD) (t : Fin cfg0.N) (r : Fin 2048) (k : Fin 1024) : iblk m c 1 t (ix2 r k) = m ((c : Thread nD τ).loc main_arg2) (ix2 (row t r) k) := by
  unfold row
  blk_simp [iblk]
  entry_read
  pointwise
  blk_point [iblk, V, idx_val t]

/-- The running sum after a point: the kept one, or at a run's end the one written out. -/
def run (c : Dev nD) (n : Nat) (h : n < cfg0.N) (p : Fin 1024 × Fin 1024) : EReal :=
  if n % 4 = 3 then (outsAt0 m c n h).1 (ix2 p.1 p.2) else (outsAt0 m c n h).2 (ix2 p.1 p.2)

theorem runA (c : Dev nD) (t : Fin cfg0.N) (h0 : t.val % 4 = 0) (p : Fin 1024 × Fin 1024) :
    run m c t.val t.isLt p = (0 : EReal) + add (iblk m c 0 t) (iblk m c 1 t) p.1 p.2 := by
  rw [zero_add, run, if_neg (by omega), outsAt0_A m c t h0 (by omega) (by omega)]
  frame_out
  exact pay2_apply _ _ _ _

theorem runB (c : Dev nD) (t : Fin cfg0.N) (h0 : ¬ t.val % 4 = 0) (p : Fin 1024 × Fin 1024) :
    run m c t.val t.isLt p = run m c (t.val - 1) (Nat.lt_of_le_of_lt (Nat.sub_le _ _) t.isLt) p + add (iblk m c 0 t) (iblk m c 1 t) p.1 p.2 := by
  have e : run m c (t.val - 1) (Nat.lt_of_le_of_lt (Nat.sub_le _ _) t.isLt) p = (outsAt0 m c (t.val - 1) (Nat.lt_of_le_of_lt (Nat.sub_le _ _) t.isLt)).2 (ix2 p.1 p.2) := by
    rw [run, if_neg (by omega)]
  rw [e]
  by_cases h3 : t.val % 4 = 3
  · rw [run, if_pos h3, outsAt0_C m c t h0 (by omega) h3]
    frame_out
    rw [read_unread_whole]
    exact pay4_apply _ _ _ _ _
  · rw [run, if_neg h3, outsAt0_B m c t h0 (by omega) h3]
    frame_out
    rw [read_unread_whole]
    exact pay3_apply _ _ _ _ _

theorem runSum (c : Dev nD) (t : Fin cfg0.N) (ht : t.val % 4 = 3) (p : Fin 1024 × Fin 1024) :
    run m c t.val t.isLt p = Cert.Reference23Ideal.Read.val_main_v4 (F := Ideal) (m ((c : Thread nD τ).loc main_arg0)) (m ((c : Thread nD τ).loc main_arg2)) (ix2 p.1 p.2) := by
  rw [Pipeline.eq_sum_fin_of_reset_step_apply_of_flush (fun n h p => run m c n h p) 4 (fun _ => (0 : EReal)) (fun t p => add (iblk m c 0 t) (iblk m c 1 t) p.1 p.2)
    (fun t h j => runA m c t h j) (fun t h j => runB m c t h j) t ht p, zero_add, ref]
  unfold add
  refine Fin.sum_mul_add_congr fun s r hl => ?_
  have e : row ⟨4 * (t.val / 4) + s.val, Pipeline.run_point_lt_of_flush t ht s⟩ r = ⟨s.val * 2048 + r.val, hl⟩ := by
    apply Fin.ext
    change (4 * (t.val / 4) + s.val) % 4 * 2048 + r.val = s.val * 2048 + r.val
    omega
  simp only [in0, in1, e]

theorem final2 (c : Dev nD) : (dats m 0 c).arrAt 2 (cfgs 0).N = Cert.Reference23Ideal.Read.val_main_v4 (F := Ideal) (m ((c : Thread nD τ).loc main_arg0)) (m ((c : Thread nD τ).loc main_arg2)) := by
  refine (dats m 0 c).arrAt_eq_of_covers 2 _ (by decide +kernel) fun t hf y => ?_
  have ht := (flush0_2 t).mp hf
  obtain ⟨i, k, rfl⟩ : ∃ (i : Fin 1024) (k : Fin 1024), y = ix2 i k := ⟨y 0, y 1, Cert.Real.ix_2 1024 1024 y (y 0) (y 1) rfl rfl⟩
  blk_simp
  rw [after0_2]
  have e := runSum m c t ht (i, k)
  rw [run, if_pos ht] at e
  refine e.trans ?_
  refine congrArg _ (Cert.Real.ix_2 1024 1024 _ _ _ ?_ ?_).symm <;> blk_simp [idx_val t] <;> rfl

end Cert.Kernel23Ideal.Grad

end
-- ==== Proof.FfnDownGrad.lean ====
/-
  The gradient of the feed-forward part's second weights, in two row blocks.
-/
module

public import proofs.«01_k».proof.Proof.Gen.Kernel24Ideal.Value
public import proofs.«01_k».proof.Proof.Gen.Reference24Ideal.Read
public import Idealize.ShloMosaic.Lib.Pipeline.ValueKit
public import Idealize.ShloMosaic.Lib.Pipeline.ReadBack
public import proofs.«01_k».proof.Proof.NormGrad

@[expose] public section

set_option maxRecDepth 16384

noncomputable section

namespace Cert.Kernel24Ideal.Grad

open Cert.Kernel24Ideal Cert.Kernel24Ideal.Gen Idealize.ShloMosaic Idealize.ShloMosaic.TcCoe Idealize.SL.Sem Idealize.ShloMosaic.StableHlo
open scoped BigOperators

/-- What a block of rows adds to the gradient. -/
def add (a : Vec Ideal S2048x1408 .bf16) (d : Vec Ideal S2048x1024 .f32) (i : Fin 1408) (k : Fin 1024) : EReal := ∑ r : Fin 2048, a (ix2 r i) * (Ideal.ofBits .f32 0x3F000000#32 * d (ix2 r k))

theorem pay2_apply (a : Vec Ideal S2048x1408 .bf16) (d : Vec Ideal S2048x1024 .f32) (i : Fin 1408) (k : Fin 1024) : k0_pay2 a d (ix2 i k) = add a d i k := by
  unfold add
  pointwise [k0_pay2, k0_pay1]

theorem pay3_apply (a : Vec Ideal S2048x1408 .bf16) (d : Vec Ideal S2048x1024 .f32) (v : Vec Ideal S1408x1024 .f32) (i : Fin 1408) (k : Fin 1024) : k0_pay3 a d v (ix2 i k) = v (ix2 i k) + add a d i k := by
  unfold add
  pointwise [k0_pay3, k0_pay1]

theorem pay4_apply (a : Vec Ideal S2048x1408 .bf16) (d : Vec Ideal S2048x1024 .f32) (v : Vec Ideal S1408x1024 .f32) (i : Fin 1408) (k : Fin 1024) : k0_pay4 a d v (ix2 i k) = v (ix2 i k) + add a d i k := by
  unfold add
  pointwise [k0_pay4, k0_pay1]

open Cert.Reference24Ideal.Read in
theorem ref (x : FVec Ideal S8192x2816 .f32) (y : FVec Ideal S8192x1024 .f32) (i : Fin 2816) (k : Fin 1024) :
    val_main_v10 (F := Ideal) x y (ix2 i k) = ∑ r : Fin 8192, x (ix2 r i) * (Ideal.ofBits .f32 0x3F000000#32 * y (ix2 r k)) := by
  have e : val_main_v10 (F := Ideal) x y (ix2 i k) = ∑ r : Fin 8192, Ideal.ofBits .f32 0x3F000000#32 * y (ix2 r k) * x (ix2 r i) := by
    pointwise [val_main_v10, val_main_v8, val_main_v7, val_main_v6, val_main_v5, val_main_v4, val_main_cst_0]
  rw [e]
  exact Finset.sum_congr rfl fun r _ => mul_comm _ _

variable (m : (ℓ : Loc nD τ sig) → Buf (Elt Ideal) ℓ)

theorem idx_val : ∀ t : Fin cfg0.N, win0_0.index t = ![t.val % 4, t.val / 4] ∧ win0_1.index t = ![t.val % 4, 0] ∧ win0_2.index t = ![t.val / 4, 0] :=
  (by decide +kernel : ∀ t : Fin grid0.N, _)

/-- A row of a point's block in the whole array. -/
def row (t : Fin cfg0.N) (r : Fin 2048) : Fin 8192 := ⟨t.val % 4 * 2048 + r.val, by omega⟩

/-- A column of a point's block in the whole array. -/
def col (t : Fin cfg0.N) (k : Fin 1408) : Fin 2816 := ⟨t.val / 4 * 1408 + k.val, by
  have := lt_of_lt_of_eq t.isLt N_0
  omega⟩

theorem in0 (c : Dev nD) (t : Fin cfg0.N) (r : Fin 2048) (k : Fin 1408) : iblk m c 0 t (ix2 r k) = m ((c : Thread nD τ).loc main_arg0) (ix2 (row t r) (col t k)) := by
  unfold row col
  blk_simp [iblk]
  entry_read
  pointwise
  blk_point [iblk, V, idx_val t]

theorem in1 (c : Dev nD) (t : Fin cfg0.N) (r : Fin 2048) (k : Fin 1024) : iblk m c 1 t (ix2 r k) = m ((c : Thread nD τ).loc main_arg3) (ix2 (row t r) k) := by
  unfold row
  blk_ext [iblk, V, idx_val t]

/-- The running sum after a point: the kept one, or at a run's end the one written out. -/
def run (c : Dev nD) (n : Nat) (h : n < cfg0.N) (p : Fin 1408 × Fin 1024) : EReal :=
  if n % 4 = 3 then (outsAt0 m c n h).1 (ix2 p.1 p.2) else (outsAt0 m c n h).2 (ix2 p.1 p.2)

theorem runA (c : Dev nD) (t : Fin cfg0.N) (h0 : t.val % 4 = 0) (p : Fin 1408 × Fin 1024) :
    run m c t.val t.isLt p = (0 : EReal) + add (iblk m c 0 t) (iblk m c 1 t) p.1 p.2 := by
  rw [zero_add, run, if_neg (by omega), outsAt0_A m c t h0 (by omega) (by omega)]
  frame_out
  exact pay2_apply _ _ _ _

theorem runB (c : Dev nD) (t : Fin cfg0.N) (h0 : ¬ t.val % 4 = 0) (p : Fin 1408 × Fin 1024) :
    run m c t.val t.isLt p = run m c (t.val - 1) (Nat.lt_of_le_of_lt (Nat.sub_le _ _) t.isLt) p + add (iblk m c 0 t) (iblk m c 1 t) p.1 p.2 := by
  have e : run m c (t.val - 1) (Nat.lt_of_le_of_lt (Nat.sub_le _ _) t.isLt) p = (outsAt0 m c (t.val - 1) (Nat.lt_of_le_of_lt (Nat.sub_le _ _) t.isLt)).2 (ix2 p.1 p.2) := by
    rw [run, if_neg (by omega)]
  rw [e]
  by_cases h3 : t.val % 4 = 3
  · rw [run, if_pos h3, outsAt0_C m c t h0 (by omega) h3]
    frame_out
    rw [read_unread_whole]
    exact pay4_apply _ _ _ _ _
  · rw [run, if_neg h3, outsAt0_B m c t h0 (by omega) h3]
    frame_out
    rw [read_unread_whole]
    exact pay3_apply _ _ _ _ _

theorem runSum (c : Dev nD) (t : Fin cfg0.N) (ht : t.val % 4 = 3) (p : Fin 1408 × Fin 1024) :
    run m c t.val t.isLt p = Cert.Reference24Ideal.Read.val_main_v10 (F := Ideal) (m ((c : Thread nD τ).loc main_arg0)) (m ((c : Thread nD τ).loc main_arg3)) (ix2 (col t p.1) p.2) := by
  rw [Pipeline.eq_sum_fin_of_reset_step_apply_of_flush (fun n h p => run m c n h p) 4 (fun _ => (0 : EReal)) (fun t p => add (iblk m c 0 t) (iblk m c 1 t) p.1 p.2)
    (fun t h j => runA m c t h j) (fun t h j => runB m c t h j) t ht p, zero_add, ref]
  unfold add
  refine Fin.sum_mul_add_congr fun s r hl => ?_
  have e : row ⟨4 * (t.val / 4) + s.val, Pipeline.run_point_lt_of_flush t ht s⟩ r = ⟨s.val * 2048 + r.val, hl⟩ := by
    apply Fin.ext
    change (4 * (t.val / 4) + s.val) % 4 * 2048 + r.val = s.val * 2048 + r.val
    omega
  have e2 : ∀ k, col ⟨4 * (t.val / 4) + s.val, Pipeline.run_point_lt_of_flush t ht s⟩ k = col t k := by
    intro k
    apply Fin.ext
    change (4 * (t.val / 4) + s.val) / 4 * 1408 + k.val = t.val / 4 * 1408 + k.val
    omega
  simp only [in0, in1, e, e2]

theorem final2 (c : Dev nD) : (dats m 0 c).arrAt 2 (cfgs 0).N = Cert.Reference24Ideal.Read.val_main_v10 (F := Ideal) (m ((c : Thread nD τ).loc main_arg0)) (m ((c : Thread nD τ).loc main_arg3)) := by
  refine (dats m 0 c).arrAt_eq_of_covers 2 _ (by decide +kernel) fun t hf y => ?_
  have ht := (flush0_2 t).mp hf
  obtain ⟨i, k, rfl⟩ : ∃ (i : Fin 1408) (k : Fin 1024), y = ix2 i k := ⟨y 0, y 1, Cert.Real.ix_2 1408 1024 y (y 0) (y 1) rfl rfl⟩
  blk_simp
  rw [after0_2]
  have e := runSum m c t ht (i, k)
  rw [run, if_pos ht] at e
  refine e.trans ?_
  refine congrArg _ (Cert.Real.ix_2 2816 1024 _ _ _ ?_ ?_).symm <;> blk_simp [idx_val t] <;> rfl

end Cert.Kernel24Ideal.Grad

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel.Skeleton
public import proofs.«01_k».proof.Proof.Gen.Kernel.Launch
public import proofs.«01_k».proof.Proof.Gen.Kernel.Points
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal.Run
public import proofs.«01_k».proof.Proof.Gen.ReferenceIdeal.Read
public import proofs.«01_k».proof.Proof.Gen.Pre_finite
public import proofs.«01_k».proof.Proof.Attn.Final
public import proofs.«01_k».proof.Proof.AttnBits.Run
public import proofs.«01_k».proof.Proof.Gen.Kernel2
public import proofs.«01_k».proof.Proof.Gen.Kernel2Ideal
public import proofs.«01_k».proof.Proof.Gen.Reference2Ideal
public import proofs.«01_k».proof.Proof.Gen.Kernel2Ideal.Frame
public import proofs.«01_k».proof.Proof.Gen.Kernel2Ideal.Value
public import proofs.«01_k».proof.Proof.Gen.Kernel2.Frame
public import proofs.«01_k».proof.Proof.Gen.Reference2Ideal.Run
public import proofs.«01_k».proof.Proof.Gen.Reference2Ideal.Read
public import proofs.«01_k».proof.Proof.Gate
public import proofs.«01_k».proof.Proof.Gen.Kernel3
public import proofs.«01_k».proof.Proof.Gen.Kernel3Ideal
public import proofs.«01_k».proof.Proof.Gen.Reference3Ideal
public import proofs.«01_k».proof.Proof.Gen.Kernel3Ideal.Frame
public import proofs.«01_k».proof.Proof.Gen.Kernel3Ideal.Value
public import proofs.«01_k».proof.Proof.Gen.Kernel3.Frame
public import proofs.«01_k».proof.Proof.Gen.Reference3Ideal.Run
public import proofs.«01_k».proof.Proof.Gen.Reference3Ideal.Read
public import proofs.«01_k».proof.Proof.Loss
public import proofs.«01_k».proof.Proof.Gen.Kernel4
public import proofs.«01_k».proof.Proof.Gen.Kernel4Ideal
public import proofs.«01_k».proof.Proof.Gen.Reference4Ideal
public import proofs.«01_k».proof.Proof.Gen.Kernel4Ideal.Frame
public import proofs.«01_k».proof.Proof.Gen.Kernel4Ideal.Value
public import proofs.«01_k».proof.Proof.Gen.Kernel4.Frame
public import proofs.«01_k».proof.Proof.Gen.Reference4Ideal.Run
public import proofs.«01_k».proof.Proof.Gen.Reference4Ideal.Read
public import proofs.«01_k».proof.Proof.Pool.Group
public import proofs.«01_k».proof.Proof.Gen.Kernel5
public import proofs.«01_k».proof.Proof.Gen.Kernel5Ideal
public import proofs.«01_k».proof.Proof.Gen.Reference5Ideal
public import proofs.«01_k».proof.Proof.Gen.Kernel5Ideal.Frame
public import proofs.«01_k».proof.Proof.Gen.Kernel5Ideal.Value
public import proofs.«01_k».proof.Proof.Gen.Kernel5.Frame
public import proofs.«01_k».proof.Proof.Gen.Reference5Ideal.Run
public import proofs.«01_k».proof.Proof.Gen.Reference5Ideal.Read
public import proofs.«01_k».proof.Proof.Gen.Pre_finite5
public import proofs.«01_k».proof.Proof.Pool.WindowRef
public import proofs.«01_k».proof.Proof.Gen.Kernel7
public import proofs.«01_k».proof.Proof.Gen.Kernel7Ideal
public import proofs.«01_k».proof.Proof.Gen.Reference7Ideal
public import proofs.«01_k».proof.Proof.Gen.Kernel7Ideal.Frame
public import proofs.«01_k».proof.Proof.Gen.Kernel7Ideal.Value
public import proofs.«01_k».proof.Proof.Gen.Kernel7.Frame
public import proofs.«01_k».proof.Proof.Gen.Reference7Ideal.Run
public import proofs.«01_k».proof.Proof.Gen.Reference7Ideal.Read
public import proofs.«01_k».proof.Proof.Gen.Pre_finite7
public import proofs.«01_k».proof.Proof.FfnAct
public import proofs.«01_k».proof.Proof.Gen.Kernel8
public import proofs.«01_k».proof.Proof.Gen.Kernel8Ideal
public import proofs.«01_k».proof.Proof.Gen.Reference8Ideal
public import proofs.«01_k».proof.Proof.Gen.Kernel8Ideal.Frame
public import proofs.«01_k».proof.Proof.Gen.Kernel8Ideal.Value
public import proofs.«01_k».proof.Proof.Gen.Kernel8.Frame
public import proofs.«01_k».proof.Proof.Gen.Reference8Ideal.Run
public import proofs.«01_k».proof.Proof.Gen.Reference8Ideal.Read
public import proofs.«01_k».proof.Proof.FfnDh
public import proofs.«01_k».proof.Proof.Gen.Kernel9
public import proofs.«01_k».proof.Proof.Gen.Kernel9Ideal
public import proofs.«01_k».proof.Proof.Gen.Reference9Ideal
public import proofs.«01_k».proof.Proof.Gen.Kernel9Ideal.Frame
public import proofs.«01_k».proof.Proof.Gen.Kernel9Ideal.Value
public import proofs.«01_k».proof.Proof.Gen.Kernel9.Frame
public import proofs.«01_k».proof.Proof.Gen.Reference9Ideal.Run
public import proofs.«01_k».proof.Proof.Gen.Reference9Ideal.Read
public import proofs.«01_k».proof.Proof.SquareDh
public import proofs.«01_k».proof.Proof.Gen.Kernel10
public import proofs.«01_k».proof.Proof.Gen.Kernel10Ideal
public import proofs.«01_k».proof.Proof.Gen.Reference10Ideal
public import proofs.«01_k».proof.Proof.Gen.Kernel10Ideal.Frame
public import proofs.«01_k».proof.Proof.Gen.Kernel10Ideal.Value
public import proofs.«01_k».proof.Proof.Gen.Kernel10.Frame
public import proofs.«01_k».proof.Proof.Gen.Reference10Ideal.Run
public import proofs.«01_k».proof.Proof.Gen.Reference10Ideal.Read
public import proofs.«01_k».proof.Proof.QkvDh
public import proofs.«01_k».proof.Proof.Gen.Kernel11
public import proofs.«01_k».proof.Proof.Gen.Kernel11Ideal
public import proofs.«01_k».proof.Proof.Gen.Reference11Ideal
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Reference11Ideal.Run
public import proofs.«01_k».proof.Proof.Gen.Reference11Ideal.Read
public import proofs.«01_k».proof.Proof.Gen.Pre_finite11
public import proofs.«01_k».proof.Proof.AttnFwd.Value
public import proofs.«01_k».proof.Proof.AttnFwdBits.Run
public import proofs.«01_k».proof.Proof.Gen.Kernel6
public import proofs.«01_k».proof.Proof.Gen.Kernel6Ideal
public import proofs.«01_k».proof.Proof.Gen.Reference6Ideal
public import proofs.«01_k».proof.Proof.Gen.Kernel6Ideal.Frame
public import proofs.«01_k».proof.Proof.Gen.Kernel6Ideal.Value
public import proofs.«01_k».proof.Proof.Gen.Kernel6.Frame
public import proofs.«01_k».proof.Proof.Gen.Reference6Ideal.Run
public import proofs.«01_k».proof.Proof.Gen.Reference6Ideal.Read
public import proofs.«01_k».proof.Proof.QkNorm.Gains
public import proofs.«01_k».proof.Proof.QkNorm.Columns
public import proofs.«01_k».proof.Proof.Gen.Kernel12
public import proofs.«01_k».proof.Proof.Gen.Kernel12Ideal
public import proofs.«01_k».proof.Proof.Gen.Reference12Ideal
public import proofs.«01_k».proof.Proof.Gen.Kernel12Ideal.Frame
public import proofs.«01_k».proof.Proof.Gen.Kernel12Ideal.Value
public import proofs.«01_k».proof.Proof.Gen.Kernel12.Frame
public import proofs.«01_k».proof.Proof.Gen.Reference12Ideal.Run
public import proofs.«01_k».proof.Proof.Gen.Reference12Ideal.Read
public import proofs.«01_k».proof.Proof.QkNormFwd.Columns
public import proofs.«01_k».proof.Proof.Gen.Kernel13
public import proofs.«01_k».proof.Proof.Gen.Kernel13Ideal
public import proofs.«01_k».proof.Proof.Gen.Reference13Ideal
public import proofs.«01_k».proof.Proof.Gen.Kernel13Ideal.Frame
public import proofs.«01_k».proof.Proof.Gen.Kernel13Ideal.Value
public import proofs.«01_k».proof.Proof.Gen.Kernel13.Frame
public import proofs.«01_k».proof.Proof.Gen.Reference13Ideal.Run
public import proofs.«01_k».proof.Proof.Gen.Reference13Ideal.Read
public import proofs.«01_k».proof.Proof.PleFwd
public import proofs.«01_k».proof.Proof.Gen.Kernel14
public import proofs.«01_k».proof.Proof.Gen.Kernel14Ideal
public import proofs.«01_k».proof.Proof.Gen.Reference14Ideal
public import proofs.«01_k».proof.Proof.Gen.Kernel14Ideal.Frame
public import proofs.«01_k».proof.Proof.Gen.Kernel14Ideal.Value
public import proofs.«01_k».proof.Proof.Gen.Kernel14.Frame
public import proofs.«01_k».proof.Proof.Gen.Reference14Ideal.Run
public import proofs.«01_k».proof.Proof.Gen.Reference14Ideal.Read
public import proofs.«01_k».proof.Proof.PoolIn
public import proofs.«01_k».proof.Proof.Gen.Kernel15
public import proofs.«01_k».proof.Proof.Gen.Kernel15Ideal
public import proofs.«01_k».proof.Proof.Gen.Reference15Ideal
public import proofs.«01_k».proof.Proof.Gen.Kernel15Ideal.Frame
public import proofs.«01_k».proof.Proof.Gen.Kernel15Ideal.Value
public import proofs.«01_k».proof.Proof.Gen.Kernel15.Frame
public import proofs.«01_k».proof.Proof.Gen.Reference15Ideal.Run
public import proofs.«01_k».proof.Proof.Gen.Reference15Ideal.Read
public import proofs.«01_k».proof.Proof.FfnUp
public import proofs.«01_k».proof.Proof.Gen.Kernel16
public import proofs.«01_k».proof.Proof.Gen.Kernel16Ideal
public import proofs.«01_k».proof.Proof.Gen.Reference16Ideal
public import proofs.«01_k».proof.Proof.Gen.Kernel16Ideal.Frame
public import proofs.«01_k».proof.Proof.Gen.Kernel16Ideal.Value
public import proofs.«01_k».proof.Proof.Gen.Kernel16.Frame
public import proofs.«01_k».proof.Proof.Gen.Reference16Ideal.Run
public import proofs.«01_k».proof.Proof.Gen.Reference16Ideal.Read
public import proofs.«01_k».proof.Proof.FfnDown
public import proofs.«01_k».proof.Proof.Gen.Kernel17
public import proofs.«01_k».proof.Proof.Gen.Kernel17Ideal
public import proofs.«01_k».proof.Proof.Gen.Reference17Ideal
public import proofs.«01_k».proof.Proof.Gen.Kernel17Ideal.Frame
public import proofs.«01_k».proof.Proof.Gen.Kernel17Ideal.Value
public import proofs.«01_k».proof.Proof.Gen.Kernel17.Frame
public import proofs.«01_k».proof.Proof.Gen.Reference17Ideal.Run
public import proofs.«01_k».proof.Proof.Gen.Reference17Ideal.Read
public import proofs.«01_k».proof.Proof.AttnOut
public import proofs.«01_k».proof.Proof.Gen.Kernel18
public import proofs.«01_k».proof.Proof.Gen.Kernel18Ideal
public import proofs.«01_k».proof.Proof.Gen.Reference18Ideal
public import proofs.«01_k».proof.Proof.Gen.Kernel18Ideal.Frame
public import proofs.«01_k».proof.Proof.Gen.Kernel18Ideal.Value
public import proofs.«01_k».proof.Proof.Gen.Kernel18.Frame
public import proofs.«01_k».proof.Proof.Gen.Reference18Ideal.Run
public import proofs.«01_k».proof.Proof.Gen.Reference18Ideal.Read
public import proofs.«01_k».proof.Proof.AttnOutBwd
public import proofs.«01_k».proof.Proof.Gen.Kernel19
public import proofs.«01_k».proof.Proof.Gen.Kernel19Ideal
public import proofs.«01_k».proof.Proof.Gen.Reference19Ideal
public import proofs.«01_k».proof.Proof.Gen.Kernel19Ideal.Frame
public import proofs.«01_k».proof.Proof.Gen.Kernel19Ideal.Value
public import proofs.«01_k».proof.Proof.Gen.Kernel19.Frame
public import proofs.«01_k».proof.Proof.Gen.Reference19Ideal.Run
public import proofs.«01_k».proof.Proof.Gen.Reference19Ideal.Read
public import proofs.«01_k».proof.Proof.AttnOutGrad
public import proofs.«01_k».proof.Proof.Gen.Kernel20
public import proofs.«01_k».proof.Proof.Gen.Kernel20Ideal
public import proofs.«01_k».proof.Proof.Gen.Reference20Ideal
public import proofs.«01_k».proof.Proof.Gen.Kernel20Ideal.Frame
public import proofs.«01_k».proof.Proof.Gen.Kernel20Ideal.Value
public import proofs.«01_k».proof.Proof.Gen.Kernel20.Frame
public import proofs.«01_k».proof.Proof.Gen.Reference20Ideal.Run
public import proofs.«01_k».proof.Proof.Gen.Reference20Ideal.Read
public import proofs.«01_k».proof.Proof.PleGateGrad
public import proofs.«01_k».proof.Proof.Gen.Kernel21
public import proofs.«01_k».proof.Proof.Gen.Kernel21Ideal
public import proofs.«01_k».proof.Proof.Gen.Reference21Ideal
public import proofs.«01_k».proof.Proof.Gen.Kernel21Ideal.Frame
public import proofs.«01_k».proof.Proof.Gen.Kernel21Ideal.Value
public import proofs.«01_k».proof.Proof.Gen.Kernel21.Frame
public import proofs.«01_k».proof.Proof.Gen.Reference21Ideal.Run
public import proofs.«01_k».proof.Proof.Gen.Reference21Ideal.Read
public import proofs.«01_k».proof.Proof.PleProjGrad
public import proofs.«01_k».proof.Proof.Gen.Kernel22
public import proofs.«01_k».proof.Proof.Gen.Kernel22Ideal
public import proofs.«01_k».proof.Proof.Gen.Reference22Ideal
public import proofs.«01_k».proof.Proof.Gen.Kernel22Ideal.Frame
public import proofs.«01_k».proof.Proof.Gen.Kernel22Ideal.Value
public import proofs.«01_k».proof.Proof.Gen.Kernel22.Frame
public import proofs.«01_k».proof.Proof.Gen.Reference22Ideal.Run
public import proofs.«01_k».proof.Proof.Gen.Reference22Ideal.Read
public import proofs.«01_k».proof.Proof.QkvGrad
public import proofs.«01_k».proof.Proof.Gen.Kernel23
public import proofs.«01_k».proof.Proof.Gen.Kernel23Ideal
public import proofs.«01_k».proof.Proof.Gen.Reference23Ideal
public import proofs.«01_k».proof.Proof.Gen.Kernel23Ideal.Frame
public import proofs.«01_k».proof.Proof.Gen.Kernel23Ideal.Value
public import proofs.«01_k».proof.Proof.Gen.Kernel23.Frame
public import proofs.«01_k».proof.Proof.Gen.Reference23Ideal.Run
public import proofs.«01_k».proof.Proof.Gen.Reference23Ideal.Read
public import proofs.«01_k».proof.Proof.PoolInGrad
public import proofs.«01_k».proof.Proof.Gen.Kernel24
public import proofs.«01_k».proof.Proof.Gen.Kernel24Ideal
public import proofs.«01_k».proof.Proof.Gen.Reference24Ideal
public import proofs.«01_k».proof.Proof.Gen.Kernel24Ideal.Frame
public import proofs.«01_k».proof.Proof.Gen.Kernel24Ideal.Value
public import proofs.«01_k».proof.Proof.Gen.Kernel24.Frame
public import proofs.«01_k».proof.Proof.Gen.Reference24Ideal.Run
public import proofs.«01_k».proof.Proof.Gen.Reference24Ideal.Read
public import proofs.«01_k».proof.Proof.FfnDownGrad
public import Idealize.ShloMosaic.Lib.Claim

@[expose] public section

set_option maxRecDepth 65536

noncomputable section

namespace Cert.Proof

open Idealize.ShloMosaic Idealize.SL.Sem

theorem value : algebraic_KernelIdeal_ReferenceIdeal_pre_finite := by
  pair_intro
  · run_from Cert.KernelIdeal.Attn.run_blocks m g
  · run_from Cert.ReferenceIdeal.Value.run m' g'
    · rw [Cert.ReferenceIdeal.Read.val_main_v51_eq, (hagree c).1, (hagree c).2.1, (hagree c).2.2.1, (hagree c).2.2.2]
      exact Cert.KernelIdeal.Attn.ref5 m c (Cert.KernelIdeal.Attn.real4_of_pre m hpre c)
    · rw [Cert.ReferenceIdeal.Read.val_main_v49_eq, (hagree c).1, (hagree c).2.1, (hagree c).2.2.1, (hagree c).2.2.2]
      exact Cert.KernelIdeal.Attn.ref6 m c (Cert.KernelIdeal.Attn.real4_of_pre m hpre c)
    · rw [Cert.ReferenceIdeal.Read.val_main_v47_eq, (hagree c).1, (hagree c).2.1, (hagree c).2.2.2]
      exact Cert.KernelIdeal.Attn.ref7 m c (Cert.KernelIdeal.Attn.real4_of_pre m hpre c)

theorem frame : quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem value2 : algebraic_Kernel2Ideal_Reference2Ideal := by
  pair_intro
  · run_from Cert.Kernel2Ideal.Value.run_blocks m g
  · run_from Cert.Reference2Ideal.Value.run m' g'
    · exact (Cert.Kernel2Ideal.Gate.ref3 _ _ _).trans (Cert.Kernel2Ideal.Gate.final3 m c).symm
    · exact (Cert.Kernel2Ideal.Gate.ref4 _ _).trans (Cert.Kernel2Ideal.Gate.final4 m c).symm

theorem frame2 : quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem value3 : algebraic_Kernel3Ideal_Reference3Ideal := by
  pair_intro
  · run_from Cert.Kernel3Ideal.Value.run_blocks m g
  · run_from Cert.Reference3Ideal.Value.run m' g'
    · exact (Cert.Kernel3Ideal.Loss.final2 m c).symm
    · exact (Cert.Kernel3Ideal.Loss.final3 m c).symm

theorem frame3 : quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem value4 : algebraic_Kernel4Ideal_Reference4Ideal := by
  pair_intro
  · run_from Cert.Kernel4Ideal.Value.run_blocks m g
  · run_from Cert.Reference4Ideal.Value.run m' g'
    · exact (Cert.Kernel4Ideal.Group.ref19 _ _ _).trans (Cert.Kernel4Ideal.Group.final4 m c).symm
    · exact (Cert.Kernel4Ideal.Group.ref20 _ _ _).trans (Cert.Kernel4Ideal.Group.final5 m c).symm
    · exact (funext fun y => Cert.Kernel4Ideal.Group.ref21 _ _ _ y).trans (Cert.Kernel4Ideal.Group.final6 m c).symm

theorem frame4 : quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)

theorem value5 : algebraic_Kernel5Ideal_Reference5Ideal_pre_finite5 := by
  pair_intro
  · run_from Cert.Kernel5Ideal.Value.run_blocks m g
  · run_from Cert.Reference5Ideal.Value.run m' g'
    rw [Cert.Reference5Ideal.Read.val_main_v147_eq, (hagree c).2]
    exact Cert.Kernel5Ideal.Window.ref_final m hpre c

theorem frame5 : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem value7 : algebraic_Kernel7Ideal_Reference7Ideal_pre_finite7 := by
  pair_intro
  · run_from Cert.Kernel7Ideal.Value.run_blocks m g
  · run_from Cert.Reference7Ideal.Value.run m' g'
    · rw [Cert.Reference7Ideal.Read.val_main_v13_eq]
      try simp only [(hagree c).1, (hagree c).2.1, (hagree c).2.2.1, (hagree c).2.2.2]
      exact (Cert.Kernel7Ideal.Act.final4 m c (hpre c)).symm
    · rw [Cert.Reference7Ideal.Read.val_main_v14_eq]
      try simp only [(hagree c).1, (hagree c).2.2.1, (hagree c).2.2.2]
      exact (Cert.Kernel7Ideal.Act.final5 m c).symm

theorem frame7 : quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

theorem value8 : algebraic_Kernel8Ideal_Reference8Ideal := by
  pair_intro
  · run_from Cert.Kernel8Ideal.Value.run_blocks m g
  · run_from Cert.Reference8Ideal.Value.run m' g'
    · rw [Cert.Reference8Ideal.Read.val_main_v43_eq, (hagree c).1, (hagree c).2.1, (hagree c).2.2.1, (hagree c).2.2.2.1, (hagree c).2.2.2.2.1, (hagree c).2.2.2.2.2]
      exact (Cert.Kernel8Ideal.Dh.final7 m c).symm
    · rw [Cert.Reference8Ideal.Read.val_main_v44_eq]
      try simp only [(hagree c).1, (hagree c).2.2.1, (hagree c).2.2.2.1, (hagree c).2.2.2.2.1]
      exact (Cert.Kernel8Ideal.Dh.final8 m c).symm

theorem frame8 : quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

theorem value9 : algebraic_Kernel9Ideal_Reference9Ideal := by
  pair_intro
  · run_from Cert.Kernel9Ideal.Value.run_blocks m g
  · run_from Cert.Reference9Ideal.Value.run m' g'
    · rw [Cert.Reference9Ideal.Read.val_main_v40_eq, (hagree c).1, (hagree c).2.1, (hagree c).2.2.1, (hagree c).2.2.2.1, (hagree c).2.2.2.2]
      exact (Cert.Kernel9Ideal.Dh.final5 m c).symm
    · rw [Cert.Reference9Ideal.Read.val_main_v41_eq]
      try simp only [(hagree c).1, (hagree c).2.2.1, (hagree c).2.2.2.1]
      exact (Cert.Kernel9Ideal.Dh.final6 m c).symm

theorem frame9 : quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

theorem value10 : algebraic_Kernel10Ideal_Reference10Ideal := by
  pair_intro
  · run_from Cert.Kernel10Ideal.Value.run_blocks m g
  · run_from Cert.Reference10Ideal.Value.run m' g'
    · rw [Cert.Reference10Ideal.Read.val_main_v40_eq, (hagree c).1, (hagree c).2.1, (hagree c).2.2.1, (hagree c).2.2.2.1, (hagree c).2.2.2.2]
      exact (Cert.Kernel10Ideal.Dh.final5 m c).symm
    · rw [Cert.Reference10Ideal.Read.val_main_v41_eq]
      try simp only [(hagree c).1, (hagree c).2.2.1, (hagree c).2.2.2.1]
      exact (Cert.Kernel10Ideal.Dh.final6 m c).symm

theorem frame10 : quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

theorem value11 : algebraic_Kernel11Ideal_Reference11Ideal_pre_finite11 := by
  pair_intro
  · run_from Cert.Kernel11Ideal.Attn.run_blocks m g
  · run_from Cert.Reference11Ideal.Value.run m' g'
    rw [Cert.Reference11Ideal.Read.val_main_v26_eq]
    try simp only [(hagree c).1, (hagree c).2.1, (hagree c).2.2]
    exact Cert.Kernel11Ideal.Attn.ref3 m c (Cert.Kernel11Ideal.Attn.real3_of_pre m c hpre)

theorem frame11 : quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem value6 : algebraic_Kernel6Ideal_Reference6Ideal := by
  pair_intro
  · run_from Cert.Kernel6Ideal.Value.run_blocks m g
  · run_from Cert.Reference6Ideal.Value.run m' g'
    · rw [Cert.Reference6Ideal.Read.val_main_v92_eq]
      try simp only [(hagree c).1, (hagree c).2.1, (hagree c).2.2.1, (hagree c).2.2.2.1, (hagree c).2.2.2.2.1, (hagree c).2.2.2.2.2]
      exact (Cert.Kernel6Ideal.Qk.final7 m c).symm
    · rw [Cert.Reference6Ideal.Read.val_main_v87_eq]
      try simp only [(hagree c).1, (hagree c).2.2.2.1]
      exact (Cert.Kernel6Ideal.Qk.final8 m c).symm
    · rw [Cert.Reference6Ideal.Read.val_main_v91_eq]
      try simp only [(hagree c).1, (hagree c).2.2.2.2.1]
      exact (Cert.Kernel6Ideal.Qk.final9 m c).symm

theorem frame6 : quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)

theorem value12 : algebraic_Kernel12Ideal_Reference12Ideal := by
  pair_intro
  · run_from Cert.Kernel12Ideal.Value.run_blocks m g
  · run_from Cert.Reference12Ideal.Value.run m' g'
    · rw [Cert.Reference12Ideal.Read.val_main_v35_eq]
      try simp only [(hagree c).1, (hagree c).2.1]
      exact (Cert.Kernel12Ideal.Qk.final5 m c).symm
    · rw [Cert.Reference12Ideal.Read.val_main_v36_eq]
      try simp only [(hagree c).1, (hagree c).2.2]
      exact (Cert.Kernel12Ideal.Qk.final6 m c).symm
    · rw [Cert.Reference12Ideal.Read.val_main_v37_eq]
      try simp only [(hagree c).1]
      exact (Cert.Kernel12Ideal.Qk.final7 m c).symm

theorem frame12 : quiescent_Reference12Ideal := fun m ρ _ =>
  (θ_run Cert.Reference12Ideal.defs _ _).mono (fun r h => ⟨fun c => (h c).2.2.2, sem_eq_zero_of_no_sems (by decide) r.2⟩)
    (Cert.Reference12Ideal.Value.run (F := Ideal) m ρ)

theorem value13 : algebraic_Kernel13Ideal_Reference13Ideal := by
  pair_intro
  · run_from Cert.Kernel13Ideal.Value.run_blocks m g
  · run_from Cert.Reference13Ideal.Value.run m' g'
    · rw [Cert.Reference13Ideal.Read.val_main_v22_eq]
      try simp only [(hagree c).1, (hagree c).2.1, (hagree c).2.2.1, (hagree c).2.2.2.1, (hagree c).2.2.2.2]
      exact (Cert.Kernel13Ideal.Ple.final5 m c).symm
    · rw [Cert.Reference13Ideal.Read.val_main_v23_eq]
      try simp only [(hagree c).1, (hagree c).2.1, (hagree c).2.2.1, (hagree c).2.2.2.1, (hagree c).2.2.2.2]
      exact (Cert.Kernel13Ideal.Ple.final6 m c).symm
    · rw [Cert.Reference13Ideal.Read.val_main_v24_eq]
      try simp only [(hagree c).1, (hagree c).2.1, (hagree c).2.2.1, (hagree c).2.2.2.1, (hagree c).2.2.2.2]
      exact (Cert.Kernel13Ideal.Ple.final7 m c).symm
    · rw [Cert.Reference13Ideal.Read.val_main_v25_eq]
      try simp only [(hagree c).1, (hagree c).2.1, (hagree c).2.2.1, (hagree c).2.2.2.1, (hagree c).2.2.2.2]
      exact (Cert.Kernel13Ideal.Ple.final8 m c).symm

theorem frame13 : quiescent_Reference13Ideal := fun m ρ _ =>
  (θ_run Cert.Reference13Ideal.defs _ _).mono (fun r h => ⟨fun c => (h c).2.2.2.2, sem_eq_zero_of_no_sems (by decide) r.2⟩)
    (Cert.Reference13Ideal.Value.run (F := Ideal) m ρ)

theorem value14 : algebraic_Kernel14Ideal_Reference14Ideal := by
  pair_intro
  · run_from Cert.Kernel14Ideal.Value.run_blocks m g
  · run_from Cert.Reference14Ideal.Value.run m' g'
    · rw [Cert.Reference14Ideal.Read.val_main_v14_eq]
      try simp only [(hagree c).1, (hagree c).2.1, (hagree c).2.2]
      exact (Cert.Kernel14Ideal.In.final3 m c).symm
    · try simp only [(hagree c).1, (hagree c).2.1, (hagree c).2.2]
      exact (Cert.Reference14Ideal.Read.val_main_v13_eq (F := Ideal) _ _ _).trans (Cert.Kernel14Ideal.In.final4 m c).symm

theorem frame14 : quiescent_Reference14Ideal := fun m ρ _ =>
  (θ_run Cert.Reference14Ideal.defs _ _).mono (fun r h => ⟨fun c => (h c).2.2, sem_eq_zero_of_no_sems (by decide) r.2⟩)
    (Cert.Reference14Ideal.Value.run (F := Ideal) m ρ)

theorem value15 : algebraic_Kernel15Ideal_Reference15Ideal := by
  pair_intro
  · run_from Cert.Kernel15Ideal.Value.run_blocks m g
  · run_from Cert.Reference15Ideal.Value.run m' g'
    · rw [Cert.Reference15Ideal.Read.val_main_v18_eq]
      try simp only [(hagree c).1, (hagree c).2.1, (hagree c).2.2]
      exact (Cert.Kernel15Ideal.Up.final3 m c).symm
    · rw [Cert.Reference15Ideal.Read.val_main_v19_eq]
      try simp only [(hagree c).1, (hagree c).2.1, (hagree c).2.2]
      exact (Cert.Kernel15Ideal.Up.final4 m c).symm
    · rw [Cert.Reference15Ideal.Read.val_main_v20_eq]
      try simp only [(hagree c).1, (hagree c).2.1, (hagree c).2.2]
      exact (Cert.Kernel15Ideal.Up.final5 m c).symm
    · rw [Cert.Reference15Ideal.Read.val_main_v21_eq]
      try simp only [(hagree c).1, (hagree c).2.1, (hagree c).2.2]
      exact (Cert.Kernel15Ideal.Up.final6 m c).symm

theorem frame15 : quiescent_Reference15Ideal := fun m ρ _ =>
  (θ_run Cert.Reference15Ideal.defs _ _).mono (fun r h => ⟨fun c => (h c).2.2.2.2, sem_eq_zero_of_no_sems (by decide) r.2⟩)
    (Cert.Reference15Ideal.Value.run (F := Ideal) m ρ)

theorem value16 : algebraic_Kernel16Ideal_Reference16Ideal := by
  pair_intro
  · run_from Cert.Kernel16Ideal.Value.run_blocks m g
  · run_from Cert.Reference16Ideal.Value.run m' g'
    rw [Cert.Reference16Ideal.Read.val_main_v3_eq]
    try simp only [(hagree c).1, (hagree c).2.1, (hagree c).2.2]
    exact (Cert.Kernel16Ideal.Down.final3 m c).symm

theorem frame16 : quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

theorem value17 : algebraic_Kernel17Ideal_Reference17Ideal := by
  pair_intro
  · run_from Cert.Kernel17Ideal.Value.run_blocks m g
  · run_from Cert.Reference17Ideal.Value.run m' g'
    rw [Cert.Reference17Ideal.Read.val_main_v1_eq]
    try simp only [(hagree c).1, (hagree c).2.1, (hagree c).2.2]
    exact (Cert.Kernel17Ideal.Out.final3 m c).symm

theorem frame17 : quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

theorem value18 : algebraic_Kernel18Ideal_Reference18Ideal := by
  pair_intro
  · run_from Cert.Kernel18Ideal.Value.run_blocks m g
  · run_from Cert.Reference18Ideal.Value.run m' g'
    rw [Cert.Reference18Ideal.Read.val_main_v6_eq]
    try simp only [(hagree c).1, (hagree c).2.1, (hagree c).2.2.1, (hagree c).2.2.2]
    exact (Cert.Kernel18Ideal.Back.final2 m c).symm

theorem frame18 : quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

theorem value19 : algebraic_Kernel19Ideal_Reference19Ideal := by
  pair_intro
  · run_from Cert.Kernel19Ideal.Value.run_blocks m g
  · run_from Cert.Reference19Ideal.Value.run m' g'
    rw [Cert.Reference19Ideal.Read.val_main_v6_eq]
    try simp only [(hagree c).1, (hagree c).2.1, (hagree c).2.2.1, (hagree c).2.2.2]
    exact (Cert.Kernel19Ideal.Grad.final2 m c).symm

theorem frame19 : quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

theorem value20 : algebraic_Kernel20Ideal_Reference20Ideal := by
  pair_intro
  · run_from Cert.Kernel20Ideal.Value.run_blocks m g
  · run_from Cert.Reference20Ideal.Value.run m' g'
    rw [Cert.Reference20Ideal.Read.val_main_v4_eq]
    try simp only [(hagree c).1, (hagree c).2.1, (hagree c).2.2]
    exact (Cert.Kernel20Ideal.Grad.final2 m c).symm

theorem frame20 : quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)

theorem value21 : algebraic_Kernel21Ideal_Reference21Ideal := by
  pair_intro
  · run_from Cert.Kernel21Ideal.Value.run_blocks m g
  · run_from Cert.Reference21Ideal.Value.run m' g'
    rw [Cert.Reference21Ideal.Read.val_main_v4_eq]
    try simp only [(hagree c).1, (hagree c).2.1, (hagree c).2.2]
    exact (Cert.Kernel21Ideal.Grad.final2 m c).symm

theorem frame21 : quiescent_Reference21Ideal := fun m ρ _ =>
  (θ_run Cert.Reference21Ideal.defs _ _).mono (fun r h => ⟨fun c => (h c).2, sem_eq_zero_of_no_sems (by decide) r.2⟩)
    (Cert.Reference21Ideal.Value.run (F := Ideal) m ρ)

theorem value22 : algebraic_Kernel22Ideal_Reference22Ideal := by
  pair_intro
  · run_from Cert.Kernel22Ideal.Value.run_blocks m g
  · run_from Cert.Reference22Ideal.Value.run m' g'
    rw [Cert.Reference22Ideal.Read.val_main_v4_eq]
    try simp only [(hagree c).1, (hagree c).2.1, (hagree c).2.2]
    exact (Cert.Kernel22Ideal.Grad.final2 m c).symm

theorem frame22 : quiescent_Reference22Ideal := fun m ρ _ =>
  (θ_run Cert.Reference22Ideal.defs _ _).mono (fun r h => ⟨fun c => (h c).2, sem_eq_zero_of_no_sems (by decide) r.2⟩)
    (Cert.Reference22Ideal.Value.run (F := Ideal) m ρ)

theorem value23 : algebraic_Kernel23Ideal_Reference23Ideal := by
  pair_intro
  · run_from Cert.Kernel23Ideal.Value.run_blocks m g
  · run_from Cert.Reference23Ideal.Value.run m' g'
    rw [Cert.Reference23Ideal.Read.val_main_v4_eq]
    try simp only [(hagree c).1, (hagree c).2.1, (hagree c).2.2]
    exact (Cert.Kernel23Ideal.Grad.final2 m c).symm

theorem frame23 : quiescent_Reference23Ideal := fun m ρ _ =>
  (θ_run Cert.Reference23Ideal.defs _ _).mono (fun r h => ⟨fun c => (h c).2, sem_eq_zero_of_no_sems (by decide) r.2⟩)
    (Cert.Reference23Ideal.Value.run (F := Ideal) m ρ)

theorem value24 : algebraic_Kernel24Ideal_Reference24Ideal := by
  pair_intro
  · run_from Cert.Kernel24Ideal.Value.run_blocks m g
  · run_from Cert.Reference24Ideal.Value.run m' g'
    rw [Cert.Reference24Ideal.Read.val_main_v10_eq]
    try simp only [(hagree c).1, (hagree c).2.1, (hagree c).2.2.1, (hagree c).2.2.2]
    exact (Cert.Kernel24Ideal.Grad.final2 m c).symm

theorem frame24 : quiescent_Reference24Ideal := fun m ρ _ =>
  (θ_run Cert.Reference24Ideal.defs _ _).mono (fun r h => ⟨fun c => (h c).2, sem_eq_zero_of_no_sems (by decide) r.2⟩)
    (Cert.Reference24Ideal.Value.run (F := Ideal) m ρ)

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel6.Gen.facts, Cert.Kernel6Ideal.Gen.facts, Cert.Reference6Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Pre_finite.Gen.facts, Cert.Pre_finite5.Gen.facts, Cert.Pre_finite7.Gen.facts, Cert.Pre_finite11.Gen.facts,
    fun m ρ _ => Cert.Kernel.Attn.frame m ρ,
    fun m ρ _ => Cert.KernelIdeal.Attn.frame m ρ,
    fun m ρ _ => Cert.KernelIdeal.Attn.frame m ρ,
    fun m ρ _ => frame m ρ trivial,
    fun m ρ _ => frame m ρ trivial,
    fun m ρ _ => Cert.Kernel2.Gen.frame m ρ,
    fun m ρ _ => Cert.Kernel2Ideal.Gen.frame m ρ,
    fun m ρ _ => frame2 m ρ trivial,
    fun m ρ _ => Cert.Kernel3.Gen.frame m ρ,
    fun m ρ _ => Cert.Kernel3Ideal.Gen.frame m ρ,
    fun m ρ _ => frame3 m ρ trivial,
    fun m ρ _ => Cert.Kernel4.Gen.frame m ρ,
    fun m ρ _ => Cert.Kernel4Ideal.Gen.frame m ρ,
    fun m ρ _ => frame4 m ρ trivial,
    fun m ρ _ => Cert.Kernel5.Gen.frame m ρ,
    fun m ρ _ => Cert.Kernel5Ideal.Gen.frame m ρ,
    fun m ρ _ => Cert.Kernel5Ideal.Gen.frame m ρ,
    fun m ρ _ => frame5 m ρ trivial,
    fun m ρ _ => frame5 m ρ trivial,
    fun m ρ _ => Cert.Kernel7.Gen.frame m ρ,
    fun m ρ _ => Cert.Kernel7Ideal.Gen.frame m ρ,
    fun m ρ _ => Cert.Kernel7Ideal.Gen.frame m ρ,
    fun m ρ _ => frame7 m ρ trivial,
    fun m ρ _ => frame7 m ρ trivial,
    fun m ρ _ => Cert.Kernel8.Gen.frame m ρ,
    fun m ρ _ => Cert.Kernel8Ideal.Gen.frame m ρ,
    fun m ρ _ => frame8 m ρ trivial,
    fun m ρ _ => Cert.Kernel9.Gen.frame m ρ,
    fun m ρ _ => Cert.Kernel9Ideal.Gen.frame m ρ,
    fun m ρ _ => frame9 m ρ trivial,
    fun m ρ _ => Cert.Kernel10.Gen.frame m ρ,
    fun m ρ _ => Cert.Kernel10Ideal.Gen.frame m ρ,
    fun m ρ _ => frame10 m ρ trivial,
    fun m ρ _ => Cert.Kernel11.Attn.frame m ρ,
    fun m ρ _ => Cert.Kernel11Ideal.Attn.frame m ρ,
    fun m ρ _ => Cert.Kernel11Ideal.Attn.frame m ρ,
    fun m ρ _ => frame11 m ρ trivial,
    fun m ρ _ => frame11 m ρ trivial,
    fun m ρ _ => Cert.Kernel6.Gen.frame m ρ,
    fun m ρ _ => Cert.Kernel6Ideal.Gen.frame m ρ,
    fun m ρ _ => frame6 m ρ trivial,
    fun m ρ _ => Cert.Kernel12.Gen.frame m ρ,
    fun m ρ _ => Cert.Kernel12Ideal.Gen.frame m ρ,
    fun m ρ _ => frame12 m ρ trivial,
    fun m ρ _ => Cert.Kernel13.Gen.frame m ρ,
    fun m ρ _ => Cert.Kernel13Ideal.Gen.frame m ρ,
    fun m ρ _ => frame13 m ρ trivial,
    fun m ρ _ => Cert.Kernel14.Gen.frame m ρ,
    fun m ρ _ => Cert.Kernel14Ideal.Gen.frame m ρ,
    fun m ρ _ => frame14 m ρ trivial,
    fun m ρ _ => Cert.Kernel15.Gen.frame m ρ,
    fun m ρ _ => Cert.Kernel15Ideal.Gen.frame m ρ,
    fun m ρ _ => frame15 m ρ trivial,
    fun m ρ _ => Cert.Kernel16.Gen.frame m ρ,
    fun m ρ _ => Cert.Kernel16Ideal.Gen.frame m ρ,
    fun m ρ _ => frame16 m ρ trivial,
    fun m ρ _ => Cert.Kernel17.Gen.frame m ρ,
    fun m ρ _ => Cert.Kernel17Ideal.Gen.frame m ρ,
    fun m ρ _ => frame17 m ρ trivial,
    fun m ρ _ => Cert.Kernel18.Gen.frame m ρ,
    fun m ρ _ => Cert.Kernel18Ideal.Gen.frame m ρ,
    fun m ρ _ => frame18 m ρ trivial,
    fun m ρ _ => Cert.Kernel19.Gen.frame m ρ,
    fun m ρ _ => Cert.Kernel19Ideal.Gen.frame m ρ,
    fun m ρ _ => frame19 m ρ trivial,
    fun m ρ _ => Cert.Kernel20.Gen.frame m ρ,
    fun m ρ _ => Cert.Kernel20Ideal.Gen.frame m ρ,
    fun m ρ _ => frame20 m ρ trivial,
    fun m ρ _ => Cert.Kernel21.Gen.frame m ρ,
    fun m ρ _ => Cert.Kernel21Ideal.Gen.frame m ρ,
    fun m ρ _ => frame21 m ρ trivial,
    fun m ρ _ => Cert.Kernel22.Gen.frame m ρ,
    fun m ρ _ => Cert.Kernel22Ideal.Gen.frame m ρ,
    fun m ρ _ => frame22 m ρ trivial,
    fun m ρ _ => Cert.Kernel23.Gen.frame m ρ,
    fun m ρ _ => Cert.Kernel23Ideal.Gen.frame m ρ,
    fun m ρ _ => frame23 m ρ trivial,
    fun m ρ _ => Cert.Kernel24.Gen.frame m ρ,
    fun m ρ _ => Cert.Kernel24Ideal.Gen.frame m ρ,
    fun m ρ _ => frame24 m ρ trivial,
    IdealRules.named_const.statement Cert.KernelIdeal.κ "log_zero" .f32 0xC2D00000#32 ⊥ rfl,
    value,
    trivial,
    value2,
    trivial,
    value3,
    trivial,
    value4,
    trivial,
    value5,
    trivial,
    value7,
    trivial,
    value8,
    trivial,
    value9,
    trivial,
    value10,
    IdealRules.named_const.statement Cert.Kernel11Ideal.κ "log_zero" .f32 0xC2D00000#32 ⊥ rfl,
    value11,
    trivial,
    value6,
    trivial,
    value12,
    trivial,
    value13,
    trivial,
    value14,
    trivial,
    value15,
    trivial,
    value16,
    trivial,
    value17,
    trivial,
    value18,
    trivial,
    value19,
    trivial,
    value20,
    trivial,
    value21,
    trivial,
    value22,
    trivial,
    value23,
    trivial,
    value24⟩

end Cert.Proof
